-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Moe [hPre_experts_in_range : Cert.Pre_experts_in_range.Facts] (m : (ℓ : Loc Cert.Moe.nD Cert.Moe.τ Cert.Moe.sig) → Buf (Elt Bits) ℓ) : Prop :=
  ∀ c : Dev Cert.Moe.nD,
    (Cert.Pre_experts_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5))) = (fun _ => 1#1)

def Pre_MoeIdeal [hPre_experts_in_range : Cert.Pre_experts_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_experts_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) = (fun _ => 1#1)

def Pre_MoeReferenceIdeal [hPre_experts_in_range : Cert.Pre_experts_in_range.Facts] (m : (ℓ : Loc Cert.MoeReferenceIdeal.nD Cert.MoeReferenceIdeal.τ Cert.MoeReferenceIdeal.sig) → Buf (Elt Ideal) ℓ) : Prop :=
  ∀ c : Dev Cert.MoeReferenceIdeal.nD,
    (Cert.Pre_experts_in_range.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5))) = (fun _ => 1#1)

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_finite_weights [hPre_finite_weights : Cert.Pre_finite_weights.Facts] (m : (ℓ : Loc Cert.RouterIdeal.nD Cert.RouterIdeal.τ Cert.RouterIdeal.sig) → Buf (Elt Ideal) ℓ) : Prop :=
  ∀ c : Dev Cert.RouterIdeal.nD,
    (Cert.Pre_finite_weights.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5))) = (fun _ => 1#1)

def Pre_RouterReferenceIdeal (m : (ℓ : Loc Cert.RouterReferenceIdeal.nD Cert.RouterReferenceIdeal.τ Cert.RouterReferenceIdeal.sig) → Buf (Elt Ideal) ℓ) : Prop :=
  True

def Pre_RouterReferenceIdeal_finite_weights [hPre_finite_weights : Cert.Pre_finite_weights.Facts] (m : (ℓ : Loc Cert.RouterReferenceIdeal.nD Cert.RouterReferenceIdeal.τ Cert.RouterReferenceIdeal.sig) → Buf (Elt Ideal) ℓ) : Prop :=
  ∀ c : Dev Cert.RouterReferenceIdeal.nD,
    (Cert.Pre_finite_weights.fn (F := Ideal) (m ((c.tc : Thread Cert.RouterReferenceIdeal.nD Cert.RouterReferenceIdeal.τ).loc Cert.RouterReferenceIdeal.main_arg0)) (m ((c.tc : Thread Cert.RouterReferenceIdeal.nD Cert.RouterReferenceIdeal.τ).loc Cert.RouterReferenceIdeal.main_arg1)) (m ((c.tc : Thread Cert.RouterReferenceIdeal.nD Cert.RouterReferenceIdeal.τ).loc Cert.RouterReferenceIdeal.main_arg2)) (m ((c.tc : Thread Cert.RouterReferenceIdeal.nD Cert.RouterReferenceIdeal.τ).loc Cert.RouterReferenceIdeal.main_arg3)) (m ((c.tc : Thread Cert.RouterReferenceIdeal.nD Cert.RouterReferenceIdeal.τ).loc Cert.RouterReferenceIdeal.main_arg4)) (m ((c.tc : Thread Cert.RouterReferenceIdeal.nD Cert.RouterReferenceIdeal.τ).loc Cert.RouterReferenceIdeal.main_arg5))) = (fun _ => 1#1)

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanReferenceIdeal (m : (ℓ : Loc Cert.ScanReferenceIdeal.nD Cert.ScanReferenceIdeal.τ Cert.ScanReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7))
      ∧ r.2.sem = fun _ => 0)

def quiescent_Moe [hMoe : Cert.Moe.Facts] [hPre_experts_in_range : Cert.Pre_experts_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] [hPre_experts_in_range : Cert.Pre_experts_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeReferenceIdeal [hMoeReferenceIdeal : Cert.MoeReferenceIdeal.Facts] [hPre_experts_in_range : Cert.Pre_experts_in_range.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3)
      ∧ r.2.mem ((c.tc : Thread Cert.Router.nD Cert.Router.τ).loc Cert.Router.main_arg4) = m ((c.tc : Thread Cert.Router.nD Cert.Router.τ).loc Cert.Router.main_arg4)
      ∧ r.2.mem ((c.tc : Thread Cert.Router.nD Cert.Router.τ).loc Cert.Router.main_arg5) = m ((c.tc : Thread Cert.Router.nD Cert.Router.τ).loc Cert.Router.main_arg5))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5))
      ∧ r.2.sem = fun _ => 0)

def quiescent_RouterIdeal_pre_finite_weights [hRouterIdeal : Cert.RouterIdeal.Facts] [hPre_finite_weights : Cert.Pre_finite_weights.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_finite_weights m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5))
      ∧ r.2.sem = fun _ => 0)

def quiescent_RouterReferenceIdeal [hRouterReferenceIdeal : Cert.RouterReferenceIdeal.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2)
      ∧ r.2.mem ((c.tc : Thread Cert.RouterReferenceIdeal.nD Cert.RouterReferenceIdeal.τ).loc Cert.RouterReferenceIdeal.main_arg3) = m ((c.tc : Thread Cert.RouterReferenceIdeal.nD Cert.RouterReferenceIdeal.τ).loc Cert.RouterReferenceIdeal.main_arg3)
      ∧ r.2.mem ((c.tc : Thread Cert.RouterReferenceIdeal.nD Cert.RouterReferenceIdeal.τ).loc Cert.RouterReferenceIdeal.main_arg4) = m ((c.tc : Thread Cert.RouterReferenceIdeal.nD Cert.RouterReferenceIdeal.τ).loc Cert.RouterReferenceIdeal.main_arg4)
      ∧ r.2.mem ((c.tc : Thread Cert.RouterReferenceIdeal.nD Cert.RouterReferenceIdeal.τ).loc Cert.RouterReferenceIdeal.main_arg5) = m ((c.tc : Thread Cert.RouterReferenceIdeal.nD Cert.RouterReferenceIdeal.τ).loc Cert.RouterReferenceIdeal.main_arg5))
      ∧ r.2.sem = fun _ => 0)

def quiescent_RouterReferenceIdeal_pre_finite_weights [hRouterReferenceIdeal : Cert.RouterReferenceIdeal.Facts] [hPre_finite_weights : Cert.Pre_finite_weights.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal_finite_weights m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2)
      ∧ r.2.mem ((c.tc : Thread Cert.RouterReferenceIdeal.nD Cert.RouterReferenceIdeal.τ).loc Cert.RouterReferenceIdeal.main_arg3) = m ((c.tc : Thread Cert.RouterReferenceIdeal.nD Cert.RouterReferenceIdeal.τ).loc Cert.RouterReferenceIdeal.main_arg3)
      ∧ r.2.mem ((c.tc : Thread Cert.RouterReferenceIdeal.nD Cert.RouterReferenceIdeal.τ).loc Cert.RouterReferenceIdeal.main_arg4) = m ((c.tc : Thread Cert.RouterReferenceIdeal.nD Cert.RouterReferenceIdeal.τ).loc Cert.RouterReferenceIdeal.main_arg4)
      ∧ r.2.mem ((c.tc : Thread Cert.RouterReferenceIdeal.nD Cert.RouterReferenceIdeal.τ).loc Cert.RouterReferenceIdeal.main_arg5) = m ((c.tc : Thread Cert.RouterReferenceIdeal.nD Cert.RouterReferenceIdeal.τ).loc Cert.RouterReferenceIdeal.main_arg5))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5)
      ∧ r.2.mem ((c.tc : Thread Cert.Scan.nD Cert.Scan.τ).loc Cert.Scan.main_arg6) = m ((c.tc : Thread Cert.Scan.nD Cert.Scan.τ).loc Cert.Scan.main_arg6)
      ∧ r.2.mem ((c.tc : Thread Cert.Scan.nD Cert.Scan.τ).loc Cert.Scan.main_arg7) = m ((c.tc : Thread Cert.Scan.nD Cert.Scan.τ).loc Cert.Scan.main_arg7)
      ∧ r.2.mem ((c.tc : Thread Cert.Scan.nD Cert.Scan.τ).loc Cert.Scan.main_arg8) = m ((c.tc : Thread Cert.Scan.nD Cert.Scan.τ).loc Cert.Scan.main_arg8))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
      ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
      ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8))
      ∧ r.2.sem = fun _ => 0)

def quiescent_ScanReferenceIdeal [hScanReferenceIdeal : Cert.ScanReferenceIdeal.Facts] : Prop :=
  ∀ (m : (ℓ : Loc Cert.ScanReferenceIdeal.nD Cert.ScanReferenceIdeal.τ Cert.ScanReferenceIdeal.sig) → Buf (Elt Ideal) ℓ) (g : Dev Cert.ScanReferenceIdeal.nD → PrngReg), Pre_ScanReferenceIdeal m →
    θ_run (Cert.ScanReferenceIdeal.defs (F := Ideal)) (onTc (τ := Cert.ScanReferenceIdeal.τ) (Cert.ScanReferenceIdeal.main (F := Ideal))) ⟨m, fun _ => 0, g⟩ (fun r => (∀ c : Dev Cert.ScanReferenceIdeal.nD,
      r.2.mem ((c.tc : Thread Cert.ScanReferenceIdeal.nD Cert.ScanReferenceIdeal.τ).loc Cert.ScanReferenceIdeal.main_arg0) = m ((c.tc : Thread Cert.ScanReferenceIdeal.nD Cert.ScanReferenceIdeal.τ).loc Cert.ScanReferenceIdeal.main_arg0)
      ∧ r.2.mem ((c.tc : Thread Cert.ScanReferenceIdeal.nD Cert.ScanReferenceIdeal.τ).loc Cert.ScanReferenceIdeal.main_arg1) = m ((c.tc : Thread Cert.ScanReferenceIdeal.nD Cert.ScanReferenceIdeal.τ).loc Cert.ScanReferenceIdeal.main_arg1)
      ∧ r.2.mem ((c.tc : Thread Cert.ScanReferenceIdeal.nD Cert.ScanReferenceIdeal.τ).loc Cert.ScanReferenceIdeal.main_arg2) = m ((c.tc : Thread Cert.ScanReferenceIdeal.nD Cert.ScanReferenceIdeal.τ).loc Cert.ScanReferenceIdeal.main_arg2)
      ∧ r.2.mem ((c.tc : Thread Cert.ScanReferenceIdeal.nD Cert.ScanReferenceIdeal.τ).loc Cert.ScanReferenceIdeal.main_arg3) = m ((c.tc : Thread Cert.ScanReferenceIdeal.nD Cert.ScanReferenceIdeal.τ).loc Cert.ScanReferenceIdeal.main_arg3)
      ∧ r.2.mem ((c.tc : Thread Cert.ScanReferenceIdeal.nD Cert.ScanReferenceIdeal.τ).loc Cert.ScanReferenceIdeal.main_arg4) = m ((c.tc : Thread Cert.ScanReferenceIdeal.nD Cert.ScanReferenceIdeal.τ).loc Cert.ScanReferenceIdeal.main_arg4)
      ∧ r.2.mem ((c.tc : Thread Cert.ScanReferenceIdeal.nD Cert.ScanReferenceIdeal.τ).loc Cert.ScanReferenceIdeal.main_arg5) = m ((c.tc : Thread Cert.ScanReferenceIdeal.nD Cert.ScanReferenceIdeal.τ).loc Cert.ScanReferenceIdeal.main_arg5)
      ∧ r.2.mem ((c.tc : Thread Cert.ScanReferenceIdeal.nD Cert.ScanReferenceIdeal.τ).loc Cert.ScanReferenceIdeal.main_arg6) = m ((c.tc : Thread Cert.ScanReferenceIdeal.nD Cert.ScanReferenceIdeal.τ).loc Cert.ScanReferenceIdeal.main_arg6)
      ∧ r.2.mem ((c.tc : Thread Cert.ScanReferenceIdeal.nD Cert.ScanReferenceIdeal.τ).loc Cert.ScanReferenceIdeal.main_arg7) = m ((c.tc : Thread Cert.ScanReferenceIdeal.nD Cert.ScanReferenceIdeal.τ).loc Cert.ScanReferenceIdeal.main_arg7)
      ∧ r.2.mem ((c.tc : Thread Cert.ScanReferenceIdeal.nD Cert.ScanReferenceIdeal.τ).loc Cert.ScanReferenceIdeal.main_arg8) = m ((c.tc : Thread Cert.ScanReferenceIdeal.nD Cert.ScanReferenceIdeal.τ).loc Cert.ScanReferenceIdeal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41_0)) (v1 : (c : Dev Cert.KernelIdeal.nD) → Buf (Elt Ideal) ((c.tc : Thread Cert.KernelIdeal.nD Cert.KernelIdeal.τ).loc Cert.KernelIdeal.main_v41_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41_0) = v0 c
          ∧ r.2.mem ((c.tc : Thread Cert.KernelIdeal.nD Cert.KernelIdeal.τ).loc Cert.KernelIdeal.main_v41_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_v180) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v10)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v10) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v21) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v23) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7))

def preserves_Moe_MoeIdeal : Prop :=
  True

def algebraic_MoeIdeal_MoeReferenceIdeal [hMoeIdeal : Cert.MoeIdeal.Facts] [hMoeReferenceIdeal : Cert.MoeReferenceIdeal.Facts] [hPre_experts_in_range : Cert.Pre_experts_in_range.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeIdeal m →
    (∀ c : Dev Cert.MoeIdeal.nD,
      m' ((c.tc : Thread Cert.MoeReferenceIdeal.nD Cert.MoeReferenceIdeal.τ).loc Cert.MoeReferenceIdeal.main_arg0) = m ((c.tc : Thread Cert.MoeIdeal.nD Cert.MoeIdeal.τ).loc Cert.MoeIdeal.main_arg0)
      ∧ m' ((c.tc : Thread Cert.MoeReferenceIdeal.nD Cert.MoeReferenceIdeal.τ).loc Cert.MoeReferenceIdeal.main_arg1) = m ((c.tc : Thread Cert.MoeIdeal.nD Cert.MoeIdeal.τ).loc Cert.MoeIdeal.main_arg1)
      ∧ m' ((c.tc : Thread Cert.MoeReferenceIdeal.nD Cert.MoeReferenceIdeal.τ).loc Cert.MoeReferenceIdeal.main_arg2) = m ((c.tc : Thread Cert.MoeIdeal.nD Cert.MoeIdeal.τ).loc Cert.MoeIdeal.main_arg2)
      ∧ m' ((c.tc : Thread Cert.MoeReferenceIdeal.nD Cert.MoeReferenceIdeal.τ).loc Cert.MoeReferenceIdeal.main_arg3) = m ((c.tc : Thread Cert.MoeIdeal.nD Cert.MoeIdeal.τ).loc Cert.MoeIdeal.main_arg3)
      ∧ m' ((c.tc : Thread Cert.MoeReferenceIdeal.nD Cert.MoeReferenceIdeal.τ).loc Cert.MoeReferenceIdeal.main_arg4) = m ((c.tc : Thread Cert.MoeIdeal.nD Cert.MoeIdeal.τ).loc Cert.MoeIdeal.main_arg4)
      ∧ m' ((c.tc : Thread Cert.MoeReferenceIdeal.nD Cert.MoeReferenceIdeal.τ).loc Cert.MoeReferenceIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v3)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v3) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v34) = v0 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4)
          ∧ r.2.mem ((c.tc : Thread Cert.MoeReferenceIdeal.nD Cert.MoeReferenceIdeal.τ).loc Cert.MoeReferenceIdeal.main_arg5) = m' ((c.tc : Thread Cert.MoeReferenceIdeal.nD Cert.MoeReferenceIdeal.τ).loc Cert.MoeReferenceIdeal.main_arg5))

def preserves_Router_RouterIdeal : Prop :=
  True

def algebraic_RouterIdeal_RouterReferenceIdeal_pre_finite_weights [hRouterIdeal : Cert.RouterIdeal.Facts] [hRouterReferenceIdeal : Cert.RouterReferenceIdeal.Facts] [hPre_finite_weights : Cert.Pre_finite_weights.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterReferenceIdeal.nD Cert.RouterReferenceIdeal.τ Cert.RouterReferenceIdeal.sig) → Buf (Elt Ideal) ℓ) (g' : Dev Cert.RouterReferenceIdeal.nD → PrngReg), Pre_RouterIdeal_finite_weights m →
    (∀ c : Dev Cert.RouterIdeal.nD,
      m' ((c.tc : Thread Cert.RouterReferenceIdeal.nD Cert.RouterReferenceIdeal.τ).loc Cert.RouterReferenceIdeal.main_arg0) = m ((c.tc : Thread Cert.RouterIdeal.nD Cert.RouterIdeal.τ).loc Cert.RouterIdeal.main_arg0)
      ∧ m' ((c.tc : Thread Cert.RouterReferenceIdeal.nD Cert.RouterReferenceIdeal.τ).loc Cert.RouterReferenceIdeal.main_arg1) = m ((c.tc : Thread Cert.RouterIdeal.nD Cert.RouterIdeal.τ).loc Cert.RouterIdeal.main_arg1)
      ∧ m' ((c.tc : Thread Cert.RouterReferenceIdeal.nD Cert.RouterReferenceIdeal.τ).loc Cert.RouterReferenceIdeal.main_arg2) = m ((c.tc : Thread Cert.RouterIdeal.nD Cert.RouterIdeal.τ).loc Cert.RouterIdeal.main_arg2)
      ∧ m' ((c.tc : Thread Cert.RouterReferenceIdeal.nD Cert.RouterReferenceIdeal.τ).loc Cert.RouterReferenceIdeal.main_arg3) = m ((c.tc : Thread Cert.RouterIdeal.nD Cert.RouterIdeal.τ).loc Cert.RouterIdeal.main_arg3)
      ∧ m' ((c.tc : Thread Cert.RouterReferenceIdeal.nD Cert.RouterReferenceIdeal.τ).loc Cert.RouterReferenceIdeal.main_arg4) = m ((c.tc : Thread Cert.RouterIdeal.nD Cert.RouterIdeal.τ).loc Cert.RouterIdeal.main_arg4)
      ∧ m' ((c.tc : Thread Cert.RouterReferenceIdeal.nD Cert.RouterReferenceIdeal.τ).loc Cert.RouterReferenceIdeal.main_arg5) = m ((c.tc : Thread Cert.RouterIdeal.nD Cert.RouterIdeal.τ).loc Cert.RouterIdeal.main_arg5)) →
    ∃ (v0 : (c : Dev Cert.RouterIdeal.nD) → Buf (Elt Ideal) ((c.tc : Thread Cert.RouterIdeal.nD Cert.RouterIdeal.τ).loc Cert.RouterIdeal.main_v7_0)) (v1 : (c : Dev Cert.RouterIdeal.nD) → Buf (Elt Ideal) ((c.tc : Thread Cert.RouterIdeal.nD Cert.RouterIdeal.τ).loc Cert.RouterIdeal.main_v7_1)) (v2 : (c : Dev Cert.RouterIdeal.nD) → Buf (Elt Ideal) ((c.tc : Thread Cert.RouterIdeal.nD Cert.RouterIdeal.τ).loc Cert.RouterIdeal.main_v7_2)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v7_0) = v0 c
          ∧ r.2.mem ((c.tc : Thread Cert.RouterIdeal.nD Cert.RouterIdeal.τ).loc Cert.RouterIdeal.main_v7_1) = v1 c
          ∧ r.2.mem ((c.tc : Thread Cert.RouterIdeal.nD Cert.RouterIdeal.τ).loc Cert.RouterIdeal.main_v7_2) = v2 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
          ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
          ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5))
      ∧ θ_run (Cert.RouterReferenceIdeal.defs (F := Ideal)) (onTc (τ := Cert.RouterReferenceIdeal.τ) (Cert.RouterReferenceIdeal.main (F := Ideal))) ⟨m', fun _ => 0, g'⟩ (fun r => ∀ c : Dev Cert.RouterReferenceIdeal.nD,
          r.2.mem ((c.tc : Thread Cert.RouterReferenceIdeal.nD Cert.RouterReferenceIdeal.τ).loc Cert.RouterReferenceIdeal.main_v4) = v0 c
          ∧ r.2.mem ((c.tc : Thread Cert.RouterReferenceIdeal.nD Cert.RouterReferenceIdeal.τ).loc Cert.RouterReferenceIdeal.main_v33) = v1 c
          ∧ r.2.mem ((c.tc : Thread Cert.RouterReferenceIdeal.nD Cert.RouterReferenceIdeal.τ).loc Cert.RouterReferenceIdeal.main_v32) = v2 c
          ∧ r.2.mem ((c.tc : Thread Cert.RouterReferenceIdeal.nD Cert.RouterReferenceIdeal.τ).loc Cert.RouterReferenceIdeal.main_arg0) = m' ((c.tc : Thread Cert.RouterReferenceIdeal.nD Cert.RouterReferenceIdeal.τ).loc Cert.RouterReferenceIdeal.main_arg0)
          ∧ r.2.mem ((c.tc : Thread Cert.RouterReferenceIdeal.nD Cert.RouterReferenceIdeal.τ).loc Cert.RouterReferenceIdeal.main_arg1) = m' ((c.tc : Thread Cert.RouterReferenceIdeal.nD Cert.RouterReferenceIdeal.τ).loc Cert.RouterReferenceIdeal.main_arg1)
          ∧ r.2.mem ((c.tc : Thread Cert.RouterReferenceIdeal.nD Cert.RouterReferenceIdeal.τ).loc Cert.RouterReferenceIdeal.main_arg2) = m' ((c.tc : Thread Cert.RouterReferenceIdeal.nD Cert.RouterReferenceIdeal.τ).loc Cert.RouterReferenceIdeal.main_arg2)
          ∧ r.2.mem ((c.tc : Thread Cert.RouterReferenceIdeal.nD Cert.RouterReferenceIdeal.τ).loc Cert.RouterReferenceIdeal.main_arg3) = m' ((c.tc : Thread Cert.RouterReferenceIdeal.nD Cert.RouterReferenceIdeal.τ).loc Cert.RouterReferenceIdeal.main_arg3)
          ∧ r.2.mem ((c.tc : Thread Cert.RouterReferenceIdeal.nD Cert.RouterReferenceIdeal.τ).loc Cert.RouterReferenceIdeal.main_arg4) = m' ((c.tc : Thread Cert.RouterReferenceIdeal.nD Cert.RouterReferenceIdeal.τ).loc Cert.RouterReferenceIdeal.main_arg4)
          ∧ r.2.mem ((c.tc : Thread Cert.RouterReferenceIdeal.nD Cert.RouterReferenceIdeal.τ).loc Cert.RouterReferenceIdeal.main_arg5) = m' ((c.tc : Thread Cert.RouterReferenceIdeal.nD Cert.RouterReferenceIdeal.τ).loc Cert.RouterReferenceIdeal.main_arg5))

def preserves_Scan_ScanIdeal : Prop :=
  True

def algebraic_ScanIdeal_ScanReferenceIdeal [hScanIdeal : Cert.ScanIdeal.Facts] [hScanReferenceIdeal : Cert.ScanReferenceIdeal.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanReferenceIdeal.nD Cert.ScanReferenceIdeal.τ Cert.ScanReferenceIdeal.sig) → Buf (Elt Ideal) ℓ) (g' : Dev Cert.ScanReferenceIdeal.nD → PrngReg), Pre_ScanIdeal m →
    (∀ c : Dev Cert.ScanIdeal.nD,
      m' ((c.tc : Thread Cert.ScanReferenceIdeal.nD Cert.ScanReferenceIdeal.τ).loc Cert.ScanReferenceIdeal.main_arg0) = m ((c.tc : Thread Cert.ScanIdeal.nD Cert.ScanIdeal.τ).loc Cert.ScanIdeal.main_arg0)
      ∧ m' ((c.tc : Thread Cert.ScanReferenceIdeal.nD Cert.ScanReferenceIdeal.τ).loc Cert.ScanReferenceIdeal.main_arg1) = m ((c.tc : Thread Cert.ScanIdeal.nD Cert.ScanIdeal.τ).loc Cert.ScanIdeal.main_arg1)
      ∧ m' ((c.tc : Thread Cert.ScanReferenceIdeal.nD Cert.ScanReferenceIdeal.τ).loc Cert.ScanReferenceIdeal.main_arg2) = m ((c.tc : Thread Cert.ScanIdeal.nD Cert.ScanIdeal.τ).loc Cert.ScanIdeal.main_arg2)
      ∧ m' ((c.tc : Thread Cert.ScanReferenceIdeal.nD Cert.ScanReferenceIdeal.τ).loc Cert.ScanReferenceIdeal.main_arg3) = m ((c.tc : Thread Cert.ScanIdeal.nD Cert.ScanIdeal.τ).loc Cert.ScanIdeal.main_arg3)
      ∧ m' ((c.tc : Thread Cert.ScanReferenceIdeal.nD Cert.ScanReferenceIdeal.τ).loc Cert.ScanReferenceIdeal.main_arg4) = m ((c.tc : Thread Cert.ScanIdeal.nD Cert.ScanIdeal.τ).loc Cert.ScanIdeal.main_arg4)
      ∧ m' ((c.tc : Thread Cert.ScanReferenceIdeal.nD Cert.ScanReferenceIdeal.τ).loc Cert.ScanReferenceIdeal.main_arg5) = m ((c.tc : Thread Cert.ScanIdeal.nD Cert.ScanIdeal.τ).loc Cert.ScanIdeal.main_arg5)
      ∧ m' ((c.tc : Thread Cert.ScanReferenceIdeal.nD Cert.ScanReferenceIdeal.τ).loc Cert.ScanReferenceIdeal.main_arg6) = m ((c.tc : Thread Cert.ScanIdeal.nD Cert.ScanIdeal.τ).loc Cert.ScanIdeal.main_arg6)
      ∧ m' ((c.tc : Thread Cert.ScanReferenceIdeal.nD Cert.ScanReferenceIdeal.τ).loc Cert.ScanReferenceIdeal.main_arg7) = m ((c.tc : Thread Cert.ScanIdeal.nD Cert.ScanIdeal.τ).loc Cert.ScanIdeal.main_arg7)
      ∧ m' ((c.tc : Thread Cert.ScanReferenceIdeal.nD Cert.ScanReferenceIdeal.τ).loc Cert.ScanReferenceIdeal.main_arg8) = m ((c.tc : Thread Cert.ScanIdeal.nD Cert.ScanIdeal.τ).loc Cert.ScanIdeal.main_arg8)) →
    ∃ (v0 : (c : Dev Cert.ScanIdeal.nD) → Buf (Elt Ideal) ((c.tc : Thread Cert.ScanIdeal.nD Cert.ScanIdeal.τ).loc Cert.ScanIdeal.main_v11_0)) (v1 : (c : Dev Cert.ScanIdeal.nD) → Buf (Elt Ideal) ((c.tc : Thread Cert.ScanIdeal.nD Cert.ScanIdeal.τ).loc Cert.ScanIdeal.main_v11_1)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v11_0) = v0 c
          ∧ r.2.mem ((c.tc : Thread Cert.ScanIdeal.nD Cert.ScanIdeal.τ).loc Cert.ScanIdeal.main_v11_1) = v1 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
          ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
          ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
          ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
          ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8))
      ∧ θ_run (Cert.ScanReferenceIdeal.defs (F := Ideal)) (onTc (τ := Cert.ScanReferenceIdeal.τ) (Cert.ScanReferenceIdeal.main (F := Ideal))) ⟨m', fun _ => 0, g'⟩ (fun r => ∀ c : Dev Cert.ScanReferenceIdeal.nD,
          r.2.mem ((c.tc : Thread Cert.ScanReferenceIdeal.nD Cert.ScanReferenceIdeal.τ).loc Cert.ScanReferenceIdeal.main_v129) = v0 c
          ∧ r.2.mem ((c.tc : Thread Cert.ScanReferenceIdeal.nD Cert.ScanReferenceIdeal.τ).loc Cert.ScanReferenceIdeal.main_v130) = v1 c
          ∧ r.2.mem ((c.tc : Thread Cert.ScanReferenceIdeal.nD Cert.ScanReferenceIdeal.τ).loc Cert.ScanReferenceIdeal.main_arg0) = m' ((c.tc : Thread Cert.ScanReferenceIdeal.nD Cert.ScanReferenceIdeal.τ).loc Cert.ScanReferenceIdeal.main_arg0)
          ∧ r.2.mem ((c.tc : Thread Cert.ScanReferenceIdeal.nD Cert.ScanReferenceIdeal.τ).loc Cert.ScanReferenceIdeal.main_arg1) = m' ((c.tc : Thread Cert.ScanReferenceIdeal.nD Cert.ScanReferenceIdeal.τ).loc Cert.ScanReferenceIdeal.main_arg1)
          ∧ r.2.mem ((c.tc : Thread Cert.ScanReferenceIdeal.nD Cert.ScanReferenceIdeal.τ).loc Cert.ScanReferenceIdeal.main_arg2) = m' ((c.tc : Thread Cert.ScanReferenceIdeal.nD Cert.ScanReferenceIdeal.τ).loc Cert.ScanReferenceIdeal.main_arg2)
          ∧ r.2.mem ((c.tc : Thread Cert.ScanReferenceIdeal.nD Cert.ScanReferenceIdeal.τ).loc Cert.ScanReferenceIdeal.main_arg3) = m' ((c.tc : Thread Cert.ScanReferenceIdeal.nD Cert.ScanReferenceIdeal.τ).loc Cert.ScanReferenceIdeal.main_arg3)
          ∧ r.2.mem ((c.tc : Thread Cert.ScanReferenceIdeal.nD Cert.ScanReferenceIdeal.τ).loc Cert.ScanReferenceIdeal.main_arg4) = m' ((c.tc : Thread Cert.ScanReferenceIdeal.nD Cert.ScanReferenceIdeal.τ).loc Cert.ScanReferenceIdeal.main_arg4)
          ∧ r.2.mem ((c.tc : Thread Cert.ScanReferenceIdeal.nD Cert.ScanReferenceIdeal.τ).loc Cert.ScanReferenceIdeal.main_arg5) = m' ((c.tc : Thread Cert.ScanReferenceIdeal.nD Cert.ScanReferenceIdeal.τ).loc Cert.ScanReferenceIdeal.main_arg5)
          ∧ r.2.mem ((c.tc : Thread Cert.ScanReferenceIdeal.nD Cert.ScanReferenceIdeal.τ).loc Cert.ScanReferenceIdeal.main_arg6) = m' ((c.tc : Thread Cert.ScanReferenceIdeal.nD Cert.ScanReferenceIdeal.τ).loc Cert.ScanReferenceIdeal.main_arg6)
          ∧ r.2.mem ((c.tc : Thread Cert.ScanReferenceIdeal.nD Cert.ScanReferenceIdeal.τ).loc Cert.ScanReferenceIdeal.main_arg7) = m' ((c.tc : Thread Cert.ScanReferenceIdeal.nD Cert.ScanReferenceIdeal.τ).loc Cert.ScanReferenceIdeal.main_arg7)
          ∧ r.2.mem ((c.tc : Thread Cert.ScanReferenceIdeal.nD Cert.ScanReferenceIdeal.τ).loc Cert.ScanReferenceIdeal.main_arg8) = m' ((c.tc : Thread Cert.ScanReferenceIdeal.nD Cert.ScanReferenceIdeal.τ).loc Cert.ScanReferenceIdeal.main_arg8))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjReferenceIdeal : Cert.ProjReferenceIdeal.Facts) (hFfn : Cert.Ffn.Facts) (hFfnIdeal : Cert.FfnIdeal.Facts) (hFfnReferenceIdeal : Cert.FfnReferenceIdeal.Facts) (hMoe : Cert.Moe.Facts) (hMoeIdeal : Cert.MoeIdeal.Facts) (hMoeReferenceIdeal : Cert.MoeReferenceIdeal.Facts) (hRouter : Cert.Router.Facts) (hRouterIdeal : Cert.RouterIdeal.Facts) (hRouterReferenceIdeal : Cert.RouterReferenceIdeal.Facts) (hScan : Cert.Scan.Facts) (hScanIdeal : Cert.ScanIdeal.Facts) (hScanReferenceIdeal : Cert.ScanReferenceIdeal.Facts) (hPre_finite_qk : Cert.Pre_finite_qk.Facts) (hPre_experts_in_range : Cert.Pre_experts_in_range.Facts) (hPre_finite_weights : Cert.Pre_finite_weights.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Proj (hProj := hProj)
    ∧ quiescent_ProjIdeal (hProjIdeal := hProjIdeal)
    ∧ quiescent_ProjReferenceIdeal (hProjReferenceIdeal := hProjReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Moe (hMoe := hMoe) (hPre_experts_in_range := hPre_experts_in_range)
    ∧ quiescent_MoeIdeal (hMoeIdeal := hMoeIdeal) (hPre_experts_in_range := hPre_experts_in_range)
    ∧ quiescent_MoeReferenceIdeal (hMoeReferenceIdeal := hMoeReferenceIdeal) (hPre_experts_in_range := hPre_experts_in_range)
    ∧ quiescent_Router (hRouter := hRouter)
    ∧ quiescent_RouterIdeal (hRouterIdeal := hRouterIdeal)
    ∧ quiescent_RouterIdeal_pre_finite_weights (hRouterIdeal := hRouterIdeal) (hPre_finite_weights := hPre_finite_weights)
    ∧ quiescent_RouterReferenceIdeal (hRouterReferenceIdeal := hRouterReferenceIdeal)
    ∧ quiescent_RouterReferenceIdeal_pre_finite_weights (hRouterReferenceIdeal := hRouterReferenceIdeal) (hPre_finite_weights := hPre_finite_weights)
    ∧ quiescent_Scan (hScan := hScan)
    ∧ quiescent_ScanIdeal (hScanIdeal := hScanIdeal)
    ∧ quiescent_ScanReferenceIdeal (hScanReferenceIdeal := hScanReferenceIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Proj_ProjIdeal
    ∧ algebraic_ProjIdeal_ProjReferenceIdeal (hProjIdeal := hProjIdeal) (hProjReferenceIdeal := hProjReferenceIdeal)
    ∧ preserves_Ffn_FfnIdeal
    ∧ algebraic_FfnIdeal_FfnReferenceIdeal (hFfnIdeal := hFfnIdeal) (hFfnReferenceIdeal := hFfnReferenceIdeal)
    ∧ preserves_Moe_MoeIdeal
    ∧ algebraic_MoeIdeal_MoeReferenceIdeal (hMoeIdeal := hMoeIdeal) (hMoeReferenceIdeal := hMoeReferenceIdeal) (hPre_experts_in_range := hPre_experts_in_range)
    ∧ preserves_Router_RouterIdeal
    ∧ algebraic_RouterIdeal_RouterReferenceIdeal_pre_finite_weights (hRouterIdeal := hRouterIdeal) (hRouterReferenceIdeal := hRouterReferenceIdeal) (hPre_finite_weights := hPre_finite_weights)
    ∧ preserves_Scan_ScanIdeal
    ∧ algebraic_ScanIdeal_ScanReferenceIdeal (hScanIdeal := hScanIdeal) (hScanReferenceIdeal := hScanReferenceIdeal)
-- ==== Pre_experts_in_range.lean ====
abbrev S141 : Shape := ⟨1, ![141]⟩
abbrev S1 : Shape := ⟨1, ![1]⟩
abbrev S72192x1024 : Shape := ⟨2, ![72192, 1024]⟩
abbrev S8x1024x2816 : Shape := ⟨3, ![8, 1024, 2816]⟩
abbrev S8x2816x1024 : Shape := ⟨3, ![8, 2816, 1024]⟩
abbrev S_ : Shape := ⟨0, ![]⟩

class Facts : Prop where
  bcast_S_S141 : S_.BroadcastsInDim S141 (![] : Fin 0 → Fin S141.rank)
  reducesTo_S141_S_d0 : S141.ReducesTo [0] S_
  h_S_ : 0 < S_.numel

variable [Facts]

def fn {F : FTy → Type} [FloatOps F] (main_arg0 : IVec S141 32) (main_arg1 : IVec S1 32) (main_arg2 : FVec F S72192x1024 .bf16) (main_arg3 : FVec F S8x1024x2816 .f32) (main_arg4 : FVec F S8x1024x2816 .f32) (main_arg5 : FVec F S8x2816x1024 .f32) : IVec S_ 1 :=
  let main_c : IVec S_ 32 := constantI S_ 32 0#32
  let main_v0 : IVec S141 32 := broadcastInDim S141 ![] bcast_S_S141 main_c
  let main_v1 : IVec S141 1 := cmpi .sge main_arg0 main_v0
  let main_c_0 : IVec S_ 32 := constantI S_ 32 8#32
  let main_v2 : IVec S141 32 := broadcastInDim S141 ![] bcast_S_S141 main_c_0
  let main_v3 : IVec S141 1 := cmpi .slt main_arg0 main_v2
  let main_v4 : IVec S141 1 := andi main_v1 main_v3
  let main_c_1 : IVec S_ 1 := constantI S_ 1 1#1
  let main_v5 : IVec S_ 1 := (fun x v => Host.reduce IntOp.andi x v reducesTo_S141_S_d0 h_S_) main_v4 main_c_1
  main_v5
-- ==== Pre_finite_qk.lean ====
abbrev S34304x2560 : Shape := ⟨2, ![34304, 2560]⟩
abbrev S128x16x2x64 : Shape := ⟨4, ![128, 16, 2, 64]⟩
abbrev S128x128x2x64 : Shape := ⟨4, ![128, 128, 2, 64]⟩
abbrev S64 : Shape := ⟨1, ![64]⟩
abbrev S8 : Shape := ⟨1, ![8]⟩
abbrev S512 : Shape := ⟨1, ![512]⟩
abbrev S1024x640 : Shape := ⟨2, ![1024, 640]⟩
abbrev S_ : Shape := ⟨0, ![]⟩

class Facts : Prop where
  slices_S34304x2560_S1024x640_32768_1536 : S34304x2560.Slices ![32768, 1536] S1024x640
  bcast_S_S1024x640 : S_.BroadcastsInDim S1024x640 (![] : Fin 0 → Fin S1024x640.rank)
  reducesTo_S1024x640_S_d0_1 : S1024x640.ReducesTo [0, 1] S_
  h_S_ : 0 < S_.numel

variable [Facts]

def fn {F : FTy → Type} [FloatOps F] (main_arg0 : FVec F S34304x2560 .f32) (main_arg1 : FVec F S128x16x2x64 .f32) (main_arg2 : FVec F S128x16x2x64 .f32) (main_arg3 : FVec F S128x128x2x64 .f32) (main_arg4 : FVec F S128x128x2x64 .f32) (main_arg5 : FVec F S64 .f32) (main_arg6 : FVec F S64 .f32) (main_arg7 : FVec F S8 .f32) (main_arg8 : FVec F S512 .f32) : IVec S_ 1 :=
  let main_v0 : FVec F S1024x640 .f32 := (extractStridedSlice S1024x640 ![32768, 1536] · slices_S34304x2560_S1024x640_32768_1536) main_arg0
  let main_v1 : FVec F S1024x640 .f32 := Host.absf main_v0
  let main_cst : FVec F S_ .f32 := constant S_ .f32 0x7F800000#32
  let main_v2 : FVec F S1024x640 .f32 := broadcastInDim S1024x640 ![] bcast_S_S1024x640 main_cst
  let main_v3 : IVec S1024x640 1 := cmpf .olt main_v1 main_v2
  let main_c : IVec S_ 1 := constantI S_ 1 1#1
  let main_v4 : IVec S_ 1 := (fun x v => Host.reduce IntOp.andi x v reducesTo_S1024x640_S_d0_1 h_S_) main_v3 main_c
  main_v4
-- ==== Pre_finite_weights.lean ====
abbrev S34304x1024 : Shape := ⟨2, ![34304, 1024]⟩
abbrev S34304x512 : Shape := ⟨2, ![34304, 512]⟩
abbrev S1024x1024 : Shape := ⟨2, ![1024, 1024]⟩
abbrev S1024 : Shape := ⟨1, ![1024]⟩
abbrev S1024x8 : Shape := ⟨2, ![1024, 8]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S34304x1024 .f32) (main_arg1 : FVec F S34304x512 .bf16) (main_arg2 : FVec F S34304x512 .bf16) (main_arg3 : FVec F S1024x1024 .f32) (main_arg4 : FVec F S1024 .f32) (main_arg5 : FVec F S1024x8 .f32) : IVec S_ 1 :=
  let main_v0 : FVec F S1024 .f32 := Host.absf main_arg4
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x8 .f32 := Host.absf main_arg5
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  main_v8
-- ==== Kernel.lean ====
abbrev S34304x2560 : Shape := ⟨2, ![34304, 2560]⟩
abbrev S128x16x2x64 : Shape := ⟨4, ![128, 16, 2, 64]⟩
abbrev S128x128x2x64 : Shape := ⟨4, ![128, 128, 2, 64]⟩
abbrev S64 : Shape := ⟨1, ![64]⟩
abbrev S8 : Shape := ⟨1, ![8]⟩
abbrev S512 : Shape := ⟨1, ![512]⟩
abbrev S128 : Shape := ⟨1, ![128]⟩
abbrev S_ : Shape := ⟨0, ![]⟩
abbrev S32 : Shape := ⟨1, ![32]⟩
abbrev S128x1 : Shape := ⟨2, ![128, 1]⟩
abbrev S1x32 : Shape := ⟨2, ![1, 32]⟩
abbrev S128x32 : Shape := ⟨2, ![128, 32]⟩
abbrev S128x64 : Shape := ⟨2, ![128, 64]⟩
abbrev S1x128x1x64 : Shape := ⟨4, ![1, 128, 1, 64]⟩
abbrev S1x128x2x64 : Shape := ⟨4, ![1, 128, 2, 64]⟩
abbrev S128x128 : Shape := ⟨2, ![128, 128]⟩
abbrev S1x64 : Shape := ⟨2, ![1, 64]⟩
abbrev S8x64 : Shape := ⟨2, ![8, 64]⟩
abbrev S1x512 : Shape := ⟨2, ![1, 512]⟩
abbrev S2x64 : Shape := ⟨2, ![2, 64]⟩
abbrev S1x128 : Shape := ⟨2, ![1, 128]⟩
abbrev S1x8 : Shape := ⟨2, ![1, 8]⟩
abbrev S128x16x128 : Shape := ⟨3, ![128, 16, 128]⟩
abbrev S128x128x128 : Shape := ⟨3, ![128, 128, 128]⟩
abbrev S1024x512 : Shape := ⟨2, ![1024, 512]⟩
abbrev S1024x128 : Shape := ⟨2, ![1024, 128]⟩
abbrev S8x512 : Shape := ⟨2, ![8, 512]⟩
abbrev S8x128 : Shape := ⟨2, ![8, 128]⟩
abbrev S1x16x128 : Shape := ⟨3, ![1, 16, 128]⟩
abbrev S1x128x128 : Shape := ⟨3, ![1, 128, 128]⟩
abbrev S128x512 : Shape := ⟨2, ![128, 512]⟩
abbrev S1x16 : Shape := ⟨2, ![1, 16]⟩
abbrev S128x16 : Shape := ⟨2, ![128, 16]⟩
abbrev S120x128 : Shape := ⟨2, ![120, 128]⟩
abbrev S120x512 : Shape := ⟨2, ![120, 512]⟩
abbrev S16x128 : Shape := ⟨2, ![16, 128]⟩
abbrev S16x64 : Shape := ⟨2, ![16, 64]⟩
abbrev S1x1 : Shape := ⟨2, ![1, 1]⟩

abbrev nBuf : Space → Nat
  | .hbm => 57
  | .vmem => 25
  | .smem => 0
  | _ => 0

abbrev bufTy : (tb : Table) → Fin (tcTables nBuf tb) → BufTy
  | .hbm, ⟨0, _⟩ => ⟨S34304x2560, .f32⟩
  | .hbm, ⟨1, _⟩ => ⟨S128x16x2x64, .f32⟩
  | .hbm, ⟨2, _⟩ => ⟨S128x16x2x64, .f32⟩
  | .hbm, ⟨3, _⟩ => ⟨S128x128x2x64, .f32⟩
  | .hbm, ⟨4, _⟩ => ⟨S128x128x2x64, .f32⟩
  | .hbm, ⟨5, _⟩ => ⟨S64, .f32⟩
  | .hbm, ⟨6, _⟩ => ⟨S64, .f32⟩
  | .hbm, ⟨7, _⟩ => ⟨S8, .f32⟩
  | .hbm, ⟨8, _⟩ => ⟨S512, .f32⟩
  | .hbm, ⟨9, _⟩ => ⟨S128, .i32⟩
  | .hbm, ⟨10, _⟩ => ⟨S_, .i32⟩
  | .hbm, ⟨11, _⟩ => ⟨S128, .i32⟩
  | .hbm, ⟨12, _⟩ => ⟨S128, .i32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S128, .f32⟩
  | .hbm, ⟨22, _⟩ => ⟨S128x1, .f32⟩
  | .hbm, ⟨23, _⟩ => ⟨S1x32, .f32⟩
  | .hbm, ⟨24, _⟩ => ⟨S128x32, .f32⟩
  | .hbm, ⟨25, _⟩ => ⟨S128x32, .f32⟩
  | .hbm, ⟨26, _⟩ => ⟨S128x32, .f32⟩
  | .hbm, ⟨27, _⟩ => ⟨S128x32, .f32⟩
  | .hbm, ⟨28, _⟩ => ⟨S128x32, .f32⟩
  | .hbm, ⟨29, _⟩ => ⟨S128x64, .f32⟩
  | .hbm, ⟨30, _⟩ => ⟨S1x128x1x64, .f32⟩
  | .hbm, ⟨31, _⟩ => ⟨S1x128x2x64, .f32⟩
  | .hbm, ⟨32, _⟩ => ⟨S128x128, .f32⟩
  | .hbm, ⟨33, _⟩ => ⟨S128x32, .f32⟩
  | .hbm, ⟨34, _⟩ => ⟨S128x64, .f32⟩
  | .hbm, ⟨35, _⟩ => ⟨S1x128x1x64, .f32⟩
  | .hbm, ⟨36, _⟩ => ⟨S1x128x2x64, .f32⟩
  | .hbm, ⟨37, _⟩ => ⟨S128x128, .f32⟩
  | .hbm, ⟨38, _⟩ => ⟨S1x64, .f32⟩
  | .hbm, ⟨39, _⟩ => ⟨S8x64, .f32⟩
  | .hbm, ⟨40, _⟩ => ⟨S512, .f32⟩
  | .hbm, ⟨41, _⟩ => ⟨S1x512, .f32⟩
  | .hbm, ⟨42, _⟩ => ⟨S1x64, .f32⟩
  | .hbm, ⟨43, _⟩ => ⟨S2x64, .f32⟩
  | .hbm, ⟨44, _⟩ => ⟨S128, .f32⟩
  | .hbm, ⟨45, _⟩ => ⟨S1x128, .f32⟩
  | .hbm, ⟨46, _⟩ => ⟨S1x8, .f32⟩
  | .hbm, ⟨47, _⟩ => ⟨S_, .i32⟩
  | .hbm, ⟨48, _⟩ => ⟨S_, .f32⟩
  | .hbm, ⟨49, _⟩ => ⟨S1x128, .f32⟩
  | .hbm, ⟨50, _⟩ => ⟨S1x512, .f32⟩
  | .hbm, ⟨51, _⟩ => ⟨S128x16x128, .f32⟩
  | .hbm, ⟨52, _⟩ => ⟨S128x16x128, .f32⟩
  | .hbm, ⟨53, _⟩ => ⟨S128x128x128, .f32⟩
  | .hbm, ⟨54, _⟩ => ⟨S128x128x128, .f32⟩
  | .hbm, ⟨55, _⟩ => ⟨S1024x512, .bf16⟩
  | .hbm, ⟨56, _⟩ => ⟨S1024x128, .f32⟩
  | .local _ .vmem, ⟨0, _⟩ => ⟨S8x512, .f32⟩
  | .local _ .vmem, ⟨1, _⟩ => ⟨S8x512, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S1x16x128, .f32⟩
  | .local _ .vmem, ⟨7, _⟩ => ⟨S1x16x128, .f32⟩
  | .local _ .vmem, ⟨8, _⟩ => ⟨S1x16x128, .f32⟩
  | .local _ .vmem, ⟨9, _⟩ => ⟨S1x16x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S128x128, .f32⟩
  | .local _ .vmem, ⟨15, _⟩ => ⟨S128x128, .f32⟩
  | .local _ .vmem, ⟨16, _⟩ => ⟨S1x512, .f32⟩
  | .local _ .vmem, ⟨17, _⟩ => ⟨S1x128, .f32⟩
  | .local _ .vmem, ⟨18, _⟩ => ⟨S1x128, .f32⟩
  | .local _ .vmem, ⟨19, _⟩ => ⟨S1x512, .f32⟩
  | .local _ .vmem, ⟨20, _⟩ => ⟨S8x512, .bf16⟩
  | .local _ .vmem, ⟨21, _⟩ => ⟨S8x512, .bf16⟩
  | .local _ .vmem, ⟨22, _⟩ => ⟨S8x128, .f32⟩
  | .local _ .vmem, ⟨23, _⟩ => ⟨S8x128, .f32⟩
  | .local _ .vmem, ⟨24, _⟩ => ⟨S128x512, .f32⟩
  | _, _ => ⟨S34304x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_1 : Ref sig .tc := ⟨.hbm, 47, rfl⟩
abbrev main_call0_v0 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41_0 : Ref sig .tc := ⟨.hbm, 55, rfl⟩
abbrev main_v41_1 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c4096_i32 : BitVec 32 := 4096#32
  let v0 : BitVec 32 := Scalar.addi c4096_i32 arg0
  let c3_i32 : BitVec 32 := 3#32
  let c0_i32 : BitVec 32 := 0#32
  ![v0.toNat, c3_i32.toNat]

def cc0_transform_1 (i : grid0.Coords) : Fin 2 → Nat :=
  let arg0 : BitVec 32 := BitVec.ofNat 32 (i 0).val
  let c4096_i32 : BitVec 32 := 4096#32
  let v0 : BitVec 32 := Scalar.addi c4096_i32 arg0
  let c16_i32 : BitVec 32 := 16#32
  let c0_i32 : BitVec 32 := 0#32
  ![v0.toNat, c16_i32.toNat]

def cc0_transform_2 (i : grid0.Coords) : Fin 2 → Nat :=
  let arg0 : BitVec 32 := BitVec.ofNat 32 (i 0).val
  let c4096_i32 : BitVec 32 := 4096#32
  let v0 : BitVec 32 := Scalar.addi c4096_i32 arg0
  let c17_i32 : BitVec 32 := 17#32
  let c0_i32 : BitVec 32 := 0#32
  ![v0.toNat, c17_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S8x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S34304x2560 : Shape := ⟨2, ![34304, 2560]⟩
abbrev S128x16x2x64 : Shape := ⟨4, ![128, 16, 2, 64]⟩
abbrev S128x128x2x64 : Shape := ⟨4, ![128, 128, 2, 64]⟩
abbrev S64 : Shape := ⟨1, ![64]⟩
abbrev S8 : Shape := ⟨1, ![8]⟩
abbrev S512 : Shape := ⟨1, ![512]⟩
abbrev S_ : Shape := ⟨0, ![]⟩
abbrev S1024x2560 : Shape := ⟨2, ![1024, 2560]⟩
abbrev S1024x512 : Shape := ⟨2, ![1024, 512]⟩
abbrev S128x8x8x64 : Shape := ⟨4, ![128, 8, 8, 64]⟩
abbrev S1024x128 : Shape := ⟨2, ![1024, 128]⟩
abbrev S128x8x2x64 : Shape := ⟨4, ![128, 8, 2, 64]⟩
abbrev S128x8x8 : Shape := ⟨3, ![128, 8, 8]⟩
abbrev S128x8x8x1 : Shape := ⟨4, ![128, 8, 8, 1]⟩
abbrev S1x1x1x64 : Shape := ⟨4, ![1, 1, 1, 64]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S8x1x32 : Shape := ⟨3, ![8, 1, 32]⟩
abbrev S128x8x8x32 : Shape := ⟨4, ![128, 8, 8, 32]⟩
abbrev S1x8x1x32 : Shape := ⟨4, ![1, 8, 1, 32]⟩
abbrev S128x8x2 : Shape := ⟨3, ![128, 8, 2]⟩
abbrev S128x8x2x1 : Shape := ⟨4, ![128, 8, 2, 1]⟩
abbrev S128x8x2x32 : Shape := ⟨4, ![128, 8, 2, 32]⟩
abbrev S128 : Shape := ⟨1, ![128]⟩
abbrev S136 : Shape := ⟨1, ![136]⟩
abbrev S128x136x2x64 : Shape := ⟨4, ![128, 136, 2, 64]⟩
abbrev S16 : Shape := ⟨1, ![16]⟩
abbrev S1x16 : Shape := ⟨2, ![1, 16]⟩
abbrev S8x16 : Shape := ⟨2, ![8, 16]⟩
abbrev S1x136 : Shape := ⟨2, ![1, 136]⟩
abbrev S8x136 : Shape := ⟨2, ![8, 136]⟩
abbrev S8x152 : Shape := ⟨2, ![8, 152]⟩
abbrev S128x8x2x4x64 : Shape := ⟨5, ![128, 8, 2, 4, 64]⟩
abbrev S128x2x16x8x4 : Shape := ⟨5, ![128, 2, 16, 8, 4]⟩
abbrev S128x2x4x8x16 : Shape := ⟨5, ![128, 2, 4, 8, 16]⟩
abbrev S128x2x136x8x4 : Shape := ⟨5, ![128, 2, 136, 8, 4]⟩
abbrev S128x2x4x8x136 : Shape := ⟨5, ![128, 2, 4, 8, 136]⟩
abbrev S128x2x4x8x152 : Shape := ⟨5, ![128, 2, 4, 8, 152]⟩
abbrev S2x4 : Shape := ⟨2, ![2, 4]⟩
abbrev S2x4x1x1 : Shape := ⟨4, ![2, 4, 1, 1]⟩
abbrev S128x2x4x8 : Shape := ⟨4, ![128, 2, 4, 8]⟩
abbrev S128x2x4x8x1 : Shape := ⟨5, ![128, 2, 4, 8, 1]⟩
abbrev S1x2x4x1x1 : Shape := ⟨5, ![1, 2, 4, 1, 1]⟩
abbrev S128x2x64x4x8 : Shape := ⟨5, ![128, 2, 64, 4, 8]⟩
abbrev S128x8x512 : Shape := ⟨3, ![128, 8, 512]⟩
abbrev S128x8 : Shape := ⟨2, ![128, 8]⟩
abbrev S128x8x1 : Shape := ⟨3, ![128, 8, 1]⟩
abbrev S1x1x512 : Shape := ⟨3, ![1, 1, 512]⟩

abbrev nBuf : Space → Nat
  | .hbm => 214
  | .vmem => 0
  | .smem => 0
  | _ => 0

abbrev hbmTy0_0 (i : Nat) : BufTy := match i % 128 with
  | 0 => ⟨S34304x2560, .f32⟩
  | 1 => ⟨S128x16x2x64, .f32⟩
  | 2 => ⟨S128x16x2x64, .f32⟩
  | 3 => ⟨S128x128x2x64, .f32⟩
  | 4 => ⟨S128x128x2x64, .f32⟩
  | 5 => ⟨S64, .f32⟩
  | 6 => ⟨S64, .f32⟩
  | 7 => ⟨S8, .f32⟩
  | 8 => ⟨S512, .f32⟩
  | 9 => ⟨S8, .i32⟩
  | 10 => ⟨S_, .i32⟩
  | 11 => ⟨S8, .i32⟩
  | 12 => ⟨S8, .i32⟩
  | 13 => ⟨S1024x2560, .f32⟩
  | 14 => ⟨S1024x512, .f32⟩
  | 15 => ⟨S128x8x8x64, .f32⟩
  | 16 => ⟨S1024x128, .f32⟩
  | 17 => ⟨S128x8x2x64, .f32⟩
  | 18 => ⟨S1024x128, .f32⟩
  | 19 => ⟨S128x8x2x64, .f32⟩
  | 20 => ⟨S128x8x8x64, .f32⟩
  | 21 => ⟨S_, .f32⟩
  | 22 => ⟨S128x8x8, .f32⟩
  | 23 => ⟨S128x8x8x1, .f32⟩
  | 24 => ⟨S_, .f32⟩
  | 25 => ⟨S128x8x8x1, .f32⟩
  | 26 => ⟨S128x8x8x1, .f32⟩
  | 27 => ⟨S_, .f32⟩
  | 28 => ⟨S128x8x8x1, .f32⟩
  | 29 => ⟨S128x8x8x1, .f32⟩
  | 30 => ⟨S128x8x8x1, .f32⟩
  | 31 => ⟨S128x8x8x64, .f32⟩
  | 32 => ⟨S128x8x8x64, .f32⟩
  | 33 => ⟨S1x1x1x64, .f32⟩
  | 34 => ⟨S128x8x8x64, .f32⟩
  | 35 => ⟨S128x8x8x64, .f32⟩
  | 36 => ⟨S32, .f32⟩
  | 37 => ⟨S32, .f32⟩
  | 38 => ⟨S_, .f32⟩
  | 39 => ⟨S32, .f32⟩
  | 40 => ⟨S32, .f32⟩
  | 41 => ⟨S_, .f32⟩
  | 42 => ⟨S32, .f32⟩
  | 43 => ⟨S32, .f32⟩
  | 44 => ⟨S8, .f32⟩
  | 45 => ⟨S8x1, .f32⟩
  | 46 => ⟨S1x32, .f32⟩
  | 47 => ⟨S8x32, .f32⟩
  | 48 => ⟨S8x32, .f32⟩
  | 49 => ⟨S8x32, .f32⟩
  | 50 => ⟨S8x32, .f32⟩
  | 51 => ⟨S8x1x32, .f32⟩
  | 52 => ⟨S8x32, .f32⟩
  | 53 => ⟨S8x1x32, .f32⟩
  | 54 => ⟨S128x8x8x32, .f32⟩
  | 55 => ⟨S128x8x8x32, .f32⟩
  | 56 => ⟨S1x8x1x32, .f32⟩
  | 57 => ⟨S128x8x8x32, .f32⟩
  | 58 => ⟨S128x8x8x32, .f32⟩
  | 59 => ⟨S1x8x1x32, .f32⟩
  | 60 => ⟨S128x8x8x32, .f32⟩
  | 61 => ⟨S128x8x8x32, .f32⟩
  | 62 => ⟨S128x8x8x32, .f32⟩
  | 63 => ⟨S1x8x1x32, .f32⟩
  | 64 => ⟨S128x8x8x32, .f32⟩
  | 65 => ⟨S128x8x8x32, .f32⟩
  | 66 => ⟨S1x8x1x32, .f32⟩
  | 67 => ⟨S128x8x8x32, .f32⟩
  | 68 => ⟨S128x8x8x32, .f32⟩
  | 69 => ⟨S128x8x8x32, .f32⟩
  | 70 => ⟨S128x8x8x64, .f32⟩
  | 71 => ⟨S128x8x2x64, .f32⟩
  | 72 => ⟨S_, .f32⟩
  | 73 => ⟨S128x8x2, .f32⟩
  | 74 => ⟨S128x8x2x1, .f32⟩
  | 75 => ⟨S_, .f32⟩
  | 76 => ⟨S128x8x2x1, .f32⟩
  | 77 => ⟨S128x8x2x1, .f32⟩
  | 78 => ⟨S_, .f32⟩
  | 79 => ⟨S128x8x2x1, .f32⟩
  | 80 => ⟨S128x8x2x1, .f32⟩
  | 81 => ⟨S128x8x2x1, .f32⟩
  | 82 => ⟨S128x8x2x64, .f32⟩
  | 83 => ⟨S128x8x2x64, .f32⟩
  | 84 => ⟨S1x1x1x64, .f32⟩
  | 85 => ⟨S128x8x2x64, .f32⟩
  | 86 => ⟨S128x8x2x64, .f32⟩
  | 87 => ⟨S32, .f32⟩
  | 88 => ⟨S32, .f32⟩
  | 89 => ⟨S_, .f32⟩
  | 90 => ⟨S32, .f32⟩
  | 91 => ⟨S32, .f32⟩
  | 92 => ⟨S_, .f32⟩
  | 93 => ⟨S32, .f32⟩
  | 94 => ⟨S32, .f32⟩
  | 95 => ⟨S8, .f32⟩
  | 96 => ⟨S8x1, .f32⟩
  | 97 => ⟨S1x32, .f32⟩
  | 98 => ⟨S8x32, .f32⟩
  | 99 => ⟨S8x32, .f32⟩
  | 100 => ⟨S8x32, .f32⟩
  | 101 => ⟨S8x32, .f32⟩
  | 102 => ⟨S8x1x32, .f32⟩
  | 103 => ⟨S8x32, .f32⟩
  | 104 => ⟨S8x1x32, .f32⟩
  | 105 => ⟨S128x8x2x32, .f32⟩
  | 106 => ⟨S128x8x2x32, .f32⟩
  | 107 => ⟨S1x8x1x32, .f32⟩
  | 108 => ⟨S128x8x2x32, .f32⟩
  | 109 => ⟨S128x8x2x32, .f32⟩
  | 110 => ⟨S1x8x1x32, .f32⟩
  | 111 => ⟨S128x8x2x32, .f32⟩
  | 112 => ⟨S128x8x2x32, .f32⟩
  | 113 => ⟨S128x8x2x32, .f32⟩
  | 114 => ⟨S1x8x1x32, .f32⟩
  | 115 => ⟨S128x8x2x32, .f32⟩
  | 116 => ⟨S128x8x2x32, .f32⟩
  | 117 => ⟨S1x8x1x32, .f32⟩
  | 118 => ⟨S128x8x2x32, .f32⟩
  | 119 => ⟨S128x8x2x32, .f32⟩
  | 120 => ⟨S128x8x2x32, .f32⟩
  | 121 => ⟨S128x8x2x64, .f32⟩
  | 122 => ⟨S128, .i32⟩
  | 123 => ⟨S_, .i32⟩
  | 124 => ⟨S128, .i32⟩
  | 125 => ⟨S128, .i32⟩
  | 126 => ⟨S136, .i32⟩
  | 127 => ⟨S128x136x2x64, .f32⟩
  | _ => ⟨S34304x2560, .f32⟩

abbrev hbmTy0_1 (i : Nat) : BufTy := match i % 128 with
  | 0 => ⟨S128x136x2x64, .f32⟩
  | 1 => ⟨S16, .i32⟩
  | 2 => ⟨S8x1, .i32⟩
  | 3 => ⟨S1x16, .i32⟩
  | 4 => ⟨S8x16, .i32⟩
  | 5 => ⟨S8x16, .i32⟩
  | 6 => ⟨S8x16, .i1⟩
  | 7 => ⟨S1x136, .i32⟩
  | 8 => ⟨S_, .i32⟩
  | 9 => ⟨S1x136, .i32⟩
  | 10 => ⟨S1x136, .i1⟩
  | 11 => ⟨S8x136, .i32⟩
  | 12 => ⟨S8x136, .i32⟩
  | 13 => ⟨S8x136, .i1⟩
  | 14 => ⟨S8x136, .i1⟩
  | 15 => ⟨S8x136, .i1⟩
  | 16 => ⟨S8x136, .i32⟩
  | 17 => ⟨S8x136, .i32⟩
  | 18 => ⟨S8x136, .i32⟩
  | 19 => ⟨S_, .i32⟩
  | 20 => ⟨S8x136, .i32⟩
  | 21 => ⟨S8x136, .i1⟩
  | 22 => ⟨S8x136, .i1⟩
  | 23 => ⟨S8x152, .i1⟩
  | 24 => ⟨S128x8x2x4x64, .f32⟩
  | 25 => ⟨S128x2x16x8x4, .f32⟩
  | 26 => ⟨S128x2x4x8x16, .f32⟩
  | 27 => ⟨S128x2x136x8x4, .f32⟩
  | 28 => ⟨S128x2x4x8x136, .f32⟩
  | 29 => ⟨S128x2x4x8x152, .f32⟩
  | 30 => ⟨S_, .f32⟩
  | 31 => ⟨S128x2x4x8x152, .f32⟩
  | 32 => ⟨S128x2x4x8x152, .f32⟩
  | 33 => ⟨S_, .f32⟩
  | 34 => ⟨S_, .f32⟩
  | 35 => ⟨S128x2x4x8x152, .i1⟩
  | 36 => ⟨S128x2x4x8x152, .f32⟩
  | 37 => ⟨S128x2x4x8x152, .f32⟩
  | 38 => ⟨S2x4, .f32⟩
  | 39 => ⟨S2x4x1x1, .f32⟩
  | 40 => ⟨S_, .f32⟩
  | 41 => ⟨S128x2x4x8, .f32⟩
  | 42 => ⟨S128x2x4x8x1, .f32⟩
  | 43 => ⟨S1x2x4x1x1, .f32⟩
  | 44 => ⟨S128x2x4x8x1, .f32⟩
  | 45 => ⟨S128x2x4x8x1, .f32⟩
  | 46 => ⟨S128x2x4x8x152, .f32⟩
  | 47 => ⟨S128x2x4x8x152, .f32⟩
  | 48 => ⟨S128x2x4x8x152, .f32⟩
  | 49 => ⟨S_, .f32⟩
  | 50 => ⟨S128x2x4x8, .f32⟩
  | 51 => ⟨S128x2x4x8x1, .f32⟩
  | 52 => ⟨S1x2x4x1x1, .f32⟩
  | 53 => ⟨S128x2x4x8x1, .f32⟩
  | 54 => ⟨S128x2x4x8x1, .f32⟩
  | 55 => ⟨S128x2x4x8x1, .f32⟩
  | 56 => ⟨S128x2x4x8x1, .f32⟩
  | 57 => ⟨S128x2x4x8x152, .f32⟩
  | 58 => ⟨S128x2x4x8x152, .f32⟩
  | 59 => ⟨S128x2x4x8x16, .f32⟩
  | 60 => ⟨S128x2x64x4x8, .f32⟩
  | 61 => ⟨S128x8x2x4x64, .f32⟩
  | 62 => ⟨S128x2x4x8x136, .f32⟩
  | 63 => ⟨S128x2x64x4x8, .f32⟩
  | 64 => ⟨S128x8x2x4x64, .f32⟩
  | 65 => ⟨S128x8x2x4x64, .f32⟩
  | 66 => ⟨S128x8x512, .f32⟩
  | 67 => ⟨S128x8x512, .f32⟩
  | 68 => ⟨S_, .f32⟩
  | 69 => ⟨S128x8, .f32⟩
  | 70 => ⟨S128x8x1, .f32⟩
  | 71 => ⟨S_, .f32⟩
  | 72 => ⟨S128x8x1, .f32⟩
  | 73 => ⟨S128x8x1, .f32⟩
  | 74 => ⟨S_, .f32⟩
  | 75 => ⟨S128x8x1, .f32⟩
  | 76 => ⟨S128x8x1, .f32⟩
  | 77 => ⟨S128x8x1, .f32⟩
  | 78 => ⟨S128x8x512, .f32⟩
  | 79 => ⟨S128x8x512, .f32⟩
  | 80 => ⟨S1x1x512, .f32⟩
  | 81 => ⟨S128x8x512, .f32⟩
  | 82 => ⟨S128x8x512, .f32⟩
  | 83 => ⟨S1024x512, .f32⟩
  | 84 => ⟨S1024x512, .bf16⟩
  | 85 => ⟨S1024x128, .f32⟩
  | _ => ⟨S34304x2560, .f32⟩

abbrev hbmTy (i : Nat) : BufTy := match i / 128 with
  | 0 => hbmTy0_0 i
  | 1 => hbmTy0_1 i
  | _ => ⟨S34304x2560, .f32⟩

abbrev bufTy : (tb : Table) → Fin (tcTables nBuf tb) → BufTy
  | .hbm, ⟨i, _⟩ => hbmTy i
  | _, _ => ⟨S34304x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_4 : Ref sig .tc := ⟨.hbm, 72, rfl⟩
abbrev main_v57 : Ref sig .tc := ⟨.hbm, 73, rfl⟩
abbrev main_v58 : Ref sig .tc := ⟨.hbm, 74, rfl⟩
abbrev main_cst_5 : Ref sig .tc := ⟨.hbm, 75, rfl⟩
abbrev main_v59 : Ref sig .tc := ⟨.hbm, 76, rfl⟩
abbrev main_v60 : Ref sig .tc := ⟨.hbm, 77, rfl⟩
abbrev main_cst_6 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_7 : Ref sig .tc := ⟨.hbm, 89, rfl⟩
abbrev main_v71 : Ref sig .tc := ⟨.hbm, 90, rfl⟩
abbrev main_v72 : Ref sig .tc := ⟨.hbm, 91, rfl⟩
abbrev main_cst_8 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_c_9 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_c_10 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_c_11 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_cst_12 : Ref sig .tc := ⟨.hbm, 158, rfl⟩
abbrev main_v135 : Ref sig .tc := ⟨.hbm, 159, rfl⟩
abbrev main_v136 : Ref sig .tc := ⟨.hbm, 160, rfl⟩
abbrev main_cst_13 : Ref sig .tc := ⟨.hbm, 161, rfl⟩
abbrev main_call0_v0 : Ref sig .tc := ⟨.hbm, 162, rfl⟩
abbrev main_call0_v1 : Ref sig .tc := ⟨.hbm, 163, rfl⟩
abbrev main_call0_v2 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_cst_14 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_cst_15 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_cst_16 : Ref sig .tc := ⟨.hbm, 196, rfl⟩
abbrev main_v166 : Ref sig .tc := ⟨.hbm, 197, rfl⟩
abbrev main_v167 : Ref sig .tc := ⟨.hbm, 198, rfl⟩
abbrev main_cst_17 : Ref sig .tc := ⟨.hbm, 199, rfl⟩
abbrev main_v168 : Ref sig .tc := ⟨.hbm, 200, rfl⟩
abbrev main_v169 : Ref sig .tc := ⟨.hbm, 201, rfl⟩
abbrev main_cst_18 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩

abbrev nD : Nat := 1
abbrev τ : Topo := Topo.v7x

variable {F : FTy → Type} [FloatOps F]

def κ : String → Option EReal := fun
  | "mask" => some ⊥
  | _ => none
-- ==== Proj.lean ====
abbrev S34304x1024 : Shape := ⟨2, ![34304, 1024]⟩
abbrev S1024 : Shape := ⟨1, ![1024]⟩
abbrev S1024x2312 : Shape := ⟨2, ![1024, 2312]⟩
abbrev S1024x1024 : Shape := ⟨2, ![1024, 1024]⟩
abbrev S1024x512 : Shape := ⟨2, ![1024, 512]⟩
abbrev S1024x128 : Shape := ⟨2, ![1024, 128]⟩
abbrev S1024x8 : Shape := ⟨2, ![1024, 8]⟩
abbrev S_ : Shape := ⟨0, ![]⟩
abbrev S1024x248 : Shape := ⟨2, ![1024, 248]⟩
abbrev S1024x2560 : Shape := ⟨2, ![1024, 2560]⟩
abbrev S1x1024 : Shape := ⟨2, ![1, 1024]⟩
abbrev S34304x2560 : Shape := ⟨2, ![34304, 2560]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩
abbrev S512x512 : Shape := ⟨2, ![512, 512]⟩

abbrev nBuf : Space → Nat
  | .hbm => 15
  | .vmem => 6
  | .smem => 0
  | _ => 0

abbrev bufTy : (tb : Table) → Fin (tcTables nBuf tb) → BufTy
  | .hbm, ⟨0, _⟩ => ⟨S34304x1024, .f32⟩
  | .hbm, ⟨1, _⟩ => ⟨S1024, .f32⟩
  | .hbm, ⟨2, _⟩ => ⟨S1024x2312, .f32⟩
  | .hbm, ⟨3, _⟩ => ⟨S1024x1024, .f32⟩
  | .hbm, ⟨4, _⟩ => ⟨S1024x512, .f32⟩
  | .hbm, ⟨5, _⟩ => ⟨S1024x512, .f32⟩
  | .hbm, ⟨6, _⟩ => ⟨S1024x128, .f32⟩
  | .hbm, ⟨7, _⟩ => ⟨S1024x128, .f32⟩
  | .hbm, ⟨8, _⟩ => ⟨S1024x8, .f32⟩
  | .hbm, ⟨9, _⟩ => ⟨S_, .f32⟩
  | .hbm, ⟨10, _⟩ => ⟨S1024x248, .f32⟩
  | .hbm, ⟨11, _⟩ => ⟨S1024x2560, .f32⟩
  | .hbm, ⟨12, _⟩ => ⟨S1024x2560, .bf16⟩
  | .hbm, ⟨13, _⟩ => ⟨S1x1024, .f32⟩
  | .hbm, ⟨14, _⟩ => ⟨S34304x2560, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S512x2560, .f32⟩
  | .local _ .vmem, ⟨5, _⟩ => ⟨S512x2560, .f32⟩
  | _, _ => ⟨S34304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![67], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjReferenceIdeal.lean ====
abbrev S34304x1024 : Shape := ⟨2, ![34304, 1024]⟩
abbrev S1024 : Shape := ⟨1, ![1024]⟩
abbrev S1024x2312 : Shape := ⟨2, ![1024, 2312]⟩
abbrev S_ : Shape := ⟨0, ![]⟩
abbrev S34304 : Shape := ⟨1, ![34304]⟩
abbrev S34304x1 : Shape := ⟨2, ![34304, 1]⟩
abbrev S1x1024 : Shape := ⟨2, ![1, 1024]⟩
abbrev S34304x2312 : Shape := ⟨2, ![34304, 2312]⟩
abbrev S34304x512 : Shape := ⟨2, ![34304, 512]⟩
abbrev S34304x8 : Shape := ⟨2, ![34304, 8]⟩
abbrev S34304x128 : Shape := ⟨2, ![34304, 128]⟩
abbrev S34304x248 : Shape := ⟨2, ![34304, 248]⟩
abbrev S34304x2560 : Shape := ⟨2, ![34304, 2560]⟩

abbrev nBuf : Space → Nat
  | .hbm => 29
  | .vmem => 0
  | .smem => 0
  | _ => 0

abbrev bufTy : (tb : Table) → Fin (tcTables nBuf tb) → BufTy
  | .hbm, ⟨0, _⟩ => ⟨S34304x1024, .f32⟩
  | .hbm, ⟨1, _⟩ => ⟨S1024, .f32⟩
  | .hbm, ⟨2, _⟩ => ⟨S1024x2312, .f32⟩
  | .hbm, ⟨3, _⟩ => ⟨S34304x1024, .f32⟩
  | .hbm, ⟨4, _⟩ => ⟨S_, .f32⟩
  | .hbm, ⟨5, _⟩ => ⟨S34304, .f32⟩
  | .hbm, ⟨6, _⟩ => ⟨S34304x1, .f32⟩
  | .hbm, ⟨7, _⟩ => ⟨S_, .f32⟩
  | .hbm, ⟨8, _⟩ => ⟨S34304x1, .f32⟩
  | .hbm, ⟨9, _⟩ => ⟨S34304x1, .f32⟩
  | .hbm, ⟨10, _⟩ => ⟨S_, .f32⟩
  | .hbm, ⟨11, _⟩ => ⟨S34304x1, .f32⟩
  | .hbm, ⟨12, _⟩ => ⟨S34304x1, .f32⟩
  | .hbm, ⟨13, _⟩ => ⟨S34304x1, .f32⟩
  | .hbm, ⟨14, _⟩ => ⟨S34304x1024, .f32⟩
  | .hbm, ⟨15, _⟩ => ⟨S34304x1024, .f32⟩
  | .hbm, ⟨16, _⟩ => ⟨S1x1024, .f32⟩
  | .hbm, ⟨17, _⟩ => ⟨S34304x1024, .f32⟩
  | .hbm, ⟨18, _⟩ => ⟨S34304x1024, .f32⟩
  | .hbm, ⟨19, _⟩ => ⟨S34304x2312, .f32⟩
  | .hbm, ⟨20, _⟩ => ⟨S34304x512, .f32⟩
  | .hbm, ⟨21, _⟩ => ⟨S34304x1024, .f32⟩
  | .hbm, ⟨22, _⟩ => ⟨S34304x8, .f32⟩
  | .hbm, ⟨23, _⟩ => ⟨S34304x512, .f32⟩
  | .hbm, ⟨24, _⟩ => ⟨S34304x128, .f32⟩
  | .hbm, ⟨25, _⟩ => ⟨S34304x128, .f32⟩
  | .hbm, ⟨26, _⟩ => ⟨S_, .f32⟩
  | .hbm, ⟨27, _⟩ => ⟨S34304x248, .f32⟩
  | .hbm, ⟨28, _⟩ => ⟨S34304x2560, .f32⟩
  | _, _ => ⟨S34304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Ffn.lean ====
abbrev S34304x1024 : Shape := ⟨2, ![34304, 1024]⟩
abbrev S34304x512 : Shape := ⟨2, ![34304, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 14
  | .vmem => 13
  | .smem => 0
  | _ => 0

abbrev bufTy : (tb : Table) → Fin (tcTables nBuf tb) → BufTy
  | .hbm, ⟨0, _⟩ => ⟨S34304x1024, .f32⟩
  | .hbm, ⟨1, _⟩ => ⟨S34304x512, .bf16⟩
  | .hbm, ⟨2, _⟩ => ⟨S34304x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024x1024, .bf16⟩
  | .hbm, ⟨9, _⟩ => ⟨S1x1024, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S34304x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | _, _ => ⟨S34304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![67], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnReferenceIdeal.lean ====
abbrev S34304x1024 : Shape := ⟨2, ![34304, 1024]⟩
abbrev S34304x512 : Shape := ⟨2, ![34304, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S34304 : Shape := ⟨1, ![34304]⟩
abbrev S34304x1 : Shape := ⟨2, ![34304, 1]⟩
abbrev S1x1024 : Shape := ⟨2, ![1, 1024]⟩
abbrev S34304x2816 : Shape := ⟨2, ![34304, 2816]⟩

abbrev nBuf : Space → Nat
  | .hbm => 43
  | .vmem => 0
  | .smem => 0
  | _ => 0

abbrev bufTy : (tb : Table) → Fin (tcTables nBuf tb) → BufTy
  | .hbm, ⟨0, _⟩ => ⟨S34304x1024, .f32⟩
  | .hbm, ⟨1, _⟩ => ⟨S34304x512, .bf16⟩
  | .hbm, ⟨2, _⟩ => ⟨S34304x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S34304x512, .f32⟩
  | .hbm, ⟨9, _⟩ => ⟨S34304x512, .f32⟩
  | .hbm, ⟨10, _⟩ => ⟨S34304x1024, .f32⟩
  | .hbm, ⟨11, _⟩ => ⟨S34304x1024, .f32⟩
  | .hbm, ⟨12, _⟩ => ⟨S34304x1024, .f32⟩
  | .hbm, ⟨13, _⟩ => ⟨S34304x1024, .f32⟩
  | .hbm, ⟨14, _⟩ => ⟨S_, .f32⟩
  | .hbm, ⟨15, _⟩ => ⟨S34304, .f32⟩
  | .hbm, ⟨16, _⟩ => ⟨S34304x1, .f32⟩
  | .hbm, ⟨17, _⟩ => ⟨S_, .f32⟩
  | .hbm, ⟨18, _⟩ => ⟨S34304x1, .f32⟩
  | .hbm, ⟨19, _⟩ => ⟨S34304x1, .f32⟩
  | .hbm, ⟨20, _⟩ => ⟨S_, .f32⟩
  | .hbm, ⟨21, _⟩ => ⟨S34304x1, .f32⟩
  | .hbm, ⟨22, _⟩ => ⟨S34304x1, .f32⟩
  | .hbm, ⟨23, _⟩ => ⟨S34304x1, .f32⟩
  | .hbm, ⟨24, _⟩ => ⟨S34304x1024, .f32⟩
  | .hbm, ⟨25, _⟩ => ⟨S34304x1024, .f32⟩
  | .hbm, ⟨26, _⟩ => ⟨S1x1024, .f32⟩
  | .hbm, ⟨27, _⟩ => ⟨S34304x1024, .f32⟩
  | .hbm, ⟨28, _⟩ => ⟨S34304x1024, .f32⟩
  | .hbm, ⟨29, _⟩ => ⟨S34304x2816, .f32⟩
  | .hbm, ⟨30, _⟩ => ⟨S34304x2816, .f32⟩
  | .hbm, ⟨31, _⟩ => ⟨S34304x2816, .f32⟩
  | .hbm, ⟨32, _⟩ => ⟨S_, .f32⟩
  | .hbm, ⟨33, _⟩ => ⟨S34304x2816, .f32⟩
  | .hbm, ⟨34, _⟩ => ⟨S34304x2816, .f32⟩
  | .hbm, ⟨35, _⟩ => ⟨S_, .f32⟩
  | .hbm, ⟨36, _⟩ => ⟨S34304x2816, .f32⟩
  | .hbm, ⟨37, _⟩ => ⟨S34304x2816, .f32⟩
  | .hbm, ⟨38, _⟩ => ⟨S34304x2816, .f32⟩
  | .hbm, ⟨39, _⟩ => ⟨S34304x2816, .f32⟩
  | .hbm, ⟨40, _⟩ => ⟨S34304x2816, .f32⟩
  | .hbm, ⟨41, _⟩ => ⟨S34304x1024, .f32⟩
  | .hbm, ⟨42, _⟩ => ⟨S34304x1024, .f32⟩
  | _, _ => ⟨S34304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]
-- ==== Moe.lean ====
abbrev S141 : Shape := ⟨1, ![141]⟩
abbrev S1 : Shape := ⟨1, ![1]⟩
abbrev S72192x1024 : Shape := ⟨2, ![72192, 1024]⟩
abbrev S8x1024x2816 : Shape := ⟨3, ![8, 1024, 2816]⟩
abbrev S8x2816x1024 : Shape := ⟨3, ![8, 2816, 1024]⟩
abbrev S512x1024 : Shape := ⟨2, ![512, 1024]⟩
abbrev S1x1024x2816 : Shape := ⟨3, ![1, 1024, 2816]⟩
abbrev S1x2816x1024 : Shape := ⟨3, ![1, 2816, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 8
  | .vmem => 10
  | .smem => 2
  | _ => 0

abbrev bufTy : (tb : Table) → Fin (tcTables nBuf tb) → BufTy
  | .hbm, ⟨0, _⟩ => ⟨S72192x1024, .bf16⟩
  | .hbm, ⟨1, _⟩ => ⟨S8x1024x2816, .f32⟩
  | .hbm, ⟨2, _⟩ => ⟨S8x1024x2816, .f32⟩
  | .hbm, ⟨3, _⟩ => ⟨S8x2816x1024, .f32⟩
  | .hbm, ⟨4, _⟩ => ⟨S8x1024x2816, .bf16⟩
  | .hbm, ⟨5, _⟩ => ⟨S8x1024x2816, .bf16⟩
  | .hbm, ⟨6, _⟩ => ⟨S8x2816x1024, .bf16⟩
  | .hbm, ⟨7, _⟩ => ⟨S72192x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S1x2816x1024, .bf16⟩
  | .local _ .vmem, ⟨8, _⟩ => ⟨S512x1024, .f32⟩
  | .local _ .vmem, ⟨9, _⟩ => ⟨S512x1024, .f32⟩
  | .local _ .smem, ⟨0, _⟩ => ⟨S141, .i32⟩
  | .local _ .smem, ⟨1, _⟩ => ⟨S1, .i32⟩
  | _, _ => ⟨S72192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![141], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S141.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S141) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S141.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S141) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S141.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S141) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MoeReferenceIdeal.lean ====
abbrev S141 : Shape := ⟨1, ![141]⟩
abbrev S1 : Shape := ⟨1, ![1]⟩
abbrev S72192x1024 : Shape := ⟨2, ![72192, 1024]⟩
abbrev S8x1024x2816 : Shape := ⟨3, ![8, 1024, 2816]⟩
abbrev S8x2816x1024 : Shape := ⟨3, ![8, 2816, 1024]⟩
abbrev S141x512x1024 : Shape := ⟨3, ![141, 512, 1024]⟩
abbrev S_ : Shape := ⟨0, ![]⟩
abbrev S141x1 : Shape := ⟨2, ![141, 1]⟩
abbrev S141x1024x2816 : Shape := ⟨3, ![141, 1024, 2816]⟩
abbrev S141x512x2816 : Shape := ⟨3, ![141, 512, 2816]⟩
abbrev S141x2816x1024 : Shape := ⟨3, ![141, 2816, 1024]⟩
abbrev S141x1x1 : Shape := ⟨3, ![141, 1, 1]⟩

abbrev nBuf : Space → Nat
  | .hbm => 59
  | .vmem => 0
  | .smem => 0
  | _ => 0

abbrev bufTy : (tb : Table) → Fin (tcTables nBuf tb) → BufTy
  | .hbm, ⟨0, _⟩ => ⟨S141, .i32⟩
  | .hbm, ⟨1, _⟩ => ⟨S1, .i32⟩
  | .hbm, ⟨2, _⟩ => ⟨S72192x1024, .bf16⟩
  | .hbm, ⟨3, _⟩ => ⟨S8x1024x2816, .f32⟩
  | .hbm, ⟨4, _⟩ => ⟨S8x1024x2816, .f32⟩
  | .hbm, ⟨5, _⟩ => ⟨S8x2816x1024, .f32⟩
  | .hbm, ⟨6, _⟩ => ⟨S72192x1024, .f32⟩
  | .hbm, ⟨7, _⟩ => ⟨S141x512x1024, .f32⟩
  | .hbm, ⟨8, _⟩ => ⟨S_, .i32⟩
  | .hbm, ⟨9, _⟩ => ⟨S141, .i32⟩
  | .hbm, ⟨10, _⟩ => ⟨S141, .i1⟩
  | .hbm, ⟨11, _⟩ => ⟨S_, .i32⟩
  | .hbm, ⟨12, _⟩ => ⟨S141, .i32⟩
  | .hbm, ⟨13, _⟩ => ⟨S141, .i32⟩
  | .hbm, ⟨14, _⟩ => ⟨S141, .i32⟩
  | .hbm, ⟨15, _⟩ => ⟨S141x1, .i32⟩
  | .hbm, ⟨16, _⟩ => ⟨S141x1024x2816, .f32⟩
  | .hbm, ⟨17, _⟩ => ⟨S141x512x2816, .f32⟩
  | .hbm, ⟨18, _⟩ => ⟨S_, .i32⟩
  | .hbm, ⟨19, _⟩ => ⟨S141, .i32⟩
  | .hbm, ⟨20, _⟩ => ⟨S141, .i1⟩
  | .hbm, ⟨21, _⟩ => ⟨S_, .i32⟩
  | .hbm, ⟨22, _⟩ => ⟨S141, .i32⟩
  | .hbm, ⟨23, _⟩ => ⟨S141, .i32⟩
  | .hbm, ⟨24, _⟩ => ⟨S141, .i32⟩
  | .hbm, ⟨25, _⟩ => ⟨S141x1, .i32⟩
  | .hbm, ⟨26, _⟩ => ⟨S141x1024x2816, .f32⟩
  | .hbm, ⟨27, _⟩ => ⟨S141x512x2816, .f32⟩
  | .hbm, ⟨28, _⟩ => ⟨S141x512x2816, .f32⟩
  | .hbm, ⟨29, _⟩ => ⟨S141x512x2816, .f32⟩
  | .hbm, ⟨30, _⟩ => ⟨S_, .f32⟩
  | .hbm, ⟨31, _⟩ => ⟨S141x512x2816, .f32⟩
  | .hbm, ⟨32, _⟩ => ⟨S141x512x2816, .f32⟩
  | .hbm, ⟨33, _⟩ => ⟨S_, .f32⟩
  | .hbm, ⟨34, _⟩ => ⟨S141x512x2816, .f32⟩
  | .hbm, ⟨35, _⟩ => ⟨S141x512x2816, .f32⟩
  | .hbm, ⟨36, _⟩ => ⟨S141x512x2816, .f32⟩
  | .hbm, ⟨37, _⟩ => ⟨S141x512x2816, .f32⟩
  | .hbm, ⟨38, _⟩ => ⟨S_, .i32⟩
  | .hbm, ⟨39, _⟩ => ⟨S141, .i32⟩
  | .hbm, ⟨40, _⟩ => ⟨S141, .i1⟩
  | .hbm, ⟨41, _⟩ => ⟨S_, .i32⟩
  | .hbm, ⟨42, _⟩ => ⟨S141, .i32⟩
  | .hbm, ⟨43, _⟩ => ⟨S141, .i32⟩
  | .hbm, ⟨44, _⟩ => ⟨S141, .i32⟩
  | .hbm, ⟨45, _⟩ => ⟨S141x1, .i32⟩
  | .hbm, ⟨46, _⟩ => ⟨S141x2816x1024, .f32⟩
  | .hbm, ⟨47, _⟩ => ⟨S141x512x1024, .f32⟩
  | .hbm, ⟨48, _⟩ => ⟨S141, .i32⟩
  | .hbm, ⟨49, _⟩ => ⟨S_, .i32⟩
  | .hbm, ⟨50, _⟩ => ⟨S141, .i32⟩
  | .hbm, ⟨51, _⟩ => ⟨S141, .i1⟩
  | .hbm, ⟨52, _⟩ => ⟨S141x1x1, .i1⟩
  | .hbm, ⟨53, _⟩ => ⟨S_, .f32⟩
  | .hbm, ⟨54, _⟩ => ⟨S_, .f32⟩
  | .hbm, ⟨55, _⟩ => ⟨S141x512x1024, .i1⟩
  | .hbm, ⟨56, _⟩ => ⟨S141x512x1024, .f32⟩
  | .hbm, ⟨57, _⟩ => ⟨S141x512x1024, .f32⟩
  | .hbm, ⟨58, _⟩ => ⟨S72192x1024, .f32⟩
  | _, _ => ⟨S141, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v33 : Ref sig .tc := ⟨.hbm, 57, rfl⟩
abbrev main_v34 : Ref sig .tc := ⟨.hbm, 58, rfl⟩

abbrev nD : Nat := 1
abbrev τ : Topo := Topo.v7x

variable {F : FTy → Type} [FloatOps F]
-- ==== Router.lean ====
abbrev S34304x1024 : Shape := ⟨2, ![34304, 1024]⟩
abbrev S34304x512 : Shape := ⟨2, ![34304, 512]⟩
abbrev S1024x1024 : Shape := ⟨2, ![1024, 1024]⟩
abbrev S1024 : Shape := ⟨1, ![1024]⟩
abbrev S1024x8 : Shape := ⟨2, ![1024, 8]⟩
abbrev S_ : Shape := ⟨0, ![]⟩
abbrev S1024x128 : Shape := ⟨2, ![1024, 128]⟩
abbrev S1x1024 : Shape := ⟨2, ![1, 1024]⟩
abbrev S34304x128 : Shape := ⟨2, ![34304, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 18
  | .vmem => 16
  | .smem => 0
  | _ => 0

abbrev bufTy : (tb : Table) → Fin (tcTables nBuf tb) → BufTy
  | .hbm, ⟨0, _⟩ => ⟨S34304x1024, .f32⟩
  | .hbm, ⟨1, _⟩ => ⟨S34304x512, .bf16⟩
  | .hbm, ⟨2, _⟩ => ⟨S34304x512, .bf16⟩
  | .hbm, ⟨3, _⟩ => ⟨S1024x1024, .f32⟩
  | .hbm, ⟨4, _⟩ => ⟨S1024, .f32⟩
  | .hbm, ⟨5, _⟩ => ⟨S1024x8, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x128, .bf16⟩
  | .hbm, ⟨10, _⟩ => ⟨S1024x128, .f32⟩
  | .hbm, ⟨11, _⟩ => ⟨S1024x128, .f32⟩
  | .hbm, ⟨12, _⟩ => ⟨S1024x128, .bf16⟩
  | .hbm, ⟨13, _⟩ => ⟨S1024x1024, .bf16⟩
  | .hbm, ⟨14, _⟩ => ⟨S1x1024, .f32⟩
  | .hbm, ⟨15, _⟩ => ⟨S34304x1024, .f32⟩
  | .hbm, ⟨16, _⟩ => ⟨S34304x1024, .bf16⟩
  | .hbm, ⟨17, _⟩ => ⟨S34304x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x128, .bf16⟩
  | .local _ .vmem, ⟨9, _⟩ => ⟨S1024x128, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x128, .f32⟩
  | .local _ .vmem, ⟨15, _⟩ => ⟨S512x128, .f32⟩
  | _, _ => ⟨S34304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![67], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RouterReferenceIdeal.lean ====
abbrev S34304x1024 : Shape := ⟨2, ![34304, 1024]⟩
abbrev S34304x512 : Shape := ⟨2, ![34304, 512]⟩
abbrev S1024x1024 : Shape := ⟨2, ![1024, 1024]⟩
abbrev S1024 : Shape := ⟨1, ![1024]⟩
abbrev S1024x8 : Shape := ⟨2, ![1024, 8]⟩
abbrev S_ : Shape := ⟨0, ![]⟩
abbrev S34304 : Shape := ⟨1, ![34304]⟩
abbrev S34304x1 : Shape := ⟨2, ![34304, 1]⟩
abbrev S1x1024 : Shape := ⟨2, ![1, 1024]⟩
abbrev S34304x8 : Shape := ⟨2, ![34304, 8]⟩
abbrev S34304x2 : Shape := ⟨2, ![34304, 2]⟩
abbrev S34304x124 : Shape := ⟨2, ![34304, 124]⟩
abbrev S34304x128 : Shape := ⟨2, ![34304, 128]⟩

abbrev nBuf : Space → Nat
  | .hbm => 49
  | .vmem => 0
  | .smem => 0
  | _ => 0

abbrev bufTy : (tb : Table) → Fin (tcTables nBuf tb) → BufTy
  | .hbm, ⟨0, _⟩ => ⟨S34304x1024, .f32⟩
  | .hbm, ⟨1, _⟩ => ⟨S34304x512, .bf16⟩
  | .hbm, ⟨2, _⟩ => ⟨S34304x512, .bf16⟩
  | .hbm, ⟨3, _⟩ => ⟨S1024x1024, .f32⟩
  | .hbm, ⟨4, _⟩ => ⟨S1024, .f32⟩
  | .hbm, ⟨5, _⟩ => ⟨S1024x8, .f32⟩
  | .hbm, ⟨6, _⟩ => ⟨S34304x512, .f32⟩
  | .hbm, ⟨7, _⟩ => ⟨S34304x512, .f32⟩
  | .hbm, ⟨8, _⟩ => ⟨S34304x1024, .f32⟩
  | .hbm, ⟨9, _⟩ => ⟨S34304x1024, .f32⟩
  | .hbm, ⟨10, _⟩ => ⟨S34304x1024, .f32⟩
  | .hbm, ⟨11, _⟩ => ⟨S34304x1024, .f32⟩
  | .hbm, ⟨12, _⟩ => ⟨S_, .f32⟩
  | .hbm, ⟨13, _⟩ => ⟨S34304, .f32⟩
  | .hbm, ⟨14, _⟩ => ⟨S34304x1, .f32⟩
  | .hbm, ⟨15, _⟩ => ⟨S_, .f32⟩
  | .hbm, ⟨16, _⟩ => ⟨S34304x1, .f32⟩
  | .hbm, ⟨17, _⟩ => ⟨S34304x1, .f32⟩
  | .hbm, ⟨18, _⟩ => ⟨S_, .f32⟩
  | .hbm, ⟨19, _⟩ => ⟨S34304x1, .f32⟩
  | .hbm, ⟨20, _⟩ => ⟨S34304x1, .f32⟩
  | .hbm, ⟨21, _⟩ => ⟨S34304x1, .f32⟩
  | .hbm, ⟨22, _⟩ => ⟨S34304x1024, .f32⟩
  | .hbm, ⟨23, _⟩ => ⟨S34304x1024, .f32⟩
  | .hbm, ⟨24, _⟩ => ⟨S1x1024, .f32⟩
  | .hbm, ⟨25, _⟩ => ⟨S34304x1024, .f32⟩
  | .hbm, ⟨26, _⟩ => ⟨S34304x1024, .f32⟩
  | .hbm, ⟨27, _⟩ => ⟨S34304x8, .f32⟩
  | .hbm, ⟨28, _⟩ => ⟨S34304x2, .f32⟩
  | .hbm, ⟨29, _⟩ => ⟨S34304x2, .i32⟩
  | .hbm, ⟨30, _⟩ => ⟨S_, .f32⟩
  | .hbm, ⟨31, _⟩ => ⟨S34304, .f32⟩
  | .hbm, ⟨32, _⟩ => ⟨S_, .f32⟩
  | .hbm, ⟨33, _⟩ => ⟨S34304, .f32⟩
  | .hbm, ⟨34, _⟩ => ⟨S34304, .f32⟩
  | .hbm, ⟨35, _⟩ => ⟨S34304x1, .f32⟩
  | .hbm, ⟨36, _⟩ => ⟨S34304x2, .f32⟩
  | .hbm, ⟨37, _⟩ => ⟨S34304x2, .f32⟩
  | .hbm, ⟨38, _⟩ => ⟨S34304x2, .f32⟩
  | .hbm, ⟨39, _⟩ => ⟨S_, .f32⟩
  | .hbm, ⟨40, _⟩ => ⟨S34304, .f32⟩
  | .hbm, ⟨41, _⟩ => ⟨S34304x1, .f32⟩
  | .hbm, ⟨42, _⟩ => ⟨S34304x2, .f32⟩
  | .hbm, ⟨43, _⟩ => ⟨S34304x2, .f32⟩
  | .hbm, ⟨44, _⟩ => ⟨S34304x2, .f32⟩
  | .hbm, ⟨45, _⟩ => ⟨S_, .f32⟩
  | .hbm, ⟨46, _⟩ => ⟨S34304x124, .f32⟩
  | .hbm, ⟨47, _⟩ => ⟨S34304x128, .f32⟩
  | .hbm, ⟨48, _⟩ => ⟨S34304x1024, .bf16⟩
  | _, _ => ⟨S34304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_values : Ref sig .tc := ⟨.hbm, 28, rfl⟩
abbrev main_indices : Ref sig .tc := ⟨.hbm, 29, rfl⟩
abbrev main_cst_2 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== Scan.lean ====
abbrev S34304x2560 : Shape := ⟨2, ![34304, 2560]⟩
abbrev S128x3x1024 : Shape := ⟨3, ![128, 3, 1024]⟩
abbrev S128x8x64x128 : Shape := ⟨4, ![128, 8, 64, 128]⟩
abbrev S4x1024 : Shape := ⟨2, ![4, 1024]⟩
abbrev S1024 : Shape := ⟨1, ![1024]⟩
abbrev S8 : Shape := ⟨1, ![8]⟩
abbrev S512 : Shape := ⟨1, ![512]⟩
abbrev S1x1024 : Shape := ⟨2, ![1, 1024]⟩
abbrev S1x8 : Shape := ⟨2, ![1, 8]⟩
abbrev S_ : Shape := ⟨0, ![]⟩
abbrev S1x128 : Shape := ⟨2, ![1, 128]⟩
abbrev S1x512 : Shape := ⟨2, ![1, 512]⟩
abbrev S128x8x1024 : Shape := ⟨3, ![128, 8, 1024]⟩
abbrev S1024x512 : Shape := ⟨2, ![1024, 512]⟩
abbrev S8x1024 : Shape := ⟨2, ![8, 1024]⟩
abbrev S8x512 : Shape := ⟨2, ![8, 512]⟩
abbrev S8x128 : Shape := ⟨2, ![8, 128]⟩
abbrev S1x8x1024 : Shape := ⟨3, ![1, 8, 1024]⟩
abbrev S1x8x64x128 : Shape := ⟨4, ![1, 8, 64, 128]⟩
abbrev S136x1024 : Shape := ⟨2, ![136, 1024]⟩
abbrev S8x64x128 : Shape := ⟨3, ![8, 64, 128]⟩
abbrev S128x512 : Shape := ⟨2, ![128, 512]⟩
abbrev S128x1 : Shape := ⟨2, ![128, 1]⟩
abbrev S120x1024 : Shape := ⟨2, ![120, 1024]⟩
abbrev S128x1024 : Shape := ⟨2, ![128, 1024]⟩
abbrev S120x512 : Shape := ⟨2, ![120, 512]⟩
abbrev S120x128 : Shape := ⟨2, ![120, 128]⟩
abbrev S128x128 : Shape := ⟨2, ![128, 128]⟩
abbrev S128x256 : Shape := ⟨2, ![128, 256]⟩
abbrev S128x64 : Shape := ⟨2, ![128, 64]⟩
abbrev S1x64x128 : Shape := ⟨3, ![1, 64, 128]⟩
abbrev S64x128 : Shape := ⟨2, ![64, 128]⟩
abbrev S1x1 : Shape := ⟨2, ![1, 1]⟩
abbrev S1x256 : Shape := ⟨2, ![1, 256]⟩
abbrev S128 : Shape := ⟨1, ![128]⟩

abbrev nBuf : Space → Nat
  | .hbm => 30
  | .vmem => 23
  | .smem => 0
  | _ => 0

abbrev bufTy : (tb : Table) → Fin (tcTables nBuf tb) → BufTy
  | .hbm, ⟨0, _⟩ => ⟨S34304x2560, .f32⟩
  | .hbm, ⟨1, _⟩ => ⟨S128x3x1024, .f32⟩
  | .hbm, ⟨2, _⟩ => ⟨S128x8x64x128, .f32⟩
  | .hbm, ⟨3, _⟩ => ⟨S4x1024, .f32⟩
  | .hbm, ⟨4, _⟩ => ⟨S1024, .f32⟩
  | .hbm, ⟨5, _⟩ => ⟨S8, .f32⟩
  | .hbm, ⟨6, _⟩ => ⟨S8, .f32⟩
  | .hbm, ⟨7, _⟩ => ⟨S8, .f32⟩
  | .hbm, ⟨8, _⟩ => ⟨S512, .f32⟩
  | .hbm, ⟨9, _⟩ => ⟨S1x1024, .f32⟩
  | .hbm, ⟨10, _⟩ => ⟨S1x8, .f32⟩
  | .hbm, ⟨11, _⟩ => ⟨S_, .i32⟩
  | .hbm, ⟨12, _⟩ => ⟨S_, .f32⟩
  | .hbm, ⟨13, _⟩ => ⟨S1x128, .f32⟩
  | .hbm, ⟨14, _⟩ => ⟨S8, .f32⟩
  | .hbm, ⟨15, _⟩ => ⟨S8, .f32⟩
  | .hbm, ⟨16, _⟩ => ⟨S1x8, .f32⟩
  | .hbm, ⟨17, _⟩ => ⟨S_, .i32⟩
  | .hbm, ⟨18, _⟩ => ⟨S_, .f32⟩
  | .hbm, ⟨19, _⟩ => ⟨S1x128, .f32⟩
  | .hbm, ⟨20, _⟩ => ⟨S1x8, .f32⟩
  | .hbm, ⟨21, _⟩ => ⟨S_, .i32⟩
  | .hbm, ⟨22, _⟩ => ⟨S_, .f32⟩
  | .hbm, ⟨23, _⟩ => ⟨S1x128, .f32⟩
  | .hbm, ⟨24, _⟩ => ⟨S1x512, .f32⟩
  | .hbm, ⟨25, _⟩ => ⟨S_, .i32⟩
  | .hbm, ⟨26, _⟩ => ⟨S_, .f32⟩
  | .hbm, ⟨27, _⟩ => ⟨S128x8x1024, .f32⟩
  | .hbm, ⟨28, _⟩ => ⟨S1024x512, .bf16⟩
  | .hbm, ⟨29, _⟩ => ⟨S128x8x64x128, .f32⟩
  | .local _ .vmem, ⟨0, _⟩ => ⟨S8x1024, .f32⟩
  | .local _ .vmem, ⟨1, _⟩ => ⟨S8x1024, .f32⟩
  | .local _ .vmem, ⟨2, _⟩ => ⟨S8x512, .f32⟩
  | .local _ .vmem, ⟨3, _⟩ => ⟨S8x512, .f32⟩
  | .local _ .vmem, ⟨4, _⟩ => ⟨S8x128, .f32⟩
  | .local _ .vmem, ⟨5, _⟩ => ⟨S8x128, .f32⟩
  | .local _ .vmem, ⟨6, _⟩ => ⟨S1x8x1024, .f32⟩
  | .local _ .vmem, ⟨7, _⟩ => ⟨S1x8x1024, .f32⟩
  | .local _ .vmem, ⟨8, _⟩ => ⟨S1x8x64x128, .f32⟩
  | .local _ .vmem, ⟨9, _⟩ => ⟨S1x8x64x128, .f32⟩
  | .local _ .vmem, ⟨10, _⟩ => ⟨S4x1024, .f32⟩
  | .local _ .vmem, ⟨11, _⟩ => ⟨S1x1024, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x512, .f32⟩
  | .local _ .vmem, ⟨16, _⟩ => ⟨S8x512, .bf16⟩
  | .local _ .vmem, ⟨17, _⟩ => ⟨S8x512, .bf16⟩
  | .local _ .vmem, ⟨18, _⟩ => ⟨S1x8x64x128, .f32⟩
  | .local _ .vmem, ⟨19, _⟩ => ⟨S1x8x64x128, .f32⟩
  | .local _ .vmem, ⟨20, _⟩ => ⟨S136x1024, .f32⟩
  | .local _ .vmem, ⟨21, _⟩ => ⟨S8x64x128, .f32⟩
  | .local _ .vmem, ⟨22, _⟩ => ⟨S128x512, .f32⟩
  | _, _ => ⟨S34304x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_call1_v0 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_call2_v0 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_call3_v0 : Ref sig .tc := ⟨.hbm, 26, rfl⟩
abbrev main_v10 : Ref sig .tc := ⟨.hbm, 27, rfl⟩
abbrev main_v11_0 : Ref sig .tc := ⟨.hbm, 28, rfl⟩
abbrev main_v11_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c4096_i32 : BitVec 32 := 4096#32
  let v0 : BitVec 32 := Scalar.addi c4096_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c4096_i32 : BitVec 32 := 4096#32
  let v0 : BitVec 32 := Scalar.addi c4096_i32 arg0
  let c2_i32 : BitVec 32 := 2#32
  let c0_i32 : BitVec 32 := 0#32
  ![v0.toNat, c2_i32.toNat]

def cc0_transform_2 (i : grid0.Coords) : Fin 2 → Nat :=
  let arg0 : BitVec 32 := BitVec.ofNat 32 (i 0).val
  let c4096_i32 : BitVec 32 := 4096#32
  let v0 : BitVec 32 := Scalar.addi c4096_i32 arg0
  let c18_i32 : BitVec 32 := 18#32
  let c0_i32 : BitVec 32 := 0#32
  ![v0.toNat, c18_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ScanReferenceIdeal.lean ====
abbrev S34304x2560 : Shape := ⟨2, ![34304, 2560]⟩
abbrev S128x3x1024 : Shape := ⟨3, ![128, 3, 1024]⟩
abbrev S128x8x64x128 : Shape := ⟨4, ![128, 8, 64, 128]⟩
abbrev S4x1024 : Shape := ⟨2, ![4, 1024]⟩
abbrev S1024 : Shape := ⟨1, ![1024]⟩
abbrev S8 : Shape := ⟨1, ![8]⟩
abbrev S512 : Shape := ⟨1, ![512]⟩
abbrev S1024x2560 : Shape := ⟨2, ![1024, 2560]⟩
abbrev S1024x1024 : Shape := ⟨2, ![1024, 1024]⟩
abbrev S128x8x1024 : Shape := ⟨3, ![128, 8, 1024]⟩
abbrev S1024x512 : Shape := ⟨2, ![1024, 512]⟩
abbrev S128x8x512 : Shape := ⟨3, ![128, 8, 512]⟩
abbrev S1024x8 : Shape := ⟨2, ![1024, 8]⟩
abbrev S128x8x8 : Shape := ⟨3, ![128, 8, 8]⟩
abbrev S128x11x1024 : Shape := ⟨3, ![128, 11, 1024]⟩
abbrev S1x1024 : Shape := ⟨2, ![1, 1024]⟩
abbrev S1x1x1024 : Shape := ⟨3, ![1, 1, 1024]⟩
abbrev S_ : Shape := ⟨0, ![]⟩
abbrev S128x8x2x4x64 : Shape := ⟨5, ![128, 8, 2, 4, 64]⟩
abbrev S128x8x256 : Shape := ⟨3, ![128, 8, 256]⟩
abbrev S128x8x2x128 : Shape := ⟨4, ![128, 8, 2, 128]⟩
abbrev S1x1x8 : Shape := ⟨3, ![1, 1, 8]⟩
abbrev S128x8x2x4 : Shape := ⟨4, ![128, 8, 2, 4]⟩
abbrev S8x8 : Shape := ⟨2, ![8, 8]⟩
abbrev S8x8x1x1 : Shape := ⟨4, ![8, 8, 1, 1]⟩
abbrev S128x1x8x2x4 : Shape := ⟨5, ![128, 1, 8, 2, 4]⟩
abbrev S128x8x8x2x4 : Shape := ⟨5, ![128, 8, 8, 2, 4]⟩
abbrev S128x8x2x4x1 : Shape := ⟨5, ![128, 8, 2, 4, 1]⟩
abbrev S128x8x1x2x4 : Shape := ⟨5, ![128, 8, 1, 2, 4]⟩
abbrev S128x2x8x8 : Shape := ⟨4, ![128, 2, 8, 8]⟩
abbrev S128x8x8x2 : Shape := ⟨4, ![128, 8, 8, 2]⟩
abbrev S128x8x8x2x1 : Shape := ⟨5, ![128, 8, 8, 2, 1]⟩
abbrev S128x2x4x64x8 : Shape := ⟨5, ![128, 2, 4, 64, 8]⟩
abbrev S128x1x2x4 : Shape := ⟨4, ![128, 1, 2, 4]⟩
abbrev S128x2x4x64x128 : Shape := ⟨5, ![128, 2, 4, 64, 128]⟩
abbrev S128x2x4 : Shape := ⟨3, ![128, 2, 4]⟩
abbrev S128x2x4x1x1 : Shape := ⟨5, ![128, 2, 4, 1, 1]⟩
abbrev S2x4 : Shape := ⟨2, ![2, 4]⟩
abbrev S2x4x1 : Shape := ⟨3, ![2, 4, 1]⟩
abbrev S1x1x2x4x1 : Shape := ⟨5, ![1, 1, 2, 4, 1]⟩
abbrev S128x8x2x256 : Shape := ⟨4, ![128, 8, 2, 256]⟩
abbrev S2x256 : Shape := ⟨2, ![2, 256]⟩
abbrev S128x8x2 : Shape := ⟨3, ![128, 8, 2]⟩
abbrev S128x8x2x1 : Shape := ⟨4, ![128, 8, 2, 1]⟩
abbrev S1x1x2x256 : Shape := ⟨4, ![1, 1, 2, 256]⟩

abbrev nBuf : Space → Nat
  | .hbm => 196
  | .vmem => 0
  | .smem => 0
  | _ => 0

abbrev hbmTy0_0 (i : Nat) : BufTy := match i % 128 with
  | 0 => ⟨S34304x2560, .f32⟩
  | 1 => ⟨S128x3x1024, .f32⟩
  | 2 => ⟨S128x8x64x128, .f32⟩
  | 3 => ⟨S4x1024, .f32⟩
  | 4 => ⟨S1024, .f32⟩
  | 5 => ⟨S8, .f32⟩
  | 6 => ⟨S8, .f32⟩
  | 7 => ⟨S8, .f32⟩
  | 8 => ⟨S512, .f32⟩
  | 9 => ⟨S1024x2560, .f32⟩
  | 10 => ⟨S1024x1024, .f32⟩
  | 11 => ⟨S128x8x1024, .f32⟩
  | 12 => ⟨S1024x512, .f32⟩
  | 13 => ⟨S128x8x512, .f32⟩
  | 14 => ⟨S1024x8, .f32⟩
  | 15 => ⟨S128x8x8, .f32⟩
  | 16 => ⟨S128x11x1024, .f32⟩
  | 17 => ⟨S128x8x1024, .f32⟩
  | 18 => ⟨S1x1024, .f32⟩
  | 19 => ⟨S1024, .f32⟩
  | 20 => ⟨S1x1x1024, .f32⟩
  | 21 => ⟨S128x8x1024, .f32⟩
  | 22 => ⟨S128x8x1024, .f32⟩
  | 23 => ⟨S_, .f32⟩
  | 24 => ⟨S128x8x1024, .f32⟩
  | 25 => ⟨S128x8x1024, .f32⟩
  | 26 => ⟨S128x8x1024, .f32⟩
  | 27 => ⟨S1x1024, .f32⟩
  | 28 => ⟨S1024, .f32⟩
  | 29 => ⟨S1x1x1024, .f32⟩
  | 30 => ⟨S128x8x1024, .f32⟩
  | 31 => ⟨S128x8x1024, .f32⟩
  | 32 => ⟨S128x8x1024, .f32⟩
  | 33 => ⟨S128x8x1024, .f32⟩
  | 34 => ⟨S1x1024, .f32⟩
  | 35 => ⟨S1024, .f32⟩
  | 36 => ⟨S1x1x1024, .f32⟩
  | 37 => ⟨S128x8x1024, .f32⟩
  | 38 => ⟨S128x8x1024, .f32⟩
  | 39 => ⟨S128x8x1024, .f32⟩
  | 40 => ⟨S128x8x1024, .f32⟩
  | 41 => ⟨S1x1024, .f32⟩
  | 42 => ⟨S1024, .f32⟩
  | 43 => ⟨S1x1x1024, .f32⟩
  | 44 => ⟨S128x8x1024, .f32⟩
  | 45 => ⟨S128x8x1024, .f32⟩
  | 46 => ⟨S128x8x1024, .f32⟩
  | 47 => ⟨S1x1x1024, .f32⟩
  | 48 => ⟨S128x8x1024, .f32⟩
  | 49 => ⟨S128x8x1024, .f32⟩
  | 50 => ⟨S128x8x1024, .f32⟩
  | 51 => ⟨S128x8x1024, .f32⟩
  | 52 => ⟨S_, .f32⟩
  | 53 => ⟨S128x8x1024, .f32⟩
  | 54 => ⟨S128x8x1024, .f32⟩
  | 55 => ⟨S_, .f32⟩
  | 56 => ⟨S128x8x1024, .f32⟩
  | 57 => ⟨S128x8x1024, .f32⟩
  | 58 => ⟨S128x8x1024, .f32⟩
  | 59 => ⟨S128x8x512, .f32⟩
  | 60 => ⟨S128x8x2x4x64, .f32⟩
  | 61 => ⟨S128x8x256, .f32⟩
  | 62 => ⟨S128x8x2x128, .f32⟩
  | 63 => ⟨S128x8x256, .f32⟩
  | 64 => ⟨S128x8x2x128, .f32⟩
  | 65 => ⟨S1x1x8, .f32⟩
  | 66 => ⟨S128x8x8, .f32⟩
  | 67 => ⟨S128x8x8, .f32⟩
  | 68 => ⟨S_, .f32⟩
  | 69 => ⟨S128x8x8, .f32⟩
  | 70 => ⟨S128x8x8, .f32⟩
  | 71 => ⟨S128x8x8, .f32⟩
  | 72 => ⟨S128x8x8, .f32⟩
  | 73 => ⟨S128x8x8, .i1⟩
  | 74 => ⟨S128x8x8, .f32⟩
  | 75 => ⟨S128x8x8, .f32⟩
  | 76 => ⟨S128x8x8, .f32⟩
  | 77 => ⟨S128x8x8, .f32⟩
  | 78 => ⟨S128x8x8, .f32⟩
  | 79 => ⟨S128x8x8, .f32⟩
  | 80 => ⟨S128x8x8, .f32⟩
  | 81 => ⟨S128x8x8, .f32⟩
  | 82 => ⟨S8, .f32⟩
  | 83 => ⟨S8, .f32⟩
  | 84 => ⟨S1x1x8, .f32⟩
  | 85 => ⟨S128x8x8, .f32⟩
  | 86 => ⟨S128x8x8, .f32⟩
  | 87 => ⟨S128x8x2x4, .f32⟩
  | 88 => ⟨S_, .i1⟩
  | 89 => ⟨S8x8, .i1⟩
  | 90 => ⟨S8x8, .i32⟩
  | 91 => ⟨S_, .i32⟩
  | 92 => ⟨S8x8, .i32⟩
  | 93 => ⟨S8x8, .i32⟩
  | 94 => ⟨S8x8, .i32⟩
  | 95 => ⟨S8x8, .i1⟩
  | 96 => ⟨S_, .i1⟩
  | 97 => ⟨S8x8, .i1⟩
  | 98 => ⟨S8x8, .i1⟩
  | 99 => ⟨S8x8x1x1, .i1⟩
  | 100 => ⟨S128x1x8x2x4, .f32⟩
  | 101 => ⟨S_, .f32⟩
  | 102 => ⟨S_, .f32⟩
  | 103 => ⟨S128x8x8x2x4, .i1⟩
  | 104 => ⟨S128x8x8x2x4, .f32⟩
  | 105 => ⟨S128x8x8x2x4, .f32⟩
  | 106 => ⟨S128x8x8x2x4, .f32⟩
  | 107 => ⟨S_, .f32⟩
  | 108 => ⟨S128x8x2x4, .f32⟩
  | 109 => ⟨S128x8x2x4, .f32⟩
  | 110 => ⟨S128x8x2x4x1, .f32⟩
  | 111 => ⟨S128x8x2x4x64, .f32⟩
  | 112 => ⟨S128x8x2x4x64, .f32⟩
  | 113 => ⟨S128x8x1x2x4, .f32⟩
  | 114 => ⟨S128x1x8x2x4, .f32⟩
  | 115 => ⟨S128x8x8x2x4, .f32⟩
  | 116 => ⟨S128x8x8x2x4, .f32⟩
  | 117 => ⟨S128x8x8x2x4, .f32⟩
  | 118 => ⟨S_, .f32⟩
  | 119 => ⟨S_, .f32⟩
  | 120 => ⟨S128x8x8x2x4, .i1⟩
  | 121 => ⟨S128x8x8x2x4, .f32⟩
  | 122 => ⟨S128x8x8x2x4, .f32⟩
  | 123 => ⟨S128x8x8x2x4, .f32⟩
  | 124 => ⟨S_, .f32⟩
  | 125 => ⟨S_, .f32⟩
  | 126 => ⟨S128x8x8x2x4, .i1⟩
  | 127 => ⟨S128x8x8x2x4, .f32⟩
  | _ => ⟨S34304x2560, .f32⟩

abbrev hbmTy0_1 (i : Nat) : BufTy := match i % 128 with
  | 0 => ⟨S128x8x8x2x4, .f32⟩
  | 1 => ⟨S128x2x8x8, .f32⟩
  | 2 => ⟨S128x8x8x2, .f32⟩
  | 3 => ⟨S128x8x8x2x1, .f32⟩
  | 4 => ⟨S128x8x8x2x4, .f32⟩
  | 5 => ⟨S128x8x8x2x4, .f32⟩
  | 6 => ⟨S128x2x4x64x8, .f32⟩
  | 7 => ⟨S128x8x2x4x64, .f32⟩
  | 8 => ⟨S128x1x2x4, .f32⟩
  | 9 => ⟨S128x8x2x4, .f32⟩
  | 10 => ⟨S128x8x2x4, .f32⟩
  | 11 => ⟨S128x8x2x4, .f32⟩
  | 12 => ⟨S128x8x2x4x1, .f32⟩
  | 13 => ⟨S128x8x2x4x64, .f32⟩
  | 14 => ⟨S128x8x2x4x64, .f32⟩
  | 15 => ⟨S128x2x4x64x128, .f32⟩
  | 16 => ⟨S128x2x4x64x128, .f32⟩
  | 17 => ⟨S128x2x4, .f32⟩
  | 18 => ⟨S128x2x4, .f32⟩
  | 19 => ⟨S128x2x4x1x1, .f32⟩
  | 20 => ⟨S128x2x4x64x128, .f32⟩
  | 21 => ⟨S128x2x4x64x128, .f32⟩
  | 22 => ⟨S128x2x4x64x128, .f32⟩
  | 23 => ⟨S128x2x4x64x8, .f32⟩
  | 24 => ⟨S128x8x2x4x64, .f32⟩
  | 25 => ⟨S128x8x2x4, .f32⟩
  | 26 => ⟨S128x8x2x4x1, .f32⟩
  | 27 => ⟨S128x8x2x4x64, .f32⟩
  | 28 => ⟨S128x8x2x4x64, .f32⟩
  | 29 => ⟨S128x8x2x4x64, .f32⟩
  | 30 => ⟨S2x4, .f32⟩
  | 31 => ⟨S2x4x1, .f32⟩
  | 32 => ⟨S1x1x2x4x1, .f32⟩
  | 33 => ⟨S128x8x2x4x64, .f32⟩
  | 34 => ⟨S128x8x2x4x64, .f32⟩
  | 35 => ⟨S128x8x2x4x64, .f32⟩
  | 36 => ⟨S128x8x512, .f32⟩
  | 37 => ⟨S128x8x512, .f32⟩
  | 38 => ⟨S128x8x512, .f32⟩
  | 39 => ⟨S_, .f32⟩
  | 40 => ⟨S128x8x512, .f32⟩
  | 41 => ⟨S128x8x512, .f32⟩
  | 42 => ⟨S_, .f32⟩
  | 43 => ⟨S128x8x512, .f32⟩
  | 44 => ⟨S128x8x512, .f32⟩
  | 45 => ⟨S128x8x512, .f32⟩
  | 46 => ⟨S128x8x512, .f32⟩
  | 47 => ⟨S128x8x2x256, .f32⟩
  | 48 => ⟨S2x256, .f32⟩
  | 49 => ⟨S128x8x2x256, .f32⟩
  | 50 => ⟨S_, .f32⟩
  | 51 => ⟨S128x8x2, .f32⟩
  | 52 => ⟨S128x8x2x1, .f32⟩
  | 53 => ⟨S_, .f32⟩
  | 54 => ⟨S128x8x2x1, .f32⟩
  | 55 => ⟨S128x8x2x1, .f32⟩
  | 56 => ⟨S_, .f32⟩
  | 57 => ⟨S128x8x2x1, .f32⟩
  | 58 => ⟨S128x8x2x1, .f32⟩
  | 59 => ⟨S128x8x2x1, .f32⟩
  | 60 => ⟨S128x8x2x256, .f32⟩
  | 61 => ⟨S128x8x2x256, .f32⟩
  | 62 => ⟨S1x1x2x256, .f32⟩
  | 63 => ⟨S128x8x2x256, .f32⟩
  | 64 => ⟨S128x8x2x256, .f32⟩
  | 65 => ⟨S1024x512, .f32⟩
  | 66 => ⟨S1024x512, .bf16⟩
  | 67 => ⟨S128x8x64x128, .f32⟩
  | _ => ⟨S34304x2560, .f32⟩

abbrev hbmTy (i : Nat) : BufTy := match i / 128 with
  | 0 => hbmTy0_0 i
  | 1 => hbmTy0_1 i
  | _ => ⟨S34304x2560, .f32⟩

abbrev bufTy : (tb : Table) → Fin (tcTables nBuf tb) → BufTy
  | .hbm, ⟨i, _⟩ => hbmTy i
  | _, _ => ⟨S34304x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_c : Ref sig .tc := ⟨.hbm, 88, rfl⟩
abbrev main_v57 : Ref sig .tc := ⟨.hbm, 89, rfl⟩
abbrev main_call2_v0 : Ref sig .tc := ⟨.hbm, 90, rfl⟩
abbrev main_call2_c : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_c_0 : Ref sig .tc := ⟨.hbm, 96, rfl⟩
abbrev main_call2_v5 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_0 : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_call3_v3 : Ref sig .tc := ⟨.hbm, 105, rfl⟩
abbrev main_v61 : Ref sig .tc := ⟨.hbm, 106, rfl⟩
abbrev main_cst_1 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_cst_2 : Ref sig .tc := ⟨.hbm, 118, rfl⟩
abbrev main_call4_v0 : Ref sig .tc := ⟨.hbm, 119, rfl⟩
abbrev main_call4_v1 : Ref sig .tc := ⟨.hbm, 120, rfl⟩
abbrev main_call4_v2 : Ref sig .tc := ⟨.hbm, 121, rfl⟩
abbrev main_v72 : Ref sig .tc := ⟨.hbm, 122, rfl⟩
abbrev main_v73 : Ref sig .tc := ⟨.hbm, 123, rfl⟩
abbrev main_cst_3 : Ref sig .tc := ⟨.hbm, 124, rfl⟩
abbrev main_call5_v0 : Ref sig .tc := ⟨.hbm, 125, rfl⟩
abbrev main_call5_v1 : Ref sig .tc := ⟨.hbm, 126, rfl⟩
abbrev main_call5_v2 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_call6_v0 : Ref sig .tc := ⟨.hbm, 165, rfl⟩
abbrev main_call6_v1 : Ref sig .tc := ⟨.hbm, 166, rfl⟩
abbrev main_call6_cst : Ref sig .tc := ⟨.hbm, 167, rfl⟩
abbrev main_call6_v2 : Ref sig .tc := ⟨.hbm, 168, rfl⟩
abbrev main_call6_v3 : Ref sig .tc := ⟨.hbm, 169, rfl⟩
abbrev main_call6_cst_0 : Ref sig .tc := ⟨.hbm, 170, rfl⟩
abbrev main_call6_v4 : Ref sig .tc := ⟨.hbm, 171, rfl⟩
abbrev main_call6_v5 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_cst_4 : Ref sig .tc := ⟨.hbm, 178, rfl⟩
abbrev main_v116 : Ref sig .tc := ⟨.hbm, 179, rfl⟩
abbrev main_v117 : Ref sig .tc := ⟨.hbm, 180, rfl⟩
abbrev main_cst_5 : Ref sig .tc := ⟨.hbm, 181, rfl⟩
abbrev main_v118 : Ref sig .tc := ⟨.hbm, 182, rfl⟩
abbrev main_v119 : Ref sig .tc := ⟨.hbm, 183, rfl⟩
abbrev main_cst_6 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩

abbrev nD : Nat := 1
abbrev τ : Topo := Topo.v7x

variable {F : FTy → Type} [FloatOps F]
-- ==== Proof.Attn.Body.lean ====
/-
  The decoding step's attention, one grid point: the vectors the body computes, written once for the four pairs of
  heads and once for the eight heads, and the statement that the generated run leaves exactly these in the two output
  blocks.
-/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Tactic
open Idealize.ShloMosaic.Pipeline (Dat)

/-- The lane number of every entry of a 128 × 128 vector. -/
def lanes : IVec S128x128 32 := iota .tc S128x128 32 [1] iota_S128x128_d1_w32

/-- The lanes of the first of the two heads in a 128-lane pair. -/
def firstHead : IVec S128x128 1 := cmpi .slt lanes (broadcast S128x128 64#32)

/-- A row's sum, as a column. -/
def rowSum (x : FVec Ideal S128x128 .f32) : FVec Ideal S128x1 .f32 :=
  shapeCast S128x1 (multiReduction .add [1] S128 x 0x00000000#32 reduces_S128x128_S128 (.inl rfl) rfl) shapeCasts_S128_S128x1

/-- A column spread over the lanes (through the cast to its own shape that the program prints). -/
def spread (x : FVec Ideal S128x1 .f32) : FVec Ideal S128x128 .f32 :=
  broadcastTo S128x128 (shapeCast S128x1 x shapeCasts_S128x1_S128x1) broadcasts_S128x1_S128x128

/-- The sum of squares over the first head's lanes. -/
def loSum (x : FVec Ideal S128x128 .f32) : FVec Ideal S128x1 .f32 :=
  rowSum (select firstHead (mulf x x) (broadcast S128x128 (Scalar.ofBits (F := Ideal) .f32 0x00000000#32)))

/-- The mean square of each lane's own head, plus epsilon. -/
def meanSq (x : FVec Ideal S128x128 .f32) : FVec Ideal S128x128 .f32 :=
  addf (mulf (select firstHead (spread (loSum x)) (spread (subf (rowSum (mulf x x)) (loSum x))))
      (broadcast S128x128 (Scalar.ofBits (F := Ideal) .f32 0x3C800000#32)))
    (broadcast S128x128 (Scalar.ofBits (F := Ideal) .f32 0x358637BD#32))

/-- The pair's rows, normalised head by head and weighted. -/
def normed (x : FVec Ideal S128x128 .f32) (w : FVec Ideal S1x128 .f32) : FVec Ideal S128x128 .f32 :=
  mulf (mulf x (rsqrt (meanSq x))) (broadcastTo S128x128 w broadcasts_S1x128_S128x128)

/-- The lane's place inside its head is in the first half. -/
def firstHalf : IVec S128x128 1 :=
  let d : BitVec 32 := Scalar.select (Scalar.cmpi .eq 64#32 0#32) 1#32 64#32
  let r : IVec S128x128 32 := remsi lanes (broadcast S128x128 d)
  let neg : IVec S128x128 1 := cmpi .slt r (broadcast S128x128 0#32)
  let dneg : IVec S128x128 1 := broadcastTo S128x128 (broadcast S128x128 (Scalar.cmpi .slt d 0#32)) broadcasts_S128x128_S128x128
  cmpi .slt (select (andi (xori neg dneg) (cmpi .ne r (broadcast S128x128 0#32))) (addi r (broadcast S128x128 d)) r)
    (broadcast S128x128 32#32)

/-- The rotation by position, from the tables of cosines and signed sines. -/
def roped (y cos sin : FVec Ideal S128x128 .f32) : FVec Ideal S128x128 .f32 :=
  addf (mulf y cos) (mulf (select firstHalf (dynamicRotate 1 96#32 none y rotates_S128x128_d1)
    (dynamicRotate 1 32#32 none y rotates_S128x128_d1)) sin)

/-- A pair of heads made ready: normalised, weighted, rotated. -/
def prep (x : FVec Ideal S128x128 .f32) (w : FVec Ideal S1x128 .f32) (cos sin : FVec Ideal S128x128 .f32) :
    FVec Ideal S128x128 .f32 := roped (normed x w) cos sin

/-- A pair of query heads, made ready and scaled. -/
def prepQ (x : FVec Ideal S128x128 .f32) (w : FVec Ideal S1x128 .f32) (cos sin : FVec Ideal S128x128 .f32) :
    FVec Ideal S128x128 .bf16 :=
  truncf .bf16 (mulf (prep x w cos sin) (broadcast S128x128 (Scalar.ofBits (F := Ideal) .f32 0x3E000000#32))) bitsLt_bf16_f32

/-- The value that stands where a key is not visible. -/
def hidden : Ideal .f32 := Named.named (F := Ideal) κ "mask" 0xF149F2CA#32

/-- Scores against the sixteen meta keys … -/
def scoreM (msk : IVec S128x16 1) (q : FVec Ideal S128x64 .bf16) (k : FVec Ideal S16x64 .bf16) : FVec Ideal S128x16 .f32 :=
  select msk (matmul dot_S128x64_S16x64_S128x16_1_1_0_0_n_n none q k (constant S128x16 .f32 0x00000000#32))
    (broadcast S128x16 hidden)

/-- … and against a block of 128 keys, under a mask. -/
def scoreB (msk : IVec S128x128 1) (q : FVec Ideal S128x64 .bf16) (k : FVec Ideal S128x64 .bf16) : FVec Ideal S128x128 .f32 :=
  select msk (matmul dot_S128x64_S128x64_S128x128_1_1_0_0_n_n none q k (constant S128x128 .f32 0x00000000#32))
    (broadcast S128x128 hidden)

/-- The greatest entry of each row, as a column: sixteen lanes … -/
def maxM (x : FVec Ideal S128x16 .f32) : FVec Ideal S128x1 .f32 :=
  shapeCast S128x1 (multiReduction .maximumf [1] S128 x 0xFF800000#32 reduces_S128x16_S128 (.inl rfl) rfl) shapeCasts_S128_S128x1
/-- … and 128 lanes. -/
def maxB (x : FVec Ideal S128x128 .f32) : FVec Ideal S128x1 .f32 :=
  shapeCast S128x1 (multiReduction .maximumf [1] S128 x 0xFF800000#32 reduces_S128x128_S128 (.inl rfl) rfl) shapeCasts_S128_S128x1
/-- A row's sum over sixteen lanes. -/
def sumM (x : FVec Ideal S128x16 .f32) : FVec Ideal S128x1 .f32 :=
  shapeCast S128x1 (multiReduction .add [1] S128 x 0x00000000#32 reduces_S128x16_S128 (.inl rfl) rfl) shapeCasts_S128_S128x1

/-- A column over sixteen lanes … -/
def overM (x : FVec Ideal S128x1 .f32) : FVec Ideal S128x16 .f32 := broadcastTo S128x16 x broadcasts_S128x1_S128x16
/-- … and over 128 lanes. -/
def overB (x : FVec Ideal S128x1 .f32) : FVec Ideal S128x128 .f32 := broadcastTo S128x128 x broadcasts_S128x1_S128x128
/-- The head's sink, down the rows. -/
def sinkCol (sk : FVec Ideal S1x1 .f32) : FVec Ideal S128x1 .f32 := broadcastTo S128x1 sk broadcasts_S1x1_S128x1

/-- The greatest of a row's scores and the sink. -/
def top (sm : FVec Ideal S128x16 .f32) (sp sc : FVec Ideal S128x128 .f32) (sk : FVec Ideal S1x1 .f32) : FVec Ideal S128x1 .f32 :=
  maximumf (maximumf (maxM sm) (maxB sp)) (maximumf (maxB sc) (sinkCol sk))

/-- The exponentials' sum with the sink's. -/
def den (sm : FVec Ideal S128x16 .f32) (sp sc : FVec Ideal S128x128 .f32) (sk : FVec Ideal S1x1 .f32) (m : FVec Ideal S128x1 .f32) :
    FVec Ideal S128x1 .f32 :=
  addf (addf (addf (sumM (exp (subf sm (overM m)))) (rowSum (exp (subf sp (overB m))))) (rowSum (exp (subf sc (overB m)))))
    (exp (subf (sinkCol sk) m))

/-- The weighted values, from the scores of the three groups of keys. -/
def weighted (sm : FVec Ideal S128x16 .f32) (sp sc : FVec Ideal S128x128 .f32) (m d : FVec Ideal S128x1 .f32)
    (vm : FVec Ideal S16x64 .bf16) (vp vc : FVec Ideal S128x64 .bf16) : FVec Ideal S128x64 .f32 :=
  shapeCast S128x64 (addf (addf
    (matmul dot_S128x16_S16x64_S128x64_1_0_0_1_n_n none (truncf .bf16 (divf (exp (subf sm (overM m))) (overM d)) bitsLt_bf16_f32) vm
      (constant S128x64 .f32 0x00000000#32))
    (matmul dot_S128x128_S128x64_S128x64_1_0_0_1_n_n none (truncf .bf16 (divf (exp (subf sp (overB m))) (overB d)) bitsLt_bf16_f32) vp
      (constant S128x64 .f32 0x00000000#32)))
    (matmul dot_S128x128_S128x64_S128x64_1_0_0_1_n_n none (truncf .bf16 (divf (exp (subf sc (overB m))) (overB d)) bitsLt_bf16_f32) vc
      (constant S128x64 .f32 0x00000000#32))) shapeCasts_S128x64_S128x64

/-- One head. -/
def headOut (mm : IVec S128x16 1) (mp mc : IVec S128x128 1) (q : FVec Ideal S128x64 .bf16) (km : FVec Ideal S16x64 .bf16) (kp kc : FVec Ideal S128x64 .bf16)
    (sk : FVec Ideal S1x1 .f32) (vm : FVec Ideal S16x64 .bf16) (vp vc : FVec Ideal S128x64 .bf16) : FVec Ideal S128x64 .f32 :=
  weighted (scoreM mm q km) (scoreB mp q kp) (scoreB mc q kc)
    (top (scoreM mm q km) (scoreB mp q kp) (scoreB mc q kc) sk)
    (den (scoreM mm q km) (scoreB mp q kp) (scoreB mc q kc) sk
      (top (scoreM mm q km) (scoreB mp q kp) (scoreB mc q kc) sk)) vm vp vc

/-! ## The eight heads of one grid point -/

theorem slicesQ (g : Fin 4) : S128x512.Slices ![0, 128 * g.val] S128x128 := by revert g; decide
theorem slicesHead (h : Fin 2) : S128x128.Slices ![0, 64 * h.val] S128x64 := by revert h; decide
theorem slicesMeta (h : Fin 2) : S16x128.Slices ![0, 64 * h.val] S16x64 := by revert h; decide
theorem inbQnorm (g : Fin 4) : ∀ a, (![0, 128 * g.val] : Fin 2 → Nat) a + S1x128.size a ≤ S1x512.size a := by revert g; decide
theorem inbSink (h : Fin 8) : ∀ a, (![0, h.val] : Fin 2 → Nat) a + S1x1.size a ≤ S1x128.size a := by revert h; decide
theorem inbHead (h : Fin 8) : ∀ a, (![0, 64 * h.val] : Fin 2 → Nat) a + S128x64.size a ≤ S128x512.size a := by revert h; decide

/-- The pair of query heads that holds head `h`, the head's place in it, and the key head it reads. -/
def pairOf (h : Fin 8) : Fin 4 := ⟨h.val / 2, by omega⟩
def placeOf (h : Fin 8) : Fin 2 := ⟨h.val % 2, by omega⟩
def keyOf (h : Fin 8) : Fin 2 := ⟨h.val / 4, by omega⟩

/-- One of the two heads of a pair … -/
def headOf (h : Fin 2) (x : FVec Ideal S128x128 .bf16) : FVec Ideal S128x64 .bf16 :=
  extractStridedSlice S128x64 ![0, 64 * h.val] x (slicesHead h)
/-- … and of the sixteen meta rows. -/
def headOfM (h : Fin 2) (x : FVec Ideal S16x128 .bf16) : FVec Ideal S16x64 .bf16 :=
  extractStridedSlice S16x64 ![0, 64 * h.val] x (slicesMeta h)

variable (m : (ℓ : Loc nD τ sig) → Buf (Elt Ideal) ℓ)

/-- The new keys of a grid point, made ready. -/
def newK (c : Dev nD) (t : Fin cfg0.N) : FVec Ideal S128x128 .f32 :=
  prep (k0_pay6 (iblk m c 1 t)) (k0_pay7 (iblk m c 10 t)) (k0_pay8 (iblk m c 7 t)) (k0_pay9 (iblk m c 8 t))

/-- A pair of query heads of a grid point, made ready and scaled. -/
def newQ (c : Dev nD) (t : Fin cfg0.N) (g : Fin 4) : FVec Ideal S128x128 .bf16 :=
  prepQ (extractStridedSlice S128x128 ![0, 128 * g.val] (k0_pay12 (iblk m c 0 t)) (slicesQ g))
    (shapeCast S1x128 (View.ld (iblk m c 9 t) (Rect.unit ![0, 128 * g.val] ![1, 128] (inbQnorm g))) shapeCasts_S1x128_S1x128)
    (k0_pay14 (iblk m c 7 t)) (k0_pay15 (iblk m c 8 t))

/-- Head `h` of a grid point. -/
def headAt (c : Dev nD) (t : Fin cfg0.N) (h : Fin 8) : FVec Ideal S128x64 .f32 :=
  headOut k0_pay3 k0_pay4 k0_pay5 (headOf (placeOf h) (newQ m c t (pairOf h)))
    (headOfM (keyOf h) (k0_pay18 (iblk m c 3 t))) (headOf (keyOf h) (k0_pay20 (iblk m c 5 t)))
    (headOf (keyOf h) (k0_pay16 (newK m c t)))
    (shapeCast S1x1 (View.ld (iblk m c 11 t) (Rect.unit ![0, h.val] ![1, 1] (inbSink h))) shapeCasts_S1x1_S1x1)
    (headOfM (keyOf h) (k0_pay19 (iblk m c 4 t))) (headOf (keyOf h) (k0_pay21 (iblk m c 6 t)))
    (headOf (keyOf h) (k0_pay17 (k0_pay13 (iblk m c 2 t))))

/-- What the body's scratch holds when the heads are done: head `h` in columns `64 h … 64 h + 63`. -/
def pieces (c : Dev nD) (t : Fin cfg0.N) : List (View.Piece (Elt Ideal) S128x512 .f32) :=
  [⟨Rect.unit ![0, 448] ![128, 64] inb_S128x512_S128x64_0_448, headAt m c t 7⟩,
   ⟨Rect.unit ![0, 384] ![128, 64] inb_S128x512_S128x64_0_384, headAt m c t 6⟩,
   ⟨Rect.unit ![0, 320] ![128, 64] inb_S128x512_S128x64_0_320, headAt m c t 5⟩,
   ⟨Rect.unit ![0, 256] ![128, 64] inb_S128x512_S128x64_0_256, headAt m c t 4⟩,
   ⟨Rect.unit ![0, 192] ![128, 64] inb_S128x512_S128x64_0_192, headAt m c t 3⟩,
   ⟨Rect.unit ![0, 128] ![128, 64] inb_S128x512_S128x64_0_128, headAt m c t 2⟩,
   ⟨Rect.unit ![0, 64] ![128, 64] inb_S128x512_S128x64_0_64, headAt m c t 1⟩,
   ⟨Rect.unit ![0, 0] ![128, 64] inb_S128x512_S128x64_0_0, headAt m c t 0⟩]

/-- Two lists of writes are equal when their payloads are. -/
theorem piece_cons (r : Rect S128x512) {a b : r.shape.Idx → Elt Ideal (.f32)} {L L' : List (View.Piece (Elt Ideal) S128x512 .f32)}
    (h : a = b) (hl : L = L') : (⟨r, a⟩ : View.Piece (Elt Ideal) S128x512 .f32) :: L = ⟨r, b⟩ :: L' := by rw [h, hl]

/-- The new keys' output block. -/
theorem out14 (c : Dev nD) (t : Fin cfg0.N) : (outsAt0 m c t).2 = k0_pay2 (newK m c t) := by
  dsimp only [outsAt0]
  frame_open
  frame_out
  rfl

/-- The same new keys, as the generated values name them … -/
theorem newK_eq (c : Dev nD) (t : Fin cfg0.N) :
    k0_pay11 (k0_pay6 (iblk m c 1 t)) (k0_pay7 (iblk m c 10 t)) (k0_pay8 (iblk m c 7 t)) (k0_pay9 (iblk m c 8 t))
      (iota Kind.tc S128x128 32 [1] iota_S128x128_d1_w32) (k0_pay10 (iblk m c 1 t)) = newK m c t := rfl

/-- … and the four pairs of query heads. -/
theorem newQ_eq0 (c : Dev nD) (t : Fin cfg0.N) :
    k0_pay23 (k0_pay14 (iblk m c 7 t)) (k0_pay15 (iblk m c 8 t)) (iota Kind.tc S128x128 32 [1] iota_S128x128_d1_w32)
      (k0_pay22 (k0_pay12 (iblk m c 0 t)) (View.ld (iblk m c 9 t) (Rect.unit ![0, 0] ![1, 128] inb_S1x512_S1x128_0_0)))
      64#32 0#32 = newQ m c t 0 := rfl
theorem newQ_eq1 (c : Dev nD) (t : Fin cfg0.N) :
    k0_pay45 (k0_pay14 (iblk m c 7 t)) (k0_pay15 (iblk m c 8 t))
      (k0_pay43 (View.ld (iblk m c 9 t) (Rect.unit ![0, 128] ![1, 128] inb_S1x512_S1x128_0_128)))
      (iota Kind.tc S128x128 32 [1] iota_S128x128_d1_w32) (k0_pay44 (k0_pay12 (iblk m c 0 t))) = newQ m c t 1 := rfl
theorem newQ_eq2 (c : Dev nD) (t : Fin cfg0.N) :
    k0_pay67 (k0_pay14 (iblk m c 7 t)) (k0_pay15 (iblk m c 8 t)) (k0_pay64 (k0_pay12 (iblk m c 0 t)))
      (k0_pay65 (View.ld (iblk m c 9 t) (Rect.unit ![0, 256] ![1, 128] inb_S1x512_S1x128_0_256)))
      (iota Kind.tc S128x128 32 [1] iota_S128x128_d1_w32) (k0_pay66 (k0_pay12 (iblk m c 0 t)))
      (FloatOps.ofBits FTy.f32 897988541#32) = newQ m c t 2 := rfl
theorem newQ_eq3 (c : Dev nD) (t : Fin cfg0.N) :
    k0_pay98 (k0_pay14 (iblk m c 7 t)) (k0_pay15 (iblk m c 8 t)) (k0_pay95 (k0_pay12 (iblk m c 0 t)))
      (k0_pay96 (View.ld (iblk m c 9 t) (Rect.unit ![0, 384] ![1, 128] inb_S1x512_S1x128_0_384)))
      (iota Kind.tc S128x128 32 [1] iota_S128x128_d1_w32) (k0_pay97 (k0_pay12 (iblk m c 0 t))) = newQ m c t 3 := rfl

/-- The attention's output block. -/
theorem out13 (c : Dev nD) (t : Fin cfg0.N) : (outsAt0 m c t).1 =
    k0_pay1 (k0_pay122 (fun j => View.canon (pieces m c t)
      ((Rect.unit (s := S128x512) ![0, 0] S128x512.size inb_S128x512_S128x512_0_0).toLoadRect.idx j))) (k0_pay123 (iblk m c 12 t)) := by
  dsimp only [outsAt0]
  frame_open
  frame_out
  rw [View.readCov_eq_canon']
  refine congrArg₂ k0_pay1 (congrArg k0_pay122 (funext fun j => congrArg (fun L => View.canon L _) ?_)) rfl
  unfold pieces
  refine piece_cons _ ?_ (piece_cons _ ?_ (piece_cons _ ?_ (piece_cons _ ?_ (piece_cons _ ?_ (piece_cons _ ?_
    (piece_cons _ ?_ (piece_cons _ ?_ rfl)))))))
  all_goals unfold headAt; erw [newK_eq]; generalize newK m c t = nk
  · erw [newQ_eq3]; rw [show pairOf 7 = 3 from rfl]; generalize newQ m c t 3 = nq
    rfl
  · unfold k0_pay100 k0_pay101 k0_pay99; erw [newQ_eq3]; rw [show pairOf 6 = 3 from rfl]; generalize newQ m c t 3 = nq
    rfl
  · erw [newQ_eq2]; rw [show pairOf 5 = 2 from rfl]; generalize newQ m c t 2 = nq
    rfl
  · unfold k0_pay69 k0_pay70 k0_pay71 k0_pay68; erw [newQ_eq2]; rw [show pairOf 4 = 2 from rfl]; generalize newQ m c t 2 = nq
    rfl
  · erw [newQ_eq1]; rw [show pairOf 3 = 1 from rfl]; generalize newQ m c t 1 = nq
    rfl
  · unfold k0_pay47 k0_pay48 k0_pay49 k0_pay46; erw [newQ_eq1]; rw [show pairOf 2 = 1 from rfl]; generalize newQ m c t 1 = nq
    rfl
  · erw [newQ_eq0]; rw [show pairOf 1 = 0 from rfl]; generalize newQ m c t 0 = nq
    rfl
  · unfold k0_pay29 k0_pay25 k0_pay26 k0_pay27 k0_pay24; erw [newQ_eq0]; rw [show pairOf 0 = 0 from rfl]; generalize newQ m c t 0 = nq
    rfl

end Cert.KernelIdeal.Attn

end
-- ==== Proof.Attn.Spec.lean ====
/-
  The decoding step's attention as a function of its arrays, over the extended reals: normalised and rotated queries and
  keys, the scores against the three groups of keys, the softmax with a sink, the weighted values, and the normalised
  result. Both programs are shown to compute this.
-/
module

public import Idealize.ShloMosaic.Lib.Pointwise

@[expose] public section

noncomputable section

namespace Cert.Attn

open Idealize.ShloMosaic

/-- The small number added under the square root. -/
def eps : EReal := Ideal.ofBits FTy.f32 0x358637BD#32

/-- A head's 64 numbers, normalised by their mean square and weighted. -/
def normed (x w : Fin 64 → EReal) (d : Fin 64) : EReal :=
  x d * Ideal.rsqrt (Ideal.div (∑ e, x e * x e) (Ideal.ofBits FTy.f32 0x42800000#32) + eps) * w d

/-- The angle of position `16384 + r` at frequency `d`. -/
def angle (r : Fin 8) (d : Fin 32) : EReal :=
  FloatOps.sitofp (F := Ideal) FTy.f32 (IntOp.addi 16384#32 (BitVec.ofNat 32 r.val)) *
    Ideal.pow (Ideal.ofBits FTy.f32 0x461C4000#32)
      (Ideal.div (-(FloatOps.sitofp (F := Ideal) FTy.f32 (BitVec.ofNat 32 d.val) : EReal)) (Ideal.ofBits FTy.f32 0x42000000#32))

/-- The rotation of a head's two halves by the angles of one position. -/
def rope (y : Fin 64 → EReal) (r : Fin 8) (d : Fin 64) : EReal :=
  if h : d.val < 32 then
    y d * Ideal.cos (angle r ⟨d.val, h⟩) - y ⟨32 + d.val, by omega⟩ * Ideal.sin (angle r ⟨d.val, h⟩)
  else
    y ⟨32 + (d.val - 32), by omega⟩ * Ideal.cos (angle r ⟨d.val - 32, by omega⟩)
      + y ⟨d.val - 32, by omega⟩ * Ideal.sin (angle r ⟨d.val - 32, by omega⟩)

/-- A scaled inner product. -/
def score (q k : Fin 64 → EReal) : EReal := (∑ e, k e * q e) * Ideal.ofBits FTy.f32 0x3E000000#32

/-- The greatest of finitely many numbers, and `⊥` of none. -/
def greatest {n : ℕ} (f : Fin n → EReal) : EReal := Finset.univ.fold max ⊥ f

/-- The greatest score, the sink among them. -/
def top (sM : Fin 16 → EReal) (sP : Fin 128 → EReal) (sC : Fin 8 → EReal) (sk : EReal) : EReal :=
  max (max (greatest sM) (greatest sP)) (max (greatest sC) sk)

/-- The sum of the exponentials, the sink's among them. -/
def total (sM : Fin 16 → EReal) (sP : Fin 128 → EReal) (sC : Fin 8 → EReal) (sk m : EReal) : EReal :=
  ∑ j, Ideal.exp (sM j - m) + ∑ j, Ideal.exp (sP j - m) + ∑ j, Ideal.exp (sC j - m) + Ideal.exp (sk - m)

/-- The values weighted by the probabilities. -/
def mix (sM : Fin 16 → EReal) (sP : Fin 128 → EReal) (sC : Fin 8 → EReal) (m t : EReal)
    (vM : Fin 16 → EReal) (vP : Fin 128 → EReal) (vC : Fin 8 → EReal) : EReal :=
  ∑ j, Ideal.div (Ideal.exp (sM j - m)) t * vM j + ∑ j, Ideal.div (Ideal.exp (sP j - m)) t * vP j
    + ∑ j, Ideal.div (Ideal.exp (sC j - m)) t * vC j

/-- The arrays of the call: queries, new keys and values, the meta cache, the window cache, weights and sinks. -/
structure Arrays where
  Q : Fin 128 → Fin 8 → Fin 8 → Fin 64 → EReal
  K : Fin 128 → Fin 8 → Fin 2 → Fin 64 → EReal
  V : Fin 128 → Fin 8 → Fin 2 → Fin 64 → EReal
  MK : Fin 128 → Fin 16 → Fin 2 → Fin 64 → EReal
  MV : Fin 128 → Fin 16 → Fin 2 → Fin 64 → EReal
  WK : Fin 128 → Fin 128 → Fin 2 → Fin 64 → EReal
  WV : Fin 128 → Fin 128 → Fin 2 → Fin 64 → EReal
  qw : Fin 64 → EReal
  kw : Fin 64 → EReal
  sk : Fin 8 → EReal
  aw : Fin 512 → EReal

variable (A : Arrays)

/-- The new keys, normalised and rotated. -/
def key (b : Fin 128) (r : Fin 8) (g : Fin 2) (d : Fin 64) : EReal := rope (normed (A.K b r g) A.kw) r d
/-- The queries, normalised and rotated. -/
def query (b : Fin 128) (r h : Fin 8) (d : Fin 64) : EReal := rope (normed (A.Q b r h) A.qw) r d

/-- The scores against the meta keys, … -/
def scM (b : Fin 128) (r h : Fin 8) (g : Fin 2) (j : Fin 16) : EReal := score (query A b r h) (A.MK b j g)
/-- … the window's keys … -/
def scP (b : Fin 128) (r h : Fin 8) (g : Fin 2) (j : Fin 128) : EReal :=
  if r.val < j.val then score (query A b r h) (A.WK b j g) else ⊥
/-- … and the new keys. -/
def scC (b : Fin 128) (r h : Fin 8) (g : Fin 2) (j : Fin 8) : EReal :=
  if j.val ≤ r.val then score (query A b r h) (key A b j g) else ⊥

/-- The greatest score of a row. -/
def rowTop (b : Fin 128) (r h : Fin 8) (g : Fin 2) : EReal := top (scM A b r h g) (scP A b r h g) (scC A b r h g) (A.sk h)

/-- One head's output. -/
def out (b : Fin 128) (r h : Fin 8) (g : Fin 2) (d : Fin 64) : EReal :=
  mix (scM A b r h g) (scP A b r h g) (scC A b r h g) (rowTop A b r h g)
    (total (scM A b r h g) (scP A b r h g) (scC A b r h g) (A.sk h) (rowTop A b r h g))
    (fun j => A.MV b j g d) (fun j => A.WV b j g d) (fun j => A.V b j g d)

/-- The heads' outputs side by side. -/
def flat (b : Fin 128) (r : Fin 8) (n : Fin 512) : EReal :=
  out A b r ⟨n.val / 64, by omega⟩ ⟨n.val / 256, by omega⟩ ⟨n.val % 64, by omega⟩

/-- The result, normalised over the 512 columns and weighted. -/
def result (b : Fin 128) (r : Fin 8) (n : Fin 512) : EReal :=
  flat A b r n * Ideal.rsqrt (Ideal.div (∑ x, flat A b r x * flat A b r x) (Ideal.ofBits FTy.f32 0x44000000#32) + eps) * A.aw n

/-- The greatest over two ranges is the greater of the two. -/
theorem greatest_add {m n : ℕ} (f : Fin (m + n) → EReal) :
    greatest f = max (greatest fun i => f (Fin.castAdd n i)) (greatest fun i => f (Fin.natAdd m i)) := by
  apply le_antisymm
  · refine Finset.fold_max_le _ |>.2 ⟨bot_le, fun x _ => ?_⟩
    induction x using Fin.addCases with
    | left i => exact le_max_of_le_left (Finset.le_fold_max _ |>.2 (.inr ⟨i, Finset.mem_univ _, le_rfl⟩))
    | right i => exact le_max_of_le_right (Finset.le_fold_max _ |>.2 (.inr ⟨i, Finset.mem_univ _, le_rfl⟩))
  · refine max_le ?_ ?_
    · exact Finset.fold_max_le _ |>.2 ⟨bot_le, fun x _ => Finset.le_fold_max _ |>.2 (.inr ⟨_, Finset.mem_univ _, le_rfl⟩)⟩
    · exact Finset.fold_max_le _ |>.2 ⟨bot_le, fun x _ => Finset.le_fold_max _ |>.2 (.inr ⟨_, Finset.mem_univ _, le_rfl⟩)⟩

/-- A band of 136 numbers is 128 and 8. -/
theorem sum_band (f : Fin 136 → EReal) :
    ∑ x, f x = ∑ j : Fin 128, f ⟨j.val, by omega⟩ + ∑ j : Fin 8, f ⟨128 + j.val, by omega⟩ :=
  Fin.sum_univ_add (a := 128) (b := 8) f

/-- A row of 152 numbers is 16, 128 and 8. -/
theorem sum_row (f : Fin 152 → EReal) :
    ∑ x, f x = ∑ j : Fin 16, f ⟨j.val, by omega⟩ + ∑ j : Fin 128, f ⟨16 + j.val, by omega⟩
      + ∑ j : Fin 8, f ⟨16 + (128 + j.val), by omega⟩ := by
  rw [add_assoc]
  exact (Fin.sum_univ_add (a := 16) (b := 136) f).trans (congrArg _ (sum_band fun j => f ⟨16 + j.val, by omega⟩))

theorem greatest_row (f : Fin 152 → EReal) :
    greatest f = max (greatest fun j : Fin 16 => f ⟨j.val, by omega⟩) (max (greatest fun j : Fin 128 => f ⟨16 + j.val, by omega⟩)
      (greatest fun j : Fin 8 => f ⟨16 + (128 + j.val), by omega⟩)) :=
  (greatest_add (m := 16) (n := 136) f).trans
    (congrArg _ (greatest_add (m := 128) (n := 8) fun j => f ⟨16 + j.val, by omega⟩))

/-- The greatest of numbers that are all `⊥`. -/
theorem greatest_bot {n : ℕ} (f : Fin n → EReal) (h : ∀ i, f i = ⊥) : greatest f = ⊥ :=
  le_bot_iff.1 (Finset.fold_max_le _ |>.2 ⟨le_rfl, fun x _ => (h x).le⟩)

theorem bot_sub (m : EReal) : (⊥ : EReal) - m = ⊥ := by rw [sub_eq_add_neg, EReal.bot_add]

theorem exp_bot_sub (m : EReal) : Ideal.exp ((⊥ : EReal) - m) = 0 := by rw [bot_sub]; rfl

/-- A sum times a finite factor that is not negative. -/
theorem sum_mul_of_finite {n : ℕ} (f : Fin n → EReal) (c : EReal) (h0 : 0 ≤ c) (ht : c ≠ ⊤) :
    (∑ i, f i) * c = ∑ i, f i * c := by
  induction n with
  | zero => simp
  | succ n ih => rw [Fin.sum_univ_succ, Fin.sum_univ_succ, EReal.right_distrib_of_nonneg_of_ne_top h0 ht, ih]

/-- The score with the query scaled first. -/
theorem score_eq (q k : Fin 64 → EReal) :
    ∑ e, q e * Ideal.ofBits FTy.f32 0x3E000000#32 * k e = score q k := by
  have hc : Ideal.ofBits FTy.f32 0x3E000000#32 = ((1 / 8 : ℝ) : EReal) := by
    simp [Ideal.ofBits, Ideal.ieee, -EReal.coe_mul]; norm_num
  unfold score
  rw [sum_mul_of_finite _ _ (by rw [hc]; exact_mod_cast (by norm_num)) (by rw [hc]; exact EReal.coe_ne_top _)]
  exact Finset.sum_congr rfl fun e _ => by rw [mul_right_comm, mul_comm (q e)]

end Cert.Attn

end
-- ==== Proof.Attn.Prep.lean ====
/-
  One pair of heads made ready by the kernel's body, read at an entry: the normalisation and the rotation of the
  specification, from the pair's 128 lanes and the tables of cosines and signed sines.
-/
module

public import proofs.«01_k».proof.Proof.Attn.Body
public import proofs.«01_k».proof.Proof.Attn.Spec

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Tactic

/-- A lane of a pair of heads. -/
def lane (p : Fin 2) (d : Fin 64) : Fin 128 := ⟨64 * p.val + d.val, by omega⟩

/-- A sum over a pair's lanes is the sum over its two heads. -/
theorem sum_lanes (f : Fin 128 → EReal) : ∑ j, f j = ∑ d, f (lane 0 d) + ∑ d, f (lane 1 d) := by
  refine (Fin.sum_univ_add (a := 64) (b := 64) f).trans ?_
  refine congrArg₂ HAdd.hAdd (Finset.sum_congr rfl fun d _ => congrArg f (Fin.ext ?_)) (Finset.sum_congr rfl fun d _ => congrArg f (Fin.ext ?_))
  · show d.val = 64 * 0 + d.val; omega
  · show 64 + d.val = 64 * 1 + d.val; omega

/-- A finite summand taken away again. -/
theorem add_sub_self (a b : EReal) (h1 : a ≠ ⊤) (h2 : a ≠ ⊥) : a + b - a = b := by
  lift a to ℝ using ⟨h1, h2⟩
  induction b using EReal.rec with
  | bot => simp
  | top => simp
  | coe b => norm_cast; ring

/-- A sum of squares of finite numbers is finite. -/
theorem sq_finite {n : ℕ} (f : Fin n → EReal) (h : ∀ i, f i ≠ ⊤ ∧ f i ≠ ⊥) : ∑ i, f i * f i ≠ ⊤ ∧ ∑ i, f i * f i ≠ ⊥ := by
  choose g hg using fun i => EReal.canLift.prf (f i) (h i)
  have e : ∑ i, f i * f i = ((∑ i, g i * g i : ℝ) : EReal) := by
    have : ∀ (s : Finset (Fin n)), ∑ i ∈ s, f i * f i = ((∑ i ∈ s, g i * g i : ℝ) : EReal) := fun s => by
      induction s using Finset.induction_on with
      | empty => simp
      | insert a s ha ih => rw [Finset.sum_insert ha, Finset.sum_insert ha, ih, EReal.coe_add, EReal.coe_mul, hg]
    exact this _
  rw [e]
  exact ⟨EReal.coe_ne_top _, EReal.coe_ne_bot _⟩

theorem first_lane (p : Fin 2) (d : Fin 64) :
    IntOp.cmpi .slt (BitVec.ofNat 32 (lane p d).val) 64#32 = if p = 0 then 1#1 else 0#1 := by
  revert p d; decide +kernel

/-- The first head's sum of squares. -/
theorem loSum_apply (x : FVec Ideal S128x128 .f32) (i : Fin 128) :
    loSum x (ix2 i 0) = ∑ d, x (ix2 i (lane 0 d)) * x (ix2 i (lane 0 d)) := by
  have h0 : Ideal.ofBits FTy.f32 0#32 = 0 := by simp [Ideal.ofBits, Ideal.ieee]
  pointwise [loSum, rowSum, firstHead, lanes]
  rw [sum_lanes, Finset.sum_congr rfl (g := fun d => x (ix2 i (lane 0 d)) * x (ix2 i (lane 0 d))) fun d _ => by rw [first_lane]; rfl,
    Finset.sum_eq_zero (f := fun d => Scalar.select (IntOp.cmpi .slt (BitVec.ofNat 32 (lane 1 d).val) 64#32) _ _)
      fun d _ => by rw [first_lane]; rfl, add_zero]

/-- A pair's lane, normalised over its own head. -/
theorem normed_apply (x : FVec Ideal S128x128 .f32) (w : FVec Ideal S1x128 .f32) (i : Fin 128) (p : Fin 2) (d : Fin 64)
    (hx : ∀ j, x (ix2 i j) ≠ ⊤ ∧ x (ix2 i j) ≠ ⊥) :
    normed x w (ix2 i (lane p d)) = Cert.Attn.normed (fun e => x (ix2 i (lane p e))) (fun e => w (ix2 0 (lane p e))) d := by
  have hs : rowSum (mulf x x) (ix2 i 0) = ∑ d, x (ix2 i (lane 0 d)) * x (ix2 i (lane 0 d)) + ∑ d, x (ix2 i (lane 1 d)) * x (ix2 i (lane 1 d)) := by
    pointwise [rowSum]
    exact sum_lanes _
  have hd : rowSum (mulf x x) (ix2 i 0) - loSum x (ix2 i 0) = ∑ d, x (ix2 i (lane 1 d)) * x (ix2 i (lane 1 d)) := by
    have hf := sq_finite (fun d => x (ix2 i (lane 0 d))) fun d => hx _
    rw [hs, loSum_apply]
    exact add_sub_self _ _ hf.1 hf.2
  have h64 : Ideal.ofBits FTy.f32 0x42800000#32 = ((64 : ℝ) : EReal) := by
    simp [Ideal.ofBits, Ideal.ieee, -EReal.coe_mul]; norm_num
  have hi : Ideal.ofBits FTy.f32 1015021568#32 = ((1 / 64 : ℝ) : EReal) := by
    simp [Ideal.ofBits, Ideal.ieee, -EReal.coe_mul]; norm_num
  pointwise [normed, meanSq, spread, firstHead, lanes]
  rw [hd, loSum_apply, first_lane, hi]
  unfold Cert.Attn.normed Cert.Attn.eps
  rw [h64, Ideal.div_coe (by norm_num)]
  match p with
  | 0 => rfl
  | 1 => rfl

/-- The lane's place inside its head is in the first half. -/
theorem firstHalf_apply (i : Fin 128) (p : Fin 2) (d : Fin 64) :
    firstHalf (ix2 i (lane p d)) = if d.val < 32 then 1#1 else 0#1 := by
  pointwise [firstHalf, lanes]
  revert p d
  decide +kernel

/-- The rotation, over the tables' rows of one position. -/
theorem roped_apply (y cos sin : FVec Ideal S128x128 .f32) (i : Fin 128) (r : Fin 8) (p : Fin 2) (d : Fin 64)
    (hc : ∀ d : Fin 64, cos (ix2 i (lane p d)) = Ideal.cos (Cert.Attn.angle r ⟨d.val % 32, by omega⟩))
    (hs : ∀ d : Fin 64, sin (ix2 i (lane p d)) = if d.val < 32 then -Ideal.sin (Cert.Attn.angle r ⟨d.val % 32, by omega⟩)
      else Ideal.sin (Cert.Attn.angle r ⟨d.val % 32, by omega⟩)) :
    roped y cos sin (ix2 i (lane p d)) = Cert.Attn.rope (fun e => y (ix2 i (lane p e))) r d := by
  pointwise [roped]
  rw [firstHalf_apply, hc, hs]
  unfold Cert.Attn.rope
  by_cases h : d.val < 32
  · have e : (⟨((lane p d).val + 128 - 96) % 128, Nat.mod_lt _ (by decide)⟩ : Fin 128) = lane p ⟨32 + d.val, by omega⟩ :=
      Fin.ext (by show (64 * p.val + d.val + 128 - 96) % 128 = 64 * p.val + (32 + d.val); omega)
    have ea : (⟨d.val % 32, by omega⟩ : Fin 32) = ⟨d.val, h⟩ := Fin.ext (Nat.mod_eq_of_lt h)
    rw [if_pos h, if_pos h, dif_pos h, e, ea, mul_neg, ← sub_eq_add_neg]
    rfl
  · have e : (⟨((lane p d).val + 128 - 32) % 128, Nat.mod_lt _ (by decide)⟩ : Fin 128) = lane p ⟨d.val - 32, by omega⟩ :=
      Fin.ext (by show (64 * p.val + d.val + 128 - 32) % 128 = 64 * p.val + (d.val - 32); omega)
    have ea : (⟨d.val % 32, by omega⟩ : Fin 32) = ⟨d.val - 32, by omega⟩ := Fin.ext (by show d.val % 32 = d.val - 32; omega)
    have ed : (⟨32 + (d.val - 32), by omega⟩ : Fin 64) = d := Fin.ext (by show 32 + (d.val - 32) = d.val; omega)
    rw [if_neg h, if_neg h, dif_neg h, e, ea, ed]
    rfl

end Cert.KernelIdeal.Attn

end
-- ==== Proof.Attn.Heads.lean ====
/-
  One head of the kernel's body, read at an entry of its first eight rows: the specification's mixture of values. The
  keys that pad the eight new ones to 128 rows lie after every row, so their scores are hidden and their values zero.
-/
module

public import proofs.«01_k».proof.Proof.Attn.Prep
public import Idealize.ShloMosaic.PureOps.IdealRules

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Tactic

theorem hidden_eq : hidden = (⊥ : EReal) := IdealRules.named_const.ideal_named_scalar _ _ _ _ rfl

/-- One of the first eight rows. -/
def row (r : Fin 8) : Fin 128 := ⟨r.val, by omega⟩

variable (q : FVec Ideal S128x64 .bf16) (km vm : FVec Ideal S16x64 .bf16) (kp kc vp vc : FVec Ideal S128x64 .bf16)
  (sk : FVec Ideal S1x1 .f32)

/-- The products of one row's query with a key. -/
def dotM (r : Fin 8) (j : Fin 16) : EReal := ∑ e : Fin 64, q (ix2 (row r) e) * km (ix2 j e)
def dotB (k : FVec Ideal S128x64 .bf16) (r : Fin 8) (j : Fin 128) : EReal := ∑ e : Fin 64, q (ix2 (row r) e) * k (ix2 j e)

theorem scoreM_apply (r : Fin 8) (j : Fin 16) : scoreM k0_pay3 q km (ix2 (row r) j) = dotM q km r j := by
  have hv : IntOp.cmpi .sle (BitVec.ofNat 32 j.val) (IntOp.addi (BitVec.ofNat 32 (row r).val) 16#32) = 1#1 := by
    revert r j; decide +kernel
  pointwise [scoreM, k0_pay3]
  rw [hv]
  rfl

theorem scoreP_apply (r : Fin 8) (j : Fin 128) :
    scoreB k0_pay4 q kp (ix2 (row r) j) = if r.val < j.val then dotB q kp r j else ⊥ := by
  have hv : IntOp.cmpi .sgt (BitVec.ofNat 32 j.val) (BitVec.ofNat 32 (row r).val) = if r.val < j.val then 1#1 else 0#1 := by
    revert r j; decide +kernel
  pointwise [scoreB, k0_pay4]
  rw [hv, hidden_eq]
  split <;> rfl

theorem scoreC_apply (r : Fin 8) (j : Fin 128) :
    scoreB k0_pay5 q kc (ix2 (row r) j) = if j.val ≤ r.val then dotB q kc r j else ⊥ := by
  have hv : IntOp.cmpi .sle (BitVec.ofNat 32 j.val) (BitVec.ofNat 32 (row r).val) = if j.val ≤ r.val then 1#1 else 0#1 := by
    revert r j; decide +kernel
  pointwise [scoreB, k0_pay5]
  rw [hv, hidden_eq]
  split <;> rfl

/-- A sum over 128 rows of which the last 120 give nothing. -/
theorem sum_pad (f : Fin 128 → EReal) (h : ∀ j : Fin 128, 8 ≤ j.val → f j = 0) : ∑ j, f j = ∑ j, f (row j) := by
  refine (Fin.sum_univ_add (a := 8) (b := 120) f).trans ?_
  have hz : ∑ i : Fin 120, f (Fin.natAdd 8 i) = 0 := Finset.sum_eq_zero fun i _ => h _ (Nat.le_add_right 8 i.val)
  exact (congrArg (HAdd.hAdd _) hz).trans (add_zero _)

/-- The greatest over 128 rows of which the last 120 are `⊥`. -/
theorem greatest_pad (f : Fin 128 → EReal) (h : ∀ j : Fin 128, 8 ≤ j.val → f j = ⊥) :
    Cert.Attn.greatest f = Cert.Attn.greatest fun j => f (row j) := by
  refine (Cert.Attn.greatest_add (m := 8) (n := 120) f).trans ?_
  have hz : (Cert.Attn.greatest fun i : Fin 120 => f (Fin.natAdd 8 i)) = ⊥ :=
    Cert.Attn.greatest_bot _ fun i => h _ (Nat.le_add_right 8 i.val)
  exact (congrArg (max _) hz).trans (max_eq_left bot_le)

/-- The three groups of scores of one row. -/
def sM (r : Fin 8) (j : Fin 16) : EReal := dotM q km r j
def sP (r : Fin 8) (j : Fin 128) : EReal := if r.val < j.val then dotB q kp r j else ⊥
def sC (r j : Fin 8) : EReal := if j.val ≤ r.val then dotB q kc r (row j) else ⊥

/-- A row's greatest score. -/
theorem top_apply (r : Fin 8) :
    top (scoreM k0_pay3 q km) (scoreB k0_pay4 q kp) (scoreB k0_pay5 q kc) sk (ix2 (row r) 0) =
      Cert.Attn.top (sM q km r) (sP q kp r) (sC q kc r) (sk (ix2 0 0)) := by
  have hbot : Ideal.ofBits FTy.f32 0xFF800000#32 = ⊥ := by simp [Ideal.ofBits, Ideal.ieee]
  have hC := greatest_pad (fun j => if j.val ≤ r.val then dotB q kc r j else ⊥) fun j hj => if_neg (by omega)
  pointwise [top, maxM, maxB, sinkCol]
  simp only [scoreM_apply, scoreP_apply, scoreC_apply]
  unfold Cert.Attn.top sM sP
  rw [hbot]
  unfold Cert.Attn.greatest at hC ⊢
  rw [hC]
  rfl

variable (m : EReal) (M : FVec Ideal S128x1 .f32)

/-- A row's divisor. -/
theorem den_apply (r : Fin 8) :
    den (scoreM k0_pay3 q km) (scoreB k0_pay4 q kp) (scoreB k0_pay5 q kc) sk M (ix2 (row r) 0) =
      Cert.Attn.total (sM q km r) (sP q kp r) (sC q kc r) (sk (ix2 0 0)) (M (ix2 (row r) 0)) := by
  have hC := sum_pad (fun j => Ideal.exp ((if j.val ≤ r.val then dotB q kc r j else ⊥) - M (ix2 (row r) 0)))
    fun j hj => by rw [if_neg (by omega)]; exact Cert.Attn.exp_bot_sub _
  pointwise [den, sumM, rowSum, sinkCol, overM, overB]
  simp only [scoreM_apply, scoreP_apply, scoreC_apply]
  rw [hC]
  rfl

/-- One head, read at one of its first eight rows. -/
theorem headOut_apply (r : Fin 8) (d : Fin 64) (hv : ∀ j : Fin 128, 8 ≤ j.val → vc (ix2 j d) = 0) :
    headOut k0_pay3 k0_pay4 k0_pay5 q km kp kc sk vm vp vc (ix2 (row r) d) =
      Cert.Attn.mix (sM q km r) (sP q kp r) (sC q kc r) (Cert.Attn.top (sM q km r) (sP q kp r) (sC q kc r) (sk (ix2 0 0)))
        (Cert.Attn.total (sM q km r) (sP q kp r) (sC q kc r) (sk (ix2 0 0))
          (Cert.Attn.top (sM q km r) (sP q kp r) (sC q kc r) (sk (ix2 0 0))))
        (fun j => vm (ix2 j d)) (fun j => vp (ix2 j d)) (fun j => vc (ix2 (row j) d)) := by
  have ht := top_apply q km kp kc sk r
  have hd := den_apply q km kp kc sk (top (scoreM k0_pay3 q km) (scoreB k0_pay4 q kp) (scoreB k0_pay5 q kc) sk) r
  unfold headOut
  generalize den (scoreM k0_pay3 q km) (scoreB k0_pay4 q kp) (scoreB k0_pay5 q kc) sk
    (top (scoreM k0_pay3 q km) (scoreB k0_pay4 q kp) (scoreB k0_pay5 q kc) sk) = D at hd ⊢
  generalize top (scoreM k0_pay3 q km) (scoreB k0_pay4 q kp) (scoreB k0_pay5 q kc) sk = T at ht hd ⊢
  rw [ht] at hd
  pointwise [weighted, overM, overB]
  simp only [scoreM_apply, scoreP_apply, scoreC_apply, ht, hd]
  unfold Cert.Attn.mix
  refine congrArg (HAdd.hAdd _) ?_
  refine sum_pad (fun j => Ideal.div _ _ * vc (ix2 j d)) fun j hj => ?_
  rw [hv j hj, mul_zero]

end Cert.KernelIdeal.Attn

end
-- ==== Proof.Attn.Blocks.lean ====
/-
  The kernel's blocks at a grid point, read at an entry: the arrays of the specification.
-/
module

public import proofs.«01_k».proof.Proof.Attn.Heads
public import Idealize.ShloMosaic.Lib.StableHlo.ReadAt

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Tactic

variable (m : (ℓ : Loc nD τ sig) → Buf (Elt Ideal) ℓ) (c : Dev nD)

theorem idx0 : ∀ t, win0_0.index t 0 = 4096 + t.val ∧ win0_0.index t 1 = 3 := by decide +kernel
theorem idx1 : ∀ t, win0_1.index t 0 = 4096 + t.val ∧ win0_1.index t 1 = 16 := by decide +kernel
theorem idx2 : ∀ t, win0_2.index t 0 = 4096 + t.val ∧ win0_2.index t 1 = 17 := by decide +kernel
theorem idx3 : ∀ t, win0_3.index t 0 = t.val ∧ win0_3.index t 1 = 0 ∧ win0_3.index t 2 = 0 := by decide +kernel
theorem idx4 : ∀ t, win0_4.index t 0 = t.val ∧ win0_4.index t 1 = 0 ∧ win0_4.index t 2 = 0 := by decide +kernel
theorem idx5 : ∀ t, win0_5.index t 0 = t.val ∧ win0_5.index t 1 = 0 ∧ win0_5.index t 2 = 0 := by decide +kernel
theorem idx6 : ∀ t, win0_6.index t 0 = t.val ∧ win0_6.index t 1 = 0 ∧ win0_6.index t 2 = 0 := by decide +kernel
theorem idx7 : ∀ t, win0_7.index t 0 = 0 ∧ win0_7.index t 1 = 0 := by decide +kernel
theorem idx8 : ∀ t, win0_8.index t 0 = 0 ∧ win0_8.index t 1 = 0 := by decide +kernel
theorem idx9 : ∀ t, win0_9.index t 0 = 0 ∧ win0_9.index t 1 = 0 := by decide +kernel
theorem idx10 : ∀ t, win0_10.index t 0 = 0 ∧ win0_10.index t 1 = 0 := by decide +kernel
theorem idx11 : ∀ t, win0_11.index t 0 = 0 ∧ win0_11.index t 1 = 0 := by decide +kernel
theorem idx12 : ∀ t, win0_12.index t 0 = 0 ∧ win0_12.index t 1 = 0 := by decide +kernel

theorem points (t : Fin cfg0.N) : t.val < 128 := t.isLt

/-- The grid point as a batch number. -/
def batch (t : Fin cfg0.N) : Fin 128 := ⟨t.val, points t⟩

theorem hostX (i : Fin 34304) (j : Fin 2560) : V m c main_arg0 (ix2 i j) = m (c, main_arg0) (ix2 i j) := by
  unfold V
  simp only [hostOps0, hostOps0_1, hostOps0_2, List.flatten_cons, List.flatten_nil, List.cons_append, List.nil_append, List.append_nil]
  after_reads_at

theorem host37 (t : Fin 128) (i : Fin 16) (j : Fin 128) : V m c main_v37 (ix3 t i j) =
    m (c, main_arg1) (ix4 t i ⟨j.val / 64, by omega⟩ ⟨j.val % 64, by omega⟩) := by
  unfold V
  simp only [hostOps0, hostOps0_1, hostOps0_2, List.flatten_cons, List.flatten_nil, List.cons_append, List.nil_append, List.append_nil]
  after_reads_at
theorem host38 (t : Fin 128) (i : Fin 16) (j : Fin 128) : V m c main_v38 (ix3 t i j) =
    m (c, main_arg2) (ix4 t i ⟨j.val / 64, by omega⟩ ⟨j.val % 64, by omega⟩) := by
  unfold V
  simp only [hostOps0, hostOps0_1, hostOps0_2, List.flatten_cons, List.flatten_nil, List.cons_append, List.nil_append, List.append_nil]
  after_reads_at
theorem host39 (t : Fin 128) (i : Fin 128) (j : Fin 128) : V m c main_v39 (ix3 t i j) =
    m (c, main_arg3) (ix4 t i ⟨j.val / 64, by omega⟩ ⟨j.val % 64, by omega⟩) := by
  unfold V
  simp only [hostOps0, hostOps0_1, hostOps0_2, List.flatten_cons, List.flatten_nil, List.cons_append, List.nil_append, List.append_nil]
  after_reads_at
theorem host40 (t : Fin 128) (i : Fin 128) (j : Fin 128) : V m c main_v40 (ix3 t i j) =
    m (c, main_arg4) (ix4 t i ⟨j.val / 64, by omega⟩ ⟨j.val % 64, by omega⟩) := by
  unfold V
  simp only [hostOps0, hostOps0_1, hostOps0_2, List.flatten_cons, List.flatten_nil, List.cons_append, List.nil_append, List.append_nil]
  after_reads_at
theorem host29 (j : Fin 512) : V m c main_v29 (ix2 0 j) = m (c, main_arg5) (ix1 ⟨j.val % 64, by omega⟩) := by
  unfold V
  simp only [hostOps0, hostOps0_1, hostOps0_2, List.flatten_cons, List.flatten_nil, List.cons_append, List.nil_append, List.append_nil]
  after_reads_at
theorem host33 (j : Fin 128) : V m c main_v33 (ix2 0 j) = m (c, main_arg6) (ix1 ⟨j.val % 64, by omega⟩) := by
  unfold V
  simp only [hostOps0, hostOps0_1, hostOps0_2, List.flatten_cons, List.flatten_nil, List.cons_append, List.nil_append, List.append_nil]
  after_reads_at
theorem host36 (j : Fin 512) : V m c main_v36 (ix2 0 j) = m (c, main_arg8) (ix1 j) := by
  unfold V
  simp only [hostOps0, hostOps0_1, hostOps0_2, List.flatten_cons, List.flatten_nil, List.cons_append, List.nil_append, List.append_nil]
  after_reads_at
theorem host35 (j : Fin 8) : V m c main_v35 (ix2 0 ⟨j.val, by omega⟩) = m (c, main_arg7) (ix1 j) := by
  unfold V
  simp only [hostOps0, hostOps0_1, hostOps0_2, List.flatten_cons, List.flatten_nil, List.cons_append, List.nil_append, List.append_nil]
  after_reads_at
/-- The table of cosines … -/
theorem host20 (r : Fin 8) (p : Fin 2) (d : Fin 64) : V m c main_v20 (ix2 (row r) (lane p d)) =
    Ideal.cos (Cert.Attn.angle r ⟨d.val % 32, by omega⟩) := by
  have e : (lane p d).val % 64 = d.val := by show (64 * p.val + d.val) % 64 = d.val; omega
  unfold V
  simp only [hostOps0, hostOps0_1, hostOps0_2, List.flatten_cons, List.flatten_nil, List.cons_append, List.nil_append, List.append_nil]
  after_reads_at
  after_reads_at
  by_cases h : d.val < 32
  · rw [dif_pos (e.trans_lt h)]
    unfold Cert.Attn.angle
    simp only [e, Nat.mod_eq_of_lt h]
    rfl
  · have ed : d.val % 32 = d.val - 32 := by omega
    rw [dif_neg (by rw [e]; exact h)]
    unfold Cert.Attn.angle
    simp only [e, ed]
    rfl
/-- … and of signed sines. -/
theorem host25 (r : Fin 8) (p : Fin 2) (d : Fin 64) : V m c main_v25 (ix2 (row r) (lane p d)) =
    if d.val < 32 then -Ideal.sin (Cert.Attn.angle r ⟨d.val % 32, by omega⟩) else Ideal.sin (Cert.Attn.angle r ⟨d.val % 32, by omega⟩) := by
  have e : (lane p d).val % 64 = d.val := by show (64 * p.val + d.val) % 64 = d.val; omega
  unfold V
  simp only [hostOps0, hostOps0_1, hostOps0_2, List.flatten_cons, List.flatten_nil, List.cons_append, List.nil_append, List.append_nil]
  after_reads_at
  after_reads_at
  by_cases h : d.val < 32
  · rw [dif_pos (e.trans_lt h), if_pos h]
    unfold Cert.Attn.angle
    simp only [e, Nat.mod_eq_of_lt h]
    rfl
  · have ed : d.val % 32 = d.val - 32 := by omega
    rw [dif_neg (by rw [e]; exact h), if_neg h]
    unfold Cert.Attn.angle
    simp only [e, ed]
    rfl

theorem blk0 (t : Fin cfg0.N) (i : Fin 8) (j : Fin 512) : iblk m c 0 t (ix2 i j) =
    m (c, main_arg0) (ix2 ⟨32768 + ((batch t).val * 8 + i.val), by omega⟩ ⟨1536 + j.val, by omega⟩) := by
  refine Eq.trans ?_ (hostX m c _ _)
  have h := idx0 t
  have hb : (batch t).val = t.val := rfl
  blk_ext [iblk]
theorem blk1 (t : Fin cfg0.N) (i : Fin 8) (j : Fin 128) : iblk m c 1 t (ix2 i j) =
    m (c, main_arg0) (ix2 ⟨32768 + ((batch t).val * 8 + i.val), by omega⟩ ⟨2048 + j.val, by omega⟩) := by
  refine Eq.trans ?_ (hostX m c _ _)
  have h := idx1 t
  have hb : (batch t).val = t.val := rfl
  blk_ext [iblk]
theorem blk2 (t : Fin cfg0.N) (i : Fin 8) (j : Fin 128) : iblk m c 2 t (ix2 i j) =
    m (c, main_arg0) (ix2 ⟨32768 + ((batch t).val * 8 + i.val), by omega⟩ ⟨2176 + j.val, by omega⟩) := by
  refine Eq.trans ?_ (hostX m c _ _)
  have h := idx2 t
  have hb : (batch t).val = t.val := rfl
  blk_ext [iblk]
theorem blk3 (t : Fin cfg0.N) (i : Fin 16) (j : Fin 128) :
    iblk m c 3 t (ix3 0 i j) = m (c, main_arg1) (ix4 (batch t) i ⟨j.val / 64, by omega⟩ ⟨j.val % 64, by omega⟩) := by
  refine Eq.trans ?_ (host37 m c _ _ _)
  have h := idx3 t
  have hb : (batch t).val = t.val := rfl
  blk_ext [iblk]
theorem blk4 (t : Fin cfg0.N) (i : Fin 16) (j : Fin 128) :
    iblk m c 4 t (ix3 0 i j) = m (c, main_arg2) (ix4 (batch t) i ⟨j.val / 64, by omega⟩ ⟨j.val % 64, by omega⟩) := by
  refine Eq.trans ?_ (host38 m c _ _ _)
  have h := idx4 t
  have hb : (batch t).val = t.val := rfl
  blk_ext [iblk]
theorem blk5 (t : Fin cfg0.N) (i j : Fin 128) :
    iblk m c 5 t (ix3 0 i j) = m (c, main_arg3) (ix4 (batch t) i ⟨j.val / 64, by omega⟩ ⟨j.val % 64, by omega⟩) := by
  refine Eq.trans ?_ (host39 m c _ _ _)
  have h := idx5 t
  have hb : (batch t).val = t.val := rfl
  blk_ext [iblk]
theorem blk6 (t : Fin cfg0.N) (i j : Fin 128) :
    iblk m c 6 t (ix3 0 i j) = m (c, main_arg4) (ix4 (batch t) i ⟨j.val / 64, by omega⟩ ⟨j.val % 64, by omega⟩) := by
  refine Eq.trans ?_ (host40 m c _ _ _)
  have h := idx6 t
  have hb : (batch t).val = t.val := rfl
  blk_ext [iblk]
theorem blk7 (t : Fin cfg0.N) (i j : Fin 128) : iblk m c 7 t (ix2 i j) = V m c main_v20 (ix2 i j) := by
  have h := idx7 t
  blk_ext [iblk]
theorem blk8 (t : Fin cfg0.N) (i j : Fin 128) : iblk m c 8 t (ix2 i j) = V m c main_v25 (ix2 i j) := by
  have h := idx8 t
  blk_ext [iblk]
theorem blk9 (t : Fin cfg0.N) (j : Fin 512) : iblk m c 9 t (ix2 0 j) = m (c, main_arg5) (ix1 ⟨j.val % 64, by omega⟩) := by
  refine Eq.trans ?_ (host29 m c _)
  have h := idx9 t
  blk_ext [iblk]
theorem blk10 (t : Fin cfg0.N) (j : Fin 128) : iblk m c 10 t (ix2 0 j) = m (c, main_arg6) (ix1 ⟨j.val % 64, by omega⟩) := by
  refine Eq.trans ?_ (host33 m c _)
  have h := idx10 t
  blk_ext [iblk]
theorem blk11 (t : Fin cfg0.N) (j : Fin 8) : iblk m c 11 t (ix2 0 ⟨j.val, by omega⟩) = m (c, main_arg7) (ix1 j) := by
  refine Eq.trans ?_ (host35 m c _)
  have h := idx11 t
  blk_ext [iblk]
theorem blk12 (t : Fin cfg0.N) (j : Fin 512) : iblk m c 12 t (ix2 0 j) = m (c, main_arg8) (ix1 j) := by
  refine Eq.trans ?_ (host36 m c _)
  have h := idx12 t
  blk_ext [iblk]

end Cert.KernelIdeal.Attn

end
-- ==== Proof.Attn.Value.lean ====
/-
  The two output blocks of a grid point, read at an entry: the specification's result and new keys of the point's eight
  rows.
-/
module

public import proofs.«01_k».proof.Proof.Attn.Blocks

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Tactic

variable (m : (ℓ : Loc nD τ sig) → Buf (Elt Ideal) ℓ) (c : Dev nD)

/-- The arguments as the specification's arrays. -/
def arrays : Cert.Attn.Arrays where
  Q b r h d := m (c, main_arg0) (ix2 ⟨32768 + (b.val * 8 + r.val), by omega⟩ ⟨1536 + (h.val * 64 + d.val), by omega⟩)
  K b r g d := m (c, main_arg0) (ix2 ⟨32768 + (b.val * 8 + r.val), by omega⟩ ⟨2048 + (g.val * 64 + d.val), by omega⟩)
  V b r g d := m (c, main_arg0) (ix2 ⟨32768 + (b.val * 8 + r.val), by omega⟩ ⟨2176 + (g.val * 64 + d.val), by omega⟩)
  MK b j g d := m (c, main_arg1) (ix4 b j g d)
  MV b j g d := m (c, main_arg2) (ix4 b j g d)
  WK b j g d := m (c, main_arg3) (ix4 b j g d)
  WV b j g d := m (c, main_arg4) (ix4 b j g d)
  qw d := m (c, main_arg5) (ix1 d)
  kw d := m (c, main_arg6) (ix1 d)
  sk h := m (c, main_arg7) (ix1 h)
  aw n := m (c, main_arg8) (ix1 n)

/-- Every query and new key of the call is finite. -/
def Finite : Prop := ∀ (i : Fin 1024) (j : Fin 640),
  m (c, main_arg0) (ix2 ⟨32768 + i.val, by omega⟩ ⟨1536 + j.val, by omega⟩) ≠ (⊤ : EReal) ∧
    m (c, main_arg0) (ix2 ⟨32768 + i.val, by omega⟩ ⟨1536 + j.val, by omega⟩) ≠ (⊥ : EReal)

theorem lane_div (p : Fin 2) (d : Fin 64) : (lane p d).val / 64 = p.val := by show (64 * p.val + d.val) / 64 = p.val; omega
theorem lane_mod (p : Fin 2) (d : Fin 64) : (lane p d).val % 64 = d.val := by show (64 * p.val + d.val) % 64 = d.val; omega

/-- The padded rows of the new keys … -/
theorem pad_apply6 (x : Vec Ideal S8x128 .f32) (r : Fin 8) (j : Fin 128) : k0_pay6 x (ix2 (row r) j) = x (ix2 r j) := by
  pointwise [k0_pay6]
  exact dif_pos r.isLt
/-- … of the queries … -/
theorem pad_apply12 (x : Vec Ideal S8x512 .f32) (r : Fin 8) (j : Fin 512) : k0_pay12 x (ix2 (row r) j) = x (ix2 r j) := by
  pointwise [k0_pay12]
  exact dif_pos r.isLt
/-- … and of the new values. -/
theorem pad_apply13 (x : Vec Ideal S8x128 .f32) (j n : Fin 128) :
    k0_pay13 x (ix2 j n) = if h : j.val < 8 then x (ix2 ⟨j.val, h⟩ n) else 0 := by
  pointwise [k0_pay13]

theorem newK_apply (hf : Finite m c) (t : Fin cfg0.N) (r : Fin 8) (p : Fin 2) (d : Fin 64) :
    newK m c t (ix2 (row r) (lane p d)) = Cert.Attn.key (arrays m c) (batch t) r p d := by
  have hx : ∀ j : Fin 128, k0_pay6 (iblk m c 1 t) (ix2 (row r) j) ≠ (⊤ : EReal) ∧ k0_pay6 (iblk m c 1 t) (ix2 (row r) j) ≠ (⊥ : EReal) := fun j => by
    have e : (⟨2048 + j.val, by omega⟩ : Fin 2560) = ⟨1536 + (512 + j.val), by omega⟩ := Fin.ext (by show 2048 + j.val = 1536 + (512 + j.val); omega)
    rw [pad_apply6, blk1, e]
    exact hf ⟨(batch t).val * 8 + r.val, by omega⟩ ⟨512 + j.val, by omega⟩
  unfold newK prep
  rw [roped_apply _ _ _ _ r p d (fun d => by pointwise [k0_pay8]; rw [blk7, host20])
    (fun d => by pointwise [k0_pay9]; rw [blk8, host25])]
  unfold Cert.Attn.key
  refine congrArg (fun y => Cert.Attn.rope y r d) (funext fun e => ?_)
  rw [normed_apply _ _ _ _ _ hx]
  refine congrArg₂ (fun x w => Cert.Attn.normed x w e) (funext fun e => ?_) (funext fun e => ?_)
  · rw [pad_apply6, blk1]
    exact congrArg (fun z => m (c, main_arg0) (ix2 _ z)) (Fin.ext (by show 2048 + (64 * p.val + e.val) = 2048 + (p.val * 64 + e.val); omega))
  · pointwise [k0_pay7]
    rw [blk10]
    exact congrArg (fun z => m (c, main_arg6) (ix1 z)) (Fin.ext (lane_mod p e))

/-- The query head that is the `p`-th of pair `g`. -/
def headIn (g : Fin 4) (p : Fin 2) : Fin 8 := ⟨2 * g.val + p.val, by omega⟩

theorem newQ_apply (hf : Finite m c) (t : Fin cfg0.N) (g : Fin 4) (r : Fin 8) (p : Fin 2) (d : Fin 64) :
    newQ m c t g (ix2 (row r) (lane p d)) =
      Cert.Attn.query (arrays m c) (batch t) r (headIn g p) d * Ideal.ofBits FTy.f32 0x3E000000#32 := by
  have hq : ∀ j : Fin 128, extractStridedSlice S128x128 ![0, 128 * g.val] (k0_pay12 (iblk m c 0 t)) (slicesQ g) (ix2 (row r) j) =
      m (c, main_arg0) (ix2 ⟨32768 + ((batch t).val * 8 + r.val), by omega⟩ ⟨1536 + (128 * g.val + j.val), by omega⟩) := fun j => by
    pointwise
    rw [pad_apply12, blk0]
  have hx : ∀ j : Fin 128, extractStridedSlice S128x128 ![0, 128 * g.val] (k0_pay12 (iblk m c 0 t)) (slicesQ g) (ix2 (row r) j) ≠ (⊤ : EReal) ∧
      extractStridedSlice S128x128 ![0, 128 * g.val] (k0_pay12 (iblk m c 0 t)) (slicesQ g) (ix2 (row r) j) ≠ (⊥ : EReal) := fun j => by
    rw [hq]
    exact hf ⟨(batch t).val * 8 + r.val, by omega⟩ ⟨128 * g.val + j.val, by omega⟩
  unfold newQ prepQ
  pointwise [prep]
  refine congrArg (· * _) ?_
  rw [roped_apply _ _ _ _ r p d (fun d => by pointwise [k0_pay14]; rw [blk7, host20])
    (fun d => by pointwise [k0_pay15]; rw [blk8, host25])]
  unfold Cert.Attn.query
  refine congrArg (fun y => Cert.Attn.rope y r d) (funext fun e => ?_)
  rw [normed_apply _ _ _ _ _ hx]
  refine congrArg₂ (fun x w => Cert.Attn.normed x w e) (funext fun e => ?_) (funext fun e => ?_)
  · rw [hq]
    exact congrArg (fun z => m (c, main_arg0) (ix2 _ z)) (Fin.ext (by
      show 1536 + (128 * g.val + (64 * p.val + e.val)) = 1536 + ((2 * g.val + p.val) * 64 + e.val); omega))
  · pointwise
    rw [blk9]
    exact congrArg (fun z => m (c, main_arg5) (ix1 z)) (Fin.ext (by
      show (128 * g.val + (64 * p.val + e.val)) % 64 = e.val; omega))

/-- One of the two heads of a pair … -/
theorem headOf_apply (p : Fin 2) (x : FVec Ideal S128x128 .bf16) (i : Fin 128) (e : Fin 64) :
    headOf p x (ix2 i e) = x (ix2 i (lane p e)) := by
  pointwise [headOf]
  rfl
/-- … and of the meta rows. -/
theorem headOfM_apply (p : Fin 2) (x : FVec Ideal S16x128 .bf16) (i : Fin 16) (e : Fin 64) :
    headOfM p x (ix2 i e) = x (ix2 i (lane p e)) := by
  pointwise [headOfM]
  rfl

theorem lane_ix (p : Fin 2) (e : Fin 64) {α : Type} (f : Fin 2 → Fin 64 → α) :
    f ⟨(lane p e).val / 64, by omega⟩ ⟨(lane p e).val % 64, by omega⟩ = f p e := by
  have h1 : (⟨(lane p e).val / 64, by omega⟩ : Fin 2) = p := Fin.ext (lane_div p e)
  have h2 : (⟨(lane p e).val % 64, by omega⟩ : Fin 64) = e := Fin.ext (lane_mod p e)
  rw [h1, h2]

/-- The caches' heads. -/
theorem metaK (t : Fin cfg0.N) (p : Fin 2) (j : Fin 16) (e : Fin 64) :
    headOfM p (k0_pay18 (iblk m c 3 t)) (ix2 j e) = (arrays m c).MK (batch t) j p e := by
  rw [headOfM_apply]
  pointwise [k0_pay18]
  rw [blk3]
  exact lane_ix p e fun a b => m (c, main_arg1) (ix4 (batch t) j a b)
theorem metaV (t : Fin cfg0.N) (p : Fin 2) (j : Fin 16) (e : Fin 64) :
    headOfM p (k0_pay19 (iblk m c 4 t)) (ix2 j e) = (arrays m c).MV (batch t) j p e := by
  rw [headOfM_apply]
  pointwise [k0_pay19]
  rw [blk4]
  exact lane_ix p e fun a b => m (c, main_arg2) (ix4 (batch t) j a b)
theorem windowK (t : Fin cfg0.N) (p : Fin 2) (j : Fin 128) (e : Fin 64) :
    headOf p (k0_pay20 (iblk m c 5 t)) (ix2 j e) = (arrays m c).WK (batch t) j p e := by
  rw [headOf_apply]
  pointwise [k0_pay20]
  rw [blk5]
  exact lane_ix p e fun a b => m (c, main_arg3) (ix4 (batch t) j a b)
theorem windowV (t : Fin cfg0.N) (p : Fin 2) (j : Fin 128) (e : Fin 64) :
    headOf p (k0_pay21 (iblk m c 6 t)) (ix2 j e) = (arrays m c).WV (batch t) j p e := by
  rw [headOf_apply]
  pointwise [k0_pay21]
  rw [blk6]
  exact lane_ix p e fun a b => m (c, main_arg4) (ix4 (batch t) j a b)
theorem newKey (hf : Finite m c) (t : Fin cfg0.N) (p : Fin 2) (j : Fin 8) (e : Fin 64) :
    headOf p (k0_pay16 (newK m c t)) (ix2 (row j) e) = Cert.Attn.key (arrays m c) (batch t) j p e := by
  rw [headOf_apply]
  pointwise [k0_pay16]
  exact newK_apply m c hf t j p e
theorem newV (t : Fin cfg0.N) (p : Fin 2) (j : Fin 8) (e : Fin 64) :
    headOf p (k0_pay17 (k0_pay13 (iblk m c 2 t))) (ix2 (row j) e) = (arrays m c).V (batch t) j p e := by
  rw [headOf_apply]
  pointwise [k0_pay17]
  rw [pad_apply13, dif_pos (show (row j).val < 8 from j.isLt), blk2]
  exact congrArg (fun z => m (c, main_arg0) (ix2 _ z)) (Fin.ext (by show 2176 + (64 * p.val + e.val) = 2176 + (p.val * 64 + e.val); omega))
theorem padV (t : Fin cfg0.N) (p : Fin 2) (j : Fin 128) (e : Fin 64) (h : 8 ≤ j.val) :
    headOf p (k0_pay17 (k0_pay13 (iblk m c 2 t))) (ix2 j e) = (0 : EReal) := by
  rw [headOf_apply]
  pointwise [k0_pay17]
  rw [pad_apply13, dif_neg (by omega)]
theorem sink (t : Fin cfg0.N) (h : Fin 8) :
    shapeCast S1x1 (View.ld (iblk m c 11 t) (Rect.unit ![0, h.val] ![1, 1] (inbSink h))) shapeCasts_S1x1_S1x1 (ix2 0 0) =
      (arrays m c).sk h := by
  pointwise
  exact blk11 m c t h

/-- One head of the point, read at an entry. -/
theorem headAt_apply (hf : Finite m c) (t : Fin cfg0.N) (h r : Fin 8) (d : Fin 64) :
    headAt m c t h (ix2 (row r) d) = Cert.Attn.out (arrays m c) (batch t) r h (keyOf h) d := by
  have hq : ∀ e, headOf (placeOf h) (newQ m c t (pairOf h)) (ix2 (row r) e) =
      Cert.Attn.query (arrays m c) (batch t) r h e * Ideal.ofBits FTy.f32 0x3E000000#32 := fun e => by
    have e1 : headIn (pairOf h) (placeOf h) = h := Fin.ext (by show 2 * (h.val / 2) + h.val % 2 = h.val; omega)
    rw [headOf_apply, newQ_apply m c hf, e1]
  have h1 : sM (headOf (placeOf h) (newQ m c t (pairOf h))) (headOfM (keyOf h) (k0_pay18 (iblk m c 3 t))) r =
      Cert.Attn.scM (arrays m c) (batch t) r h (keyOf h) := funext fun j => by
    unfold sM dotM Cert.Attn.scM
    simp only [hq, metaK]
    exact Cert.Attn.score_eq _ _
  have h2 : sP (headOf (placeOf h) (newQ m c t (pairOf h))) (headOf (keyOf h) (k0_pay20 (iblk m c 5 t))) r =
      Cert.Attn.scP (arrays m c) (batch t) r h (keyOf h) := funext fun j => by
    unfold sP dotB Cert.Attn.scP
    simp only [hq, windowK, Cert.Attn.score_eq]
  have h3 : sC (headOf (placeOf h) (newQ m c t (pairOf h))) (headOf (keyOf h) (k0_pay16 (newK m c t))) r =
      Cert.Attn.scC (arrays m c) (batch t) r h (keyOf h) := funext fun j => by
    unfold sC dotB Cert.Attn.scC
    simp only [hq, newKey m c hf, Cert.Attn.score_eq]
  unfold headAt
  rw [headOut_apply _ _ _ _ _ _ _ _ _ _ fun j hj => padV m c t _ j d hj, h1, h2, h3, sink]
  simp only [metaV, windowV, newV]
  rfl

/-- Eight heads side by side. -/
def side (H : Fin 8 → FVec Ideal S128x64 .f32) : S128x512.Idx → Elt Ideal .f32 := fun y =>
  H ⟨(y 1).val / 64, by have : (y 1).val < 512 := (y 1).isLt; omega⟩ (ix2 ⟨(y 0).val, (y 0).isLt⟩ ⟨(y 1).val % 64, by omega⟩)

theorem piece_side (H : Fin 8 → FVec Ideal S128x64 .f32) (h : Fin 8) (x : S128x64.Idx) (y : S128x512.Idx)
    (h0 : (y 0).val = (x 0).val) (h1 : (y 1).val = 64 * h.val + (x 1).val) : H h x = side H y := by
  have hx : (x 1).val < 64 := (x 1).isLt
  unfold side
  have e : (⟨(y 1).val / 64, by have : (y 1).val < 512 := (y 1).isLt; omega⟩ : Fin 8) = h := Fin.ext (by show (y 1).val / 64 = h.val; omega)
  rw [e]
  refine congrArg (H h) ?_
  funext a
  match a with
  | ⟨0, _⟩ => exact Fin.ext h0.symm
  | ⟨1, _⟩ => exact Fin.ext (by show (x 1).val = (y 1).val % 64; omega)

theorem side_ix (H : Fin 8 → FVec Ideal S128x64 .f32) (i : Fin 128) (n : Fin 512) :
    side H (ix2 i n) = H ⟨n.val / 64, by omega⟩ (ix2 i ⟨n.val % 64, by omega⟩) := rfl

/-- The scratch, read back. -/
theorem pieces_read (t : Fin cfg0.N) (y : S128x512.Idx) : View.canon (pieces m c t) y = side (headAt m c t) y := by
  unfold pieces
  generalize headAt m c t = H
  have h := View.canon_append_of_piecesOf (side H) []
    [⟨Rect.unit ![0, 448] ![128, 64] inb_S128x512_S128x64_0_448, H 7⟩,
     ⟨Rect.unit ![0, 384] ![128, 64] inb_S128x512_S128x64_0_384, H 6⟩,
     ⟨Rect.unit ![0, 320] ![128, 64] inb_S128x512_S128x64_0_320, H 5⟩,
     ⟨Rect.unit ![0, 256] ![128, 64] inb_S128x512_S128x64_0_256, H 4⟩,
     ⟨Rect.unit ![0, 192] ![128, 64] inb_S128x512_S128x64_0_192, H 3⟩,
     ⟨Rect.unit ![0, 128] ![128, 64] inb_S128x512_S128x64_0_128, H 2⟩,
     ⟨Rect.unit ![0, 64] ![128, 64] inb_S128x512_S128x64_0_64, H 1⟩,
     ⟨Rect.unit ![0, 0] ![128, 64] inb_S128x512_S128x64_0_0, H 0⟩]
    (by
      refine ⟨fun x => ?_, fun x => ?_, fun x => ?_, fun x => ?_, fun x => ?_, fun x => ?_, fun x => ?_, fun x => ?_, trivial⟩ <;>
        exact piece_side H _ x _ (by rw [Rect.emb_apply]; exact (Nat.zero_add _).trans (Nat.one_mul _))
          (by rw [Rect.emb_apply]; exact congrArg (HAdd.hAdd _) (Nat.one_mul _)))
    y (View.cover_of_tiled_head _ _ _ rfl y)
  rwa [List.append_nil] at h

/-- A whole-shape load's index. -/
theorem whole_idx (y : S128x512.Idx) :
    (Rect.unit (s := S128x512) ![0, 0] S128x512.size inb_S128x512_S128x512_0_0).toLoadRect.idx y = y := by
  funext a
  match a with
  | ⟨0, _⟩ => exact Fin.ext ((Nat.zero_add _).trans (Nat.one_mul _))
  | ⟨1, _⟩ => exact Fin.ext ((Nat.zero_add _).trans (Nat.one_mul _))

/-- The attention's block at a point: the specification's result for the point's rows. -/
theorem block13 (hf : Finite m c) (t : Fin cfg0.N) (r : Fin 8) (n : Fin 512) :
    (outsAt0 m c t).1 (ix2 r n) = Cert.Attn.result (arrays m c) (batch t) r n := by
  have hb : ∀ n : Fin 512, side (headAt m c t) (ix2 (row r) n) = Cert.Attn.flat (arrays m c) (batch t) r n := fun n => by
    have e : keyOf ⟨n.val / 64, by omega⟩ = ⟨n.val / 256, by omega⟩ := Fin.ext (by show n.val / 64 / 4 = n.val / 256; omega)
    rw [side_ix, headAt_apply m c hf, e]
    rfl
  rw [out13]
  simp only [whole_idx, pieces_read]
  generalize side (headAt m c t) = z at hb ⊢
  pointwise [k0_pay1, k0_pay122, k0_pay123]
  rw [blk12]
  have hr : (⟨r.val, by omega⟩ : Fin 128) = row r := rfl
  simp only [hr, hb]
  rfl

/-- The new keys' block at a point. -/
theorem block14 (hf : Finite m c) (t : Fin cfg0.N) (r : Fin 8) (p : Fin 2) (d : Fin 64) :
    (outsAt0 m c t).2 (ix2 r (lane p d)) = Cert.Attn.key (arrays m c) (batch t) r p d := by
  rw [out14]
  refine Eq.trans ?_ (newK_apply m c hf t r p d)
  generalize newK m c t = z
  pointwise [k0_pay2]
  rfl

end Cert.KernelIdeal.Attn

end
-- ==== Proof.Attn.Final.lean ====
/-
  The attention's two result arrays after the run, and what the precondition says of the argument.
-/
module

public import proofs.«01_k».proof.Defs
public import proofs.«01_k».proof.Proof.Attn.Value
public import proofs.«01_k».proof.Proof.Gen.KernelIdeal.Value
public import proofs.«01_k».proof.Proof.Gen.Pre_finite_qk
public import Idealize.ShloMosaic.Lib.ReduceAll

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Tactic

variable (m : (ℓ : Loc nD τ sig) → Buf (Elt Ideal) ℓ) (c : Dev nD)

/-- The attention's result as an array: sequence `i / 8`, row `i % 8` of it. -/
def results : S1024x512.Idx → Elt Ideal .bf16 := fun i =>
  Cert.Attn.result (arrays m c) ⟨(i 0).val / 8, by have : (i 0).val < 1024 := (i 0).isLt; omega⟩ ⟨(i 0).val % 8, by omega⟩
    ⟨(i 1).val, (i 1).isLt⟩

/-- The new keys as an array. -/
def keys : S1024x128.Idx → Elt Ideal .f32 := fun i =>
  Cert.Attn.key (arrays m c) ⟨(i 0).val / 8, by have : (i 0).val < 1024 := (i 0).isLt; omega⟩ ⟨(i 0).val % 8, by omega⟩
    ⟨(i 1).val / 64, by have : (i 1).val < 128 := (i 1).isLt; omega⟩ ⟨(i 1).val % 64, by omega⟩

theorem idx13 : ∀ t, win0_13.index t 0 = t.val ∧ win0_13.index t 1 = 0 := by decide +kernel
theorem idx14 : ∀ t, win0_14.index t 0 = t.val ∧ win0_14.index t 1 = 0 := by decide +kernel

theorem results_at (b : Fin 128) (r : Fin 8) (n : Fin 512) (i : S1024x512.Idx)
    (h0 : (i 0).val = 8 * b.val + r.val) (h1 : (i 1).val = n.val) : results m c i = Cert.Attn.result (arrays m c) b r n := by
  have e0 : (⟨(i 0).val / 8, by have : (i 0).val < 1024 := (i 0).isLt; omega⟩ : Fin 128) = b := Fin.ext (by show (i 0).val / 8 = b.val; omega)
  have e1 : (⟨(i 0).val % 8, by omega⟩ : Fin 8) = r := Fin.ext (by show (i 0).val % 8 = r.val; omega)
  have e2 : (⟨(i 1).val, (i 1).isLt⟩ : Fin 512) = n := Fin.ext h1
  unfold results
  rw [e0, e1]
  exact congrArg _ e2

theorem keys_at (b : Fin 128) (r : Fin 8) (p : Fin 2) (d : Fin 64) (i : S1024x128.Idx)
    (h0 : (i 0).val = 8 * b.val + r.val) (h1 : (i 1).val = 64 * p.val + d.val) :
    keys m c i = Cert.Attn.key (arrays m c) b r p d := by
  have e0 : (⟨(i 0).val / 8, by have : (i 0).val < 1024 := (i 0).isLt; omega⟩ : Fin 128) = b := Fin.ext (by show (i 0).val / 8 = b.val; omega)
  have e1 : (⟨(i 0).val % 8, by omega⟩ : Fin 8) = r := Fin.ext (by show (i 0).val % 8 = r.val; omega)
  have e2 : (⟨(i 1).val / 64, by have : (i 1).val < 128 := (i 1).isLt; omega⟩ : Fin 2) = p := Fin.ext (by show (i 1).val / 64 = p.val; omega)
  have e3 : (⟨(i 1).val % 64, by omega⟩ : Fin 64) = d := Fin.ext (by show (i 1).val % 64 = d.val; omega)
  unfold keys
  rw [e0, e1, e2, e3]

/-- After the run the first result array is the specification's. -/
theorem final13 (hf : Finite m c) : (dats m 0 c).arrAt 13 cfg0.N = results m c := by
  refine (dats m 0 c).arrAt_eq_of_covers 13 _ (by decide +kernel) fun t h y => ?_
  obtain ⟨i0, i1⟩ := idx13 t
  have hb := block13 m c hf t
  blk_simp
  rw [after0_13]
  generalize (outsAt0 m c t).1 = z at hb ⊢
  refine Eq.trans ?_ ((hb ⟨(y 0).val, (y 0).isLt⟩ ⟨(y 1).val, (y 1).isLt⟩).trans (results_at m c _ _ _ _ ?_ ?_).symm)
  · refine congrArg z (funext fun a => ?_)
    match a with
    | ⟨0, _⟩ => rfl
    | ⟨1, _⟩ => rfl
  · show _ = 8 * t.val + (y 0).val
    blk_simp
    rw [i0]; omega
  · show _ = (y 1).val
    blk_simp
    rw [i1]; omega

/-- After the run the second result array is the new keys. -/
theorem final14 (hf : Finite m c) : (dats m 0 c).arrAt 14 cfg0.N = keys m c := by
  refine (dats m 0 c).arrAt_eq_of_covers 14 _ (by decide +kernel) fun t h y => ?_
  obtain ⟨i0, i1⟩ := idx14 t
  have hb := block14 m c hf t
  have hy : (y 1).val < 128 := (y 1).isLt
  blk_simp
  rw [after0_14]
  generalize (outsAt0 m c t).2 = z at hb ⊢
  refine Eq.trans ?_ ((hb ⟨(y 0).val, (y 0).isLt⟩ ⟨(y 1).val / 64, by omega⟩ ⟨(y 1).val % 64, by omega⟩).trans
    (keys_at m c _ _ _ _ _ ?_ ?_).symm)
  · refine congrArg z (funext fun a => ?_)
    match a with
    | ⟨0, _⟩ => rfl
    | ⟨1, _⟩ => exact Fin.ext (by show (y 1).val = 64 * ((y 1).val / 64) + (y 1).val % 64; omega)
  · show _ = 8 * t.val + (y 0).val
    blk_simp
    rw [i0]; omega
  · show _ = 64 * ((y 1).val / 64) + (y 1).val % 64
    blk_simp
    rw [i1]; omega

theorem finite_of_abs_lt {x : Ideal .f32}
    (h : BitVec.ofBool (decide (FloatOps.absf x < (Ideal.ofBits FTy.f32 0x7F800000#32 : EReal))) = 1#1) :
    x ≠ (⊤ : EReal) ∧ x ≠ (⊥ : EReal) := by
  have htop : Ideal.ofBits .f32 0x7F800000#32 = ⊤ := by simp [Ideal.ofBits, Ideal.ieee]
  have h1 : max (x : EReal) (-(x : EReal)) < (⊤ : EReal) := by
    by_contra hn
    rw [htop] at h
    exact absurd (h.symm.trans (congrArg BitVec.ofBool (decide_eq_false hn))) (by decide)
  refine ⟨fun e => ?_, fun e => ?_⟩ <;> rw [e] at h1 <;> simp at h1

/-- The precondition, read: every query and new key is finite. -/
theorem finite_of_pre (h : Cert.Pre_KernelIdeal_finite_qk m) : Finite m c := fun i j => by
  have h0 := congrFun (h c) ix0
  unfold Cert.Pre_finite_qk.fn at h0
  have h1 := Host.reduce_andi_all _ _ _ _ _ h0 (ix2 i j)
  revert h1
  pointwise
  generalize m (c.tc.loc main_arg0) = x
  intro h1
  exact finite_of_abs_lt h1

end Cert.KernelIdeal.Attn

end
-- ==== Proof.Attn.Ref.lean ====
/-
  The reference's attention, read at an index stage by stage: it is the function `Cert.Attn.result` and its new keys
  `Cert.Attn.key`.
-/
module

public import proofs.«01_k».proof.Proof.Gen.ReferenceIdeal.Read
public import proofs.«01_k».proof.Proof.Attn.Spec
public import Idealize.ShloMosaic.Lib.Pointwise

@[expose] public section

set_option maxRecDepth 16384

noncomputable section

namespace Cert.ReferenceIdeal.Attn

open Cert.ReferenceIdeal Cert.ReferenceIdeal.Gen Cert.ReferenceIdeal.Read Idealize.ShloMosaic Idealize.ShloMosaic.TcCoe
open Idealize.SL.Sem Idealize.ShloMosaic.Tactic

variable (x0 : (⟨S34304x2560, .f32⟩ : BufTy).Contents (Elt Ideal)) (x1 x2 : (⟨S128x16x2x64, .f32⟩ : BufTy).Contents (Elt Ideal))
  (x3 x4 : (⟨S128x128x2x64, .f32⟩ : BufTy).Contents (Elt Ideal)) (x5 x6 : (⟨S64, .f32⟩ : BufTy).Contents (Elt Ideal))
  (x7 : (⟨S8, .f32⟩ : BufTy).Contents (Elt Ideal)) (x8 : (⟨S512, .f32⟩ : BufTy).Contents (Elt Ideal))

/-- The arguments as the specification's arrays: the sample rows' three groups of columns, the caches, the weights. -/
def arrays : Cert.Attn.Arrays where
  Q b r h d := x0 (ix2 ⟨32768 + (b.val * 8 + r.val), by omega⟩ ⟨1536 + (h.val * 64 + d.val), by omega⟩)
  K b r g d := x0 (ix2 ⟨32768 + (b.val * 8 + r.val), by omega⟩ ⟨2048 + (g.val * 64 + d.val), by omega⟩)
  V b r g d := x0 (ix2 ⟨32768 + (b.val * 8 + r.val), by omega⟩ ⟨2176 + (g.val * 64 + d.val), by omega⟩)
  MK b j g d := x1 (ix4 b j g d)
  MV b j g d := x2 (ix4 b j g d)
  WK b j g d := x3 (ix4 b j g d)
  WV b j g d := x4 (ix4 b j g d)
  qw d := x5 (ix1 d)
  kw d := x6 (ix1 d)
  sk h := x7 (ix1 h)
  aw n := x8 (ix1 n)

/-- The angle's table of the queries … -/
theorem angleQ (r : Fin 8) (d : Fin 32) : val_main_v32 (F := Ideal) (ix2 r d) * val_main_v33 (F := Ideal) (ix2 r d) = Cert.Attn.angle r d := by
  pointwise [val_main_v0, val_main_v1, val_main_v2, val_main_v23, val_main_v24, val_main_v25, val_main_v26, val_main_v27, val_main_v28, val_main_v29, val_main_v30, val_main_v31, val_main_v32, val_main_v33, val_main_c, val_main_c_9, val_main_c_10, val_main_c_11, val_main_cst, val_main_cst_0, val_main_cst_1, val_main_cst_2, val_main_cst_3, val_main_cst_4, val_main_cst_5, val_main_cst_6, val_main_cst_7, val_main_cst_8, val_main_cst_12, val_main_cst_13, val_main_cst_14, val_main_cst_15, val_main_cst_16, val_main_cst_17, val_main_cst_18]
  rfl

/-- … and of the keys. -/
theorem angleK (r : Fin 8) (d : Fin 32) : val_main_v78 (F := Ideal) (ix2 r d) * val_main_v79 (F := Ideal) (ix2 r d) = Cert.Attn.angle r d := by
  pointwise [val_main_v0, val_main_v1, val_main_v2, val_main_v69, val_main_v70, val_main_v71, val_main_v72, val_main_v73, val_main_v74, val_main_v75, val_main_v76, val_main_v77, val_main_v78, val_main_v79, val_main_c, val_main_c_9, val_main_c_10, val_main_c_11, val_main_cst, val_main_cst_0, val_main_cst_1, val_main_cst_2, val_main_cst_3, val_main_cst_4, val_main_cst_5, val_main_cst_6, val_main_cst_7, val_main_cst_8, val_main_cst_12, val_main_cst_13, val_main_cst_14, val_main_cst_15, val_main_cst_16, val_main_cst_17, val_main_cst_18]
  rfl

/-- The normalised queries. -/
theorem normQ (b : Fin 128) (r h : Fin 8) (d : Fin 64) :
    val_main_v22 x0 x5 (ix4 b r h d) = Cert.Attn.normed ((arrays x0 x1 x2 x3 x4 x5 x6 x7 x8).Q b r h) (arrays x0 x1 x2 x3 x4 x5 x6 x7 x8).qw d := by
  pointwise [val_main_v3, val_main_v4, val_main_v5, val_main_v6, val_main_v10, val_main_v11, val_main_v12, val_main_v13, val_main_v14, val_main_v15, val_main_v16, val_main_v17, val_main_v18, val_main_v19, val_main_v20, val_main_v21, val_main_v22, val_main_cst, val_main_cst_0, val_main_cst_1, val_main_cst_2, val_main_cst_3, val_main_cst_4, val_main_cst_5, val_main_cst_6, val_main_cst_7, val_main_cst_8, val_main_cst_12, val_main_cst_13, val_main_cst_14, val_main_cst_15, val_main_cst_16, val_main_cst_17, val_main_cst_18]
  rfl

/-- The normalised new keys. -/
theorem normK (b : Fin 128) (r : Fin 8) (g : Fin 2) (d : Fin 64) :
    val_main_v68 x0 x6 (ix4 b r g d) = Cert.Attn.normed ((arrays x0 x1 x2 x3 x4 x5 x6 x7 x8).K b r g) (arrays x0 x1 x2 x3 x4 x5 x6 x7 x8).kw d := by
  pointwise [val_main_v3, val_main_v6, val_main_v7, val_main_v56, val_main_v57, val_main_v58, val_main_v59, val_main_v60, val_main_v61, val_main_v62, val_main_v63, val_main_v64, val_main_v65, val_main_v66, val_main_v67, val_main_v68, val_main_cst, val_main_cst_0, val_main_cst_1, val_main_cst_2, val_main_cst_3, val_main_cst_4, val_main_cst_5, val_main_cst_6, val_main_cst_7, val_main_cst_8, val_main_cst_12, val_main_cst_13, val_main_cst_14, val_main_cst_15, val_main_cst_16, val_main_cst_17, val_main_cst_18]
  rfl

/-- The queries. -/
theorem queryEq (b : Fin 128) (r h : Fin 8) (d : Fin 64) : val_main_v55 x0 x5 (ix4 b r h d) = Cert.Attn.query (arrays x0 x1 x2 x3 x4 x5 x6 x7 x8) b r h d := by
  pointwise [val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55]
  simp only [angleQ, normQ x0 x1 x2 x3 x4 x5 x6 x7 x8]
  rfl

/-- The new keys. -/
theorem keyEq (b : Fin 128) (r : Fin 8) (g : Fin 2) (d : Fin 64) : val_main_v101 x0 x6 (ix4 b r g d) = Cert.Attn.key (arrays x0 x1 x2 x3 x4 x5 x6 x7 x8) b r g d := by
  pointwise [val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101]
  simp only [angleK, normK x0 x1 x2 x3 x4 x5 x6 x7 x8]
  rfl

/-- The band's positions. -/
theorem band (j : Fin 136) : val_main_v105 (F := Ideal) (ix1 j) = BitVec.ofNat 32 (16256 + j.val) := by
  pointwise [val_main_v105, val_main_v102, val_main_v103, val_main_v104, val_main_v0, val_main_v1, val_main_v2, val_main_c, val_main_c_9, val_main_c_10, val_main_c_11]
  revert j
  decide +kernel

/-- The meta keys are always visible. -/
theorem visM (r : Fin 8) (j : Fin 16) : val_main_v113 (F := Ideal) (ix2 r j) = 1#1 := by
  pointwise [val_main_v108, val_main_v109, val_main_v110, val_main_v111, val_main_v112, val_main_v113, val_main_v0, val_main_v1, val_main_v2, val_main_c, val_main_c_9, val_main_c_10, val_main_c_11]
  revert r j
  decide +kernel

/-- A position of the band is visible when it lies after the row's window begins and not after the row. -/
theorem visB (r : Fin 8) (j : Fin 136) :
    val_main_v127 (F := Ideal) (ix2 r j) = if r.val < j.val ∧ j.val ≤ r.val + 128 then 1#1 else 0#1 := by
  pointwise [val_main_v114, val_main_v115, val_main_v116, val_main_v117, val_main_v118, val_main_v119, val_main_v120, val_main_v121, val_main_v122, val_main_v123, val_main_v124, val_main_v125, val_main_v126, val_main_v127, val_main_v109, val_main_v0, val_main_v1, val_main_v2, val_main_c, val_main_c_9, val_main_c_10, val_main_c_11]
  rw [band]
  revert r j
  decide +kernel

/-- The head `4 g + u`. -/
def hd (g : Fin 2) (u : Fin 4) : Fin 8 := ⟨g.val * 4 + u.val, by omega⟩

/-- The masked scores of a row of 152 keys. -/
def sc (b : Fin 128) (g : Fin 2) (u : Fin 4) (r : Fin 8) (j : Fin 152) : EReal := val_main_v137 x0 x1 x3 x5 x6 (ix5 b g u r j)

/-- One of them. -/
theorem sc_eq (b : Fin 128) (g : Fin 2) (u : Fin 4) (r : Fin 8) (j : Fin 152) : sc x0 x1 x3 x5 x6 b g u r j =
    Scalar.select (if h : j.val < 16 then 1#1 else if r.val < j.val - 16 ∧ j.val - 16 ≤ r.val + 128 then 1#1 else 0#1)
      (Cert.Attn.score (Cert.Attn.query (arrays x0 x1 x2 x3 x4 x5 x6 x7 x8) b r (hd g u)) fun d => if h : j.val < 16 then x1 (ix4 b ⟨j.val, h⟩ g d)
        else if h : j.val - 16 < 128 then x3 (ix4 b ⟨j.val - 16, h⟩ g d) else Cert.Attn.key (arrays x0 x1 x2 x3 x4 x5 x6 x7 x8) b ⟨j.val - 16 - 128, by omega⟩ g d) ⊥ := by
  have hbot : Ideal.ofBits FTy.f32 4286578688#32 = ⊥ := by simp [Ideal.ofBits, Ideal.ieee]
  pointwise [sc, val_main_v137, val_main_call0_v0, val_main_call0_v1, val_main_call0_v2, val_main_v128, val_main_v129, val_main_v130, val_main_v131, val_main_v132, val_main_v133, val_main_v134, val_main_v106, val_main_v135, val_main_v136, val_main_cst, val_main_cst_0, val_main_cst_1, val_main_cst_2, val_main_cst_3, val_main_cst_4, val_main_cst_5, val_main_cst_6, val_main_cst_7, val_main_cst_8, val_main_cst_12, val_main_cst_13, val_main_cst_14, val_main_cst_15, val_main_cst_16, val_main_cst_17, val_main_cst_18]
  simp only [id, constant, queryEq x0 x1 x2 x3 x4 x5 x6 x7 x8, keyEq x0 x1 x2 x3 x4 x5 x6 x7 x8, visM, visB]
  refine congrArg₂ (Scalar.select _) ?_ hbot
  unfold Cert.Attn.score
  refine congrArg (· * _) ?_
  by_cases h : j.val < 16
  · simp only [h, dite_true]; rfl
  · simp only [h, dite_false]; rfl

theorem sc_meta (b : Fin 128) (g : Fin 2) (u : Fin 4) (r : Fin 8) (j : Fin 16) :
    sc x0 x1 x3 x5 x6 b g u r ⟨j.val, by omega⟩ = Cert.Attn.scM (arrays x0 x1 x2 x3 x4 x5 x6 x7 x8) b r (hd g u) g j := by
  rw [sc_eq x0 x1 x2 x3 x4 x5 x6 x7 x8]
  simp only [j.isLt, dite_true]
  rfl

theorem sc_window (b : Fin 128) (g : Fin 2) (u : Fin 4) (r : Fin 8) (j : Fin 128) :
    sc x0 x1 x3 x5 x6 b g u r ⟨16 + j.val, by omega⟩ = Cert.Attn.scP (arrays x0 x1 x2 x3 x4 x5 x6 x7 x8) b r (hd g u) g j := by
  have h : ¬ 16 + j.val < 16 := by omega
  have e : 16 + j.val - 16 = j.val := by omega
  rw [sc_eq x0 x1 x2 x3 x4 x5 x6 x7 x8]
  unfold Cert.Attn.scP
  by_cases hj : r.val < j.val
  · have : r.val < j.val ∧ j.val ≤ r.val + 128 := ⟨hj, by omega⟩
    simp only [h, e, j.isLt, dite_true, dite_false, if_pos this, if_pos hj]
    rfl
  · have : ¬ (r.val < j.val ∧ j.val ≤ r.val + 128) := fun h => hj h.1
    simp only [h, e, j.isLt, dite_true, dite_false, if_neg this, if_neg hj]
    rfl

theorem sc_new (b : Fin 128) (g : Fin 2) (u : Fin 4) (r : Fin 8) (j : Fin 8) :
    sc x0 x1 x3 x5 x6 b g u r ⟨16 + (128 + j.val), by omega⟩ = Cert.Attn.scC (arrays x0 x1 x2 x3 x4 x5 x6 x7 x8) b r (hd g u) g j := by
  have h : ¬ 16 + (128 + j.val) < 16 := by omega
  have h' : ¬ 128 + j.val < 128 := by omega
  have e : 16 + (128 + j.val) - 16 = 128 + j.val := by omega
  have e' : 128 + j.val - 128 = j.val := by omega
  rw [sc_eq x0 x1 x2 x3 x4 x5 x6 x7 x8]
  unfold Cert.Attn.scC
  by_cases hj : j.val ≤ r.val
  · have : r.val < 128 + j.val ∧ 128 + j.val ≤ r.val + 128 := ⟨by omega, by omega⟩
    simp only [h, h', e, e', dite_false, if_pos this, if_pos hj]
    rfl
  · have : ¬ (r.val < 128 + j.val ∧ 128 + j.val ≤ r.val + 128) := fun h => hj (by omega)
    simp only [h, h', e, e', dite_false, if_neg this, if_neg hj]
    rfl

/-- The greatest of the row's scores and the sink. -/
theorem top_sc (b : Fin 128) (g : Fin 2) (u : Fin 4) (r : Fin 8) :
    max (Cert.Attn.greatest (sc x0 x1 x3 x5 x6 b g u r)) ((arrays x0 x1 x2 x3 x4 x5 x6 x7 x8).sk (hd g u)) = Cert.Attn.rowTop (arrays x0 x1 x2 x3 x4 x5 x6 x7 x8) b r (hd g u) g := by
  rw [Cert.Attn.greatest_row]
  simp only [sc_meta x0 x1 x2 x3 x4 x5 x6 x7 x8, sc_window x0 x1 x2 x3 x4 x5 x6 x7 x8, sc_new x0 x1 x2 x3 x4 x5 x6 x7 x8]
  unfold Cert.Attn.rowTop Cert.Attn.top
  simp only [max_assoc]

/-- The row's greatest score, before the sink. -/
theorem maxEq (b : Fin 128) (g : Fin 2) (u : Fin 4) (r : Fin 8) :
    val_main_v140 x0 x1 x3 x5 x6 (ix4 b g u r) = Cert.Attn.greatest (sc x0 x1 x3 x5 x6 b g u r) := by
  have hbot : Ideal.ofBits FTy.f32 4286578688#32 = ⊥ := by simp [Ideal.ofBits, Ideal.ieee]
  pointwise [val_main_v140, val_main_cst, val_main_cst_0, val_main_cst_1, val_main_cst_2, val_main_cst_3, val_main_cst_4, val_main_cst_5, val_main_cst_6, val_main_cst_7, val_main_cst_8, val_main_cst_12, val_main_cst_13, val_main_cst_14, val_main_cst_15, val_main_cst_16, val_main_cst_17, val_main_cst_18]
  rw [hbot]
  rfl

/-- The sink of one head. -/
theorem sinkRead (g : Fin 2) (u : Fin 4) : val_main_v139 x7 (ix4 g u 0 0) = x7 (ix1 (hd g u)) := by
  have e : idx_main_v138 (idx_main_v139 (ix4 g u 0 0)) = ix1 (hd g u) := by
    funext a; match a with | ⟨0, _⟩ => rfl
  rw [val_main_v139_apply, val_main_v138_apply, e]

/-- The row's greatest score. -/
theorem rowTopEq (b : Fin 128) (g : Fin 2) (u : Fin 4) (r : Fin 8) :
    val_main_v144 x0 x1 x3 x5 x6 x7 (ix5 b g u r 0) = Cert.Attn.rowTop (arrays x0 x1 x2 x3 x4 x5 x6 x7 x8) b r (hd g u) g := by
  have e1 : idx_main_v141 (ix5 b g u r 0) = ix4 b g u r := by
    funext a; match a with | ⟨0, _⟩ => rfl | ⟨1, _⟩ => rfl | ⟨2, _⟩ => rfl | ⟨3, _⟩ => rfl
  have e2 : idx_main_v142 (idx_main_v143 (ix5 b g u r 0)) = ix4 g u 0 0 := by
    funext a; match a with | ⟨0, _⟩ => rfl | ⟨1, _⟩ => rfl | ⟨2, _⟩ => rfl | ⟨3, _⟩ => rfl
  rw [val_main_v144_apply, val_main_v141_apply, val_main_v143_apply, val_main_v142_apply, e1, e2, sinkRead, maxEq,
    ← top_sc x0 x1 x2 x3 x4 x5 x6 x7 x8]
  exact Ideal.maximumf_def _ _

/-- One score's exponential. -/
theorem expRead (b : Fin 128) (g : Fin 2) (u : Fin 4) (r : Fin 8) (j : Fin 152) :
    val_main_v147 x0 x1 x3 x5 x6 x7 (ix5 b g u r j) =
      Ideal.exp (sc x0 x1 x3 x5 x6 b g u r j - Cert.Attn.rowTop (arrays x0 x1 x2 x3 x4 x5 x6 x7 x8) b r (hd g u) g) := by
  have e1 : idx_main_v145 (ix5 b g u r j) = ix5 b g u r 0 := by
    funext a; match a with | ⟨0, _⟩ => rfl | ⟨1, _⟩ => rfl | ⟨2, _⟩ => rfl | ⟨3, _⟩ => rfl | ⟨4, _⟩ => rfl
  rw [val_main_v147_apply, val_main_v146_apply, val_main_v145_apply, e1, rowTopEq x0 x1 x2 x3 x4 x5 x6 x7 x8]
  rfl

/-- The row's divisor: the exponentials' sum with the sink's. -/
theorem totalRead (b : Fin 128) (g : Fin 2) (u : Fin 4) (r : Fin 8) :
    val_main_v154 x0 x1 x3 x5 x6 x7 (ix5 b g u r 0) =
        Cert.Attn.total (Cert.Attn.scM (arrays x0 x1 x2 x3 x4 x5 x6 x7 x8) b r (hd g u) g) (Cert.Attn.scP (arrays x0 x1 x2 x3 x4 x5 x6 x7 x8) b r (hd g u) g) (Cert.Attn.scC (arrays x0 x1 x2 x3 x4 x5 x6 x7 x8) b r (hd g u) g)
          ((arrays x0 x1 x2 x3 x4 x5 x6 x7 x8).sk (hd g u)) (Cert.Attn.rowTop (arrays x0 x1 x2 x3 x4 x5 x6 x7 x8) b r (hd g u) g) := by
  have ht := Cert.Attn.sum_row (fun j => Ideal.exp (sc x0 x1 x3 x5 x6 b g u r j - Cert.Attn.rowTop (arrays x0 x1 x2 x3 x4 x5 x6 x7 x8) b r (hd g u) g))
  simp only [sc_meta x0 x1 x2 x3 x4 x5 x6 x7 x8, sc_window x0 x1 x2 x3 x4 x5 x6 x7 x8, sc_new x0 x1 x2 x3 x4 x5 x6 x7 x8] at ht
  have e1 : idx_main_v149 (ix5 b g u r 0) = ix4 b g u r := by
    funext a; match a with | ⟨0, _⟩ => rfl | ⟨1, _⟩ => rfl | ⟨2, _⟩ => rfl | ⟨3, _⟩ => rfl
  have e2 : idx_main_v150 (idx_main_v151 (ix5 b g u r 0)) = ix4 g u 0 0 := by
    funext a; match a with | ⟨0, _⟩ => rfl | ⟨1, _⟩ => rfl | ⟨2, _⟩ => rfl | ⟨3, _⟩ => rfl
  have e3 : ∀ k : Fin 152, idx_main_v148 (ix4 b g u r) k = ix5 b g u r k := fun k => by
    funext a; match a with | ⟨0, _⟩ => rfl | ⟨1, _⟩ => rfl | ⟨2, _⟩ => rfl | ⟨3, _⟩ => rfl | ⟨4, _⟩ => rfl
  have h0 : val_main_cst_15 (F := Ideal) (Shape.Idx.first h_S_) = 0 := by
    show Ideal.ofBits FTy.f32 0#32 = 0
    simp [Ideal.ofBits, Ideal.ieee]
  rw [val_main_v154_apply, val_main_v149_apply, val_main_v153_apply, val_main_v152_apply, val_main_v151_apply,
    val_main_v150_apply, e1, e2, sinkRead, rowTopEq x0 x1 x2 x3 x4 x5 x6 x7 x8, val_main_v148_apply, h0]
  simp only [e3, expRead x0 x1 x2 x3 x4 x5 x6 x7 x8, ht]
  rw [zero_add]
  rfl

/-- The probabilities. -/
theorem probEq (b : Fin 128) (g : Fin 2) (u : Fin 4) (r : Fin 8) (j : Fin 152) :
    val_main_v156 x0 x1 x3 x5 x6 x7 (ix5 b g u r j) =
      Ideal.div (Ideal.exp (sc x0 x1 x3 x5 x6 b g u r j - Cert.Attn.rowTop (arrays x0 x1 x2 x3 x4 x5 x6 x7 x8) b r (hd g u) g))
        (Cert.Attn.total (Cert.Attn.scM (arrays x0 x1 x2 x3 x4 x5 x6 x7 x8) b r (hd g u) g) (Cert.Attn.scP (arrays x0 x1 x2 x3 x4 x5 x6 x7 x8) b r (hd g u) g) (Cert.Attn.scC (arrays x0 x1 x2 x3 x4 x5 x6 x7 x8) b r (hd g u) g)
          ((arrays x0 x1 x2 x3 x4 x5 x6 x7 x8).sk (hd g u)) (Cert.Attn.rowTop (arrays x0 x1 x2 x3 x4 x5 x6 x7 x8) b r (hd g u) g)) := by
  have e1 : idx_main_v155 (ix5 b g u r j) = ix5 b g u r 0 := by
    funext a; match a with | ⟨0, _⟩ => rfl | ⟨1, _⟩ => rfl | ⟨2, _⟩ => rfl | ⟨3, _⟩ => rfl | ⟨4, _⟩ => rfl
  rw [val_main_v156_apply, val_main_v155_apply, e1, expRead x0 x1 x2 x3 x4 x5 x6 x7 x8, totalRead x0 x1 x2 x3 x4 x5 x6 x7 x8]
  rfl

/-- The heads' outputs side by side, from the probabilities. -/
theorem flatRead (b : Fin 128) (r : Fin 8) (n : Fin 512) :
    val_main_v164 x0 x1 x2 x3 x4 x5 x6 x7 (ix3 b r n) =
      (∑ j : Fin 16, x2 (ix4 b j ⟨n.val / 256, by omega⟩ ⟨n.val % 64, by omega⟩) *
        val_main_v156 x0 x1 x3 x5 x6 x7 (ix5 b ⟨n.val / 256, by omega⟩ ⟨n.val / 64 % 4, by omega⟩ r ⟨j.val, by omega⟩)) +
      ∑ j : Fin 136, val_main_v107 x0 x4 (ix4 b j ⟨n.val / 256, by omega⟩ ⟨n.val % 64, by omega⟩) *
        val_main_v156 x0 x1 x3 x5 x6 x7 (ix5 b ⟨n.val / 256, by omega⟩ ⟨n.val / 64 % 4, by omega⟩ r ⟨16 + j.val, by omega⟩) := by
  have e : idx_main_v164 (ix3 b r n) = ix5 b r ⟨n.val / 256, by omega⟩ ⟨n.val / 64 % 4, by omega⟩ ⟨n.val % 64, by omega⟩ := by
    funext a
    match a with
    | ⟨0, _⟩ => exact Fin.ext (by show ((b.val * 8 + r.val) * 512 + n.val) / 4096 = b.val; omega)
    | ⟨1, _⟩ => exact Fin.ext (by show ((b.val * 8 + r.val) * 512 + n.val) / 512 % 8 = r.val; omega)
    | ⟨2, _⟩ => exact Fin.ext (by show ((b.val * 8 + r.val) * 512 + n.val) / 256 % 2 = n.val / 256; omega)
    | ⟨3, _⟩ => exact Fin.ext (by show ((b.val * 8 + r.val) * 512 + n.val) / 64 % 4 = n.val / 64 % 4; omega)
    | ⟨4, _⟩ => exact Fin.ext (by show ((b.val * 8 + r.val) * 512 + n.val) % 64 = n.val % 64; omega)
  rw [val_main_v164_apply, val_main_v163_apply, val_main_v159_apply, val_main_v162_apply, val_main_v158_apply, val_main_v161_apply, e]
  simp only [val_main_v157_apply, val_main_v160_apply]
  refine congrArg₂ HAdd.hAdd (Finset.sum_congr rfl fun j _ => ?_) (Finset.sum_congr rfl fun j _ => ?_)
  · refine congrArg₂ HMul.hMul (congrArg x2 ?_) (congrArg (val_main_v156 x0 x1 x3 x5 x6 x7) ?_)
    · funext a; match a with | ⟨0, _⟩ => rfl | ⟨1, _⟩ => rfl | ⟨2, _⟩ => rfl | ⟨3, _⟩ => rfl
    · funext a; match a with | ⟨0, _⟩ => rfl | ⟨1, _⟩ => rfl | ⟨2, _⟩ => rfl | ⟨3, _⟩ => rfl | ⟨4, _⟩ => rfl
  · refine congrArg₂ HMul.hMul (congrArg (val_main_v107 x0 x4) ?_) (congrArg (val_main_v156 x0 x1 x3 x5 x6 x7) ?_)
    · funext a; match a with | ⟨0, _⟩ => rfl | ⟨1, _⟩ => rfl | ⟨2, _⟩ => rfl | ⟨3, _⟩ => rfl
    · funext a; match a with | ⟨0, _⟩ => rfl | ⟨1, _⟩ => rfl | ⟨2, _⟩ => rfl | ⟨3, _⟩ => rfl | ⟨4, _⟩ => rfl

/-- The window's values, then the row's own. -/
theorem valueRead (b : Fin 128) (j : Fin 136) (g : Fin 2) (d : Fin 64) :
    val_main_v107 x0 x4 (ix4 b j g d) = if h : j.val < 128 then (arrays x0 x1 x2 x3 x4 x5 x6 x7 x8).WV b ⟨j.val, h⟩ g d else (arrays x0 x1 x2 x3 x4 x5 x6 x7 x8).V b ⟨j.val - 128, by omega⟩ g d := by
  pointwise [val_main_v107, val_main_v9, val_main_v8, val_main_v3]
  split <;> rfl

/-- The heads' outputs side by side. -/
theorem flatEq (b : Fin 128) (r : Fin 8) (n : Fin 512) :
    val_main_v164 x0 x1 x2 x3 x4 x5 x6 x7 (ix3 b r n) = Cert.Attn.flat (arrays x0 x1 x2 x3 x4 x5 x6 x7 x8) b r n := by
  have hh : hd ⟨n.val / 256, by omega⟩ ⟨n.val / 64 % 4, by omega⟩ = (⟨n.val / 64, by omega⟩ : Fin 8) :=
    Fin.ext (by show n.val / 256 * 4 + n.val / 64 % 4 = n.val / 64; omega)
  rw [flatRead, Cert.Attn.sum_band]
  simp only [probEq x0 x1 x2 x3 x4 x5 x6 x7 x8, sc_meta x0 x1 x2 x3 x4 x5 x6 x7 x8, sc_window x0 x1 x2 x3 x4 x5 x6 x7 x8,
    sc_new x0 x1 x2 x3 x4 x5 x6 x7 x8, hh, valueRead x0 x1 x2 x3 x4 x5 x6 x7 x8]
  unfold Cert.Attn.flat Cert.Attn.out Cert.Attn.mix
  refine Eq.trans ?_ (add_assoc _ _ _).symm
  refine congrArg₂ HAdd.hAdd ?_ (congrArg₂ HAdd.hAdd ?_ ?_)
  · exact Finset.sum_congr rfl fun x _ => mul_comm _ _
  · refine Finset.sum_congr rfl fun x _ => ?_
    rw [dif_pos x.isLt]
    exact mul_comm _ _
  · refine Finset.sum_congr rfl fun x _ => ?_
    rw [dif_neg (by simp)]
    have e : (⟨128 + x.val - 128, by omega⟩ : Fin 8) = x := Fin.ext (by simp)
    rw [e]
    exact mul_comm _ _

/-- The first result. -/
theorem resultEq (b : Fin 128) (r : Fin 8) (n : Fin 512) :
    val_main_v179 x0 x1 x2 x3 x4 x5 x6 x7 x8 (ix2 ⟨8 * b.val + r.val, by omega⟩ n) = Cert.Attn.result (arrays x0 x1 x2 x3 x4 x5 x6 x7 x8) b r n := by
  pointwise [val_main_v165, val_main_v166, val_main_v167, val_main_v168, val_main_v169, val_main_v170, val_main_v171, val_main_v172, val_main_v173, val_main_v174, val_main_v175, val_main_v176, val_main_v177, val_main_v178, val_main_v179, val_main_cst, val_main_cst_0, val_main_cst_1, val_main_cst_2, val_main_cst_3, val_main_cst_4, val_main_cst_5, val_main_cst_6, val_main_cst_7, val_main_cst_8, val_main_cst_12, val_main_cst_13, val_main_cst_14, val_main_cst_15, val_main_cst_16, val_main_cst_17, val_main_cst_18]
  simp only [flatEq x0 x1 x2 x3 x4 x5 x6 x7 x8]
  rfl

/-- The second result. -/
theorem keysEq (b : Fin 128) (r : Fin 8) (g : Fin 2) (d : Fin 64) :
    val_main_v180 x0 x6 (ix2 ⟨8 * b.val + r.val, by omega⟩ ⟨64 * g.val + d.val, by omega⟩) = Cert.Attn.key (arrays x0 x1 x2 x3 x4 x5 x6 x7 x8) b r g d := by
  pointwise [val_main_v180]
  exact keyEq x0 x1 x2 x3 x4 x5 x6 x7 x8 b r g d

end Cert.ReferenceIdeal.Attn

end
-- ==== Proof.Attn.Join.lean ====
/-
  The attention's claims: the reference's two results are the kernel's two result arrays.
-/
module

public import proofs.«01_k».proof.Proof.Attn.Final
public import proofs.«01_k».proof.Proof.Attn.Ref
public import proofs.«01_k».proof.Proof.Gen.ReferenceIdeal.Run
public import Idealize.ShloMosaic.Adequacy

@[expose] public section

set_option maxRecDepth 16384

noncomputable section

namespace Cert.Attn

open Idealize.ShloMosaic Idealize.ShloMosaic.TcCoe Idealize.SL.Sem Cert.ReferenceIdeal Cert.ReferenceIdeal.Read

variable (x0 : (⟨S34304x2560, .f32⟩ : BufTy).Contents (Elt Ideal)) (x1 x2 : (⟨S128x16x2x64, .f32⟩ : BufTy).Contents (Elt Ideal))
  (x3 x4 : (⟨S128x128x2x64, .f32⟩ : BufTy).Contents (Elt Ideal)) (x5 x6 : (⟨S64, .f32⟩ : BufTy).Contents (Elt Ideal))
  (x7 : (⟨S8, .f32⟩ : BufTy).Contents (Elt Ideal)) (x8 : (⟨S512, .f32⟩ : BufTy).Contents (Elt Ideal))
  (m : (ℓ : Loc Cert.KernelIdeal.nD Cert.KernelIdeal.τ Cert.KernelIdeal.sig) → Buf (Elt Ideal) ℓ) (c : Dev Cert.KernelIdeal.nD)

/-- Equal arguments give the specification equal arrays. -/
theorem arrays_eq (h0 : x0 = m ((c.tc : Thread Cert.KernelIdeal.nD Cert.KernelIdeal.τ).loc Cert.KernelIdeal.main_arg0)) (h1 : x1 = m ((c.tc : Thread Cert.KernelIdeal.nD Cert.KernelIdeal.τ).loc Cert.KernelIdeal.main_arg1))
    (h2 : x2 = m ((c.tc : Thread Cert.KernelIdeal.nD Cert.KernelIdeal.τ).loc Cert.KernelIdeal.main_arg2)) (h3 : x3 = m ((c.tc : Thread Cert.KernelIdeal.nD Cert.KernelIdeal.τ).loc Cert.KernelIdeal.main_arg3))
    (h4 : x4 = m ((c.tc : Thread Cert.KernelIdeal.nD Cert.KernelIdeal.τ).loc Cert.KernelIdeal.main_arg4)) (h5 : x5 = m ((c.tc : Thread Cert.KernelIdeal.nD Cert.KernelIdeal.τ).loc Cert.KernelIdeal.main_arg5))
    (h6 : x6 = m ((c.tc : Thread Cert.KernelIdeal.nD Cert.KernelIdeal.τ).loc Cert.KernelIdeal.main_arg6)) (h7 : x7 = m ((c.tc : Thread Cert.KernelIdeal.nD Cert.KernelIdeal.τ).loc Cert.KernelIdeal.main_arg7))
    (h8 : x8 = m ((c.tc : Thread Cert.KernelIdeal.nD Cert.KernelIdeal.τ).loc Cert.KernelIdeal.main_arg8)) :
    Cert.ReferenceIdeal.Attn.arrays x0 x1 x2 x3 x4 x5 x6 x7 x8 = Cert.KernelIdeal.Attn.arrays m c := by
  subst h0 h1 h2 h3 h4 h5 h6 h7 h8
  rfl

/-- The reference's first result is the specification's array … -/
theorem results_eq (h : Cert.ReferenceIdeal.Attn.arrays x0 x1 x2 x3 x4 x5 x6 x7 x8 = Cert.KernelIdeal.Attn.arrays m c) :
    val_main_v179 x0 x1 x2 x3 x4 x5 x6 x7 x8 = Cert.KernelIdeal.Attn.results m c := by
  funext i
  have h0 : (i 0).val < 1024 := (i 0).isLt
  have e := Cert.ReferenceIdeal.Attn.resultEq x0 x1 x2 x3 x4 x5 x6 x7 x8 ⟨(i 0).val / 8, by omega⟩ ⟨(i 0).val % 8, by omega⟩ ⟨(i 1).val, (i 1).isLt⟩
  rw [h] at e
  refine Eq.trans (congrArg (val_main_v179 x0 x1 x2 x3 x4 x5 x6 x7 x8) (funext fun a => ?_)) e
  match a with
  | ⟨0, _⟩ => exact Fin.ext (by show (i 0).val = 8 * ((i 0).val / 8) + (i 0).val % 8; omega)
  | ⟨1, _⟩ => rfl

/-- … and the second the new keys. -/
theorem keys_eq (h : Cert.ReferenceIdeal.Attn.arrays x0 x1 x2 x3 x4 x5 x6 x7 x8 = Cert.KernelIdeal.Attn.arrays m c) :
    val_main_v180 x0 x6 = Cert.KernelIdeal.Attn.keys m c := by
  funext i
  have h0 : (i 0).val < 1024 := (i 0).isLt
  have h1 : (i 1).val < 128 := (i 1).isLt
  have e := Cert.ReferenceIdeal.Attn.keysEq x0 x1 x2 x3 x4 x5 x6 x7 x8 ⟨(i 0).val / 8, by omega⟩ ⟨(i 0).val % 8, by omega⟩
    ⟨(i 1).val / 64, by omega⟩ ⟨(i 1).val % 64, by omega⟩
  rw [h] at e
  refine Eq.trans (congrArg (val_main_v180 x0 x6) (funext fun a => ?_)) e
  match a with
  | ⟨0, _⟩ => exact Fin.ext (by show (i 0).val = 8 * ((i 0).val / 8) + (i 0).val % 8; omega)
  | ⟨1, _⟩ => exact Fin.ext (by show (i 1).val = 64 * ((i 1).val / 64) + (i 1).val % 64; omega)

/-- The reference's run: its arguments end unchanged, and it has no semaphore. -/
theorem reference_frame : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run m ρ)

/-- The kernel's attention and the reference's agree on finite queries and keys. -/
theorem algebraic : Cert.algebraic_KernelIdeal_ReferenceIdeal_pre_finite_qk := fun m g m' g' hpre hm =>
  ⟨fun c => (Cert.KernelIdeal.Gen.dats m 0 c).arrAt 13 Cert.KernelIdeal.cfg0.N,
   fun c => (Cert.KernelIdeal.Gen.dats m 0 c).arrAt 14 Cert.KernelIdeal.cfg0.N,
   Cert.KernelIdeal.Value.run_blocks m g,
   (θ_run Cert.ReferenceIdeal.defs _ _).mono (fun r h c => by
      obtain ⟨h1, h2, h3⟩ := h c
      obtain ⟨e0, e1, e2, e3, e4, e5, e6, e7, e8⟩ := hm c
      have hf := Cert.KernelIdeal.Attn.finite_of_pre m c hpre
      have he := arrays_eq _ _ _ _ _ _ _ _ _ m c e0 e1 e2 e3 e4 e5 e6 e7 e8
      refine ⟨?_, ?_, h3⟩
      · exact h1.trans ((val_main_v179_eq _).trans ((results_eq _ _ _ _ _ _ _ _ _ m c he).trans (Cert.KernelIdeal.Attn.final13 m c hf).symm))
      · exact h2.trans ((val_main_v180_eq _).trans ((keys_eq _ _ _ _ _ _ _ _ _ m c he).trans (Cert.KernelIdeal.Attn.final14 m c hf).symm)))
    (Cert.ReferenceIdeal.Value.run m' g')⟩

end Cert.Attn

end
-- ==== Proof.Layer.Spec.lean ====
/-
  The layer's dense mathematics, on numbers alone: the RMS norm of a row of 1024 numbers, the SiLU gate, and how a sum
  splits into equal pieces.
-/
module

public import Idealize.ShloMosaic.Lib.Pointwise

@[expose] public section

noncomputable section

namespace Cert.Layer

open Idealize.ShloMosaic

/-- A row of 1024 numbers, normalised by its mean square and weighted. -/
def normed (x w : Fin 1024 → EReal) (d : Fin 1024) : EReal :=
  x d * Ideal.rsqrt (Ideal.div (∑ e, x e * x e) (Ideal.ofBits FTy.f32 0x44800000#32) + Ideal.ofBits FTy.f32 0x358637BD#32) * w d

/-- The projection's columns as the kernel lays them out: the convolved part, the gate, the queries, the keys, the
    values, the step sizes and 248 zeros; the widths before a part are taken off one by one. -/
def laid (f : Fin 2312 → EReal) (j : Fin 2560) : EReal :=
  if h : j.val < 1024 then f ⟨512 + j.val, by omega⟩
  else if h : j.val - 1024 < 512 then f ⟨j.val - 1024, by omega⟩
  else if h : j.val - 1024 - 512 < 512 then f ⟨1544 + (j.val - 1024 - 512), by omega⟩
  else if h : j.val - 1024 - 512 - 512 < 128 then f ⟨2056 + (j.val - 1024 - 512 - 512), by omega⟩
  else if h : j.val - 1024 - 512 - 512 - 128 < 128 then f ⟨2184 + (j.val - 1024 - 512 - 512 - 128), by omega⟩
  else if h : j.val - 1024 - 512 - 512 - 128 - 128 < 8 then f ⟨1536 + (j.val - 1024 - 512 - 512 - 128 - 128), by omega⟩
  else 0

/-- A product with columns laid out is the product, laid out. -/
theorem sum_laid (a : Fin 1024 → EReal) (w : Fin 1024 → Fin 2312 → EReal) (j : Fin 2560) :
    ∑ k, a k * laid (w k) j = laid (fun n => ∑ k, a k * w k n) j := by
  unfold laid
  split_ifs <;> first | rfl | simp

/-- A row after the output product: the row, plus the state-space half and the attention half of the mixed row, each
    against its half of the weights' column. -/
def mixed (x : EReal) (w : Fin 1024 → EReal) (s a : Fin 512 → EReal) : EReal :=
  x + ∑ k, s k * w ⟨k.val, by omega⟩ + ∑ k, a k * w ⟨512 + k.val, by omega⟩

/-- The gate: `g · logistic g`, times `u`. -/
def gate (g u : EReal) : EReal := g * Ideal.logistic g * u

/-- One hidden number of the feed-forward part: the gate of a row's products with two columns. -/
def hidden (a g u : Fin 1024 → EReal) : EReal := gate (∑ k, a k * g k) (∑ k, a k * u k)

/-- The feed-forward part of a row: its 2816 hidden numbers against a column of the last weights. -/
def swiglu (a : Fin 1024 → EReal) (wg wu : Fin 1024 → Fin 2816 → EReal) (wd : Fin 2816 → EReal) : EReal :=
  ∑ n, hidden a (fun k => wg k n) (fun k => wu k n) * wd n

/-- The `e`-th hidden number of piece `p`. -/
def place (p : Fin 11) (e : Fin 256) : Fin 2816 := ⟨256 * p.val + e.val, by omega⟩

/-- A sum over the hidden numbers is the sum over its eleven pieces. -/
theorem sum_pieces (f : Fin 2816 → EReal) : ∑ n, f n = ∑ p : Fin 11, ∑ e : Fin 256, f (place p e) := by
  rw [← Fintype.sum_prod_type']
  refine (Fintype.sum_equiv (finProdFinEquiv (m := 11) (n := 256)) _ _ fun x => congrArg f (Fin.ext ?_)).symm
  show 256 * x.1.val + x.2.val = x.2.val + 256 * x.1.val
  omega

/-- The eleven pieces added one after the other. -/
theorem add_pieces (x : EReal) (c : Fin 11 → EReal) :
    x + c 0 + c 1 + c 2 + c 3 + c 4 + c 5 + c 6 + c 7 + c 8 + c 9 + c 10 = x + ∑ p, c p := by
  have h : ∑ p, c p = c 0 + c 1 + c 2 + c 3 + c 4 + c 5 + c 6 + c 7 + c 8 + c 9 + c 10 := by
    simp only [Fin.sum_univ_castSucc, Finset.univ_eq_empty, Finset.sum_empty, zero_add]
    rfl
  rw [h]
  simp only [add_assoc]

/-- The mixed row's halves side by side give the same. -/
theorem mixed_eq (x : EReal) (w : Fin 1024 → EReal) (s a : Fin 512 → EReal) (b : Fin 1024 → EReal)
    (hs : ∀ k : Fin 512, b ⟨k.val, by omega⟩ = s k) (ha : ∀ k : Fin 512, b ⟨512 + k.val, by omega⟩ = a k) :
    x + ∑ k, b k * w k = mixed x w s a := by
  unfold mixed
  rw [add_assoc]
  refine congrArg (x + ·) ((Fin.sum_univ_add (a := 512) (b := 512) fun k => b k * w k).trans ?_)
  refine congrArg₂ HAdd.hAdd (Finset.sum_congr rfl fun k _ => ?_) (Finset.sum_congr rfl fun k _ => ?_)
  · rw [← hs]; rfl
  · rw [← ha]; rfl

end Cert.Layer

end
-- ==== Proof.Proj.Value.lean ====
/-
  The projection's result array after the kernel's run: each row normalised and multiplied by the weights, the columns
  laid out as the kernel lays them.
-/
module

public import proofs.«01_k».proof.Proof.Layer.Spec
public import proofs.«01_k».proof.Proof.Gen.ProjIdeal.Value
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.ProjIdeal.Proj

open Cert.ProjIdeal Cert.ProjIdeal.Gen Idealize.ShloMosaic Idealize.ShloMosaic.TcCoe Idealize.SL.Sem
open Idealize.ShloMosaic.Tactic

variable (m : (ℓ : Loc nD τ sig) → Buf (Elt Ideal) ℓ) (c : Dev nD)

theorem idx0 : ∀ t, win0_0.index t 0 = t.val ∧ win0_0.index t 1 = 0 := by decide +kernel
theorem idx1 : ∀ t, win0_1.index t 0 = 0 ∧ win0_1.index t 1 = 0 := by decide +kernel
theorem idx2 : ∀ t, win0_2.index t 0 = 0 ∧ win0_2.index t 1 = 0 := by decide +kernel
theorem idx3 : ∀ t, win0_3.index t 0 = t.val ∧ win0_3.index t 1 = 0 := by decide +kernel

theorem points (t : Fin cfg0.N) : t.val < 67 := t.isLt

/-- A row of a grid point's block, as a row of the array. -/
def line (t : Fin cfg0.N) (i : Fin 512) : Fin 34304 := ⟨512 * t.val + i.val, by have := points t; omega⟩

theorem host0 (i : Fin 34304) (j : Fin 1024) : V m c main_arg0 (ix2 i j) = m (c, main_arg0) (ix2 i j) := by
  unfold V
  simp only [hostOps0, List.flatten_cons, List.flatten_nil, List.cons_append, List.nil_append, List.append_nil]
  after_reads_at
theorem host9 (j : Fin 1024) : V m c main_v9 (ix2 0 j) = m (c, main_arg1) (ix1 j) := by
  unfold V
  simp only [hostOps0, List.flatten_cons, List.flatten_nil, List.cons_append, List.nil_append, List.append_nil]
  after_reads_at
/-- The weights, their columns laid out. -/
theorem host8 (k : Fin 1024) (j : Fin 2560) : V m c main_v8 (ix2 k j) =
    Cert.Layer.laid (fun n => m (c, main_arg2) (ix2 k n)) j := by
  have h0 : Ideal.ofBits FTy.f32 0#32 = 0 := by simp [Ideal.ofBits, Ideal.ieee]
  unfold V
  simp only [hostOps0, List.flatten_cons, List.flatten_nil, List.cons_append, List.nil_append, List.append_nil]
  after_reads_at
  after_reads_at
  rfl

theorem blk0 (t : Fin cfg0.N) (i : Fin 512) (k : Fin 1024) : iblk m c 0 t (ix2 i k) = m (c, main_arg0) (ix2 (line t i) k) := by
  have h := idx0 t
  refine Eq.trans ?_ (host0 m c (line t i) k)
  unfold line
  blk_ext [iblk]
theorem blk1 (t : Fin cfg0.N) (k : Fin 1024) : iblk m c 1 t (ix2 0 k) = m (c, main_arg1) (ix1 k) := by
  have h := idx1 t
  refine Eq.trans ?_ (host9 m c k)
  blk_ext [iblk]
theorem blk2 (t : Fin cfg0.N) (k : Fin 1024) (j : Fin 2560) : iblk m c 2 t (ix2 k j) =
    Cert.Layer.laid (fun n => m (c, main_arg2) (ix2 k n)) j := by
  have h := idx2 t
  refine Eq.trans ?_ (host8 m c k j)
  blk_ext [iblk]

/-- The normalised rows. -/
theorem normed_apply (x : Vec Ideal S512x1024 .f32) (w : Vec Ideal S1x1024 .f32) (i : Fin 512) (k : Fin 1024) :
    k0_pay2 x w (ix2 i k) = Cert.Layer.normed (fun e => x (ix2 i e)) (fun e => w (ix2 0 e)) k := by
  have h0 : Ideal.ofBits FTy.f32 0#32 = 0 := by simp [Ideal.ofBits, Ideal.ieee]
  pointwise [k0_pay2]
  rfl

/-- A product of the normalised rows with 512 columns. -/
theorem product_apply (a : FVec Ideal S512x1024 .bf16) (w : Vec Ideal S1024x512 .bf16) (i : Fin 512) (j : Fin 512) :
    k0_pay1 a w (ix2 i j) = ∑ k, a (ix2 i k) * w (ix2 k j) := by
  pointwise [k0_pay1]

/-- The block: its rows normalised, against every column. -/
def block (x0 : Vec Ideal S512x1024 .f32) (x1 : Vec Ideal S1x1024 .f32) (x2 : Vec Ideal S1024x2560 .bf16) :
    S512x2560.Idx → Elt Ideal .f32 := fun y =>
  ∑ k : Fin 1024, Cert.Layer.normed (fun e => x0 (ix2 ⟨(y 0).val, (y 0).isLt⟩ e)) (fun e => x1 (ix2 0 e)) k *
    x2 (ix2 k ⟨(y 1).val, (y 1).isLt⟩)

theorem whole0 (x : Vec Ideal S512x1024 .f32) : View.ld x r0_0 = x := View.ld_unit_lit _ x (by decide)
theorem whole1 (x : Vec Ideal S1x1024 .f32) : View.ld x r0_1 = x := View.ld_unit_lit _ x (by decide)

/-- One of the five stores is its columns of the block. -/
theorem piece (x0 : Vec Ideal S512x1024 .f32) (x1 : Vec Ideal S1x1024 .f32) (x2 : Vec Ideal S1024x2560 .bf16)
    (w : Vec Ideal S1024x512 .bf16) (o : ℕ) (ho : o ≤ 2048)
    (hw : ∀ (k : Fin 1024) (j : Fin 512), w (ix2 k j) = x2 (ix2 k ⟨o + j.val, by omega⟩))
    (x : S512x512.Idx) (y : S512x2560.Idx) (h0 : (y 0).val = (x 0).val) (h1 : (y 1).val = o + (x 1).val) :
    k0_pay1 (k0_pay2 (View.ld x0 r0_0) (View.ld x1 r0_1)) w x = block x0 x1 x2 y := by
  have h : ∀ (i j : Fin 512) (a : Fin 512) (b : Fin 2560), a = i → b = ⟨o + j.val, by omega⟩ →
      k0_pay1 (k0_pay2 x0 x1) w (ix2 i j) =
        ∑ k : Fin 1024, Cert.Layer.normed (fun e => x0 (ix2 a e)) (fun e => x1 (ix2 0 e)) k * x2 (ix2 k b) := fun i j a b ha hb => by
    rw [ha, hb, product_apply]
    refine Finset.sum_congr rfl fun k _ => ?_
    rw [normed_apply, hw]
  have hx : x = ix2 ⟨(x 0).val, (x 0).isLt⟩ ⟨(x 1).val, (x 1).isLt⟩ := funext fun a => by
    match a with
    | ⟨0, _⟩ => rfl
    | ⟨1, _⟩ => rfl
  rw [whole0, whole1]
  exact (congrArg _ hx).trans (h _ _ _ _ (Fin.ext h0) (Fin.ext h1))

theorem pay3 (a : Vec Ideal S512x1024 .f32) (b : Vec Ideal S1x1024 .f32) (w : Vec Ideal S1024x512 .bf16) : k0_pay3 a b w = k0_pay1 (k0_pay2 a b) w := rfl
theorem pay4 (a : Vec Ideal S512x1024 .f32) (b : Vec Ideal S1x1024 .f32) (w : Vec Ideal S1024x512 .bf16) : k0_pay4 a b w = k0_pay1 (k0_pay2 a b) w := rfl
theorem pay5 (a : Vec Ideal S512x1024 .f32) (b : Vec Ideal S1x1024 .f32) (w : Vec Ideal S1024x512 .bf16) : k0_pay5 a b w = k0_pay1 (k0_pay2 a b) w := rfl
theorem pay6 (a : Vec Ideal S512x1024 .f32) (b : Vec Ideal S1x1024 .f32) (w : Vec Ideal S1024x512 .bf16) : k0_pay6 a b w = k0_pay1 (k0_pay2 a b) w := rfl

theorem cols0 (x2 : Vec Ideal S1024x2560 .bf16) (k : Fin 1024) (j : Fin 512) : View.ld x2 r0_2 (ix2 k j) = x2 (ix2 k ⟨0 + j.val, by omega⟩) := by
  pointwise
theorem cols1 (x2 : Vec Ideal S1024x2560 .bf16) (k : Fin 1024) (j : Fin 512) : View.ld x2 r0_4 (ix2 k j) = x2 (ix2 k ⟨512 + j.val, by omega⟩) := by
  pointwise
theorem cols2 (x2 : Vec Ideal S1024x2560 .bf16) (k : Fin 1024) (j : Fin 512) : View.ld x2 r0_6 (ix2 k j) = x2 (ix2 k ⟨1024 + j.val, by omega⟩) := by
  pointwise
theorem cols3 (x2 : Vec Ideal S1024x2560 .bf16) (k : Fin 1024) (j : Fin 512) : View.ld x2 r0_8 (ix2 k j) = x2 (ix2 k ⟨1536 + j.val, by omega⟩) := by
  pointwise
theorem cols4 (x2 : Vec Ideal S1024x2560 .bf16) (k : Fin 1024) (j : Fin 512) : View.ld x2 r0_10 (ix2 k j) = x2 (ix2 k ⟨2048 + j.val, by omega⟩) := by
  pointwise

/-- What the body leaves in its result block. -/
theorem out_apply (x0 : Vec Ideal S512x1024 .f32) (x1 : Vec Ideal S1x1024 .f32) (x2 : Vec Ideal S1024x2560 .bf16) (y : S512x2560.Idx) :
    out0_3 x0 x1 x2 y = block x0 x1 x2 y := by
  have h := View.canon_append_of_piecesOf (block x0 x1 x2) []
    [⟨r0_11, k0_pay1 (k0_pay2 (View.ld x0 r0_0) (View.ld x1 r0_1)) (View.ld x2 r0_10)⟩,
     ⟨r0_9, k0_pay1 (k0_pay2 (View.ld x0 r0_0) (View.ld x1 r0_1)) (View.ld x2 r0_8)⟩,
     ⟨r0_7, k0_pay1 (k0_pay2 (View.ld x0 r0_0) (View.ld x1 r0_1)) (View.ld x2 r0_6)⟩,
     ⟨r0_5, k0_pay1 (k0_pay2 (View.ld x0 r0_0) (View.ld x1 r0_1)) (View.ld x2 r0_4)⟩,
     ⟨r0_3, k0_pay1 (k0_pay2 (View.ld x0 r0_0) (View.ld x1 r0_1)) (View.ld x2 r0_2)⟩]
    (by
      refine ⟨fun x => ?_, fun x => ?_, fun x => ?_, fun x => ?_, fun x => ?_, trivial⟩
      · exact piece x0 x1 x2 _ 2048 (by omega) (cols4 x2) x _ (by rw [Rect.emb_apply]; exact (Nat.zero_add _).trans (Nat.one_mul _))
          (by rw [Rect.emb_apply]; exact congrArg (HAdd.hAdd _) (Nat.one_mul _))
      · exact piece x0 x1 x2 _ 1536 (by omega) (cols3 x2) x _ (by rw [Rect.emb_apply]; exact (Nat.zero_add _).trans (Nat.one_mul _))
          (by rw [Rect.emb_apply]; exact congrArg (HAdd.hAdd _) (Nat.one_mul _))
      · exact piece x0 x1 x2 _ 1024 (by omega) (cols2 x2) x _ (by rw [Rect.emb_apply]; exact (Nat.zero_add _).trans (Nat.one_mul _))
          (by rw [Rect.emb_apply]; exact congrArg (HAdd.hAdd _) (Nat.one_mul _))
      · exact piece x0 x1 x2 _ 512 (by omega) (cols1 x2) x _ (by rw [Rect.emb_apply]; exact (Nat.zero_add _).trans (Nat.one_mul _))
          (by rw [Rect.emb_apply]; exact congrArg (HAdd.hAdd _) (Nat.one_mul _))
      · exact piece x0 x1 x2 _ 0 (by omega) (cols0 x2) x _ (by rw [Rect.emb_apply]; exact (Nat.zero_add _).trans (Nat.one_mul _))
          (by rw [Rect.emb_apply]; exact congrArg (HAdd.hAdd _) (Nat.one_mul _)))
    y (View.cover_of_tiled_head _ _ _ rfl y)
  rw [List.append_nil] at h
  unfold out0_3
  rw [pay3, pay4, pay5, pay6]
  exact h

/-- The projection's result as an array. -/
def result (X : Fin 34304 → Fin 1024 → EReal) (w : Fin 1024 → EReal) (W : Fin 1024 → Fin 2312 → EReal) :
    S34304x2560.Idx → Elt Ideal .f32 := fun i =>
  Cert.Layer.laid (fun n => ∑ k, Cert.Layer.normed (X ⟨(i 0).val, (i 0).isLt⟩) w k * W k n) ⟨(i 1).val, (i 1).isLt⟩

theorem result_at (X : Fin 34304 → Fin 1024 → EReal) (w : Fin 1024 → EReal) (W : Fin 1024 → Fin 2312 → EReal) (r : Fin 34304)
    (j : Fin 2560) (i : S34304x2560.Idx) (h0 : (i 0).val = r.val) (h1 : (i 1).val = j.val) :
    result X w W i = Cert.Layer.laid (fun n => ∑ k, Cert.Layer.normed (X r) w k * W k n) j := by
  have e0 : (⟨(i 0).val, (i 0).isLt⟩ : Fin 34304) = r := Fin.ext h0
  have e1 : (⟨(i 1).val, (i 1).isLt⟩ : Fin 2560) = j := Fin.ext h1
  unfold result
  rw [e0, e1]

/-- The result of the arguments at launch. -/
def results : S34304x2560.Idx → Elt Ideal .f32 :=
  result (fun r k => m (c, main_arg0) (ix2 r k)) (fun k => m (c, main_arg1) (ix1 k)) (fun k n => m (c, main_arg2) (ix2 k n))

theorem results_at (r : Fin 34304) (j : Fin 2560) (i : S34304x2560.Idx) (h0 : (i 0).val = r.val) (h1 : (i 1).val = j.val) :
    results m c i = Cert.Layer.laid (fun n => ∑ k, Cert.Layer.normed (fun e => m (c, main_arg0) (ix2 r e))
      (fun k => m (c, main_arg1) (ix1 k)) k * m (c, main_arg2) (ix2 k n)) j :=
  result_at _ _ _ _ _ _ h0 h1

/-- A grid point's block. -/
theorem block3 (t : Fin cfg0.N) (i : Fin 512) (j : Fin 2560) : (dats m 0 c).after 3 t (ix2 i j) = Cert.Layer.laid (fun n => ∑ k,
      Cert.Layer.normed (fun e => m (c, main_arg0) (ix2 (line t i) e)) (fun k => m (c, main_arg1) (ix1 k)) k *
        m (c, main_arg2) (ix2 k n)) j := by
  rw [after0_3]
  refine (out_apply _ _ _ _).trans ?_
  unfold block
  simp only [blk0, blk1, blk2]
  exact Cert.Layer.sum_laid _ _ _

/-- After the run the result array is the projection's. -/
theorem final : (dats m 0 c).arrAt 3 cfg0.N = results m c := by
  refine (dats m 0 c).arrAt_eq_of_covers 3 _ (by decide +kernel) fun t h y => ?_
  obtain ⟨i0, i1⟩ := idx3 t
  have hb := block3 m c t
  blk_simp
  generalize (dats m 0 c).after 3 t = z at hb ⊢
  refine Eq.trans ?_ ((hb ⟨(y 0).val, (y 0).isLt⟩ ⟨(y 1).val, (y 1).isLt⟩).trans (results_at m c _ _ _ ?_ ?_).symm)
  · refine congrArg z (funext fun a => ?_)
    match a with
    | ⟨0, _⟩ => rfl
    | ⟨1, _⟩ => rfl
  · show _ = 512 * t.val + (y 0).val
    blk_simp
    rw [i0]; omega
  · show _ = (y 1).val
    blk_simp
    rw [i1]; omega

end Cert.ProjIdeal.Proj

end
-- ==== Proof.Proj.Ref.lean ====
/-
  The projection's reference, read at an entry.
-/
module

public import proofs.«01_k».proof.Proof.Gen.ProjReferenceIdeal.Read
public import proofs.«01_k».proof.Proof.Layer.Spec
public import Idealize.ShloMosaic.Lib.Pointwise

@[expose] public section

set_option maxRecDepth 16384

noncomputable section

namespace Cert.ProjReferenceIdeal.Proj

open Cert.ProjReferenceIdeal Cert.ProjReferenceIdeal.Read Idealize.ShloMosaic

variable (x0 : (⟨S34304x1024, .f32⟩ : BufTy).Contents (Elt Ideal)) (x1 : (⟨S1024, .f32⟩ : BufTy).Contents (Elt Ideal))
  (x2 : (⟨S1024x2312, .f32⟩ : BufTy).Contents (Elt Ideal))

/-- The normalised rows. -/
theorem v12_at (r : Fin 34304) (k : Fin 1024) : val_main_v12 x0 x1 (ix2 r k) =
    Cert.Layer.normed (fun e => x0 (ix2 r e)) (fun e => x1 (ix1 e)) k := by
  have h0 : Ideal.ofBits FTy.f32 0x00000000#32 = 0 := by simp [Ideal.ofBits, Ideal.ieee]
  have hs : val_main_v1 (F := Ideal) x0 (ix1 r) = ∑ e, x0 (ix2 r e) * x0 (ix2 r e) := by
    rw [val_main_v1_apply]
    refine (congrArg (· + _) h0).trans ((zero_add _).trans (Finset.sum_congr rfl fun e _ => ?_))
    have e1 : idx_main_v1 (ix1 r) e = ix2 r e := funext fun a => by
      match a with
      | ⟨0, _⟩ => rfl
      | ⟨1, _⟩ => rfl
    rw [e1]; rfl
  have i2 : idx_main_v2 (idx_main_v8 (ix2 r k)) = ix1 r := funext fun a => by
    match a with
    | ⟨0, _⟩ => rfl
  have i10 : idx_main_v10 (idx_main_v11 (ix2 r k)) = ix1 k := funext fun a => by
    match a with
    | ⟨0, _⟩ => rfl
  rw [val_main_v12_apply, val_main_v9_apply, val_main_v8_apply, val_main_v7_apply, val_main_v6_apply, val_main_v4_apply,
    val_main_v2_apply, i2, hs, val_main_v11_apply, val_main_v10_apply, i10, val_main_v5_apply, val_main_v3_apply]
  rfl

/-- The product. -/
theorem v13_at (r : Fin 34304) (n : Fin 2312) : val_main_v13 x0 x1 x2 (ix2 r n) =
    ∑ k, Cert.Layer.normed (fun e => x0 (ix2 r e)) (fun e => x1 (ix1 e)) k * x2 (ix2 k n) := by
  rw [val_main_v13_apply]
  refine Finset.sum_congr rfl fun k _ => ?_
  have e1 : lidx_main_v13 (ix2 r n) k = ix2 r k := funext fun a => by
    match a with
    | ⟨0, _⟩ => rfl
    | ⟨1, _⟩ => rfl
  have e2 : ridx_main_v13 (ix2 r n) k = ix2 k n := funext fun a => by
    match a with
    | ⟨0, _⟩ => rfl
    | ⟨1, _⟩ => rfl
  rw [e1, e2, v12_at]

/-- The result: the product's columns, laid out. -/
theorem v21_at (r : Fin 34304) (j : Fin 2560) : val_main_v21 x0 x1 x2 (ix2 r j) =
    Cert.Layer.laid (fun n => ∑ k, Cert.Layer.normed (fun e => x0 (ix2 r e)) (fun e => x1 (ix1 e)) k * x2 (ix2 k n)) j := by
  have h0 : Ideal.ofBits FTy.f32 0#32 = 0 := by simp [Ideal.ofBits, Ideal.ieee]
  have hp := v13_at x0 x1 x2 r
  unfold val_main_v21 val_main_v14 val_main_v15 val_main_v16 val_main_v17 val_main_v18 val_main_v19 val_main_v20 val_main_cst_2
  generalize val_main_v13 x0 x1 x2 = p at hp ⊢
  pointwise
  simp only [hp]
  rfl

end Cert.ProjReferenceIdeal.Proj

end
-- ==== Proof.Proj.Join.lean ====
/-
  The projection's claims: the reference's result is the kernel's result array.
-/
module

public import proofs.«01_k».proof.Defs
public import proofs.«01_k».proof.Proof.Proj.Value
public import proofs.«01_k».proof.Proof.Proj.Ref
public import proofs.«01_k».proof.Proof.Gen.ProjReferenceIdeal.Run
public import Idealize.ShloMosaic.Adequacy

@[expose] public section

set_option maxRecDepth 16384

noncomputable section

namespace Cert.Proj

open Idealize.ShloMosaic Idealize.ShloMosaic.TcCoe Idealize.SL.Sem Cert.ProjReferenceIdeal Cert.ProjReferenceIdeal.Read

variable (x0 : (⟨S34304x1024, .f32⟩ : BufTy).Contents (Elt Ideal)) (x1 : (⟨S1024, .f32⟩ : BufTy).Contents (Elt Ideal))
  (x2 : (⟨S1024x2312, .f32⟩ : BufTy).Contents (Elt Ideal))
  (m : (ℓ : Loc Cert.ProjIdeal.nD Cert.ProjIdeal.τ Cert.ProjIdeal.sig) → Buf (Elt Ideal) ℓ) (c : Dev Cert.ProjIdeal.nD)

/-- The reference's result is the specification's array. -/
theorem result_eq (h0 : x0 = m ((c.tc : Thread Cert.ProjIdeal.nD Cert.ProjIdeal.τ).loc Cert.ProjIdeal.main_arg0))
    (h1 : x1 = m ((c.tc : Thread Cert.ProjIdeal.nD Cert.ProjIdeal.τ).loc Cert.ProjIdeal.main_arg1))
    (h2 : x2 = m ((c.tc : Thread Cert.ProjIdeal.nD Cert.ProjIdeal.τ).loc Cert.ProjIdeal.main_arg2)) :
    val_main_v21 x0 x1 x2 = Cert.ProjIdeal.Proj.results m c := by
  subst h0 h1 h2
  funext i
  refine Eq.trans (congrArg (val_main_v21 _ _ _) (funext fun a => ?_))
    (Cert.ProjReferenceIdeal.Proj.v21_at _ _ _ ⟨(i 0).val, (i 0).isLt⟩ ⟨(i 1).val, (i 1).isLt⟩)
  match a with
  | ⟨0, _⟩ => rfl
  | ⟨1, _⟩ => rfl

/-- The reference's run: its arguments end unchanged, and it has no semaphore. -/
theorem reference_frame : Cert.quiescent_ProjReferenceIdeal := fun m ρ _ =>
  (θ_run Cert.ProjReferenceIdeal.defs _ _).mono
    (fun r h => ⟨fun c => (h c).2, Idealize.ShloMosaic.sem_eq_zero_of_no_sems (by decide) r.2⟩)
    (Cert.ProjReferenceIdeal.Value.run m ρ)

/-- The kernel's projection and the reference's agree. -/
theorem algebraic : Cert.algebraic_ProjIdeal_ProjReferenceIdeal := fun m g m' g' _ hm =>
  ⟨fun c => (Cert.ProjIdeal.Gen.dats m 0 c).arrAt 3 Cert.ProjIdeal.cfg0.N,
   Cert.ProjIdeal.Value.run_blocks m g,
   (θ_run Cert.ProjReferenceIdeal.defs _ _).mono (fun r h c => by
      obtain ⟨h1, h3⟩ := h c
      obtain ⟨e0, e1, e2⟩ := hm c
      exact ⟨h1.trans ((val_main_v21_eq _ _).trans ((result_eq _ _ _ m c e0 e1 e2).trans (Cert.ProjIdeal.Proj.final m c).symm)), h3⟩)
    (Cert.ProjReferenceIdeal.Value.run m' g')⟩

end Cert.Proj

end
-- ==== Proof.Ffn.Value.lean ====
/-
  The output product and the dense feed-forward part: the result array after the kernel's run. Each row is mixed, then
  normalised, and its 2816 hidden numbers are taken eleven pieces of 256 at a time.
-/
module

public import proofs.«01_k».proof.Proof.Layer.Spec
public import proofs.«01_k».proof.Proof.Gen.FfnIdeal.Value
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.FfnIdeal.Ffn

open Cert.FfnIdeal Cert.FfnIdeal.Gen Idealize.ShloMosaic Idealize.ShloMosaic.TcCoe Idealize.SL.Sem
open Idealize.ShloMosaic.Tactic

variable (m : (ℓ : Loc nD τ sig) → Buf (Elt Ideal) ℓ) (c : Dev nD)

theorem idx0 : ∀ t, win0_0.index t 0 = t.val ∧ win0_0.index t 1 = 0 := by decide +kernel
theorem idx1 : ∀ t, win0_1.index t 0 = t.val ∧ win0_1.index t 1 = 0 := by decide +kernel
theorem idx2 : ∀ t, win0_2.index t 0 = t.val ∧ win0_2.index t 1 = 0 := by decide +kernel
theorem idx3 : ∀ t, win0_3.index t 0 = 0 ∧ win0_3.index t 1 = 0 := by decide +kernel
theorem idx4 : ∀ t, win0_4.index t 0 = 0 ∧ win0_4.index t 1 = 0 := by decide +kernel
theorem idx5 : ∀ t, win0_5.index t 0 = 0 ∧ win0_5.index t 1 = 0 := by decide +kernel
theorem idx6 : ∀ t, win0_6.index t 0 = 0 ∧ win0_6.index t 1 = 0 := by decide +kernel
theorem idx7 : ∀ t, win0_7.index t 0 = 0 ∧ win0_7.index t 1 = 0 := by decide +kernel
theorem idx8 : ∀ t, win0_8.index t 0 = t.val ∧ win0_8.index t 1 = 0 := by decide +kernel

theorem points (t : Fin cfg0.N) : t.val < 67 := t.isLt

/-- A row of a grid point's block, as a row of the array. -/
def line (t : Fin cfg0.N) (i : Fin 512) : Fin 34304 := ⟨512 * t.val + i.val, by have := points t; omega⟩

theorem host0 (i : Fin 34304) (j : Fin 1024) : V m c main_arg0 (ix2 i j) = m (c, main_arg0) (ix2 i j) := by
  unfold V
  simp only [hostOps0, List.flatten_cons, List.flatten_nil, List.cons_append, List.nil_append, List.append_nil]
  after_reads_at
theorem host1 (i : Fin 34304) (j : Fin 512) : V m c main_arg1 (ix2 i j) = m (c, main_arg1) (ix2 i j) := by
  unfold V
  simp only [hostOps0, List.flatten_cons, List.flatten_nil, List.cons_append, List.nil_append, List.append_nil]
  after_reads_at
theorem host2 (i : Fin 34304) (j : Fin 512) : V m c main_arg2 (ix2 i j) = m (c, main_arg2) (ix2 i j) := by
  unfold V
  simp only [hostOps0, List.flatten_cons, List.flatten_nil, List.cons_append, List.nil_append, List.append_nil]
  after_reads_at
theorem host3 (i : Fin 1024) (j : Fin 1024) : V m c main_v0 (ix2 i j) = m (c, main_arg3) (ix2 i j) := by
  unfold V
  simp only [hostOps0, List.flatten_cons, List.flatten_nil, List.cons_append, List.nil_append, List.append_nil]
  after_reads_at
theorem host4 (j : Fin 1024) : V m c main_v1 (ix2 0 j) = m (c, main_arg4) (ix1 j) := by
  unfold V
  simp only [hostOps0, List.flatten_cons, List.flatten_nil, List.cons_append, List.nil_append, List.append_nil]
  after_reads_at
theorem host5 (i : Fin 1024) (j : Fin 2816) : V m c main_v2 (ix2 i j) = m (c, main_arg5) (ix2 i j) := by
  unfold V
  simp only [hostOps0, List.flatten_cons, List.flatten_nil, List.cons_append, List.nil_append, List.append_nil]
  after_reads_at
theorem host6 (i : Fin 1024) (j : Fin 2816) : V m c main_v3 (ix2 i j) = m (c, main_arg6) (ix2 i j) := by
  unfold V
  simp only [hostOps0, List.flatten_cons, List.flatten_nil, List.cons_append, List.nil_append, List.append_nil]
  after_reads_at
theorem host7 (i : Fin 2816) (j : Fin 1024) : V m c main_v4 (ix2 i j) = m (c, main_arg7) (ix2 i j) := by
  unfold V
  simp only [hostOps0, List.flatten_cons, List.flatten_nil, List.cons_append, List.nil_append, List.append_nil]
  after_reads_at

theorem blk0 (t : Fin cfg0.N) (i : Fin 512) (k : Fin 1024) : iblk m c 0 t (ix2 i k) = m (c, main_arg0) (ix2 (line t i) k) := by
  have h := idx0 t
  refine Eq.trans ?_ (host0 m c (line t i) k)
  unfold line
  blk_ext [iblk]
theorem blk1 (t : Fin cfg0.N) (i : Fin 512) (k : Fin 512) : iblk m c 1 t (ix2 i k) = m (c, main_arg1) (ix2 (line t i) k) := by
  have h := idx1 t
  refine Eq.trans ?_ (host1 m c (line t i) k)
  unfold line
  blk_ext [iblk]
theorem blk2 (t : Fin cfg0.N) (i : Fin 512) (k : Fin 512) : iblk m c 2 t (ix2 i k) = m (c, main_arg2) (ix2 (line t i) k) := by
  have h := idx2 t
  refine Eq.trans ?_ (host2 m c (line t i) k)
  unfold line
  blk_ext [iblk]
theorem blk3 (t : Fin cfg0.N) (i : Fin 1024) (k : Fin 1024) : iblk m c 3 t (ix2 i k) = m (c, main_arg3) (ix2 i k) := by
  have h := idx3 t
  refine Eq.trans ?_ (host3 m c i k)
  blk_ext [iblk]
theorem blk4 (t : Fin cfg0.N) (k : Fin 1024) : iblk m c 4 t (ix2 0 k) = m (c, main_arg4) (ix1 k) := by
  have h := idx4 t
  refine Eq.trans ?_ (host4 m c k)
  blk_ext [iblk]
theorem blk5 (t : Fin cfg0.N) (i : Fin 1024) (k : Fin 2816) : iblk m c 5 t (ix2 i k) = m (c, main_arg5) (ix2 i k) := by
  have h := idx5 t
  refine Eq.trans ?_ (host5 m c i k)
  blk_ext [iblk]
theorem blk6 (t : Fin cfg0.N) (i : Fin 1024) (k : Fin 2816) : iblk m c 6 t (ix2 i k) = m (c, main_arg6) (ix2 i k) := by
  have h := idx6 t
  refine Eq.trans ?_ (host6 m c i k)
  blk_ext [iblk]
theorem blk7 (t : Fin cfg0.N) (i : Fin 2816) (k : Fin 1024) : iblk m c 7 t (ix2 i k) = m (c, main_arg7) (ix2 i k) := by
  have h := idx7 t
  refine Eq.trans ?_ (host7 m c i k)
  blk_ext [iblk]

/-- The mixed rows. -/
theorem mixed_apply (x : Vec Ideal S512x1024 .f32) (s a : Vec Ideal S512x512 .bf16) (w : Vec Ideal S1024x1024 .bf16)
    (i : Fin 512) (j : Fin 1024) :
    k0_pay2 x s (View.ld w (Rect.unit ![0, 0] ![512, 1024] inb_S1024x1024_S512x1024_0_0)) a
      (View.ld w (Rect.unit ![512, 0] ![512, 1024] inb_S1024x1024_S512x1024_512_0)) (ix2 i j) =
      Cert.Layer.mixed (x (ix2 i j)) (fun k => w (ix2 k j)) (fun k => s (ix2 i k)) (fun k => a (ix2 i k)) := by
  pointwise [k0_pay2]
  rfl

/-- The normalised rows. -/
theorem normed_apply (x : Vec Ideal S512x1024 .f32) (s a : Vec Ideal S512x512 .bf16) (w1 w2 : Vec Ideal S512x1024 .bf16)
    (w : Vec Ideal S1x1024 .f32) (i : Fin 512) (k : Fin 1024) :
    k0_pay3 x s w1 a w2 w (ix2 i k) = Cert.Layer.normed (fun e => k0_pay2 x s w1 a w2 (ix2 i e)) (fun e => w (ix2 0 e)) k := by
  unfold k0_pay3
  generalize k0_pay2 x s w1 a w2 = y
  have h0 : Ideal.ofBits FTy.f32 0#32 = 0 := by simp [Ideal.ofBits, Ideal.ieee]
  pointwise
  rfl

/-- One piece of 256 hidden numbers added to what is there. -/
theorem step_apply (a : FVec Ideal S512x1024 .bf16) (g u : Vec Ideal S1024x256 .bf16) (acc : Vec Ideal S512x1024 .f32)
    (d : Vec Ideal S256x1024 .bf16) (i : Fin 512) (j : Fin 1024) :
    k0_pay1 a g u acc d (ix2 i j) = acc (ix2 i j) +
      ∑ e, Cert.Layer.hidden (fun k => a (ix2 i k)) (fun k => g (ix2 k e)) (fun k => u (ix2 k e)) * d (ix2 e j) := by
  pointwise [k0_pay1]
  rfl

theorem inbG (p : Fin 11) : ∀ a, (![0, 256 * p.val] : Fin 2 → ℕ) a + (![1024, 256] : Fin 2 → ℕ) a ≤ S1024x2816.size a := fun a => by
  match a with
  | ⟨0, _⟩ => show 0 + 1024 ≤ 1024; omega
  | ⟨1, _⟩ => show 256 * p.val + 256 ≤ 2816; omega
theorem inbD (p : Fin 11) : ∀ a, (![256 * p.val, 0] : Fin 2 → ℕ) a + (![256, 1024] : Fin 2 → ℕ) a ≤ S2816x1024.size a := fun a => by
  match a with
  | ⟨0, _⟩ => show 256 * p.val + 256 ≤ 2816; omega
  | ⟨1, _⟩ => show 0 + 1024 ≤ 1024; omega

/-- The kernel's step for piece `p`. -/
def step (a : FVec Ideal S512x1024 .bf16) (g u : Vec Ideal S1024x2816 .bf16) (d : Vec Ideal S2816x1024 .bf16) (p : Fin 11)
    (acc : Vec Ideal S512x1024 .f32) : Vec Ideal S512x1024 .f32 :=
  k0_pay1 a (View.ld g (Rect.unit ![0, 256 * p.val] ![1024, 256] (inbG p))) (View.ld u (Rect.unit ![0, 256 * p.val] ![1024, 256] (inbG p)))
    acc (View.ld d (Rect.unit ![256 * p.val, 0] ![256, 1024] (inbD p)))

theorem piece_apply (a : FVec Ideal S512x1024 .bf16) (g u : Vec Ideal S1024x2816 .bf16) (d : Vec Ideal S2816x1024 .bf16) (p : Fin 11)
    (acc : Vec Ideal S512x1024 .f32) (i : Fin 512) (j : Fin 1024) : step a g u d p acc (ix2 i j) = acc (ix2 i j) +
      ∑ e, Cert.Layer.hidden (fun k => a (ix2 i k)) (fun k => g (ix2 k (Cert.Layer.place p e))) (fun k => u (ix2 k (Cert.Layer.place p e))) *
        d (ix2 (Cert.Layer.place p e) j) := by
  have hg : ∀ (x : Vec Ideal S1024x2816 .bf16) (k : Fin 1024) (e : Fin 256),
      View.ld x (Rect.unit ![0, 256 * p.val] ![1024, 256] (inbG p)) (ix2 k e) = x (ix2 k (Cert.Layer.place p e)) := fun x k e => by
    pointwise
    rfl
  have hd : ∀ e : Fin 256, View.ld d (Rect.unit ![256 * p.val, 0] ![256, 1024] (inbD p)) (ix2 e j) = d (ix2 (Cert.Layer.place p e) j) := fun e => by
    pointwise
    rfl
  unfold step
  rw [step_apply]
  exact congrArg (acc (ix2 i j) + ·) (Finset.sum_congr rfl fun e _ => congrArg₂ HMul.hMul
    (congrArg₂ (Cert.Layer.hidden _) (funext fun k => hg g k e) (funext fun k => hg u k e)) (hd e))

/-- The eleven steps. -/
def steps (a : FVec Ideal S512x1024 .bf16) (g u : Vec Ideal S1024x2816 .bf16) (d : Vec Ideal S2816x1024 .bf16)
    (x : Vec Ideal S512x1024 .f32) : Vec Ideal S512x1024 .f32 :=
  step a g u d 10 (step a g u d 9 (step a g u d 8 (step a g u d 7 (step a g u d 6 (step a g u d 5 (step a g u d 4
    (step a g u d 3 (step a g u d 2 (step a g u d 1 (step a g u d 0 x))))))))))

theorem steps_apply (a : FVec Ideal S512x1024 .bf16) (g u : Vec Ideal S1024x2816 .bf16) (d : Vec Ideal S2816x1024 .bf16)
    (x : Vec Ideal S512x1024 .f32) (i : Fin 512) (j : Fin 1024) : steps a g u d x (ix2 i j) = x (ix2 i j) +
      Cert.Layer.swiglu (fun k => a (ix2 i k)) (fun k n => g (ix2 k n)) (fun k n => u (ix2 k n)) (fun n => d (ix2 n j)) := by
  unfold steps
  simp only [piece_apply]
  unfold Cert.Layer.swiglu
  rw [Cert.Layer.sum_pieces]
  exact Cert.Layer.add_pieces _ fun p => ∑ e, Cert.Layer.hidden (fun k => a (ix2 i k)) (fun k => g (ix2 k (Cert.Layer.place p e)))
    (fun k => u (ix2 k (Cert.Layer.place p e))) * d (ix2 (Cert.Layer.place p e) j)

/-- The grid point's mixed and normalised rows. -/
def rows (t : Fin cfg0.N) : FVec Ideal S512x1024 .f32 :=
  k0_pay2 (iblk m c 0 t) (iblk m c 1 t) (View.ld (iblk m c 3 t) (Rect.unit ![0, 0] ![512, 1024] inb_S1024x1024_S512x1024_0_0))
    (iblk m c 2 t) (View.ld (iblk m c 3 t) (Rect.unit ![512, 0] ![512, 1024] inb_S1024x1024_S512x1024_512_0))
def ready (t : Fin cfg0.N) : FVec Ideal S512x1024 .bf16 :=
  k0_pay3 (iblk m c 0 t) (iblk m c 1 t) (View.ld (iblk m c 3 t) (Rect.unit ![0, 0] ![512, 1024] inb_S1024x1024_S512x1024_0_0))
    (iblk m c 2 t) (View.ld (iblk m c 3 t) (Rect.unit ![512, 0] ![512, 1024] inb_S1024x1024_S512x1024_512_0)) (iblk m c 4 t)

/-- The body's result block is the eleven steps over the mixed rows. -/
theorem outs (t : Fin cfg0.N) : outsAt0 m c t =
    steps (ready m c t) (iblk m c 5 t) (iblk m c 6 t) (iblk m c 7 t) (rows m c t) := by
  unfold outsAt0
  frame_open
  frame_out
  unfold steps ready rows
  rfl

/-- A row after the feed-forward part. -/
def fed (x : Fin 1024 → EReal) (w : Fin 1024 → EReal) (wg wu : Fin 1024 → Fin 2816 → EReal) (wd : Fin 2816 → Fin 1024 → EReal)
    (j : Fin 1024) : EReal :=
  x j + Cert.Layer.swiglu (Cert.Layer.normed x w) wg wu fun n => wd n j

/-- Row `r` of the run's result, from the arguments. -/
def entry (r : Fin 34304) (j : Fin 1024) : EReal :=
  fed (fun e => Cert.Layer.mixed (m (c, main_arg0) (ix2 r e)) (fun k => m (c, main_arg3) (ix2 k e)) (fun k => m (c, main_arg1) (ix2 r k))
      fun k => m (c, main_arg2) (ix2 r k))
    (fun k => m (c, main_arg4) (ix1 k)) (fun k n => m (c, main_arg5) (ix2 k n)) (fun k n => m (c, main_arg6) (ix2 k n))
    (fun n j => m (c, main_arg7) (ix2 n j)) j

def results : S34304x1024.Idx → Elt Ideal .f32 := fun i => entry m c ⟨(i 0).val, (i 0).isLt⟩ ⟨(i 1).val, (i 1).isLt⟩

theorem results_at (r : Fin 34304) (j : Fin 1024) (i : S34304x1024.Idx) (h0 : (i 0).val = r.val) (h1 : (i 1).val = j.val) :
    results m c i = entry m c r j := by
  unfold results
  exact congrArg₂ (entry m c) (Fin.ext h0) (Fin.ext h1)

/-- A grid point's block. -/
theorem block8 (t : Fin cfg0.N) (i : Fin 512) (j : Fin 1024) : (dats m 0 c).after 8 t (ix2 i j) = entry m c (line t i) j := by
  rw [after0_8, outs]
  refine (steps_apply _ _ _ _ _ _ _).trans ?_
  have hx : ∀ e, rows m c t (ix2 i e) = Cert.Layer.mixed (m (c, main_arg0) (ix2 (line t i) e)) (fun k => m (c, main_arg3) (ix2 k e))
      (fun k => m (c, main_arg1) (ix2 (line t i) k)) fun k => m (c, main_arg2) (ix2 (line t i) k) := fun e => by
    unfold rows
    refine (mixed_apply _ _ _ _ _ _).trans ?_
    simp only [blk0, blk1, blk2, blk3]
  have ha : ∀ k, ready m c t (ix2 i k) = Cert.Layer.normed (fun e => rows m c t (ix2 i e)) (fun e => m (c, main_arg4) (ix1 e)) k := fun k => by
    unfold ready rows
    refine (normed_apply _ _ _ _ _ _ _ _).trans ?_
    simp only [blk4]
  simp only [ha, hx, blk5, blk6, blk7]
  rfl

/-- After the run the result array is the specification's. -/
theorem final : (dats m 0 c).arrAt 8 cfg0.N = results m c := by
  refine (dats m 0 c).arrAt_eq_of_covers 8 _ (by decide +kernel) fun t h y => ?_
  obtain ⟨i0, i1⟩ := idx8 t
  have hb := block8 m c t
  blk_simp
  generalize (dats m 0 c).after 8 t = z at hb ⊢
  refine Eq.trans ?_ ((hb ⟨(y 0).val, (y 0).isLt⟩ ⟨(y 1).val, (y 1).isLt⟩).trans (results_at m c _ _ _ ?_ ?_).symm)
  · refine congrArg z (funext fun a => ?_)
    match a with
    | ⟨0, _⟩ => rfl
    | ⟨1, _⟩ => rfl
  · show _ = 512 * t.val + (y 0).val
    blk_simp
    rw [i0]; omega
  · show _ = (y 1).val
    blk_simp
    rw [i1]; omega

end Cert.FfnIdeal.Ffn

end
-- ==== Proof.Ffn.Ref.lean ====
/-
  The reference of the output product and the feed-forward part, read at an entry.
-/
module

public import proofs.«01_k».proof.Proof.Gen.FfnReferenceIdeal.Read
public import proofs.«01_k».proof.Proof.Layer.Spec
public import Idealize.ShloMosaic.Lib.Pointwise

@[expose] public section

set_option maxRecDepth 16384

noncomputable section

namespace Cert.FfnReferenceIdeal.Ffn

open Cert.FfnReferenceIdeal Cert.FfnReferenceIdeal.Read Idealize.ShloMosaic

variable (x0 : (⟨S34304x1024, .f32⟩ : BufTy).Contents (Elt Ideal))
  (x1 : (⟨S34304x512, .bf16⟩ : BufTy).Contents (Elt Ideal))
  (x2 : (⟨S34304x512, .bf16⟩ : BufTy).Contents (Elt Ideal))
  (x3 : (⟨S1024x1024, .f32⟩ : BufTy).Contents (Elt Ideal))
  (x4 : (⟨S1024, .f32⟩ : BufTy).Contents (Elt Ideal))
  (x5 : (⟨S1024x2816, .f32⟩ : BufTy).Contents (Elt Ideal))
  (x6 : (⟨S1024x2816, .f32⟩ : BufTy).Contents (Elt Ideal))
  (x7 : (⟨S2816x1024, .f32⟩ : BufTy).Contents (Elt Ideal))

/-- The mixed rows. -/
theorem v4_at (r : Fin 34304) (j : Fin 1024) : val_main_v4 x0 x1 x2 x3 (ix2 r j) =
    Cert.Layer.mixed (x0 (ix2 r j)) (fun k => x3 (ix2 k j)) (fun k => x1 (ix2 r k)) (fun k => x2 (ix2 r k)) := by
  have hs : ∀ k : Fin 512, val_main_v2 (F := Ideal) x1 x2 (ix2 r ⟨k.val, by omega⟩) = x1 (ix2 r k) := fun k => by
    unfold val_main_v2 val_main_v0 val_main_v1
    pointwise
  have ha : ∀ k : Fin 512, val_main_v2 (F := Ideal) x1 x2 (ix2 r ⟨512 + k.val, by omega⟩) = x2 (ix2 r k) := fun k => by
    unfold val_main_v2 val_main_v0 val_main_v1
    pointwise
  have hd : val_main_v3 x1 x2 x3 (ix2 r j) = ∑ k, val_main_v2 (F := Ideal) x1 x2 (ix2 r k) * x3 (ix2 k j) := by
    rw [val_main_v3_apply]
    refine Finset.sum_congr rfl fun k _ => ?_
    have e1 : lidx_main_v3 (ix2 r j) k = ix2 r k := funext fun a => by
      match a with
      | ⟨0, _⟩ => rfl
      | ⟨1, _⟩ => rfl
    have e2 : ridx_main_v3 (ix2 r j) k = ix2 k j := funext fun a => by
      match a with
      | ⟨0, _⟩ => rfl
      | ⟨1, _⟩ => rfl
    rw [e1, e2]
  rw [val_main_v4_apply, hd]
  exact Cert.Layer.mixed_eq _ (fun k => x3 (ix2 k j)) _ _ (fun k => val_main_v2 (F := Ideal) x1 x2 (ix2 r k)) hs ha

/-- The normalised rows. -/
theorem v17_at (r : Fin 34304) (k : Fin 1024) : val_main_v17 x0 x1 x2 x3 x4 (ix2 r k) =
    Cert.Layer.normed (fun e => val_main_v4 x0 x1 x2 x3 (ix2 r e)) (fun e => x4 (ix1 e)) k := by
  have h0 : Ideal.ofBits FTy.f32 0x00000000#32 = 0 := by simp [Ideal.ofBits, Ideal.ieee]
  have hs : val_main_v6 (F := Ideal) x0 x1 x2 x3 (ix1 r) =
      ∑ e, val_main_v4 x0 x1 x2 x3 (ix2 r e) * val_main_v4 x0 x1 x2 x3 (ix2 r e) := by
    rw [val_main_v6_apply]
    refine (congrArg (· + _) h0).trans ((zero_add _).trans (Finset.sum_congr rfl fun e _ => ?_))
    have e1 : idx_main_v6 (ix1 r) e = ix2 r e := funext fun a => by
      match a with
      | ⟨0, _⟩ => rfl
      | ⟨1, _⟩ => rfl
    rw [e1]; rfl
  have i7 : idx_main_v7 (idx_main_v13 (ix2 r k)) = ix1 r := funext fun a => by
    match a with
    | ⟨0, _⟩ => rfl
  have i15 : idx_main_v15 (idx_main_v16 (ix2 r k)) = ix1 k := funext fun a => by
    match a with
    | ⟨0, _⟩ => rfl
  rw [val_main_v17_apply, val_main_v14_apply, val_main_v13_apply, val_main_v12_apply, val_main_v11_apply, val_main_v9_apply,
    val_main_v7_apply, i7, hs, val_main_v16_apply, val_main_v15_apply, i15, val_main_v10_apply, val_main_v8_apply]
  rfl

theorem v18_at (r : Fin 34304) (n : Fin 2816) : val_main_v18 x0 x1 x2 x3 x4 x5 (ix2 r n) =
    ∑ k, val_main_v17 x0 x1 x2 x3 x4 (ix2 r k) * x5 (ix2 k n) := by
  rw [val_main_v18_apply]
  refine Finset.sum_congr rfl fun k _ => ?_
  have e1 : lidx_main_v18 (ix2 r n) k = ix2 r k := funext fun a => by
    match a with
    | ⟨0, _⟩ => rfl
    | ⟨1, _⟩ => rfl
  have e2 : ridx_main_v18 (ix2 r n) k = ix2 k n := funext fun a => by
    match a with
    | ⟨0, _⟩ => rfl
    | ⟨1, _⟩ => rfl
  rw [e1, e2]

theorem v20_at (r : Fin 34304) (n : Fin 2816) : val_main_v20 x0 x1 x2 x3 x4 x6 (ix2 r n) =
    ∑ k, val_main_v17 x0 x1 x2 x3 x4 (ix2 r k) * x6 (ix2 k n) := by
  rw [val_main_v20_apply]
  refine Finset.sum_congr rfl fun k _ => ?_
  have e1 : lidx_main_v20 (ix2 r n) k = ix2 r k := funext fun a => by
    match a with
    | ⟨0, _⟩ => rfl
    | ⟨1, _⟩ => rfl
  have e2 : ridx_main_v20 (ix2 r n) k = ix2 k n := funext fun a => by
    match a with
    | ⟨0, _⟩ => rfl
    | ⟨1, _⟩ => rfl
  rw [e1, e2]

/-- The gate. -/
theorem v21_at (i : S34304x2816.Idx) : val_main_v21 x0 x1 x2 x3 x4 x5 x6 i =
    Cert.Layer.gate (val_main_v18 x0 x1 x2 x3 x4 x5 i) (val_main_v20 x0 x1 x2 x3 x4 x6 i) := by
  have h1 : FloatOps.ofBits (F := Ideal) FTy.f32 0x3F800000#32 = (1 : EReal) := by
    show Ideal.ofBits FTy.f32 0x3F800000#32 = 1
    simp [Ideal.ofBits, Ideal.ieee, -EReal.coe_mul]; norm_num
  rw [val_main_v21_apply, val_main_v19_apply, val_main_call0_v5_apply, val_main_call0_v4_apply, val_main_call0_cst_0_apply,
    val_main_call0_v3_apply, val_main_call0_v2_apply, val_main_call0_cst_apply, val_main_call0_v1_apply, val_main_call0_v0_apply, h1]
  rfl

/-- The result. -/
theorem v23_at (r : Fin 34304) (j : Fin 1024) : val_main_v23 x0 x1 x2 x3 x4 x5 x6 x7 (ix2 r j) =
    val_main_v4 x0 x1 x2 x3 (ix2 r j) + Cert.Layer.swiglu (Cert.Layer.normed (fun e => val_main_v4 x0 x1 x2 x3 (ix2 r e)) fun e => x4 (ix1 e))
      (fun k n => x5 (ix2 k n)) (fun k n => x6 (ix2 k n)) fun n => x7 (ix2 n j) := by
  have hd : val_main_v22 x0 x1 x2 x3 x4 x5 x6 x7 (ix2 r j) = ∑ n, val_main_v21 x0 x1 x2 x3 x4 x5 x6 (ix2 r n) * x7 (ix2 n j) := by
    rw [val_main_v22_apply]
    refine Finset.sum_congr rfl fun k _ => ?_
    have e1 : lidx_main_v22 (ix2 r j) k = ix2 r k := funext fun a => by
      match a with
      | ⟨0, _⟩ => rfl
      | ⟨1, _⟩ => rfl
    have e2 : ridx_main_v22 (ix2 r j) k = ix2 k j := funext fun a => by
      match a with
      | ⟨0, _⟩ => rfl
      | ⟨1, _⟩ => rfl
    rw [e1, e2]
  rw [val_main_v23_apply, hd]
  simp only [v21_at, v18_at, v20_at, v17_at]
  rfl

end Cert.FfnReferenceIdeal.Ffn

end
-- ==== Proof.Ffn.Join.lean ====
/-
  The claims of the output product and the feed-forward part: the reference's result is the kernel's result array.
-/
module

public import proofs.«01_k».proof.Defs
public import proofs.«01_k».proof.Proof.Ffn.Value
public import proofs.«01_k».proof.Proof.Ffn.Ref
public import proofs.«01_k».proof.Proof.Gen.FfnReferenceIdeal.Run
public import Idealize.ShloMosaic.Adequacy

@[expose] public section

set_option maxRecDepth 16384

noncomputable section

namespace Cert.Ffn

open Idealize.ShloMosaic Idealize.ShloMosaic.TcCoe Idealize.SL.Sem Cert.FfnReferenceIdeal Cert.FfnReferenceIdeal.Read

variable (x0 : (⟨S34304x1024, .f32⟩ : BufTy).Contents (Elt Ideal))
  (x1 : (⟨S34304x512, .bf16⟩ : BufTy).Contents (Elt Ideal))
  (x2 : (⟨S34304x512, .bf16⟩ : BufTy).Contents (Elt Ideal))
  (x3 : (⟨S1024x1024, .f32⟩ : BufTy).Contents (Elt Ideal))
  (x4 : (⟨S1024, .f32⟩ : BufTy).Contents (Elt Ideal))
  (x5 : (⟨S1024x2816, .f32⟩ : BufTy).Contents (Elt Ideal))
  (x6 : (⟨S1024x2816, .f32⟩ : BufTy).Contents (Elt Ideal))
  (x7 : (⟨S2816x1024, .f32⟩ : BufTy).Contents (Elt Ideal))
  (m : (ℓ : Loc Cert.FfnIdeal.nD Cert.FfnIdeal.τ Cert.FfnIdeal.sig) → Buf (Elt Ideal) ℓ) (c : Dev Cert.FfnIdeal.nD)

/-- The reference's result is the specification's array. -/
theorem result_eq (h0 : x0 = m ((c.tc : Thread Cert.FfnIdeal.nD Cert.FfnIdeal.τ).loc Cert.FfnIdeal.main_arg0))
    (h1 : x1 = m ((c.tc : Thread Cert.FfnIdeal.nD Cert.FfnIdeal.τ).loc Cert.FfnIdeal.main_arg1))
    (h2 : x2 = m ((c.tc : Thread Cert.FfnIdeal.nD Cert.FfnIdeal.τ).loc Cert.FfnIdeal.main_arg2))
    (h3 : x3 = m ((c.tc : Thread Cert.FfnIdeal.nD Cert.FfnIdeal.τ).loc Cert.FfnIdeal.main_arg3))
    (h4 : x4 = m ((c.tc : Thread Cert.FfnIdeal.nD Cert.FfnIdeal.τ).loc Cert.FfnIdeal.main_arg4))
    (h5 : x5 = m ((c.tc : Thread Cert.FfnIdeal.nD Cert.FfnIdeal.τ).loc Cert.FfnIdeal.main_arg5))
    (h6 : x6 = m ((c.tc : Thread Cert.FfnIdeal.nD Cert.FfnIdeal.τ).loc Cert.FfnIdeal.main_arg6))
    (h7 : x7 = m ((c.tc : Thread Cert.FfnIdeal.nD Cert.FfnIdeal.τ).loc Cert.FfnIdeal.main_arg7)) :
    val_main_v23 x0 x1 x2 x3 x4 x5 x6 x7 = Cert.FfnIdeal.Ffn.results m c := by
  subst h0 h1 h2 h3 h4 h5 h6 h7
  funext i
  refine Eq.trans (congrArg (val_main_v23 _ _ _ _ _ _ _ _) (funext fun a => ?_))
    ((Cert.FfnReferenceIdeal.Ffn.v23_at _ _ _ _ _ _ _ _ ⟨(i 0).val, (i 0).isLt⟩ ⟨(i 1).val, (i 1).isLt⟩).trans ?_)
  · match a with
    | ⟨0, _⟩ => rfl
    | ⟨1, _⟩ => rfl
  · simp only [Cert.FfnReferenceIdeal.Ffn.v4_at]
    rfl

/-- The reference's run: its arguments end unchanged, and it has no semaphore. -/
theorem reference_frame : Cert.quiescent_FfnReferenceIdeal := fun m ρ _ =>
  (θ_run Cert.FfnReferenceIdeal.defs _ _).mono
    (fun r h => ⟨fun c => (h c).2, Idealize.ShloMosaic.sem_eq_zero_of_no_sems (by decide) r.2⟩)
    (Cert.FfnReferenceIdeal.Value.run m ρ)

/-- The kernel's call and the reference's agree. -/
theorem algebraic : Cert.algebraic_FfnIdeal_FfnReferenceIdeal := fun m g m' g' _ hm =>
  ⟨fun c => (Cert.FfnIdeal.Gen.dats m 0 c).arrAt 8 Cert.FfnIdeal.cfg0.N,
   Cert.FfnIdeal.Value.run_blocks m g,
   (θ_run Cert.FfnReferenceIdeal.defs _ _).mono (fun r h c => by
      obtain ⟨h1, h3⟩ := h c
      obtain ⟨e0, e1, e2, e3, e4, e5, e6, e7⟩ := hm c
      exact ⟨h1.trans ((val_main_v23_eq _ _).trans ((result_eq _ _ _ _ _ _ _ _ m c e0 e1 e2 e3 e4 e5 e6 e7).trans (Cert.FfnIdeal.Ffn.final m c).symm)), h3⟩)
    (Cert.FfnReferenceIdeal.Value.run m' g')⟩

end Cert.Ffn

end
-- ==== Proof.Moe.Range.lean ====
/-
  The precondition on the experts' numbers, read: each of the 141 numbers lies below 8; and with it the side condition of
  the two programs' prefetched tables.
-/
module

public import proofs.«01_k».proof.Defs
public import proofs.«01_k».proof.Proof.Gen.Moe.Frame
public import proofs.«01_k».proof.Proof.Gen.MoeIdeal.Frame
public import proofs.«01_k».proof.Proof.Gen.Pre_experts_in_range
public import Idealize.ShloMosaic.Lib.ReduceAll
public import Idealize.ShloMosaic.Lib.Pointwise
public import Idealize.ShloMosaic.Lib.Affine

@[expose] public section

set_option maxRecDepth 16384

noncomputable section

namespace Cert.Experts

open Idealize.ShloMosaic Idealize.ShloMosaic.TcCoe

theorem word_lt (x : BitVec 32) (h : IntOp.andi (IntOp.cmpi .sge x 0#32) (IntOp.cmpi .slt x 8#32) = 1#1) : x.toNat < 8 := by
  simp only [IntOp.andi, IntOp.cmpi] at h
  have h1 : (0#32).sle x = true := by
    by_contra hn
    rw [Bool.not_eq_true] at hn
    rw [hn] at h
    generalize x.slt 8#32 = b at h
    cases b <;> exact absurd h (by decide)
  have h2 : x.slt 8#32 = true := by
    by_contra hn
    rw [Bool.not_eq_true] at hn
    rw [hn] at h
    generalize (0#32).sle x = b at h
    cases b <;> exact absurd h (by decide)
  simp only [BitVec.sle, BitVec.slt, decide_eq_true_eq, BitVec.toInt_eq_toNat_cond, BitVec.toNat_ofNat] at h1 h2
  split_ifs at h1 h2 <;> omega

theorem in_range {F : FTy → Type} [FloatOps F] (a0 : IVec Cert.Pre_experts_in_range.S141 32) (a1 : IVec Cert.Pre_experts_in_range.S1 32)
    (a2 : FVec F Cert.Pre_experts_in_range.S72192x1024 .bf16) (a3 a4 : FVec F Cert.Pre_experts_in_range.S8x1024x2816 .f32)
    (a5 : FVec F Cert.Pre_experts_in_range.S8x2816x1024 .f32)
    (h : Cert.Pre_experts_in_range.fn a0 a1 a2 a3 a4 a5 = fun _ => 1#1) (t : Fin 141) : (a0 (ix1 t)).toNat < 8 := by
  have h0 := congrFun h ix0
  unfold Cert.Pre_experts_in_range.fn at h0
  have h1 := Host.reduce_andi_all _ _ _ _ _ h0 (ix1 t)
  exact word_lt _ h1

end Cert.Experts

namespace Cert.Moe.Experts

open Idealize.ShloMosaic Idealize.ShloMosaic.TcCoe Cert.Moe Cert.Moe.Gen

/-- The tables pass the side condition when every number is below 8. -/
theorem ok_of {F : FTy → Type} [FloatOps F] (pf : pre0.Contents (Elt F)) (h : ∀ t : Fin 141, (pf 0 (ix1 t) : BitVec 32).toNat < 8) : ok0 pf := by
  have hw : ∀ i : grid0.Coords, (pf.at 0 (Rect.unit (s := S141) (k0_off1 i) S1.size (k0_off1_inb i)) numel1_S1 : BitVec 32).toNat < 8 := fun i => by
    have e : (Rect.unit (s := S141) (k0_off1 i) S1.size (k0_off1_inb i)).emb (Shape.Idx.first (numel1_S1.symm ▸ Nat.one_pos)) = ix1 ⟨(k0_off1 i) 0, by
        have := k0_off1_inb i 0; exact this⟩ := funext fun a => by
      match a with
      | ⟨0, _⟩ => rfl
    exact (congrArg (fun j => (pf 0 j : BitVec 32).toNat) e).trans_lt (h _)
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  all_goals
    match a with
    | ⟨0, _⟩ => exact (Nat.mul_one _).trans_le (hw i)
    | ⟨1, _⟩ => exact Nat.le_refl _
    | ⟨2, _⟩ => exact Nat.le_refl _

theorem ok_of_pre (m : (ℓ : Loc nD τ sig) → Buf (Elt Bits) ℓ) (h : Cert.Pre_Moe m) : Ok m :=
  ok_of _ fun t => by
    have h1 := Cert.Experts.in_range _ _ _ _ _ _ (h 0) t
    exact (congrArg (fun z => (z (ix1 t) : BitVec 32).toNat) (V_main_arg0 m 0)).trans_lt h1

end Cert.Moe.Experts

namespace Cert.MoeIdeal.Experts

open Idealize.ShloMosaic Idealize.ShloMosaic.TcCoe Cert.MoeIdeal Cert.MoeIdeal.Gen

/-- The word at a grid point is the table's there. -/
theorem word_at {F : FTy → Type} [FloatOps F] (pf : pre0.Contents (Elt F)) (i : grid0.Coords) :
    (pf.at 0 (Rect.unit (s := S141) (k0_off1 i) S1.size (k0_off1_inb i)) numel1_S1 : BitVec 32) = pf 0 (ix1 (i 0)) := by
  refine congrArg (pf 0) (funext fun a => ?_)
  match a with
  | ⟨0, _⟩ =>
    refine Fin.ext ?_
    show ((k0_off1 i) 0 + 1 * 0) = (i 0).val
    have : (i 0).val < 141 := (i 0).isLt
    show (BitVec.ofNat 32 (i 0).val).toNat = _
    rw [BitVec.toNat_ofNat]
    omega

theorem ok_of {F : FTy → Type} [FloatOps F] (pf : pre0.Contents (Elt F)) (h : ∀ t : Fin 141, (pf 0 (ix1 t) : BitVec 32).toNat < 8) : ok0 pf := by
  have hw : ∀ i : grid0.Coords, (pf.at 0 (Rect.unit (s := S141) (k0_off1 i) S1.size (k0_off1_inb i)) numel1_S1 : BitVec 32).toNat < 8 := fun i => by
    rw [word_at]; exact h _
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  all_goals
    match a with
    | ⟨0, _⟩ => exact (Nat.mul_one _).trans_le (hw i)
    | ⟨1, _⟩ => exact Nat.le_refl _
    | ⟨2, _⟩ => exact Nat.le_refl _

/-- The precondition, at the table the region reads. -/
theorem lt_of_pre (m : (ℓ : Loc nD τ sig) → Buf (Elt Ideal) ℓ) (h : Cert.Pre_MoeIdeal m) (t : Fin 141) : (tbl m 0 (ix1 t) : BitVec 32).toNat < 8 := by
  have h1 := Cert.Experts.in_range _ _ _ _ _ _ (h 0) t
  exact (congrArg (fun z => (z (ix1 t) : BitVec 32).toNat) (V_main_arg0 m 0)).trans_lt h1

theorem ok_of_pre (m : (ℓ : Loc nD τ sig) → Buf (Elt Ideal) ℓ) (h : Cert.Pre_MoeIdeal m) : Ok m := ok_of _ (lt_of_pre m h)

end Cert.MoeIdeal.Experts

end
-- ==== Proof.Moe.Value.lean ====
/-
  The experts' part: the result array after the kernel's run. The grid's point `t` handles the tile of 512 rows numbered `t`,
  with the weights of the expert the first table names for it; a tile not in use (its number at least the second table's
  word) gives zeros.
-/
module

public import proofs.«01_k».proof.Proof.Layer.Spec
public import proofs.«01_k».proof.Proof.Moe.Range
public import Idealize.ShloMosaic.Lib.Pipeline.ValueKit
public import Idealize.ShloMosaic.Lib.Pipeline.ReadBack
public import Idealize.ShloMosaic.Lib.Pipeline.Covers
public import Idealize.ShloMosaic.Lib.StableHlo.ReadAt

@[expose] public section

set_option maxRecDepth 16384

noncomputable section

namespace Cert.MoeIdeal.Experts

open Cert.MoeIdeal Cert.MoeIdeal.Gen Idealize.ShloMosaic Idealize.ShloMosaic.TcCoe Idealize.SL.Sem
open Idealize.ShloMosaic.Tactic
open Idealize.ShloMosaic.Pipeline (Window)

variable (m : (ℓ : Loc nD τ sig) → Buf (Elt Ideal) ℓ) (hO : Ok m) (c : Dev nD)

theorem coord : ∀ t : Fin grid0.N, (grid0.coords t 0).val = t.val := by decide +kernel

theorem points (t : Fin (cfgM m hO).N) : t.val < 141 := t.isLt

/-- A grid point as a tile's number. -/
def tile (t : Fin (cfgM m hO).N) : Fin 141 := ⟨t.val, points m hO t⟩

/-- A row of a tile, as a row of the array. -/
def line (t : Fin 141) (i : Fin 512) : Fin 72192 := ⟨512 * t.val + i.val, by have := t.isLt; omega⟩

/-- The expert of a tile. -/
def expert (h : ∀ t : Fin 141, (m (c, main_arg0) (ix1 t) : BitVec 32).toNat < 8) (t : Fin 141) : Fin 8 :=
  ⟨(m (c, main_arg0) (ix1 t) : BitVec 32).toNat, h t⟩

theorem host3 (q : Fin 8) (i : Fin 1024) (j : Fin 2816) : V m c main_v0 (ix3 q i j) = m (c, main_arg3) (ix3 q i j) := by
  unfold V
  simp only [hostOps0, List.flatten_cons, List.flatten_nil, List.cons_append, List.nil_append, List.append_nil]
  after_reads_at
theorem host4 (q : Fin 8) (i : Fin 1024) (j : Fin 2816) : V m c main_v1 (ix3 q i j) = m (c, main_arg4) (ix3 q i j) := by
  unfold V
  simp only [hostOps0, List.flatten_cons, List.flatten_nil, List.cons_append, List.nil_append, List.append_nil]
  after_reads_at
theorem host5 (q : Fin 8) (i : Fin 2816) (j : Fin 1024) : V m c main_v2 (ix3 q i j) = m (c, main_arg5) (ix3 q i j) := by
  unfold V
  simp only [hostOps0, List.flatten_cons, List.flatten_nil, List.cons_append, List.nil_append, List.append_nil]
  after_reads_at

theorem blk0 (t : Fin (cfgM m hO).N) (i : Fin 512) (k : Fin 1024) :
    iblk m hO c 0 t (ix2 i k) = m (c, main_arg2) (ix2 (line (tile m hO t) i) k) := by
  refine Eq.trans ?_ (congrFun (V_main_arg2 m c) _)
  unfold iblk
  refine congrArg (V m c main_arg2) (funext fun a => ?_)
  match a with
  | ⟨0, _⟩ =>
    refine Fin.ext ?_
    show (BitVec.ofNat 32 (grid0.coords t 0).val).toNat * 512 + 1 * i.val = 512 * t.val + i.val
    have := points m hO t
    rw [coord, BitVec.toNat_ofNat]
    omega
  | ⟨1, _⟩ =>
    refine Fin.ext ?_
    show 0 * 1024 + 1 * k.val = k.val
    omega

/-- The number of the expert whose weights a grid point fetches. -/
theorem fetched (h : ∀ t : Fin 141, (m (c, main_arg0) (ix1 t) : BitVec 32).toNat < 8) (t : Fin (cfgM m hO).N) :
    ((tbl m).at 0 (Rect.unit (s := S141) (k0_off1 (grid0.coords t)) S1.size (k0_off1_inb (grid0.coords t))) numel1_S1 : BitVec 32).toNat =
      (expert m c h (tile m hO t)).val := by
  have e : grid0.coords t 0 = tile m hO t := Fin.ext (coord t)
  rw [word_at, e]
  obtain rfl : c = 0 := Subsingleton.elim _ _
  exact congrArg (fun z => (z (ix1 (tile m hO t)) : BitVec 32).toNat) (V_main_arg0 m 0)

theorem blk1 (h : ∀ t : Fin 141, (m (c, main_arg0) (ix1 t) : BitVec 32).toNat < 8) (t : Fin (cfgM m hO).N) (k : Fin 1024) (n : Fin 2816) :
    iblk m hO c 1 t (ix3 0 k n) = m (c, main_arg3) (ix3 (expert m c h (tile m hO t)) k n) := by
  refine Eq.trans ?_ (host3 m c _ k n)
  unfold iblk
  refine congrArg (V m c main_v0) (funext fun a => ?_)
  match a with
  | ⟨0, _⟩ => exact Fin.ext ((Nat.mul_one _).trans (fetched m hO c h t))
  | ⟨1, _⟩ =>
    refine Fin.ext ?_
    show 0 * 1024 + 1 * k.val = k.val
    omega
  | ⟨2, _⟩ =>
    refine Fin.ext ?_
    show 0 * 2816 + 1 * n.val = n.val
    omega
theorem blk2 (h : ∀ t : Fin 141, (m (c, main_arg0) (ix1 t) : BitVec 32).toNat < 8) (t : Fin (cfgM m hO).N) (k : Fin 1024) (n : Fin 2816) :
    iblk m hO c 2 t (ix3 0 k n) = m (c, main_arg4) (ix3 (expert m c h (tile m hO t)) k n) := by
  refine Eq.trans ?_ (host4 m c _ k n)
  unfold iblk
  refine congrArg (V m c main_v1) (funext fun a => ?_)
  match a with
  | ⟨0, _⟩ => exact Fin.ext ((Nat.mul_one _).trans (fetched m hO c h t))
  | ⟨1, _⟩ =>
    refine Fin.ext ?_
    show 0 * 1024 + 1 * k.val = k.val
    omega
  | ⟨2, _⟩ =>
    refine Fin.ext ?_
    show 0 * 2816 + 1 * n.val = n.val
    omega
theorem blk3 (h : ∀ t : Fin 141, (m (c, main_arg0) (ix1 t) : BitVec 32).toNat < 8) (t : Fin (cfgM m hO).N) (n : Fin 2816) (k : Fin 1024) :
    iblk m hO c 3 t (ix3 0 n k) = m (c, main_arg5) (ix3 (expert m c h (tile m hO t)) n k) := by
  refine Eq.trans ?_ (host5 m c _ n k)
  unfold iblk
  refine congrArg (V m c main_v2) (funext fun a => ?_)
  match a with
  | ⟨0, _⟩ => exact Fin.ext ((Nat.mul_one _).trans (fetched m hO c h t))
  | ⟨1, _⟩ =>
    refine Fin.ext ?_
    show 0 * 2816 + 1 * n.val = n.val
    omega
  | ⟨2, _⟩ =>
    refine Fin.ext ?_
    show 0 * 1024 + 1 * k.val = k.val
    omega

/-- One piece of 256 hidden numbers added to what is there. -/
theorem step_apply (a : Vec Ideal S512x1024 .bf16) (g u : Vec Ideal S1x1024x256 .bf16) (acc : Vec Ideal S512x1024 .f32)
    (d : Vec Ideal S1x256x1024 .bf16) (i : Fin 512) (j : Fin 1024) :
    k0_pay3 a g u acc d (ix2 i j) = acc (ix2 i j) +
      ∑ e, Cert.Layer.hidden (fun k => a (ix2 i k)) (fun k => g (ix3 0 k e)) (fun k => u (ix3 0 k e)) * d (ix3 0 e j) := by
  pointwise [k0_pay3]
  rfl

theorem inbG (p : Fin 11) : ∀ a, (![0, 0, 256 * p.val] : Fin 3 → ℕ) a + (![1, 1024, 256] : Fin 3 → ℕ) a ≤ S1x1024x2816.size a := fun a => by
  match a with
  | ⟨0, _⟩ => show 0 + 1 ≤ 1; omega
  | ⟨1, _⟩ => show 0 + 1024 ≤ 1024; omega
  | ⟨2, _⟩ => show 256 * p.val + 256 ≤ 2816; omega
theorem inbD (p : Fin 11) : ∀ a, (![0, 256 * p.val, 0] : Fin 3 → ℕ) a + (![1, 256, 1024] : Fin 3 → ℕ) a ≤ S1x2816x1024.size a := fun a => by
  match a with
  | ⟨0, _⟩ => show 0 + 1 ≤ 1; omega
  | ⟨1, _⟩ => show 256 * p.val + 256 ≤ 2816; omega
  | ⟨2, _⟩ => show 0 + 1024 ≤ 1024; omega

/-- The kernel's step for piece `p`. -/
def step (a : Vec Ideal S512x1024 .bf16) (g u : Vec Ideal S1x1024x2816 .bf16) (d : Vec Ideal S1x2816x1024 .bf16) (p : Fin 11)
    (acc : Vec Ideal S512x1024 .f32) : Vec Ideal S512x1024 .f32 :=
  k0_pay3 a (View.ld g (Rect.unit ![0, 0, 256 * p.val] ![1, 1024, 256] (inbG p))) (View.ld u (Rect.unit ![0, 0, 256 * p.val] ![1, 1024, 256] (inbG p)))
    acc (View.ld d (Rect.unit ![0, 256 * p.val, 0] ![1, 256, 1024] (inbD p)))

theorem piece_apply (a : Vec Ideal S512x1024 .bf16) (g u : Vec Ideal S1x1024x2816 .bf16) (d : Vec Ideal S1x2816x1024 .bf16) (p : Fin 11)
    (acc : Vec Ideal S512x1024 .f32) (i : Fin 512) (j : Fin 1024) : step a g u d p acc (ix2 i j) = acc (ix2 i j) +
      ∑ e, Cert.Layer.hidden (fun k => a (ix2 i k)) (fun k => g (ix3 0 k (Cert.Layer.place p e))) (fun k => u (ix3 0 k (Cert.Layer.place p e))) *
        d (ix3 0 (Cert.Layer.place p e) j) := by
  have hg : ∀ (x : Vec Ideal S1x1024x2816 .bf16) (k : Fin 1024) (e : Fin 256),
      View.ld x (Rect.unit ![0, 0, 256 * p.val] ![1, 1024, 256] (inbG p)) (ix3 0 k e) = x (ix3 0 k (Cert.Layer.place p e)) := fun x k e => by
    pointwise
    rfl
  have hd : ∀ e : Fin 256, View.ld d (Rect.unit ![0, 256 * p.val, 0] ![1, 256, 1024] (inbD p)) (ix3 0 e j) = d (ix3 0 (Cert.Layer.place p e) j) := fun e => by
    pointwise
    rfl
  unfold step
  rw [step_apply]
  exact congrArg (acc (ix2 i j) + ·) (Finset.sum_congr rfl fun e _ => congrArg₂ HMul.hMul
    (congrArg₂ (Cert.Layer.hidden _) (funext fun k => hg g k e) (funext fun k => hg u k e)) (hd e))

/-- The eleven steps. -/
def steps (a : Vec Ideal S512x1024 .bf16) (g u : Vec Ideal S1x1024x2816 .bf16) (d : Vec Ideal S1x2816x1024 .bf16)
    (x : Vec Ideal S512x1024 .f32) : Vec Ideal S512x1024 .f32 :=
  step a g u d 10 (step a g u d 9 (step a g u d 8 (step a g u d 7 (step a g u d 6 (step a g u d 5 (step a g u d 4
    (step a g u d 3 (step a g u d 2 (step a g u d 1 (step a g u d 0 x))))))))))

theorem steps_apply (a : Vec Ideal S512x1024 .bf16) (g u : Vec Ideal S1x1024x2816 .bf16) (d : Vec Ideal S1x2816x1024 .bf16)
    (x : Vec Ideal S512x1024 .f32) (i : Fin 512) (j : Fin 1024) : steps a g u d x (ix2 i j) = x (ix2 i j) +
      Cert.Layer.swiglu (fun k => a (ix2 i k)) (fun k n => g (ix3 0 k n)) (fun k n => u (ix3 0 k n)) (fun n => d (ix3 0 n j)) := by
  unfold steps
  simp only [piece_apply]
  unfold Cert.Layer.swiglu
  rw [Cert.Layer.sum_pieces]
  exact Cert.Layer.add_pieces _ fun p => ∑ e, Cert.Layer.hidden (fun k => a (ix2 i k)) (fun k => g (ix3 0 k (Cert.Layer.place p e)))
    (fun k => u (ix3 0 k (Cert.Layer.place p e))) * d (ix3 0 (Cert.Layer.place p e) j)

/-- The body's condition at a grid point, in the tile's number. -/
theorem used (t : Fin (cfgM m hO).N) :
    cond0_0 (grid0.coords t) (tbM0_1.view.readAt (Elt Ideal) (Rect.unit (s := S1) ![0] S1.size inb_S1_S1_0).toLoadRect (tbl m 1) (Shape.Idx.first (numel1_S1.symm ▸ Nat.one_pos))) ↔
      (BitVec.ofNat 32 t.val).slt (m (c, main_arg1) (ix1 0)) = true := by
  have e : (tbM0_1.view.readAt (Elt Ideal) (Rect.unit (s := S1) ![0] S1.size inb_S1_S1_0).toLoadRect (tbl m 1) (Shape.Idx.first (numel1_S1.symm ▸ Nat.one_pos)) : BitVec 32) =
      m (c, main_arg1) (ix1 0) := by
    obtain rfl : c = 0 := Subsingleton.elim _ _
    refine Eq.trans ?_ (congrFun (V_main_arg1 m 0) (ix1 0))
    refine congrArg (V m 0 main_arg1) (funext fun a => ?_)
    match a with
    | ⟨0, _⟩ => rfl
  unfold cond0_0
  rw [e, coord]
  simp only [Scalar.cmpi, Scalar.extui, IntOp.cmpi]
  generalize (BitVec.ofNat 32 t.val).slt (m (c, main_arg1) (ix1 0)) = b
  cases b <;> decide

/-- At a tile in use the body's result block is the eleven steps over zeros. -/
theorem outs_used (i : grid0.Coords) (arg3 : Memref sig .tc .vmem S512x1024 .bf16) (harg3 : arg3.IsWhole)
    (arg4 : Memref sig .tc .vmem S1x1024x2816 .bf16) (harg4 : arg4.IsWhole) (arg5 : Memref sig .tc .vmem S1x1024x2816 .bf16) (harg5 : arg5.IsWhole)
    (arg6 : Memref sig .tc .vmem S1x2816x1024 .bf16) (harg6 : arg6.IsWhole) (arg7 : Memref sig .tc .vmem S512x1024 .f32) (harg7 : arg7.IsWhole)
    (x0 : Vec Ideal S512x1024 .bf16) (x1 x2 : Vec Ideal S1x1024x2816 .bf16) (x3 : Vec Ideal S1x2816x1024 .bf16)
    (xt0 : TbBuf0 (F := Ideal) c tbM0_0) (xt1 : TbBuf0 (F := Ideal) c tbM0_1)
    (hc0 : cond0_0 i (tbM0_1.view.readAt (Elt Ideal) (Rect.unit (s := S1) ![0] S1.size inb_S1_S1_0).toLoadRect xt1 (Shape.Idx.first (numel1_S1.symm ▸ Nat.one_pos)))) :
    out0_A_4 c i arg3 harg3 arg4 harg4 arg5 harg5 arg6 harg6 arg7 harg7 x0 x1 x2 x3 xt0 xt1 hc0 = steps x0 x1 x2 x3 (k0_pay1 (F := Ideal)) := by
  unfold out0_A_4
  frame_open
  frame_out
  unfold steps
  rfl

/-- At any other tile it is zeros. -/
theorem outs_unused (i : grid0.Coords) (arg3 : Memref sig .tc .vmem S512x1024 .bf16) (harg3 : arg3.IsWhole)
    (arg4 : Memref sig .tc .vmem S1x1024x2816 .bf16) (harg4 : arg4.IsWhole) (arg5 : Memref sig .tc .vmem S1x1024x2816 .bf16) (harg5 : arg5.IsWhole)
    (arg6 : Memref sig .tc .vmem S1x2816x1024 .bf16) (harg6 : arg6.IsWhole) (arg7 : Memref sig .tc .vmem S512x1024 .f32) (harg7 : arg7.IsWhole)
    (x0 : Vec Ideal S512x1024 .bf16) (x1 x2 : Vec Ideal S1x1024x2816 .bf16) (x3 : Vec Ideal S1x2816x1024 .bf16)
    (xt0 : TbBuf0 (F := Ideal) c tbM0_0) (xt1 : TbBuf0 (F := Ideal) c tbM0_1)
    (hc0 : ¬cond0_0 i (tbM0_1.view.readAt (Elt Ideal) (Rect.unit (s := S1) ![0] S1.size inb_S1_S1_0).toLoadRect xt1 (Shape.Idx.first (numel1_S1.symm ▸ Nat.one_pos)))) :
    out0_B_4 c i arg3 harg3 arg4 harg4 arg5 harg5 arg6 harg6 arg7 harg7 x0 x1 x2 x3 xt0 xt1 hc0 = k0_pay1 (F := Ideal) := by
  unfold out0_B_4
  frame_open
  frame_out

theorem zeros_apply (i : Fin 512) (j : Fin 1024) : k0_pay1 (F := Ideal) (ix2 i j) = (0 : EReal) := by
  have h0 : Ideal.ofBits FTy.f32 0#32 = 0 := by simp [Ideal.ofBits, Ideal.ieee]
  exact h0

/-- A row of tile `t` after the experts' part, from the arguments. -/
def entry (h : ∀ t : Fin 141, (m (c, main_arg0) (ix1 t) : BitVec 32).toNat < 8) (t : Fin 141) (i : Fin 512) (j : Fin 1024) : EReal :=
  if (BitVec.ofNat 32 t.val).slt (m (c, main_arg1) (ix1 0)) = true then
    Cert.Layer.swiglu (fun k => m (c, main_arg2) (ix2 (line t i) k)) (fun k n => m (c, main_arg3) (ix3 (expert m c h t) k n))
      (fun k n => m (c, main_arg4) (ix3 (expert m c h t) k n)) (fun n => m (c, main_arg5) (ix3 (expert m c h t) n j))
  else 0

def results (h : ∀ t : Fin 141, (m (c, main_arg0) (ix1 t) : BitVec 32).toNat < 8) : S72192x1024.Idx → Elt Ideal .f32 := fun i =>
  entry m c h ⟨(i 0).val / 512, by have : (i 0).val < 72192 := (i 0).isLt; omega⟩ ⟨(i 0).val % 512, Nat.mod_lt _ (by decide)⟩ ⟨(i 1).val, (i 1).isLt⟩

theorem results_at (h : ∀ t : Fin 141, (m (c, main_arg0) (ix1 t) : BitVec 32).toNat < 8) (t : Fin 141) (r : Fin 512) (j : Fin 1024)
    (i : S72192x1024.Idx) (h0 : (i 0).val = 512 * t.val + r.val) (h1 : (i 1).val = j.val) : results m c h i = entry m c h t r j := by
  unfold results
  have e0 : (⟨(i 0).val / 512, by have : (i 0).val < 72192 := (i 0).isLt; omega⟩ : Fin 141) = t := Fin.ext (by
    show (i 0).val / 512 = t.val
    have := r.isLt
    omega)
  have e1 : (⟨(i 0).val % 512, Nat.mod_lt _ (by decide)⟩ : Fin 512) = r := Fin.ext (by
    show (i 0).val % 512 = r.val
    have := r.isLt
    omega)
  rw [e0, e1]
  exact congrArg (entry m c h t r) (Fin.ext h1)

theorem swiglu_congr {a a' : Fin 1024 → EReal} {g g' u u' : Fin 1024 → Fin 2816 → EReal} {d d' : Fin 2816 → EReal} (ha : ∀ k, a k = a' k)
    (hg : ∀ k n, g k n = g' k n) (hu : ∀ k n, u k n = u' k n) (hd : ∀ n, d n = d' n) : Cert.Layer.swiglu a g u d = Cert.Layer.swiglu a' g' u' d' := by
  obtain rfl := funext ha
  obtain rfl := funext fun k => funext (hg k)
  obtain rfl := funext fun k => funext (hu k)
  obtain rfl := funext hd
  rfl

/-- A grid point's block. -/
theorem block4 (h : ∀ t : Fin 141, (m (c, main_arg0) (ix1 t) : BitVec 32).toNat < 8) (t : Fin (cfgM m hO).N) (i : Fin 512) (j : Fin 1024) :
    (dats m hO 0 c).after 4 t (ix2 i j) = entry m c h (tile m hO t) i j := by
  rw [after0_4]
  unfold entry
  by_cases hu : (BitVec.ofNat 32 (tile m hO t).val).slt (m (c, main_arg1) (ix1 0)) = true
  · rw [if_pos hu, outsAt0_A m hO c t ((used m hO c t).mpr hu)]
    refine (congrFun (outs_used c _ _ _ _ _ _ _ _ _ _ _ _ _ _ _ _ _ _) _).trans ((steps_apply _ _ _ _ _ _ _).trans ?_)
    rw [zeros_apply]
    exact (zero_add _).trans (swiglu_congr (fun k => blk0 m hO c t i k) (fun k n => blk1 m hO c h t k n) (fun k n => blk2 m hO c h t k n)
      fun n => blk3 m hO c h t n j)
  · rw [if_neg hu, outsAt0_B m hO c t (fun hc => hu ((used m hO c t).mp hc))]
    exact (congrFun (outs_unused c _ _ _ _ _ _ _ _ _ _ _ _ _ _ _ _ _ _) _).trans (zeros_apply i j)

/-- The tiles' blocks cover the result array. -/
theorem covers : ((cfgM m hO).win 4).Covers := by
  refine Window.covers_of_indexMap_surj _ rfl (fun a => ?_) fun b => ?_
  · match a with
    | ⟨0, _⟩ => show 0 < 512; decide
    | ⟨1, _⟩ => show 0 < 1024; decide
  · have h0 : (b ⟨0, Nat.zero_lt_two⟩).val < 141 := (b ⟨0, Nat.zero_lt_two⟩).isLt.trans_eq (show (72192 + 512 - 1) / 512 = 141 by decide)
    have h1 : (b ⟨1, Nat.one_lt_two⟩).val < 1 := (b ⟨1, Nat.one_lt_two⟩).isLt.trans_eq (show (1024 + 1024 - 1) / 1024 = 1 by decide)
    refine ⟨grid0.coords ⟨(b ⟨0, Nat.zero_lt_two⟩).val, h0⟩, fun a => ?_⟩
    match a with
    | ⟨0, _⟩ =>
      show (BitVec.ofNat 32 (grid0.coords ⟨(b ⟨0, Nat.zero_lt_two⟩).val, h0⟩ 0).val).toNat = (b ⟨0, Nat.zero_lt_two⟩).val
      rw [coord, BitVec.toNat_ofNat]
      exact Nat.mod_eq_of_lt (Nat.lt_trans h0 (by decide))
    | ⟨1, _⟩ =>
      show 0 = (b ⟨1, Nat.one_lt_two⟩).val
      omega

/-- After the run the result array is the specification's. -/
theorem final (h : ∀ t : Fin 141, (m (c, main_arg0) (ix1 t) : BitVec 32).toNat < 8) :
    (dats m hO 0 c).arrAt 4 (cfgM m hO).N = results m c h := by
  refine (dats m hO 0 c).arrAt_eq_of_covers 4 _ (covers m hO) fun t hw (y : S512x1024.Idx) => ?_
  have hb := block4 m hO c h t
  generalize (dats m hO 0 c).after 4 t = z at hb ⊢
  refine Eq.trans ?_ ((hb ⟨(y 0).val, (y 0).isLt⟩ ⟨(y 1).val, (y 1).isLt⟩).trans (results_at m c h _ _ _ _ ?_ ?_).symm)
  · refine congrArg z (funext fun a => ?_)
    match a with
    | ⟨0, _⟩ => rfl
    | ⟨1, _⟩ => rfl
  · show (BitVec.ofNat 32 (grid0.coords t 0).val).toNat * 512 + 1 * (y 0).val = 512 * t.val + (y 0).val
    have := points m hO t
    rw [coord, BitVec.toNat_ofNat]
    omega
  · show 0 * 1024 + 1 * (y 1).val = (y 1).val
    omega

end Cert.MoeIdeal.Experts

end
-- ==== Proof.Moe.Ref.lean ====
/-
  The reference of the experts' part, read at an entry.
-/
module

public import proofs.«01_k».proof.Proof.Gen.MoeReferenceIdeal.Read
public import proofs.«01_k».proof.Proof.Layer.Spec
public import Idealize.ShloMosaic.Lib.Pointwise
public import Idealize.ShloMosaic.Lib.ValueIdxCore

@[expose] public section

set_option maxRecDepth 16384

noncomputable section

namespace Cert.MoeReferenceIdeal.Experts

open Cert.MoeReferenceIdeal Cert.MoeReferenceIdeal.Read Idealize.ShloMosaic

/-- A number below 8 reads the same signed, and is not held back by the clamp. -/
theorem clamped (w : BitVec 32) (h : w.toNat < 8) : min w.toInt.toNat (8 - 1) = w.toNat := by
  have e : w.toInt = (w.toNat : ℤ) := by
    rw [BitVec.toInt_eq_toNat_cond, if_pos (by omega)]
  rw [e, Int.toNat_natCast]
  omega

/-- A number below 8 is not negative, so it is taken as it stands. -/
theorem taken (w : BitVec 32) (h : w.toNat < 8) : Scalar.select (IntOp.cmpi .slt w 0#32) (IntOp.addi w 8#32) w = w := by
  have e : w.slt 0#32 = false := by
    simp only [BitVec.slt, decide_eq_false_iff_not, BitVec.toInt_eq_toNat_cond, BitVec.toNat_ofNat]
    split_ifs <;> omega
  have e' : IntOp.cmpi .slt w 0#32 = 0#1 := by
    show BitVec.ofBool (w.slt 0#32) = 0#1
    rw [e]
    rfl
  rw [e']
  rfl

/-- The first two weights' gather at an entry: the matrix of the tile's expert. -/
theorem gathered_wide {α : Type} (x : S8x1024x2816.Idx → α) (idx : IVec S141x1 32) (t : Fin 141) (k : Fin 1024) (n : Fin 2816)
    (h : (idx (ix2 t 0)).toNat < 8) :
    Host.gather gather_S8x1024x2816_S141x1_S141x1024x2816_12_0_n_n_0_1_110242816 x idx (ix3 t k n) = x (ix3 ⟨(idx (ix2 t 0)).toNat, h⟩ k n) := by
  have hs : gather_S8x1024x2816_S141x1_S141x1024x2816_12_0_n_n_0_1_110242816.siIdx (ix3 t k n) ⟨0, Nat.one_pos⟩ = ix2 t 0 := funext fun b => by
    match b with
    | ⟨0, _⟩ => rfl
    | ⟨1, _⟩ => rfl
  unfold Host.gather
  refine congrArg x (funext fun a => Fin.ext ?_)
  match a with
  | ⟨0, _⟩ =>
    refine Eq.trans ?_ (clamped (idx (ix2 t 0)) h)
    rw [← hs]
    rfl
  | ⟨1, _⟩ => exact Nat.zero_add _
  | ⟨2, _⟩ => exact Nat.zero_add _

/-- The third weight's gather likewise. -/
theorem gathered_tall {α : Type} (x : S8x2816x1024.Idx → α) (idx : IVec S141x1 32) (t : Fin 141) (n : Fin 2816) (j : Fin 1024)
    (h : (idx (ix2 t 0)).toNat < 8) :
    Host.gather gather_S8x2816x1024_S141x1_S141x2816x1024_12_0_n_n_0_1_128161024 x idx (ix3 t n j) = x (ix3 ⟨(idx (ix2 t 0)).toNat, h⟩ n j) := by
  have hs : gather_S8x2816x1024_S141x1_S141x2816x1024_12_0_n_n_0_1_128161024.siIdx (ix3 t n j) ⟨0, Nat.one_pos⟩ = ix2 t 0 := funext fun b => by
    match b with
    | ⟨0, _⟩ => rfl
    | ⟨1, _⟩ => rfl
  unfold Host.gather
  refine congrArg x (funext fun a => Fin.ext ?_)
  match a with
  | ⟨0, _⟩ =>
    refine Eq.trans ?_ (clamped (idx (ix2 t 0)) h)
    rw [← hs]
    rfl
  | ⟨1, _⟩ => exact Nat.zero_add _
  | ⟨2, _⟩ => exact Nat.zero_add _

variable (x0 : (⟨S141, .i32⟩ : BufTy).Contents (Elt Ideal))
  (x1 : (⟨S1, .i32⟩ : BufTy).Contents (Elt Ideal))
  (x2 : (⟨S72192x1024, .bf16⟩ : BufTy).Contents (Elt Ideal))
  (x3 : (⟨S8x1024x2816, .f32⟩ : BufTy).Contents (Elt Ideal))
  (x4 : (⟨S8x1024x2816, .f32⟩ : BufTy).Contents (Elt Ideal))
  (x5 : (⟨S8x2816x1024, .f32⟩ : BufTy).Contents (Elt Ideal))

/-- A row of tile `t`, as a row of the array. -/
def line (t : Fin 141) (i : Fin 512) : Fin 72192 := ⟨512 * t.val + i.val, by have := t.isLt; omega⟩

theorem v7_at (t : Fin 141) (h : (x0 (ix1 t)).toNat < 8) : val_main_v7 (F := Ideal) x0 (ix2 t 0) = x0 (ix1 t) := by
  have e : idx_main_v7 (ix2 t 0) = ix1 t := funext fun a => by
    match a with
    | ⟨0, _⟩ => rfl
  rw [val_main_v7_apply, e, val_main_v6_apply, val_main_v3_apply, val_main_v2_apply, val_main_c_apply, val_main_v5_apply,
    val_main_v4_apply, val_main_c_0_apply]
  exact taken _ h

theorem v15_at (t : Fin 141) (h : (x0 (ix1 t)).toNat < 8) : val_main_v15 (F := Ideal) x0 (ix2 t 0) = x0 (ix1 t) := by
  have e : idx_main_v15 (ix2 t 0) = ix1 t := funext fun a => by
    match a with
    | ⟨0, _⟩ => rfl
  rw [val_main_v15_apply, e, val_main_v14_apply, val_main_v11_apply, val_main_v10_apply, val_main_c_1_apply, val_main_v13_apply,
    val_main_v12_apply, val_main_c_2_apply]
  exact taken _ h

theorem v25_at (t : Fin 141) (h : (x0 (ix1 t)).toNat < 8) : val_main_v25 (F := Ideal) x0 (ix2 t 0) = x0 (ix1 t) := by
  have e : idx_main_v25 (ix2 t 0) = ix1 t := funext fun a => by
    match a with
    | ⟨0, _⟩ => rfl
  rw [val_main_v25_apply, e, val_main_v24_apply, val_main_v21_apply, val_main_v20_apply, val_main_c_3_apply, val_main_v23_apply,
    val_main_v22_apply, val_main_c_4_apply]
  exact taken _ h

theorem v1_at (t : Fin 141) (i : Fin 512) (k : Fin 1024) : val_main_v1 (F := Ideal) x2 (ix3 t i k) = x2 (ix2 (line t i) k) := by
  rw [val_main_v1_apply, val_main_v0_apply]
  refine congrArg x2 (funext fun a => Fin.ext ?_)
  match a with
  | ⟨0, _⟩ =>
    show ((t.val * 512 + i.val) * 1024 + k.val) / 1024 = 512 * t.val + i.val
    omega
  | ⟨1, _⟩ =>
    show ((t.val * 512 + i.val) * 1024 + k.val) % 1024 = k.val
    omega

theorem v8_at (t : Fin 141) (h : (x0 (ix1 t)).toNat < 8) (k : Fin 1024) (n : Fin 2816) :
    val_main_v8 (F := Ideal) x0 x3 (ix3 t k n) = x3 (ix3 ⟨(x0 (ix1 t)).toNat, h⟩ k n) := by
  have e := v7_at x0 t h
  unfold val_main_v8
  refine (gathered_wide x3 _ t k n ((congrArg BitVec.toNat e).trans_lt h)).trans ?_
  refine congrArg (fun q => x3 (ix3 q k n)) (Fin.ext (congrArg BitVec.toNat e))

theorem v16_at (t : Fin 141) (h : (x0 (ix1 t)).toNat < 8) (k : Fin 1024) (n : Fin 2816) :
    val_main_v16 (F := Ideal) x0 x4 (ix3 t k n) = x4 (ix3 ⟨(x0 (ix1 t)).toNat, h⟩ k n) := by
  have e := v15_at x0 t h
  unfold val_main_v16
  refine (gathered_wide x4 _ t k n ((congrArg BitVec.toNat e).trans_lt h)).trans ?_
  refine congrArg (fun q => x4 (ix3 q k n)) (Fin.ext (congrArg BitVec.toNat e))

theorem v26_at (t : Fin 141) (h : (x0 (ix1 t)).toNat < 8) (k : Fin 2816) (n : Fin 1024) :
    val_main_v26 (F := Ideal) x0 x5 (ix3 t k n) = x5 (ix3 ⟨(x0 (ix1 t)).toNat, h⟩ k n) := by
  have e := v25_at x0 t h
  unfold val_main_v26
  refine (gathered_tall x5 _ t k n ((congrArg BitVec.toNat e).trans_lt h)).trans ?_
  refine congrArg (fun q => x5 (ix3 q k n)) (Fin.ext (congrArg BitVec.toNat e))

theorem v9_at (t : Fin 141) (h : (x0 (ix1 t)).toNat < 8) (i : Fin 512) (n : Fin 2816) : val_main_v9 x0 x2 x3 (ix3 t i n) =
    ∑ k, x2 (ix2 (line t i) k) * x3 (ix3 ⟨(x0 (ix1 t)).toNat, h⟩ k n) := by
  rw [val_main_v9_apply]
  refine Finset.sum_congr rfl fun k _ => ?_
  have e1 : lidx_main_v9 (ix3 t i n) k = ix3 t i k := funext fun a => by
    match a with
    | ⟨0, _⟩ => rfl
    | ⟨1, _⟩ => rfl
    | ⟨2, _⟩ => rfl
  have e2 : ridx_main_v9 (ix3 t i n) k = ix3 t k n := funext fun a => by
    match a with
    | ⟨0, _⟩ => rfl
    | ⟨1, _⟩ => rfl
    | ⟨2, _⟩ => rfl
  rw [e1, e2]
  rw [v1_at, v8_at _ _ _ h]

theorem v17_at (t : Fin 141) (h : (x0 (ix1 t)).toNat < 8) (i : Fin 512) (n : Fin 2816) : val_main_v17 x0 x2 x4 (ix3 t i n) =
    ∑ k, x2 (ix2 (line t i) k) * x4 (ix3 ⟨(x0 (ix1 t)).toNat, h⟩ k n) := by
  rw [val_main_v17_apply]
  refine Finset.sum_congr rfl fun k _ => ?_
  have e1 : lidx_main_v17 (ix3 t i n) k = ix3 t i k := funext fun a => by
    match a with
    | ⟨0, _⟩ => rfl
    | ⟨1, _⟩ => rfl
    | ⟨2, _⟩ => rfl
  have e2 : ridx_main_v17 (ix3 t i n) k = ix3 t k n := funext fun a => by
    match a with
    | ⟨0, _⟩ => rfl
    | ⟨1, _⟩ => rfl
    | ⟨2, _⟩ => rfl
  rw [e1, e2]
  rw [v1_at, v16_at _ _ _ h]

/-- The gate. -/
theorem v19_at (i : S141x512x2816.Idx) : val_main_v19 x0 x2 x3 x4 i = Cert.Layer.gate (val_main_v9 x0 x2 x3 i) (val_main_v17 x0 x2 x4 i) := by
  have h1 : FloatOps.ofBits (F := Ideal) FTy.f32 0x3F800000#32 = (1 : EReal) := by
    show Ideal.ofBits FTy.f32 0x3F800000#32 = 1
    simp [Ideal.ofBits, Ideal.ieee, -EReal.coe_mul]; norm_num
  rw [val_main_v19_apply, val_main_v18_apply, val_main_call0_v5_apply, val_main_call0_v4_apply, val_main_call0_cst_0_apply,
    val_main_call0_v3_apply, val_main_call0_v2_apply, val_main_call0_cst_apply, val_main_call0_v1_apply, val_main_call0_v0_apply, h1]
  rfl

/-- A row of the tile after its expert. -/
theorem v27_at (t : Fin 141) (h : (x0 (ix1 t)).toNat < 8) (i : Fin 512) (j : Fin 1024) : val_main_v27 x0 x2 x3 x4 x5 (ix3 t i j) =
    Cert.Layer.swiglu (fun k => x2 (ix2 (line t i) k)) (fun k n => x3 (ix3 ⟨(x0 (ix1 t)).toNat, h⟩ k n))
      (fun k n => x4 (ix3 ⟨(x0 (ix1 t)).toNat, h⟩ k n)) (fun n => x5 (ix3 ⟨(x0 (ix1 t)).toNat, h⟩ n j)) := by
  rw [val_main_v27_apply]
  refine Finset.sum_congr rfl fun k _ => ?_
  have e1 : lidx_main_v27 (ix3 t i j) k = ix3 t i k := funext fun a => by
    match a with
    | ⟨0, _⟩ => rfl
    | ⟨1, _⟩ => rfl
    | ⟨2, _⟩ => rfl
  have e2 : ridx_main_v27 (ix3 t i j) k = ix3 t k j := funext fun a => by
    match a with
    | ⟨0, _⟩ => rfl
    | ⟨1, _⟩ => rfl
    | ⟨2, _⟩ => rfl
  rw [e1, e2]
  rw [v19_at, v9_at _ _ _ _ h, v17_at _ _ _ _ h, v26_at _ _ _ h]
  rfl

/-- Whether the tile is in use. -/
theorem mask_at (t : Fin 141) (i : Fin 512) (j : Fin 1024) : val_main_call1_v1 (F := Ideal) x1 (ix3 t i j) =
    BitVec.ofBool ((BitVec.ofNat 32 t.val).slt (x1 (ix1 0))) := by
  have e : idx_main_v32 (idx_main_call1_v1 (ix3 t i j)) = ix1 t := funext fun a => by
    match a with
    | ⟨0, _⟩ => rfl
  have e1 : val_main_v29 (F := Ideal) x1 (idx_main_v30 (ix1 t)) = x1 (ix1 0) := by
    unfold val_main_v29
    refine congrArg x1 (funext fun a => ?_)
    match a with
    | ⟨0, _⟩ => exact Subsingleton.elim (α := Fin 1) _ _
  rw [val_main_call1_v1_apply, val_main_v32_apply, e, val_main_v31_apply, val_main_v28_apply, val_main_v30_apply, e1]
  rfl

/-- The result. -/
theorem v34_at (t : Fin 141) (h : (x0 (ix1 t)).toNat < 8) (i : Fin 512) (j : Fin 1024) : val_main_v34 x0 x1 x2 x3 x4 x5 (ix2 (line t i) j) =
    if (BitVec.ofNat 32 t.val).slt (x1 (ix1 0)) = true then
      Cert.Layer.swiglu (fun k => x2 (ix2 (line t i) k)) (fun k n => x3 (ix3 ⟨(x0 (ix1 t)).toNat, h⟩ k n))
        (fun k n => x4 (ix3 ⟨(x0 (ix1 t)).toNat, h⟩ k n)) (fun n => x5 (ix3 ⟨(x0 (ix1 t)).toNat, h⟩ n j))
    else 0 := by
  have h0 : FloatOps.ofBits (F := Ideal) FTy.f32 0x00000000#32 = (0 : EReal) := by
    show Ideal.ofBits FTy.f32 0x00000000#32 = 0
    simp [Ideal.ofBits, Ideal.ieee]
  have e : idx_main_v34 (ix2 (line t i) j) = ix3 t i j := funext fun a => Fin.ext (by
    match a with
    | ⟨0, _⟩ =>
      show ((512 * t.val + i.val) * 1024 + j.val) / 524288 = t.val
      omega
    | ⟨1, _⟩ =>
      show ((512 * t.val + i.val) * 1024 + j.val) / 1024 % 512 = i.val
      omega
    | ⟨2, _⟩ =>
      show ((512 * t.val + i.val) * 1024 + j.val) % 1024 = j.val
      omega)
  rw [val_main_v34_apply, e, val_main_v33_apply, mask_at, v27_at _ _ _ _ _ _ h, val_main_call1_v2_apply, val_main_call1_v0_apply,
    val_main_cst_apply, h0]
  generalize (BitVec.ofNat 32 t.val).slt (x1 (ix1 0)) = b
  cases b <;> rfl

end Cert.MoeReferenceIdeal.Experts

end
-- ==== Proof.Moe.Join.lean ====
/-
  The claims of the experts' part: the reference's result is the kernel's result array.
-/
module

public import proofs.«01_k».proof.Defs
public import proofs.«01_k».proof.Proof.Moe.Value
public import proofs.«01_k».proof.Proof.Moe.Ref
public import proofs.«01_k».proof.Proof.Gen.MoeReferenceIdeal.Run
public import Idealize.ShloMosaic.Adequacy

@[expose] public section

set_option maxRecDepth 16384

noncomputable section

namespace Cert.Experts

open Idealize.ShloMosaic Idealize.ShloMosaic.TcCoe Idealize.SL.Sem Cert.MoeReferenceIdeal Cert.MoeReferenceIdeal.Read

variable (x0 : (⟨S141, .i32⟩ : BufTy).Contents (Elt Ideal))
  (x1 : (⟨S1, .i32⟩ : BufTy).Contents (Elt Ideal))
  (x2 : (⟨S72192x1024, .bf16⟩ : BufTy).Contents (Elt Ideal))
  (x3 : (⟨S8x1024x2816, .f32⟩ : BufTy).Contents (Elt Ideal))
  (x4 : (⟨S8x1024x2816, .f32⟩ : BufTy).Contents (Elt Ideal))
  (x5 : (⟨S8x2816x1024, .f32⟩ : BufTy).Contents (Elt Ideal))
  (m : (ℓ : Loc Cert.MoeIdeal.nD Cert.MoeIdeal.τ Cert.MoeIdeal.sig) → Buf (Elt Ideal) ℓ) (c : Dev Cert.MoeIdeal.nD)

/-- The precondition, at the argument. -/
theorem below (h : Cert.Pre_MoeIdeal m) (t : Fin 141) :
    (m ((c.tc : Thread Cert.MoeIdeal.nD Cert.MoeIdeal.τ).loc Cert.MoeIdeal.main_arg0) (ix1 t) : BitVec 32).toNat < 8 :=
  in_range _ _ _ _ _ _ (h c) t

/-- The reference's result is the specification's array. -/
theorem result_eq (h : ∀ t : Fin 141, (m ((c.tc : Thread Cert.MoeIdeal.nD Cert.MoeIdeal.τ).loc Cert.MoeIdeal.main_arg0) (ix1 t) : BitVec 32).toNat < 8)
    (h0 : x0 = m ((c.tc : Thread Cert.MoeIdeal.nD Cert.MoeIdeal.τ).loc Cert.MoeIdeal.main_arg0))
    (h1 : x1 = m ((c.tc : Thread Cert.MoeIdeal.nD Cert.MoeIdeal.τ).loc Cert.MoeIdeal.main_arg1))
    (h2 : x2 = m ((c.tc : Thread Cert.MoeIdeal.nD Cert.MoeIdeal.τ).loc Cert.MoeIdeal.main_arg2))
    (h3 : x3 = m ((c.tc : Thread Cert.MoeIdeal.nD Cert.MoeIdeal.τ).loc Cert.MoeIdeal.main_arg3))
    (h4 : x4 = m ((c.tc : Thread Cert.MoeIdeal.nD Cert.MoeIdeal.τ).loc Cert.MoeIdeal.main_arg4))
    (h5 : x5 = m ((c.tc : Thread Cert.MoeIdeal.nD Cert.MoeIdeal.τ).loc Cert.MoeIdeal.main_arg5)) :
    val_main_v34 x0 x1 x2 x3 x4 x5 = Cert.MoeIdeal.Experts.results m c h := by
  subst h0 h1 h2 h3 h4 h5
  funext i
  have hi : (i 0).val < 72192 := (i 0).isLt
  refine Eq.trans (congrArg (val_main_v34 _ _ _ _ _ _) (funext fun a => ?_))
    (Cert.MoeReferenceIdeal.Experts.v34_at _ _ _ _ _ _ ⟨(i 0).val / 512, by omega⟩ (h _) ⟨(i 0).val % 512, Nat.mod_lt _ (by decide)⟩
      ⟨(i 1).val, (i 1).isLt⟩)
  match a with
  | ⟨0, _⟩ => exact Fin.ext (Nat.div_add_mod _ _).symm
  | ⟨1, _⟩ => rfl

/-- The reference's run: its arguments end unchanged, and it has no semaphore. -/
theorem reference_frame : Cert.quiescent_MoeReferenceIdeal := fun m ρ _ =>
  (θ_run Cert.MoeReferenceIdeal.defs _ _).mono
    (fun r h => ⟨fun c => (h c).2, Idealize.ShloMosaic.sem_eq_zero_of_no_sems (by decide) r.2⟩)
    (Cert.MoeReferenceIdeal.Value.run m ρ)

open Cert.MoeIdeal.Gen in
/-- The kernel's run: its result array is the specification's, and its arguments end unchanged. -/
theorem kernel_run (g : Dev Cert.MoeIdeal.nD → PrngReg) (h : Cert.Pre_MoeIdeal m) :
    θ_run Cert.MoeIdeal.defs (onTc (τ := Cert.MoeIdeal.τ) (Cert.MoeIdeal.main (F := Ideal))) ⟨m, fun _ => 0, g⟩ (fun r => ∀ c : Dev Cert.MoeIdeal.nD,
      r.2.mem ((c.tc : Thread Cert.MoeIdeal.nD Cert.MoeIdeal.τ).loc Cert.MoeIdeal.main_v3) = Cert.MoeIdeal.Experts.results m c (below m c h)) :=
  (θ_run Cert.MoeIdeal.defs _ _).mono
    (fun r hr c => ((hr c).1 4).trans (Cert.MoeIdeal.Experts.final m (Cert.MoeIdeal.Experts.ok_of_pre m h) c (below m c h)))
    (run_main m g (Cert.MoeIdeal.Experts.ok_of_pre m h))

/-- The kernel's call and the reference's agree. -/
theorem algebraic : Cert.algebraic_MoeIdeal_MoeReferenceIdeal := fun m g m' g' hp hm =>
  ⟨fun c => Cert.MoeIdeal.Experts.results m c (below m c hp),
   (θ_run Cert.MoeIdeal.defs _ _).mono (fun r h c => ⟨h.1 c, h.2 c⟩)
    (Idealize.ShloMosaic.θ_run_and (kernel_run m g hp) (Cert.MoeIdeal.Gen.unchanged m g (Cert.MoeIdeal.Experts.ok_of_pre m hp))),
   (θ_run Cert.MoeReferenceIdeal.defs _ _).mono (fun r h c => by
      obtain ⟨h1, h3⟩ := h c
      obtain ⟨e0, e1, e2, e3, e4, e5⟩ := hm c
      exact ⟨h1.trans ((val_main_v34_eq _ _ _ _ _ _).trans (result_eq _ _ _ _ _ _ m c (below m c hp) e0 e1 e2 e3 e4 e5)), h3⟩)
    (Cert.MoeReferenceIdeal.Value.run m' g')⟩

end Cert.Experts

end
-- ==== Proof.Router.Choice.lean ====
/-
  The router's choice, on numbers alone: of eight finite logits the greatest and the next (the earlier one of equals), the
  two gates, and how 128 lanes of which the last 120 are the least number give the same choice by a maximum and the
  first lane that holds it.
-/
module

public import proofs.«01_k».proof.Proof.Layer.Spec
public import Idealize.ShloMosaic.Lib.SortPrefix
public import Idealize.ShloMosaic.Lib.WordArith

@[expose] public section

noncomputable section

namespace Cert.Router

open Idealize.ShloMosaic

/-! ### Finite numbers -/

/-- A sum of products of finite numbers is finite. -/
theorem dot_finite {n : ℕ} (f g : Fin n → EReal) (hf : ∀ i, f i ≠ ⊤ ∧ f i ≠ ⊥) (hg : ∀ i, g i ≠ ⊤ ∧ g i ≠ ⊥) :
    ∃ r : ℝ, ∑ i, f i * g i = (r : EReal) := by
  choose a ha using fun i => EReal.canLift.prf (f i) (hf i)
  choose b hb using fun i => EReal.canLift.prf (g i) (hg i)
  refine ⟨∑ i, a i * b i, ?_⟩
  have : ∀ s : Finset (Fin n), ∑ i ∈ s, f i * g i = ((∑ i ∈ s, a i * b i : ℝ) : EReal) := fun s => by
    induction s using Finset.induction_on with
    | empty => simp
    | insert i s hi ih => rw [Finset.sum_insert hi, Finset.sum_insert hi, ih, EReal.coe_add, EReal.coe_mul, ha, hb]
  exact this _

/-- A finite number less itself is zero. -/
theorem sub_self_finite (a : EReal) (h : a ≠ ⊤ ∧ a ≠ ⊥) : a - a = 0 := by
  lift a to ℝ using h
  norm_cast; ring

/-- A square is not negative. -/
theorem square_nonneg (a : EReal) : 0 ≤ a * a := by
  induction a using EReal.rec with
  | bot => simp
  | top => simp
  | coe a => exact_mod_cast mul_self_nonneg a

theorem square_top (a : EReal) (h : ¬(a ≠ ⊤ ∧ a ≠ ⊥)) : a * a = ⊤ := by
  induction a using EReal.rec with
  | bot => simp
  | top => simp
  | coe a => exact absurd ⟨EReal.coe_ne_top a, EReal.coe_ne_bot a⟩ h

/-- Finite weights make a normed row finite, whatever the row: if a number of it is infinite, so is the mean square, and
    the row is scaled to zero. -/
theorem normed_finite (x w : Fin 1024 → EReal) (hw : ∀ d, w d ≠ ⊤ ∧ w d ≠ ⊥) (d : Fin 1024) :
    Cert.Layer.normed x w d ≠ ⊤ ∧ Cert.Layer.normed x w d ≠ ⊥ := by
  have hN : Ideal.ofBits FTy.f32 0x44800000#32 = ((1024 : ℝ) : EReal) := by
    simp [Ideal.ofBits, Ideal.ieee, -EReal.coe_mul]; norm_num
  obtain ⟨e, he, hpos⟩ : ∃ e : ℝ, Ideal.ofBits FTy.f32 0x358637BD#32 = (e : EReal) ∧ 0 < e := by
    refine ⟨_, by simp [Ideal.ofBits, Ideal.ieee, -EReal.coe_mul]; rfl, by norm_num⟩
  have hinv : ((1024 : ℝ) : EReal)⁻¹ = (((1024 : ℝ)⁻¹ : ℝ) : EReal) := rfl
  have h0 : ((1024 : ℝ) : EReal) ≠ 0 := by exact_mod_cast (by norm_num : (1024 : ℝ) ≠ 0)
  unfold Cert.Layer.normed
  rw [hN, he]
  unfold Ideal.div
  rw [if_neg h0, hinv]
  obtain ⟨v, hv⟩ := EReal.canLift.prf (w d) (hw d)
  rw [← hv]
  by_cases hx : ∀ i, x i ≠ ⊤ ∧ x i ≠ ⊥
  · obtain ⟨s, hs⟩ := dot_finite x x hx hx
    obtain ⟨a, ha⟩ := EReal.canLift.prf (x d) (hx d)
    have hn : (0 : ℝ) ≤ s := by
      have : (0 : EReal) ≤ ∑ i, x i * x i := Finset.sum_nonneg fun i _ => square_nonneg (x i)
      rw [hs] at this; exact_mod_cast this
    rw [hs, ← ha, ← EReal.coe_mul, ← EReal.coe_add, Ideal.rsqrt_coe]
    have h1 : 0 < s * (1024 : ℝ)⁻¹ + e := by positivity
    rw [if_neg (not_lt.2 h1.le), if_neg h1.ne', ← EReal.coe_mul, ← EReal.coe_mul]
    exact ⟨EReal.coe_ne_top _, EReal.coe_ne_bot _⟩
  · obtain ⟨i, hi⟩ := not_forall.1 hx
    have hs : ∑ i, x i * x i = ⊤ := top_le_iff.1 ((square_top (x i) hi).ge.trans
      (Finset.single_le_sum (f := fun i => x i * x i) (fun j _ => square_nonneg (x j)) (Finset.mem_univ i)))
    rw [hs, EReal.top_mul_coe_of_pos (by norm_num), EReal.top_add_coe, Ideal.rsqrt_top, mul_zero, zero_mul]
    exact ⟨EReal.zero_ne_top, EReal.zero_ne_bot⟩

/-! ### The order -/

variable (l : Fin 8 → EReal)

/-- Logit `k` is greater than logit `k'`. -/
def greater (k k' : Fin 8) : Bool := decide (l k' < l k)

/-- The same with equals in their order. -/
def earlier (k k' : Fin 8) : Bool := decide (l k' < l k ∨ (l k = l k' ∧ k < k'))

/-- The expert of the greatest logit, and of the next. -/
def first : Fin 8 := sortedFrom (greater l) 0
def second : Fin 8 := sortedFrom (greater l) 1

/-- A stable sort keeps equals in their order. -/
theorem stable_eq (L : List (Fin 8)) (h : L.Pairwise (· < ·)) : stableSort (greater l) L = stableSort (earlier l) L := by
  induction L with
  | nil => rfl
  | cons a L ih =>
    rw [List.pairwise_cons] at h
    unfold stableSort
    rw [ih h.2]
    refine insertBefore_congr _ _ a _ fun b hb => ?_
    have hab := h.1 b ((perm_stableSort _ L).mem_iff.1 hb)
    unfold greater earlier
    refine decide_eq_decide.2 ⟨Or.inl, fun h => h.resolve_right fun h2 => absurd h2.2 (not_lt.2 hab.le)⟩

theorem sorted_eq (i : Fin 8) : sortedFrom (greater l) i = sortedFrom (earlier l) i := by
  have h : sortPositions 8 (greater l) = sortPositions 8 (earlier l) := stable_eq l _ (by decide)
  unfold sortedFrom
  simp only [h, List.get_eq_getElem, Fin.val_cast]

/-- What a later place holds is not before what an earlier one holds. -/
theorem sorted (i j : Fin 8) (hij : i < j) : earlier l (sortedFrom (greater l) j) (sortedFrom (greater l) i) = false := by
  rw [sorted_eq, sorted_eq]
  refine sortedFrom_noInversion (earlier l) (earlier l) (fun a b h => ?_) (fun _ _ h => h) (fun a b c h1 h2 => ?_) i j hij
  · simp only [earlier, decide_eq_true_eq, decide_eq_false_iff_not] at h ⊢
    rintro (h1 | h1) <;> rcases h with h | h
    · exact absurd h1 h.asymm
    · exact absurd h1 (by rw [h.1]; exact lt_irrefl _)
    · exact absurd h (by rw [h1.1]; exact lt_irrefl _)
    · exact absurd h1.2 h.2.asymm
  · simp only [earlier, decide_eq_false_iff_not, not_or, not_and, not_lt] at h1 h2 ⊢
    refine ⟨h1.1.trans h2.1, fun e => ?_⟩
    have e1 : l a = l b := le_antisymm h1.1 (h2.1.trans e.ge)
    exact (h2.2 (e1 ▸ e)).trans (h1.2 e1)

/-- Lane `a` holds the greatest of the numbers, and is the first that does. -/
def IsFirst {n : ℕ} (z : Fin n → EReal) (a : Fin n) : Prop := (∀ k, z k ≤ z a) ∧ ∀ k, k < a → z k < z a

theorem not_earlier (k k' : Fin 8) (h : earlier l k k' = false) : l k ≤ l k' ∧ (k < k' → l k < l k') := by
  simp only [earlier, decide_eq_false_iff_not, not_or, not_and, not_lt] at h
  exact ⟨h.1, fun hk => lt_of_le_of_ne h.1 fun e => absurd hk (not_lt.2 (h.2 e))⟩

theorem first_le (k : Fin 8) (hk : k ≠ first l) : l k ≤ l (first l) ∧ (k < first l → l k < l (first l)) := by
  obtain ⟨j, rfl⟩ := sortedFrom_surjective (greater l) k
  refine not_earlier l _ _ (sorted l 0 j (Fin.pos_iff_ne_zero.2 fun e => hk ?_))
  rw [e]; rfl

theorem second_ne : second l ≠ first l := fun h =>
  absurd (sortedFrom_injective (greater l) h) (by decide)

theorem second_le (k : Fin 8) (h1 : k ≠ first l) (h2 : k ≠ second l) :
    l k ≤ l (second l) ∧ (k < second l → l k < l (second l)) := by
  obtain ⟨j, rfl⟩ := sortedFrom_surjective (greater l) k
  refine not_earlier l _ _ (sorted l 1 j ?_)
  have hj0 : j ≠ 0 := fun e => h1 (by rw [e]; rfl)
  have hj1 : j ≠ 1 := fun e => h2 (by rw [e]; rfl)
  omega

/-! ### The lanes -/

/-- The eight logits on 128 lanes, the least number on the others. -/
def lanes (j : Fin 128) : EReal := if h : j.val < 8 then l ⟨j.val, h⟩ else ⊥

/-- An expert's lane. -/
def at8 (a : Fin 8) : Fin 128 := ⟨a.val, by omega⟩

theorem lanes_at8 (a : Fin 8) : lanes l (at8 a) = l a := dif_pos a.isLt

/-- The lanes with the first choice taken out. -/
def others (j : Fin 128) : EReal := if j = at8 (first l) then ⊥ else lanes l j

theorem lanes_first (hl : ∀ k, l k ≠ ⊥) : IsFirst (lanes l) (at8 (first l)) := by
  refine ⟨fun k => ?_, fun k hk => ?_⟩
  · rw [lanes_at8]
    unfold lanes
    split
    · rename_i h
      by_cases e : (⟨k.val, h⟩ : Fin 8) = first l
      · rw [e]
      · exact (first_le l _ e).1
    · exact bot_le
  · have h : k.val < (first l).val := hk
    rw [lanes_at8]
    unfold lanes
    rw [dif_pos (by omega)]
    exact (first_le l _ fun e => absurd (congrArg Fin.val e) (by simp only; omega)).2 h

theorem at8_ne {a b : Fin 8} (h : a ≠ b) : at8 a ≠ at8 b := fun e => h (Fin.ext (congrArg (fun q : Fin 128 => q.val) e))

theorem others_at : others l (at8 (second l)) = l (second l) := by
  unfold others
  rw [if_neg (at8_ne (second_ne l)), lanes_at8]

theorem others_second (hl : ∀ k, l k ≠ ⊥) : IsFirst (others l) (at8 (second l)) := by
  have h2 := others_at l
  refine ⟨fun k => ?_, fun k hk => ?_⟩
  · rw [h2]
    unfold others
    split
    · exact bot_le
    · rename_i hne
      unfold lanes
      split
      · rename_i h
        by_cases e : (⟨k.val, h⟩ : Fin 8) = second l
        · rw [e]
        · exact (second_le l _ (fun e => hne (Fin.ext (congrArg (fun q : Fin 8 => q.val) e))) e).1
      · exact bot_le
  · have h : k.val < (second l).val := hk
    rw [h2]
    unfold others
    split
    · exact bot_lt_iff_ne_bot.2 (hl _)
    · rename_i hne
      unfold lanes
      rw [dif_pos (by omega)]
      exact (second_le l _ (fun e => hne (Fin.ext (congrArg (fun q : Fin 8 => q.val) e)))
        fun e => absurd (congrArg Fin.val e) (by simp only; omega)).2 h

/-- The maximum of lanes with a first greatest one. -/
theorem max_eq {n : ℕ} (z : Fin n → EReal) (a : Fin n) (h : IsFirst z a) : Finset.univ.fold max ⊥ z = z a :=
  le_antisymm (Finset.fold_max_le _ |>.2 ⟨bot_le, fun k _ => h.1 k⟩)
    (Finset.le_fold_max _ |>.2 (.inr ⟨a, Finset.mem_univ _, le_rfl⟩))

/-- The least of the words of a set of lanes. -/
theorem word_fold (f : Fin 128 → BitVec 32) (s : Finset (Fin 128)) :
    (s.fold IntOp.minsi 2147483647#32 f).toInt = s.fold min 2147483647 fun j => (f j).toInt := by
  induction s using Finset.induction_on with
  | empty => rfl
  | insert a s ha ih =>
    rw [Finset.fold_insert ha, Finset.fold_insert ha, ← ih]
    show (if (f a).slt (s.fold IntOp.minsi 2147483647#32 f) then f a else s.fold IntOp.minsi 2147483647#32 f).toInt = _
    by_cases h : (f a).toInt < (s.fold IntOp.minsi 2147483647#32 f).toInt
    · rw [show (f a).slt _ = true from decide_eq_true h, if_pos rfl, min_eq_left h.le]
    · rw [show (f a).slt _ = false from decide_eq_false h, if_neg Bool.false_ne_true, min_eq_right (not_lt.1 h)]

theorem lane_toInt (j : Fin 128) : (BitVec.ofNat 32 j.val).toInt = j.val := by revert j; decide +kernel

/-- The first lane that holds the maximum, found as the least lane number among those that do. -/
theorem index_eq (z : Fin 128 → EReal) (a : Fin 128) (h : IsFirst z a) (f : Fin 128 → BitVec 32)
    (hf : ∀ j, f j = if z j = z a then BitVec.ofNat 32 j.val else 128#32) :
    Finset.univ.fold IntOp.minsi 2147483647#32 f = BitVec.ofNat 32 a.val := by
  apply BitVec.eq_of_toInt_eq
  rw [word_fold, lane_toInt]
  refine le_antisymm ?_ ?_
  · refine Finset.fold_min_le _ |>.2 (.inr ⟨a, Finset.mem_univ _, ?_⟩)
    rw [hf, if_pos rfl, lane_toInt]
  · refine Finset.le_fold_min _ |>.2 ⟨by have := a.isLt; omega, fun k _ => ?_⟩
    rw [hf]
    split
    · rename_i e
      rw [lane_toInt]
      by_contra hk
      exact absurd e (h.2 k (by rw [Fin.lt_def]; omega)).ne
    · have := a.isLt
      rw [show (128#32).toInt = 128 from by decide]; omega

/-! ### The result row -/

/-- The next choice's weight before both are divided by their sum; the first's is one. -/
def ratio : EReal := Ideal.exp (l (second l) - l (first l))

/-- The result row: the two experts' numbers, their gates, and zeros. -/
def route (j : Fin 128) : EReal :=
  if j.val = 0 then (FloatOps.sitofp .f32 (BitVec.ofNat 32 (first l).val) : Ideal .f32)
  else if j.val = 1 then (FloatOps.sitofp .f32 (BitVec.ofNat 32 (second l).val) : Ideal .f32)
  else if j.val = 2 then Ideal.div 1 (1 + ratio l)
  else if j.val = 3 then Ideal.div (ratio l) (1 + ratio l)
  else 0

end Cert.Router

end
-- ==== Proof.Router.Value.lean ====
/-
  The output product, the norm and the router: the three result arrays after the kernel's run. A row is mixed and
  normalised; its logits are taken against weights split in two parts, masked to eight lanes, and two are chosen.
-/
module

public import proofs.«01_k».proof.Proof.Router.Choice
public import proofs.«01_k».proof.Proof.Gen.RouterIdeal.Value
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.RouterIdeal.Router

open Cert.RouterIdeal Cert.RouterIdeal.Gen Idealize.ShloMosaic Idealize.ShloMosaic.TcCoe Idealize.SL.Sem
open Idealize.ShloMosaic.Tactic

variable (m : (ℓ : Loc nD τ sig) → Buf (Elt Ideal) ℓ) (c : Dev nD)

theorem idx0 : ∀ t, win0_0.index t 0 = t.val ∧ win0_0.index t 1 = 0 := by decide +kernel
theorem idx1 : ∀ t, win0_1.index t 0 = t.val ∧ win0_1.index t 1 = 0 := by decide +kernel
theorem idx2 : ∀ t, win0_2.index t 0 = t.val ∧ win0_2.index t 1 = 0 := by decide +kernel
theorem idx3 : ∀ t, win0_3.index t 0 = 0 ∧ win0_3.index t 1 = 0 := by decide +kernel
theorem idx4 : ∀ t, win0_4.index t 0 = 0 ∧ win0_4.index t 1 = 0 := by decide +kernel
theorem idx5 : ∀ t, win0_5.index t 0 = 0 ∧ win0_5.index t 1 = 0 := by decide +kernel
theorem idx6 : ∀ t, win0_6.index t 0 = 0 ∧ win0_6.index t 1 = 0 := by decide +kernel
theorem idx7 : ∀ t, win0_7.index t 0 = t.val ∧ win0_7.index t 1 = 0 := by decide +kernel
theorem idx8 : ∀ t, win0_8.index t 0 = t.val ∧ win0_8.index t 1 = 0 := by decide +kernel
theorem idx9 : ∀ t, win0_9.index t 0 = t.val ∧ win0_9.index t 1 = 0 := by decide +kernel

theorem points (t : Fin cfg0.N) : t.val < 67 := t.isLt

/-- A row of a grid point's block, as a row of the array. -/
def line (t : Fin cfg0.N) (i : Fin 512) : Fin 34304 := ⟨512 * t.val + i.val, by have := points t; omega⟩

theorem host0 (i : Fin 34304) (j : Fin 1024) : V m c main_arg0 (ix2 i j) = m (c, main_arg0) (ix2 i j) := by
  unfold V
  simp only [hostOps0, List.flatten_cons, List.flatten_nil, List.cons_append, List.nil_append, List.append_nil]
  after_reads_at
theorem host1 (i : Fin 34304) (j : Fin 512) : V m c main_arg1 (ix2 i j) = m (c, main_arg1) (ix2 i j) := by
  unfold V
  simp only [hostOps0, List.flatten_cons, List.flatten_nil, List.cons_append, List.nil_append, List.append_nil]
  after_reads_at
theorem host2 (i : Fin 34304) (j : Fin 512) : V m c main_arg2 (ix2 i j) = m (c, main_arg2) (ix2 i j) := by
  unfold V
  simp only [hostOps0, List.flatten_cons, List.flatten_nil, List.cons_append, List.nil_append, List.append_nil]
  after_reads_at
theorem host3 (i : Fin 1024) (j : Fin 1024) : V m c main_v5 (ix2 i j) = m (c, main_arg3) (ix2 i j) := by
  unfold V
  simp only [hostOps0, List.flatten_cons, List.flatten_nil, List.cons_append, List.nil_append, List.append_nil]
  after_reads_at
theorem host4 (j : Fin 1024) : V m c main_v6 (ix2 0 j) = m (c, main_arg4) (ix1 j) := by
  unfold V
  simp only [hostOps0, List.flatten_cons, List.flatten_nil, List.cons_append, List.nil_append, List.append_nil]
  after_reads_at
/-- A weight of the router. -/
def wt (i : Fin 1024) (j : Fin 8) : EReal := m (c, main_arg5) (ix2 i j)

/-- The router's weights: the eight columns, in their lanes. -/
theorem host5 (i : Fin 1024) (j : Fin 8) : V m c main_v1 (ix2 i (Cert.Router.at8 j)) = wt m c i j := by
  unfold V Cert.Router.at8 wt
  simp only [hostOps0, List.flatten_cons, List.flatten_nil, List.cons_append, List.nil_append, List.append_nil]
  after_reads_at
/-- Their remainder after rounding is each less itself. -/
theorem host6 (i : Fin 1024) (j : Fin 8) : V m c main_v4 (ix2 i (Cert.Router.at8 j)) =
    wt m c i j - wt m c i j := by
  unfold V Cert.Router.at8 wt
  simp only [hostOps0, List.flatten_cons, List.flatten_nil, List.cons_append, List.nil_append, List.append_nil]
  after_reads_at

theorem blk0 (t : Fin cfg0.N) (i : Fin 512) (k : Fin 1024) : iblk m c 0 t (ix2 i k) = m (c, main_arg0) (ix2 (line t i) k) := by
  have h := idx0 t
  refine Eq.trans ?_ (host0 m c (line t i) k)
  unfold line
  blk_ext [iblk]
theorem blk1 (t : Fin cfg0.N) (i : Fin 512) (k : Fin 512) : iblk m c 1 t (ix2 i k) = m (c, main_arg1) (ix2 (line t i) k) := by
  have h := idx1 t
  refine Eq.trans ?_ (host1 m c (line t i) k)
  unfold line
  blk_ext [iblk]
theorem blk2 (t : Fin cfg0.N) (i : Fin 512) (k : Fin 512) : iblk m c 2 t (ix2 i k) = m (c, main_arg2) (ix2 (line t i) k) := by
  have h := idx2 t
  refine Eq.trans ?_ (host2 m c (line t i) k)
  unfold line
  blk_ext [iblk]
theorem blk3 (t : Fin cfg0.N) (i : Fin 1024) (k : Fin 1024) : iblk m c 3 t (ix2 i k) = m (c, main_arg3) (ix2 i k) := by
  have h := idx3 t
  refine Eq.trans ?_ (host3 m c i k)
  blk_ext [iblk]
theorem blk4 (t : Fin cfg0.N) (k : Fin 1024) : iblk m c 4 t (ix2 0 k) = m (c, main_arg4) (ix1 k) := by
  have h := idx4 t
  refine Eq.trans ?_ (host4 m c k)
  blk_ext [iblk]
theorem blk5 (t : Fin cfg0.N) (i : Fin 1024) (k : Fin 8) : iblk m c 5 t (ix2 i (Cert.Router.at8 k)) = wt m c i k := by
  have h := idx5 t
  refine Eq.trans ?_ (host5 m c i k)
  unfold Cert.Router.at8
  blk_ext [iblk]
theorem blk6 (t : Fin cfg0.N) (i : Fin 1024) (k : Fin 8) : iblk m c 6 t (ix2 i (Cert.Router.at8 k)) =
    wt m c i k - wt m c i k := by
  have h := idx6 t
  refine Eq.trans ?_ (host6 m c i k)
  unfold Cert.Router.at8
  blk_ext [iblk]

/-- The mixed rows. -/
theorem mixed_apply (x : Vec Ideal S512x1024 .f32) (s a : Vec Ideal S512x512 .bf16) (w : Vec Ideal S1024x1024 .bf16)
    (i : Fin 512) (j : Fin 1024) :
    k0_pay2 x s (View.ld w (Rect.unit ![0, 0] ![512, 1024] inb_S1024x1024_S512x1024_0_0)) a
      (View.ld w (Rect.unit ![512, 0] ![512, 1024] inb_S1024x1024_S512x1024_512_0)) (ix2 i j) =
      Cert.Layer.mixed (x (ix2 i j)) (fun k => w (ix2 k j)) (fun k => s (ix2 i k)) (fun k => a (ix2 i k)) := by
  pointwise [k0_pay2]
  rfl

/-- The normalised rows. -/
theorem normed_apply (x : Vec Ideal S512x1024 .f32) (s a : Vec Ideal S512x512 .bf16) (w1 w2 : Vec Ideal S512x1024 .bf16)
    (w : Vec Ideal S1x1024 .f32) (i : Fin 512) (k : Fin 1024) :
    k0_pay3 x s w1 a w2 w (ix2 i k) = Cert.Layer.normed (fun e => k0_pay2 x s w1 a w2 (ix2 i e)) (fun e => w (ix2 0 e)) k := by
  unfold k0_pay3
  generalize k0_pay2 x s w1 a w2 = y
  have h0 : Ideal.ofBits FTy.f32 0#32 = 0 := by simp [Ideal.ofBits, Ideal.ieee]
  pointwise
  rfl

/-! ### The logits and the choice, row by row -/

section Body
variable (hi lo : FVec Ideal S512x1024 .bf16) (w1 : FVec Ideal S1024x128 .bf16) (w2 w3 : Vec Ideal S1024x128 .bf16) (i : Fin 512)

/-- The masked logits. -/
def masked : FVec Ideal S512x128 .f32 := k0_pay7 hi lo w1 (constant S512x128 .f32 0x00000000#32) w2 w3

theorem sel {α : Type} (p : Prop) [Decidable p] (x y : α) : Scalar.select (if p then 1#1 else 0#1) x y = if p then x else y := by
  split <;> rfl

theorem eq_word (a b : BitVec 32) : IntOp.cmpi .eq a b = if a = b then 1#1 else 0#1 := by
  by_cases h : a = b
  · simp [IntOp.cmpi, h]
  · rw [if_neg h]
    exact congrArg BitVec.ofBool (beq_false_of_ne h)

theorem lane_lt (j : Fin 128) : IntOp.cmpi .slt (BitVec.ofNat 32 j.val) 8#32 = if j.val < 8 then 1#1 else 0#1 := by
  revert j; decide +kernel

theorem masked_apply (j : Fin 128) : masked hi lo w1 w2 w3 (ix2 i j) =
    if j.val < 8 then ∑ k, hi (ix2 i k) * w1 (ix2 k j) + ∑ k, lo (ix2 i k) * w2 (ix2 k j) + ∑ k, hi (ix2 i k) * w3 (ix2 k j) else ⊥ := by
  have hbot : Ideal.ofBits FTy.f32 0xFF800000#32 = ⊥ := by simp [Ideal.ofBits, Ideal.ieee]
  have h0 : Ideal.ofBits FTy.f32 0#32 = 0 := by simp [Ideal.ofBits, Ideal.ieee]
  pointwise [masked, k0_pay7]
  rw [hbot, lane_lt]
  split <;> rfl

/-- A row's greatest logit. -/
def top : FVec Ideal S512x1 .f32 := k0_pay8 hi lo w1 (constant S512x128 .f32 0x00000000#32) w2 w3

theorem top_apply : top hi lo w1 w2 w3 (ix2 i 0) = Finset.univ.fold max ⊥ fun j => masked hi lo w1 w2 w3 (ix2 i j) := by
  have hbot : Ideal.ofBits FTy.f32 0xFF800000#32 = ⊥ := by simp [Ideal.ofBits, Ideal.ieee]
  change (shapeCast S512x1 (multiReduction .maximumf [1] S512 (masked hi lo w1 w2 w3) 0xFF800000#32 reduces_S512x128_S512 (.inl rfl) rfl)
    shapeCasts_S512_S512x1) (ix2 i 0) = _
  pointwise
  rw [hbot]

/-- The lane that holds it. -/
def best : IVec S512x1 32 := k0_pay9 hi lo w1 (constant S512x128 .f32 0x00000000#32) w2 w3

theorem best_apply : best hi lo w1 w2 w3 (ix2 i 0) = Finset.univ.fold IntOp.minsi 2147483647#32 fun j : Fin 128 =>
    if masked hi lo w1 w2 w3 (ix2 i j) = top hi lo w1 w2 w3 (ix2 i 0) then BitVec.ofNat 32 j.val else 128#32 := by
  unfold best k0_pay9
  change (shapeCast S512x1 (multiReductionI .minsi [1] S512 (select (cmpf .oeq (masked hi lo w1 w2 w3)
    (broadcastTo S512x128 (top hi lo w1 w2 w3) broadcasts_S512x1_S512x128)) (iota .tc S512x128 32 [1] iota_S512x128_d1_w32)
      (broadcast S512x128 128#32)) 2147483647#32 reduces_S512x128_S512 rfl) shapeCasts_S512_S512x1) (ix2 i 0) = _
  generalize masked hi lo w1 w2 w3 = Z
  generalize top hi lo w1 w2 w3 = M
  pointwise

/-- The logits with that lane taken out. -/
def rest : FVec Ideal S512x128 .f32 := k0_pay10 hi lo w1 (constant S512x128 .f32 0x00000000#32) w2 w3

theorem rest_apply (j : Fin 128) : rest hi lo w1 w2 w3 (ix2 i j) =
    if BitVec.ofNat 32 j.val = best hi lo w1 w2 w3 (ix2 i 0) then ⊥ else masked hi lo w1 w2 w3 (ix2 i j) := by
  have hbot : Ideal.ofBits FTy.f32 0xFF800000#32 = ⊥ := by simp [Ideal.ofBits, Ideal.ieee]
  change (select (cmpi .eq (iota .tc S512x128 32 [1] iota_S512x128_d1_w32)
    (broadcastTo S512x128 (best hi lo w1 w2 w3) broadcasts_S512x1_S512x128)) (broadcast S512x128 (Scalar.ofBits .f32 0xFF800000#32 : Ideal .f32))
      (masked hi lo w1 w2 w3)) (ix2 i j) = _
  generalize masked hi lo w1 w2 w3 = Z
  generalize best hi lo w1 w2 w3 = M
  pointwise
  rw [hbot, eq_word, sel]

/-- The greatest of those. -/
def top2 : FVec Ideal S512x1 .f32 := k0_pay11 hi lo w1 (constant S512x128 .f32 0x00000000#32) w2 w3

theorem top2_apply : top2 hi lo w1 w2 w3 (ix2 i 0) = Finset.univ.fold max ⊥ fun j => rest hi lo w1 w2 w3 (ix2 i j) := by
  have hbot : Ideal.ofBits FTy.f32 0xFF800000#32 = ⊥ := by simp [Ideal.ofBits, Ideal.ieee]
  change (shapeCast S512x1 (multiReduction .maximumf [1] S512 (rest hi lo w1 w2 w3) 0xFF800000#32 reduces_S512x128_S512 (.inl rfl) rfl)
    shapeCasts_S512_S512x1) (ix2 i 0) = _
  pointwise
  rw [hbot]

/-- The lane that holds it. -/
def best2 : IVec S512x1 32 := k0_pay12 hi lo w1 (constant S512x128 .f32 0x00000000#32) w2 w3

theorem best2_apply : best2 hi lo w1 w2 w3 (ix2 i 0) = Finset.univ.fold IntOp.minsi 2147483647#32 fun j : Fin 128 =>
    if rest hi lo w1 w2 w3 (ix2 i j) = top2 hi lo w1 w2 w3 (ix2 i 0) then BitVec.ofNat 32 j.val else 128#32 := by
  change (shapeCast S512x1 (multiReductionI .minsi [1] S512 (select (cmpf .oeq (rest hi lo w1 w2 w3)
    (broadcastTo S512x128 (top2 hi lo w1 w2 w3) broadcasts_S512x1_S512x128)) (iota .tc S512x128 32 [1] iota_S512x128_d1_w32)
      (broadcast S512x128 128#32)) 2147483647#32 reduces_S512x128_S512 rfl) shapeCasts_S512_S512x1) (ix2 i 0) = _
  generalize rest hi lo w1 w2 w3 = Z
  generalize top2 hi lo w1 w2 w3 = M
  pointwise

/-- The result rows from the two choices and their weights. -/
theorem lay_apply (a b : IVec S512x1 32) (e g s : FVec Ideal S512x1 .f32) (j : Fin 128) :
    k0_pay1 (iota .tc S512x128 32 [1] iota_S512x128_d1_w32) a b e g s (ix2 i j) =
      if j.val = 0 then (FloatOps.sitofp .f32 (a (ix2 i 0)) : Ideal .f32)
      else if j.val = 1 then (FloatOps.sitofp .f32 (b (ix2 i 0)) : Ideal .f32)
      else if j.val = 2 then g (ix2 i 0)
      else if j.val = 3 then Ideal.div (e (ix2 i 0)) (s (ix2 i 0))
      else (0 : EReal) := by
  have h0 : Ideal.ofBits FTy.f32 0#32 = 0 := by simp [Ideal.ofBits, Ideal.ieee]
  have hc : ∀ n : Fin 4, IntOp.cmpi .eq (BitVec.ofNat 32 j.val) (BitVec.ofNat 32 n.val) = if j.val = n.val then 1#1 else 0#1 := by
    revert j; decide +kernel
  pointwise [k0_pay1]
  have d0 := hc 0; have d1 := hc 1; have d2 := hc 2; have d3 := hc 3
  change IntOp.cmpi .eq (BitVec.ofNat 32 j.val) 0#32 = (if j.val = 0 then 1#1 else 0#1) at d0
  change IntOp.cmpi .eq (BitVec.ofNat 32 j.val) 1#32 = (if j.val = 1 then 1#1 else 0#1) at d1
  change IntOp.cmpi .eq (BitVec.ofNat 32 j.val) 2#32 = (if j.val = 2 then 1#1 else 0#1) at d2
  change IntOp.cmpi .eq (BitVec.ofNat 32 j.val) 3#32 = (if j.val = 3 then 1#1 else 0#1) at d3
  rw [d0, d1, d2, d3, sel, sel, sel, sel]

/-- The next choice's weight. -/
theorem weight_apply : k0_pay13 hi lo w1 (constant S512x128 .f32 0x00000000#32) w2 w3 (ix2 i 0) =
    Ideal.exp (top2 hi lo w1 w2 w3 (ix2 i 0) - top hi lo w1 w2 w3 (ix2 i 0)) := by
  change (exp (subf (top2 hi lo w1 w2 w3) (top hi lo w1 w2 w3))) (ix2 i 0) = _
  pointwise

theorem one_bits : Ideal.ofBits FTy.f32 0x3F800000#32 = 1 := by
  simp [Ideal.ofBits, Ideal.ieee, -EReal.coe_mul]; norm_num

theorem gate_apply : k0_pay14 hi lo w1 (constant S512x128 .f32 0x00000000#32) w2 w3 (ix2 i 0) =
    Ideal.div 1 (1 + k0_pay13 hi lo w1 (constant S512x128 .f32 0x00000000#32) w2 w3 (ix2 i 0)) := by
  unfold k0_pay14
  generalize k0_pay13 hi lo w1 (constant S512x128 .f32 0x00000000#32) w2 w3 = e
  pointwise

theorem both_apply : k0_pay15 hi lo w1 (constant S512x128 .f32 0x00000000#32) w2 w3 (ix2 i 0) =
    1 + k0_pay13 hi lo w1 (constant S512x128 .f32 0x00000000#32) w2 w3 (ix2 i 0) := by
  unfold k0_pay15
  generalize k0_pay13 hi lo w1 (constant S512x128 .f32 0x00000000#32) w2 w3 = e
  pointwise

/-- The result row is the router's choice of the row's logits. -/
theorem choice_apply (l : Fin 8 → EReal) (hl : ∀ k, l k ≠ ⊥) (hz : ∀ j, masked hi lo w1 w2 w3 (ix2 i j) = Cert.Router.lanes l j)
    (j : Fin 128) :
    k0_pay1 (iota .tc S512x128 32 [1] iota_S512x128_d1_w32) (k0_pay9 hi lo w1 (constant S512x128 .f32 0x00000000#32) w2 w3)
      (k0_pay12 hi lo w1 (constant S512x128 .f32 0x00000000#32) w2 w3) (k0_pay13 hi lo w1 (constant S512x128 .f32 0x00000000#32) w2 w3)
      (k0_pay14 hi lo w1 (constant S512x128 .f32 0x00000000#32) w2 w3) (k0_pay15 hi lo w1 (constant S512x128 .f32 0x00000000#32) w2 w3)
      (ix2 i j) = Cert.Router.route l j := by
  have f1 := Cert.Router.lanes_first l hl
  have f2 := Cert.Router.others_second l hl
  have t1 : top hi lo w1 w2 w3 (ix2 i 0) = l (Cert.Router.first l) := by
    rw [top_apply]; simp only [hz]
    rw [Cert.Router.max_eq _ _ f1, Cert.Router.lanes_at8]
  have b1 : best hi lo w1 w2 w3 (ix2 i 0) = BitVec.ofNat 32 (Cert.Router.first l).val := by
    rw [best_apply]
    exact Cert.Router.index_eq _ _ f1 _ fun j => by rw [hz, t1, Cert.Router.lanes_at8]
  have hr : ∀ j, rest hi lo w1 w2 w3 (ix2 i j) = Cert.Router.others l j := fun j => by
    rw [rest_apply, b1, hz]
    unfold Cert.Router.others
    refine if_congr ⟨fun e => Fin.ext ?_, fun e => by rw [e]; rfl⟩ rfl rfl
    have := congrArg BitVec.toInt e
    rw [Cert.Router.lane_toInt j, show BitVec.ofNat 32 (Cert.Router.first l).val = BitVec.ofNat 32 (Cert.Router.at8 (Cert.Router.first l)).val from rfl, Cert.Router.lane_toInt] at this
    exact_mod_cast this
  have t2 : top2 hi lo w1 w2 w3 (ix2 i 0) = l (Cert.Router.second l) := by
    rw [top2_apply]; simp only [hr]
    rw [Cert.Router.max_eq _ _ f2, Cert.Router.others_at]
  have b2 : best2 hi lo w1 w2 w3 (ix2 i 0) = BitVec.ofNat 32 (Cert.Router.second l).val := by
    rw [best2_apply]
    exact Cert.Router.index_eq _ _ f2 _ fun j => by rw [hr, t2, Cert.Router.others_at]
  have e1 := weight_apply hi lo w1 w2 w3 i
  rw [t1, t2] at e1
  rw [lay_apply, gate_apply, both_apply, e1]
  unfold best at b1
  unfold best2 at b2
  rw [b1, b2]
  rfl

end Body

/-! ### The blocks and the arrays -/

/-- A mixed row, from the arguments. -/
def row (r : Fin 34304) (e : Fin 1024) : EReal :=
  Cert.Layer.mixed (m (c, main_arg0) (ix2 r e)) (fun k => m (c, main_arg3) (ix2 k e)) (fun k => m (c, main_arg1) (ix2 r k))
    fun k => m (c, main_arg2) (ix2 r k)

/-- The same row normalised. -/
def unit (r : Fin 34304) (k : Fin 1024) : EReal := Cert.Layer.normed (row m c r) (fun e => m (c, main_arg4) (ix1 e)) k

/-- Its eight logits. -/
def logits (r : Fin 34304) (n : Fin 8) : EReal := ∑ k, unit m c r k * wt m c k n

/-- Its result row. -/
def chosen (r : Fin 34304) (j : Fin 128) : EReal := Cert.Router.route (logits m c r) j

/-- The grid point's mixed rows, its normalised rows, and what rounding leaves of them. -/
def rows (t : Fin cfg0.N) : FVec Ideal S512x1024 .f32 :=
  k0_pay2 (iblk m c 0 t) (iblk m c 1 t) (View.ld (iblk m c 3 t) (Rect.unit ![0, 0] ![512, 1024] inb_S1024x1024_S512x1024_0_0))
    (iblk m c 2 t) (View.ld (iblk m c 3 t) (Rect.unit ![512, 0] ![512, 1024] inb_S1024x1024_S512x1024_512_0))
def high (t : Fin cfg0.N) : FVec Ideal S512x1024 .bf16 :=
  k0_pay4 (iblk m c 0 t) (iblk m c 1 t) (View.ld (iblk m c 3 t) (Rect.unit ![0, 0] ![512, 1024] inb_S1024x1024_S512x1024_0_0))
    (iblk m c 2 t) (View.ld (iblk m c 3 t) (Rect.unit ![512, 0] ![512, 1024] inb_S1024x1024_S512x1024_512_0)) (iblk m c 4 t)
def low (t : Fin cfg0.N) : FVec Ideal S512x1024 .bf16 :=
  k0_pay5 (iblk m c 0 t) (iblk m c 1 t) (View.ld (iblk m c 3 t) (Rect.unit ![0, 0] ![512, 1024] inb_S1024x1024_S512x1024_0_0))
    (iblk m c 2 t) (View.ld (iblk m c 3 t) (Rect.unit ![512, 0] ![512, 1024] inb_S1024x1024_S512x1024_512_0)) (iblk m c 4 t)

theorem rows_apply (t : Fin cfg0.N) (i : Fin 512) (j : Fin 1024) : rows m c t (ix2 i j) = row m c (line t i) j := by
  unfold rows
  refine (mixed_apply _ _ _ _ _ _).trans ?_
  simp only [blk0, blk1, blk2, blk3]
  rfl

theorem high_apply (t : Fin cfg0.N) (i : Fin 512) (k : Fin 1024) : high m c t (ix2 i k) = unit m c (line t i) k := by
  unfold high k0_pay4
  refine (normed_apply _ _ _ _ _ _ _ _).trans ?_
  unfold unit
  refine congrArg₂ (fun x w => Cert.Layer.normed x w k) (funext fun e => rows_apply m c t i e) (funext fun e => blk4 m c t e)

theorem low_apply (t : Fin cfg0.N) (i : Fin 512) (k : Fin 1024) :
    low m c t (ix2 i k) = unit m c (line t i) k - unit m c (line t i) k := by
  have h : low m c t (ix2 i k) = high m c t (ix2 i k) - high m c t (ix2 i k) := rfl
  rw [h, high_apply]

theorem outs7 (t : Fin cfg0.N) : (dats m 0 c).after 7 t = rows m c t := by
  rw [after0_7]
  unfold out0_7
  frame_out
  rfl

theorem outs8 (t : Fin cfg0.N) : (dats m 0 c).after 8 t = high m c t := by
  rw [after0_8]
  unfold out0_8
  frame_out
  rfl

theorem outs9 (t : Fin cfg0.N) : (dats m 0 c).after 9 t =
    k0_pay1 (iota .tc S512x128 32 [1] iota_S512x128_d1_w32)
      (k0_pay9 (high m c t) (low m c t) (k0_pay6 (iblk m c 5 t)) (constant S512x128 .f32 0x00000000#32) (iblk m c 5 t) (iblk m c 6 t))
      (k0_pay12 (high m c t) (low m c t) (k0_pay6 (iblk m c 5 t)) (constant S512x128 .f32 0x00000000#32) (iblk m c 5 t) (iblk m c 6 t))
      (k0_pay13 (high m c t) (low m c t) (k0_pay6 (iblk m c 5 t)) (constant S512x128 .f32 0x00000000#32) (iblk m c 5 t) (iblk m c 6 t))
      (k0_pay14 (high m c t) (low m c t) (k0_pay6 (iblk m c 5 t)) (constant S512x128 .f32 0x00000000#32) (iblk m c 5 t) (iblk m c 6 t))
      (k0_pay15 (high m c t) (low m c t) (k0_pay6 (iblk m c 5 t)) (constant S512x128 .f32 0x00000000#32) (iblk m c 5 t) (iblk m c 6 t)) := by
  rw [after0_9]
  unfold_out out0_9
  frame_out
  rfl

/-- A weight of the norm. -/
def nw (k : Fin 1024) : EReal := m (c, main_arg4) (ix1 k)

/-- The norm's and the router's weights are finite. -/
def Finite : Prop :=
  (∀ k : Fin 1024, nw m c k ≠ ⊤ ∧ nw m c k ≠ ⊥) ∧
    ∀ (k : Fin 1024) (n : Fin 8), wt m c k n ≠ ⊤ ∧ wt m c k n ≠ ⊥

theorem unit_finite (h : Finite m c) (r : Fin 34304) (k : Fin 1024) : unit m c r k ≠ ⊤ ∧ unit m c r k ≠ ⊥ :=
  Cert.Router.normed_finite _ _ h.1 k

theorem logits_finite (h : Finite m c) (r : Fin 34304) (n : Fin 8) : logits m c r n ≠ ⊤ ∧ logits m c r n ≠ ⊥ := by
  obtain ⟨x, hx⟩ := Cert.Router.dot_finite (unit m c r) (fun k => wt m c k n) (unit_finite m c h r) fun k => h.2 k n
  unfold logits
  rw [hx]
  exact ⟨EReal.coe_ne_top _, EReal.coe_ne_bot _⟩

/-- The two parts' products give the logits: what rounding leaves is zero. -/
theorem parts (h : Finite m c) (t : Fin cfg0.N) (i : Fin 512) (j : Fin 128) :
    masked (high m c t) (low m c t) (k0_pay6 (iblk m c 5 t)) (iblk m c 5 t) (iblk m c 6 t) (ix2 i j) =
      Cert.Router.lanes (logits m c (line t i)) j := by
  have e6 : (k0_pay6 (iblk m c 5 t) : FVec Ideal S1024x128 .bf16) = iblk m c 5 t := by
    unfold k0_pay6
    exact shapeCast_self _ _
  rw [masked_apply, e6]
  unfold Cert.Router.lanes
  split
  · rename_i hj
    have hw : ∀ k, iblk m c 5 t (ix2 k j) = wt m c k ⟨j.val, hj⟩ := fun k => blk5 m c t k ⟨j.val, hj⟩
    have hv : ∀ k, iblk m c 6 t (ix2 k j) = (0 : EReal) := fun k => (blk6 m c t k ⟨j.val, hj⟩).trans
      (Cert.Router.sub_self_finite _ (h.2 k _))
    have hl : ∀ k, low m c t (ix2 i k) = (0 : EReal) := fun k => (low_apply m c t i k).trans
      (Cert.Router.sub_self_finite _ (unit_finite m c h _ k))
    simp only [hw, hv, hl, high_apply, zero_mul, mul_zero, Finset.sum_const_zero, add_zero]
    rfl
  · rfl

theorem block7 (t : Fin cfg0.N) (i : Fin 512) (j : Fin 1024) : (dats m 0 c).after 7 t (ix2 i j) = row m c (line t i) j := by
  rw [outs7]
  exact rows_apply m c t i j

theorem block8 (t : Fin cfg0.N) (i : Fin 512) (j : Fin 1024) : (dats m 0 c).after 8 t (ix2 i j) = unit m c (line t i) j := by
  rw [outs8]
  exact high_apply m c t i j

theorem block9 (h : Finite m c) (t : Fin cfg0.N) (i : Fin 512) (j : Fin 128) :
    (dats m 0 c).after 9 t (ix2 i j) = chosen m c (line t i) j := by
  rw [outs9]
  exact choice_apply _ _ _ _ _ i _ (fun n => (logits_finite m c h _ n).2) (parts m c h t i) j

/-- The three result arrays. -/
def array7 : S34304x1024.Idx → Elt Ideal .f32 := fun i => row m c ⟨(i 0).val, (i 0).isLt⟩ ⟨(i 1).val, (i 1).isLt⟩

theorem array7_at (r : Fin 34304) (j : Fin 1024) (i : S34304x1024.Idx) (h0 : (i 0).val = r.val) (h1 : (i 1).val = j.val) :
    array7 m c i = row m c r j := by
  unfold array7
  exact congrArg₂ (row m c) (Fin.ext h0) (Fin.ext h1)

def array8 : S34304x1024.Idx → Elt Ideal .bf16 := fun i => unit m c ⟨(i 0).val, (i 0).isLt⟩ ⟨(i 1).val, (i 1).isLt⟩

theorem array8_at (r : Fin 34304) (j : Fin 1024) (i : S34304x1024.Idx) (h0 : (i 0).val = r.val) (h1 : (i 1).val = j.val) :
    array8 m c i = unit m c r j := by
  unfold array8
  exact congrArg₂ (unit m c) (Fin.ext h0) (Fin.ext h1)

def array9 : S34304x128.Idx → Elt Ideal .f32 := fun i => chosen m c ⟨(i 0).val, (i 0).isLt⟩ ⟨(i 1).val, (i 1).isLt⟩

theorem array9_at (r : Fin 34304) (j : Fin 128) (i : S34304x128.Idx) (h0 : (i 0).val = r.val) (h1 : (i 1).val = j.val) :
    array9 m c i = chosen m c r j := by
  unfold array9
  exact congrArg₂ (chosen m c) (Fin.ext h0) (Fin.ext h1)

/-- After the run the result arrays are the specification's. -/
theorem final7 : (dats m 0 c).arrAt 7 cfg0.N = array7 m c := by
  refine (dats m 0 c).arrAt_eq_of_covers 7 _ (by decide +kernel) fun t hf y => ?_
  obtain ⟨i0, i1⟩ := idx7 t
  have hb := block7 m c t
  blk_simp
  generalize (dats m 0 c).after 7 t = z at hb ⊢
  refine Eq.trans ?_ ((hb ⟨(y 0).val, (y 0).isLt⟩ ⟨(y 1).val, (y 1).isLt⟩).trans (array7_at m c _ _ _ ?_ ?_).symm)
  · refine congrArg z (funext fun a => ?_)
    match a with
    | ⟨0, _⟩ => rfl
    | ⟨1, _⟩ => rfl
  · show _ = 512 * t.val + (y 0).val
    blk_simp
    rw [i0]; omega
  · show _ = (y 1).val
    blk_simp
    rw [i1]; omega

theorem final8 : (dats m 0 c).arrAt 8 cfg0.N = array8 m c := by
  refine (dats m 0 c).arrAt_eq_of_covers 8 _ (by decide +kernel) fun t hf y => ?_
  obtain ⟨i0, i1⟩ := idx8 t
  have hb := block8 m c t
  blk_simp
  generalize (dats m 0 c).after 8 t = z at hb ⊢
  refine Eq.trans ?_ ((hb ⟨(y 0).val, (y 0).isLt⟩ ⟨(y 1).val, (y 1).isLt⟩).trans (array8_at m c _ _ _ ?_ ?_).symm)
  · refine congrArg z (funext fun a => ?_)
    match a with
    | ⟨0, _⟩ => rfl
    | ⟨1, _⟩ => rfl
  · show _ = 512 * t.val + (y 0).val
    blk_simp
    rw [i0]; omega
  · show _ = (y 1).val
    blk_simp
    rw [i1]; omega

theorem final9 (h : Finite m c) : (dats m 0 c).arrAt 9 cfg0.N = array9 m c := by
  refine (dats m 0 c).arrAt_eq_of_covers 9 _ (by decide +kernel) fun t hf y => ?_
  obtain ⟨i0, i1⟩ := idx9 t
  have hb := block9 m c h t
  blk_simp
  generalize (dats m 0 c).after 9 t = z at hb ⊢
  refine Eq.trans ?_ ((hb ⟨(y 0).val, (y 0).isLt⟩ ⟨(y 1).val, (y 1).isLt⟩).trans (array9_at m c _ _ _ ?_ ?_).symm)
  · refine congrArg z (funext fun a => ?_)
    match a with
    | ⟨0, _⟩ => rfl
    | ⟨1, _⟩ => rfl
  · show _ = 512 * t.val + (y 0).val
    blk_simp
    rw [i0]; omega
  · show _ = (y 1).val
    blk_simp
    rw [i1]; omega

end Cert.RouterIdeal.Router

end
-- ==== Proof.Router.Ref.lean ====
/-
  The reference of the output product, the norm and the router, read at an entry.
-/
module

public import proofs.«01_k».proof.Proof.Gen.RouterReferenceIdeal.Read
public import proofs.«01_k».proof.Proof.Router.Choice
public import Idealize.ShloMosaic.Lib.Pointwise

@[expose] public section

set_option maxRecDepth 16384

noncomputable section

namespace Cert.RouterReferenceIdeal.Router

open Cert.RouterReferenceIdeal Cert.RouterReferenceIdeal.Read Idealize.ShloMosaic

variable (x0 : (⟨S34304x1024, .f32⟩ : BufTy).Contents (Elt Ideal))
  (x1 : (⟨S34304x512, .bf16⟩ : BufTy).Contents (Elt Ideal))
  (x2 : (⟨S34304x512, .bf16⟩ : BufTy).Contents (Elt Ideal))
  (x3 : (⟨S1024x1024, .f32⟩ : BufTy).Contents (Elt Ideal))
  (x4 : (⟨S1024, .f32⟩ : BufTy).Contents (Elt Ideal))
  (x5 : (⟨S1024x8, .f32⟩ : BufTy).Contents (Elt Ideal))

/-- The mixed rows. -/
theorem v4_at (r : Fin 34304) (j : Fin 1024) : val_main_v4 x0 x1 x2 x3 (ix2 r j) =
    Cert.Layer.mixed (x0 (ix2 r j)) (fun k => x3 (ix2 k j)) (fun k => x1 (ix2 r k)) (fun k => x2 (ix2 r k)) := by
  have hs : ∀ k : Fin 512, val_main_v2 (F := Ideal) x1 x2 (ix2 r ⟨k.val, by omega⟩) = x1 (ix2 r k) := fun k => by
    unfold val_main_v2 val_main_v0 val_main_v1
    pointwise
  have ha : ∀ k : Fin 512, val_main_v2 (F := Ideal) x1 x2 (ix2 r ⟨512 + k.val, by omega⟩) = x2 (ix2 r k) := fun k => by
    unfold val_main_v2 val_main_v0 val_main_v1
    pointwise
  have hd : val_main_v3 x1 x2 x3 (ix2 r j) = ∑ k, val_main_v2 (F := Ideal) x1 x2 (ix2 r k) * x3 (ix2 k j) := by
    rw [val_main_v3_apply]
    refine Finset.sum_congr rfl fun k _ => ?_
    have e1 : lidx_main_v3 (ix2 r j) k = ix2 r k := funext fun a => by
      match a with
      | ⟨0, _⟩ => rfl
      | ⟨1, _⟩ => rfl
    have e2 : ridx_main_v3 (ix2 r j) k = ix2 k j := funext fun a => by
      match a with
      | ⟨0, _⟩ => rfl
      | ⟨1, _⟩ => rfl
    rw [e1, e2]
  rw [val_main_v4_apply, hd]
  exact Cert.Layer.mixed_eq _ (fun k => x3 (ix2 k j)) _ _ (fun k => val_main_v2 (F := Ideal) x1 x2 (ix2 r k)) hs ha

/-- The normalised rows. -/
theorem v17_at (r : Fin 34304) (k : Fin 1024) : val_main_v17 x0 x1 x2 x3 x4 (ix2 r k) =
    Cert.Layer.normed (fun e => val_main_v4 x0 x1 x2 x3 (ix2 r e)) (fun e => x4 (ix1 e)) k := by
  have h0 : Ideal.ofBits FTy.f32 0x00000000#32 = 0 := by simp [Ideal.ofBits, Ideal.ieee]
  have hs : val_main_v6 (F := Ideal) x0 x1 x2 x3 (ix1 r) =
      ∑ e, val_main_v4 x0 x1 x2 x3 (ix2 r e) * val_main_v4 x0 x1 x2 x3 (ix2 r e) := by
    rw [val_main_v6_apply]
    refine (congrArg (· + _) h0).trans ((zero_add _).trans (Finset.sum_congr rfl fun e _ => ?_))
    have e1 : idx_main_v6 (ix1 r) e = ix2 r e := funext fun a => by
      match a with
      | ⟨0, _⟩ => rfl
      | ⟨1, _⟩ => rfl
    rw [e1]; rfl
  have i7 : idx_main_v7 (idx_main_v13 (ix2 r k)) = ix1 r := funext fun a => by
    match a with
    | ⟨0, _⟩ => rfl
  have i15 : idx_main_v15 (idx_main_v16 (ix2 r k)) = ix1 k := funext fun a => by
    match a with
    | ⟨0, _⟩ => rfl
  rw [val_main_v17_apply, val_main_v14_apply, val_main_v13_apply, val_main_v12_apply, val_main_v11_apply, val_main_v9_apply,
    val_main_v7_apply, i7, hs, val_main_v16_apply, val_main_v15_apply, i15, val_main_v10_apply, val_main_v8_apply]
  rfl

theorem v18_at (r : Fin 34304) (n : Fin 8) : val_main_v18 x0 x1 x2 x3 x4 x5 (ix2 r n) =
    ∑ k, val_main_v17 x0 x1 x2 x3 x4 (ix2 r k) * x5 (ix2 k n) := by
  rw [val_main_v18_apply]
  refine Finset.sum_congr rfl fun k _ => ?_
  have e1 : lidx_main_v18 (ix2 r n) k = ix2 r k := funext fun a => by
    match a with
    | ⟨0, _⟩ => rfl
    | ⟨1, _⟩ => rfl
  have e2 : ridx_main_v18 (ix2 r n) k = ix2 k n := funext fun a => by
    match a with
    | ⟨0, _⟩ => rfl
    | ⟨1, _⟩ => rfl
  rw [e1, e2]

/-- A row's logits. -/
def logit (r : Fin 34304) (n : Fin 8) : EReal := val_main_v18 x0 x1 x2 x3 x4 x5 (ix2 r n)

/-- The two places of the sort that the choice keeps. -/
def place (l : Fin 8 → EReal) (q : Fin 2) : Fin 8 := sortedFrom (Cert.Router.greater l) ⟨q.val, by omega⟩

/-- The sort's order on a row's entries is the order of its logits. -/
theorem order_eq (r : Fin 34304) (Z : S34304x8.Idx → EReal) (k k' : Fin 8) :
    ((FloatOps.cmpfTotal (F := Ideal) (φ := .f32) .gt (Z (ix2 r k)) (Z (ix2 r k'))) == 1#1) = Cert.Router.greater (fun n => Z (ix2 r n)) k k' := by
  show (BitVec.ofBool (decide (Z (ix2 r k') < Z (ix2 r k))) == 1#1) = _
  unfold Cert.Router.greater
  by_cases h : Z (ix2 r k') < Z (ix2 r k) <;> simp [h]

theorem along_eq (r : Fin 34304) (q k : Fin 8) : (ix2 r q : S34304x8.Idx).along 1 k = ix2 r k := funext fun a => by
  match a with
  | ⟨0, _⟩ => rfl
  | ⟨1, _⟩ => rfl

/-- The kept values are the logits at the two places, … -/
theorem values_at (r : Fin 34304) (q : Fin 2) : val_main_values x0 x1 x2 x3 x4 x5 (ix2 r q) =
    logit x0 x1 x2 x3 x4 x5 r (place (logit x0 x1 x2 x3 x4 x5 r) q) := by
  unfold val_main_values logit
  generalize val_main_v18 x0 x1 x2 x3 x4 x5 = Z
  unfold Host.topK Host.sort2
  dsimp only
  rw [dif_pos (by decide : 1 < 2)]
  pointwise
  rw [along_eq]
  simp only [along_eq, order_eq]
  rfl

/-- … and the kept numbers are those places. -/
theorem indices_at (r : Fin 34304) (q : Fin 2) : val_main_indices (F := Ideal) x0 x1 x2 x3 x4 x5 (ix2 r q) =
    BitVec.ofNat 32 (place (logit x0 x1 x2 x3 x4 x5 r) q).val := by
  unfold val_main_indices
  have hl : logit x0 x1 x2 x3 x4 x5 r = fun n => val_main_v18 x0 x1 x2 x3 x4 x5 (ix2 r n) := rfl
  rw [hl]
  generalize val_main_v18 x0 x1 x2 x3 x4 x5 = Z
  unfold Host.topK Host.sort2
  dsimp only
  rw [dif_pos (by decide : 1 < 2)]
  pointwise
  simp only [along_eq, order_eq]
  rfl

/-- The greater of the two kept values is the first. -/
theorem v21_at (r : Fin 34304) : val_main_v21 x0 x1 x2 x3 x4 x5 (ix1 r) =
    logit x0 x1 x2 x3 x4 x5 r (Cert.Router.first (logit x0 x1 x2 x3 x4 x5 r)) := by
  have hbot : Ideal.ofBits FTy.f32 0xFF800000#32 = ⊥ := by simp [Ideal.ofBits, Ideal.ieee]
  have h20 : val_main_v20 (F := Ideal) (ix1 r) = (⊥ : EReal) := hbot
  have h19 : val_main_v19 x0 x1 x2 x3 x4 x5 (ix1 r) =
      Finset.univ.fold max ⊥ fun q : Fin 2 => val_main_values x0 x1 x2 x3 x4 x5 (ix2 r q) := by
    unfold val_main_v19 val_main_cst_2
    generalize val_main_values x0 x1 x2 x3 x4 x5 = Z
    pointwise
    rw [hbot]
  rw [val_main_v21_apply, h20, h19]
  refine (max_eq_right bot_le).trans ?_
  simp only [values_at]
  refine (Cert.Router.max_eq _ (0 : Fin 2) ⟨fun q => ?_, fun q hq => absurd hq (Nat.not_lt_zero _)⟩).trans rfl
  match q with
  | ⟨0, _⟩ => exact le_rfl
  | ⟨1, _⟩ => exact (Cert.Router.first_le _ _ (Cert.Router.second_ne _)).1

/-- The weights before the division. -/
theorem v25_at (r : Fin 34304) (q : Fin 2) : val_main_v25 x0 x1 x2 x3 x4 x5 (ix2 r q) =
    Ideal.exp (logit x0 x1 x2 x3 x4 x5 r (place (logit x0 x1 x2 x3 x4 x5 r) q) -
      logit x0 x1 x2 x3 x4 x5 r (Cert.Router.first (logit x0 x1 x2 x3 x4 x5 r))) := by
  have i22 : idx_main_v22 (idx_main_v23 (ix2 r q)) = ix1 r := funext fun a => by
    match a with
    | ⟨0, _⟩ => rfl
  rw [val_main_v25_apply, val_main_v24_apply, val_main_v23_apply, val_main_v22_apply, i22, v21_at, values_at]
  rfl

theorem one_first (l : EReal) (h : l ≠ ⊤ ∧ l ≠ ⊥) : Ideal.exp (l - l) = 1 := by
  rw [Cert.Router.sub_self_finite l h]
  exact (congrArg Real.toEReal Real.exp_zero)

/-- The gates. -/
theorem v29_at (r : Fin 34304) (q : Fin 2)
    (hl : ∀ n, logit x0 x1 x2 x3 x4 x5 r n ≠ ⊤ ∧ logit x0 x1 x2 x3 x4 x5 r n ≠ ⊥) : val_main_v29 x0 x1 x2 x3 x4 x5 (ix2 r q) =
    Ideal.div (if q = 0 then 1 else Cert.Router.ratio (logit x0 x1 x2 x3 x4 x5 r)) (1 + Cert.Router.ratio (logit x0 x1 x2 x3 x4 x5 r)) := by
  have h0 : Ideal.ofBits FTy.f32 0x00000000#32 = 0 := by simp [Ideal.ofBits, Ideal.ieee]
  have h25 : ∀ q : Fin 2, val_main_v25 x0 x1 x2 x3 x4 x5 (ix2 r q) = if q = 0 then 1 else Cert.Router.ratio (logit x0 x1 x2 x3 x4 x5 r) := fun q => by
    rw [v25_at]
    match q with
    | ⟨0, _⟩ => exact one_first _ (hl _)
    | ⟨1, _⟩ => rfl
  have i27 : idx_main_v27 (idx_main_v28 (ix2 r q)) = ix1 r := funext fun a => by
    match a with
    | ⟨0, _⟩ => rfl
  have i26 : ∀ q : Fin 2, idx_main_v26 (ix1 r) q = ix2 r q := fun q => funext fun a => by
    match a with
    | ⟨0, _⟩ => rfl
    | ⟨1, _⟩ => rfl
  rw [val_main_v29_apply, val_main_v28_apply, val_main_v27_apply, i27, val_main_v26_apply]
  simp only [i26, h25, Fin.sum_univ_two]
  refine congrArg (Ideal.div _) ((congrArg (· + _) h0).trans ((zero_add _).trans ?_))
  rfl

/-- The result rows are the router's choice of the logits. -/
theorem v32_at (r : Fin 34304) (j : Fin 128)
    (hl : ∀ n, logit x0 x1 x2 x3 x4 x5 r n ≠ ⊤ ∧ logit x0 x1 x2 x3 x4 x5 r n ≠ ⊥) : val_main_v32 x0 x1 x2 x3 x4 x5 (ix2 r j) =
    Cert.Router.route (logit x0 x1 x2 x3 x4 x5 r) j := by
  have h0 : Ideal.ofBits FTy.f32 0x00000000#32 = 0 := by simp [Ideal.ofBits, Ideal.ieee]
  have h30 : ∀ q, val_main_v30 x0 x1 x2 x3 x4 x5 (ix2 r q) =
      (FloatOps.sitofp .f32 (BitVec.ofNat 32 (place (logit x0 x1 x2 x3 x4 x5 r) q).val) : Ideal .f32) := fun q => by
    rw [val_main_v30_apply, indices_at]
  have h29 := fun q => v29_at x0 x1 x2 x3 x4 x5 r q hl
  have h31 : ∀ i, val_main_v31 (F := Ideal) i = (0 : EReal) := fun i => h0
  unfold val_main_v32 Cert.Router.route
  generalize val_main_v30 x0 x1 x2 x3 x4 x5 = A at h30 ⊢
  generalize val_main_v29 x0 x1 x2 x3 x4 x5 = B at h29 ⊢
  generalize val_main_v31 (F := Ideal) = C at h31 ⊢
  pointwise
  obtain ⟨j, hj⟩ := j
  dsimp only
  by_cases j0 : j = 0
  · subst j0
    exact (h30 0)
  · by_cases j1 : j = 1
    · subst j1
      exact (h30 1)
    · by_cases j2 : j = 2
      · subst j2
        exact (h29 0)
      · by_cases j3 : j = 3
        · subst j3
          exact (h29 1)
        · rw [dif_neg (by omega), dif_neg (by omega), if_neg j0, if_neg j1, if_neg j2, if_neg j3, h31]

/-- The normed rows, written in the sixteen bit format, are the normed rows. -/
theorem v33_at (r : Fin 34304) (k : Fin 1024) : val_main_v33 x0 x1 x2 x3 x4 (ix2 r k) =
    val_main_v17 x0 x1 x2 x3 x4 (ix2 r k) := by
  rw [val_main_v33_apply]
  rfl

end Cert.RouterReferenceIdeal.Router

end
-- ==== Proof.Router.Join.lean ====
/-
  The claims of the output product, the norm and the router: the reference's three results are the kernel's three arrays.
-/
module

public import proofs.«01_k».proof.Defs
public import proofs.«01_k».proof.Proof.Attn.Final
public import proofs.«01_k».proof.Proof.Router.Value
public import proofs.«01_k».proof.Proof.Router.Ref
public import proofs.«01_k».proof.Proof.Gen.Pre_finite_weights
public import proofs.«01_k».proof.Proof.Gen.RouterReferenceIdeal.Run
public import Idealize.ShloMosaic.Adequacy

@[expose] public section

set_option maxRecDepth 16384

noncomputable section

namespace Cert.Routing

open Idealize.ShloMosaic Idealize.ShloMosaic.TcCoe Idealize.SL.Sem Cert.RouterReferenceIdeal Cert.RouterReferenceIdeal.Read

variable (x0 : (⟨S34304x1024, .f32⟩ : BufTy).Contents (Elt Ideal))
  (x1 : (⟨S34304x512, .bf16⟩ : BufTy).Contents (Elt Ideal))
  (x2 : (⟨S34304x512, .bf16⟩ : BufTy).Contents (Elt Ideal))
  (x3 : (⟨S1024x1024, .f32⟩ : BufTy).Contents (Elt Ideal))
  (x4 : (⟨S1024, .f32⟩ : BufTy).Contents (Elt Ideal))
  (x5 : (⟨S1024x8, .f32⟩ : BufTy).Contents (Elt Ideal))
  (m : (ℓ : Loc Cert.RouterIdeal.nD Cert.RouterIdeal.τ Cert.RouterIdeal.sig) → Buf (Elt Ideal) ℓ) (c : Dev Cert.RouterIdeal.nD)

/-- The precondition says that the norm's and the router's weights are finite. -/
theorem finite_of_pre (h : Cert.Pre_RouterIdeal_finite_weights m) : Cert.RouterIdeal.Router.Finite m c := by
  have h0 := congrFun (h c) ix0
  unfold Cert.Pre_finite_weights.fn at h0
  obtain ⟨h1, h2⟩ := (by decide : ∀ a b : BitVec 1, IntOp.andi a b = 1#1 → a = 1#1 ∧ b = 1#1) _ _ h0
  refine ⟨fun k => ?_, fun k n => ?_⟩
  · have h3 := Host.reduce_andi_all _ _ _ _ _ h1 (ix1 k)
    revert h3
    unfold Cert.RouterIdeal.Router.nw
    pointwise
    intro h3
    exact Cert.KernelIdeal.Attn.finite_of_abs_lt h3
  · have h3 := Host.reduce_andi_all _ _ _ _ _ h2 (ix2 k n)
    revert h3
    unfold Cert.RouterIdeal.Router.wt
    pointwise
    intro h3
    exact Cert.KernelIdeal.Attn.finite_of_abs_lt h3

/-- The reference's mixed rows are the kernel's, … -/
theorem rows_eq (h0 : x0 = m ((c.tc : Thread Cert.RouterIdeal.nD Cert.RouterIdeal.τ).loc Cert.RouterIdeal.main_arg0))
    (h1 : x1 = m ((c.tc : Thread Cert.RouterIdeal.nD Cert.RouterIdeal.τ).loc Cert.RouterIdeal.main_arg1))
    (h2 : x2 = m ((c.tc : Thread Cert.RouterIdeal.nD Cert.RouterIdeal.τ).loc Cert.RouterIdeal.main_arg2))
    (h3 : x3 = m ((c.tc : Thread Cert.RouterIdeal.nD Cert.RouterIdeal.τ).loc Cert.RouterIdeal.main_arg3)) :
    val_main_v4 x0 x1 x2 x3 = Cert.RouterIdeal.Router.array7 m c := by
  subst h0 h1 h2 h3
  funext i
  refine Eq.trans (congrArg (val_main_v4 _ _ _ _) (funext fun a => ?_))
    ((Cert.RouterReferenceIdeal.Router.v4_at _ _ _ _ ⟨(i 0).val, (i 0).isLt⟩ ⟨(i 1).val, (i 1).isLt⟩).trans rfl)
  match a with
  | ⟨0, _⟩ => rfl
  | ⟨1, _⟩ => rfl

/-- … at an entry, … -/
theorem row_at (h0 : x0 = m ((c.tc : Thread Cert.RouterIdeal.nD Cert.RouterIdeal.τ).loc Cert.RouterIdeal.main_arg0))
    (h1 : x1 = m ((c.tc : Thread Cert.RouterIdeal.nD Cert.RouterIdeal.τ).loc Cert.RouterIdeal.main_arg1))
    (h2 : x2 = m ((c.tc : Thread Cert.RouterIdeal.nD Cert.RouterIdeal.τ).loc Cert.RouterIdeal.main_arg2))
    (h3 : x3 = m ((c.tc : Thread Cert.RouterIdeal.nD Cert.RouterIdeal.τ).loc Cert.RouterIdeal.main_arg3)) (r : Fin 34304) (e : Fin 1024) :
    val_main_v4 x0 x1 x2 x3 (ix2 r e) = Cert.RouterIdeal.Router.row m c r e :=
  (congrFun (rows_eq x0 x1 x2 x3 m c h0 h1 h2 h3) (ix2 r e)).trans (Cert.RouterIdeal.Router.array7_at m c r e _ rfl rfl)

/-- … so are the normalised rows, … -/
theorem unit_at (h0 : x0 = m ((c.tc : Thread Cert.RouterIdeal.nD Cert.RouterIdeal.τ).loc Cert.RouterIdeal.main_arg0))
    (h1 : x1 = m ((c.tc : Thread Cert.RouterIdeal.nD Cert.RouterIdeal.τ).loc Cert.RouterIdeal.main_arg1))
    (h2 : x2 = m ((c.tc : Thread Cert.RouterIdeal.nD Cert.RouterIdeal.τ).loc Cert.RouterIdeal.main_arg2))
    (h3 : x3 = m ((c.tc : Thread Cert.RouterIdeal.nD Cert.RouterIdeal.τ).loc Cert.RouterIdeal.main_arg3))
    (h4 : x4 = m ((c.tc : Thread Cert.RouterIdeal.nD Cert.RouterIdeal.τ).loc Cert.RouterIdeal.main_arg4)) (r : Fin 34304) (k : Fin 1024) :
    val_main_v17 x0 x1 x2 x3 x4 (ix2 r k) = Cert.RouterIdeal.Router.unit m c r k := by
  refine (Cert.RouterReferenceIdeal.Router.v17_at x0 x1 x2 x3 x4 r k).trans ?_
  rw [show (fun e => val_main_v4 x0 x1 x2 x3 (ix2 r e)) = Cert.RouterIdeal.Router.row m c r from
    funext fun e => row_at x0 x1 x2 x3 m c h0 h1 h2 h3 r e]
  subst h4
  rfl

theorem units_eq (h0 : x0 = m ((c.tc : Thread Cert.RouterIdeal.nD Cert.RouterIdeal.τ).loc Cert.RouterIdeal.main_arg0))
    (h1 : x1 = m ((c.tc : Thread Cert.RouterIdeal.nD Cert.RouterIdeal.τ).loc Cert.RouterIdeal.main_arg1))
    (h2 : x2 = m ((c.tc : Thread Cert.RouterIdeal.nD Cert.RouterIdeal.τ).loc Cert.RouterIdeal.main_arg2))
    (h3 : x3 = m ((c.tc : Thread Cert.RouterIdeal.nD Cert.RouterIdeal.τ).loc Cert.RouterIdeal.main_arg3))
    (h4 : x4 = m ((c.tc : Thread Cert.RouterIdeal.nD Cert.RouterIdeal.τ).loc Cert.RouterIdeal.main_arg4)) :
    val_main_v33 x0 x1 x2 x3 x4 = Cert.RouterIdeal.Router.array8 m c := by
  funext i
  refine Eq.trans (congrArg (val_main_v33 _ _ _ _ _) (funext fun a => ?_))
    ((Cert.RouterReferenceIdeal.Router.v33_at x0 x1 x2 x3 x4 ⟨(i 0).val, (i 0).isLt⟩ ⟨(i 1).val, (i 1).isLt⟩).trans
      (unit_at x0 x1 x2 x3 x4 m c h0 h1 h2 h3 h4 _ _))
  match a with
  | ⟨0, _⟩ => rfl
  | ⟨1, _⟩ => rfl

/-- … the logits, … -/
theorem logit_eq (h0 : x0 = m ((c.tc : Thread Cert.RouterIdeal.nD Cert.RouterIdeal.τ).loc Cert.RouterIdeal.main_arg0))
    (h1 : x1 = m ((c.tc : Thread Cert.RouterIdeal.nD Cert.RouterIdeal.τ).loc Cert.RouterIdeal.main_arg1))
    (h2 : x2 = m ((c.tc : Thread Cert.RouterIdeal.nD Cert.RouterIdeal.τ).loc Cert.RouterIdeal.main_arg2))
    (h3 : x3 = m ((c.tc : Thread Cert.RouterIdeal.nD Cert.RouterIdeal.τ).loc Cert.RouterIdeal.main_arg3))
    (h4 : x4 = m ((c.tc : Thread Cert.RouterIdeal.nD Cert.RouterIdeal.τ).loc Cert.RouterIdeal.main_arg4))
    (h5 : x5 = m ((c.tc : Thread Cert.RouterIdeal.nD Cert.RouterIdeal.τ).loc Cert.RouterIdeal.main_arg5)) (r : Fin 34304) :
    Cert.RouterReferenceIdeal.Router.logit x0 x1 x2 x3 x4 x5 r = Cert.RouterIdeal.Router.logits m c r := by
  funext n
  refine (Cert.RouterReferenceIdeal.Router.v18_at x0 x1 x2 x3 x4 x5 r n).trans (Finset.sum_congr rfl fun k _ => ?_)
  rw [unit_at x0 x1 x2 x3 x4 m c h0 h1 h2 h3 h4 r k]
  subst h5
  rfl

/-- … and the choice. -/
theorem choice_eq (h0 : x0 = m ((c.tc : Thread Cert.RouterIdeal.nD Cert.RouterIdeal.τ).loc Cert.RouterIdeal.main_arg0))
    (h1 : x1 = m ((c.tc : Thread Cert.RouterIdeal.nD Cert.RouterIdeal.τ).loc Cert.RouterIdeal.main_arg1))
    (h2 : x2 = m ((c.tc : Thread Cert.RouterIdeal.nD Cert.RouterIdeal.τ).loc Cert.RouterIdeal.main_arg2))
    (h3 : x3 = m ((c.tc : Thread Cert.RouterIdeal.nD Cert.RouterIdeal.τ).loc Cert.RouterIdeal.main_arg3))
    (h4 : x4 = m ((c.tc : Thread Cert.RouterIdeal.nD Cert.RouterIdeal.τ).loc Cert.RouterIdeal.main_arg4))
    (h5 : x5 = m ((c.tc : Thread Cert.RouterIdeal.nD Cert.RouterIdeal.τ).loc Cert.RouterIdeal.main_arg5))
    (h : Cert.RouterIdeal.Router.Finite m c) : val_main_v32 x0 x1 x2 x3 x4 x5 = Cert.RouterIdeal.Router.array9 m c := by
  have hl := logit_eq x0 x1 x2 x3 x4 x5 m c h0 h1 h2 h3 h4 h5
  funext i
  refine Eq.trans (congrArg (val_main_v32 _ _ _ _ _ _) (funext fun a => ?_))
    ((Cert.RouterReferenceIdeal.Router.v32_at x0 x1 x2 x3 x4 x5 ⟨(i 0).val, (i 0).isLt⟩ ⟨(i 1).val, (i 1).isLt⟩ fun n => ?_).trans ?_)
  · match a with
    | ⟨0, _⟩ => rfl
    | ⟨1, _⟩ => rfl
  · rw [hl]
    exact Cert.RouterIdeal.Router.logits_finite m c h _ n
  · rw [hl]
    rfl

/-- The reference's run: its arguments end unchanged, and it has no semaphore. -/
theorem reference_frame : Cert.quiescent_RouterReferenceIdeal := fun m ρ _ =>
  (θ_run Cert.RouterReferenceIdeal.defs _ _).mono
    (fun r h => ⟨fun c => (h c).2.2.2, Idealize.ShloMosaic.sem_eq_zero_of_no_sems (by decide) r.2⟩)
    (Cert.RouterReferenceIdeal.Value.run m ρ)

/-- The kernel's call and the reference's agree on finite weights. -/
theorem algebraic : Cert.algebraic_RouterIdeal_RouterReferenceIdeal_pre_finite_weights := fun m g m' g' hpre hm =>
  ⟨fun c => (Cert.RouterIdeal.Gen.dats m 0 c).arrAt 7 Cert.RouterIdeal.cfg0.N,
   fun c => (Cert.RouterIdeal.Gen.dats m 0 c).arrAt 8 Cert.RouterIdeal.cfg0.N,
   fun c => (Cert.RouterIdeal.Gen.dats m 0 c).arrAt 9 Cert.RouterIdeal.cfg0.N,
   Cert.RouterIdeal.Value.run_blocks m g,
   (θ_run Cert.RouterReferenceIdeal.defs _ _).mono (fun r h c => by
      obtain ⟨h1, h2, h3, h4⟩ := h c
      obtain ⟨e0, e1, e2, e3, e4, e5⟩ := hm c
      have hf := finite_of_pre m c hpre
      exact ⟨h1.trans ((val_main_v4_eq _ _ _ _).trans ((rows_eq _ _ _ _ m c e0 e1 e2 e3).trans (Cert.RouterIdeal.Router.final7 m c).symm)),
        h2.trans ((val_main_v33_eq _ _ _ _ _).trans ((units_eq _ _ _ _ _ m c e0 e1 e2 e3 e4).trans (Cert.RouterIdeal.Router.final8 m c).symm)),
        h3.trans ((val_main_v32_eq _ _).trans ((choice_eq _ _ _ _ _ _ m c e0 e1 e2 e3 e4 e5 hf).trans (Cert.RouterIdeal.Router.final9 m c hf).symm)), h4⟩)
    (Cert.RouterReferenceIdeal.Value.run m' g')⟩

end Cert.Routing

end
-- ==== Proof.Scan.Body.lean ====
/-
  The decoding step's scan, one grid point: the vectors the body computes, written once for the eight heads, and the
  statement that the generated run leaves exactly these in the two output blocks.
-/
module

public import proofs.«01_k».proof.Proof.Gen.ScanIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ScanIdeal.Sampling

open Cert.ScanIdeal Cert.ScanIdeal.Gen Idealize.ShloMosaic Idealize.ShloMosaic.TcCoe Idealize.SL.Sem
open Idealize.ShloMosaic.Tactic
open Idealize.ShloMosaic.Pipeline (Dat)

theorem slicesCol (h : Fin 8) : S128x128.Slices ![0, h.val] S128x1 := by revert h; decide
theorem slicesRow (h : Fin 8) : S128x128.Slices ![h.val, 0] S1x128 := by revert h; decide
theorem slicesOne (h : Fin 8) : S1x128.Slices ![0, h.val] S1x1 := by revert h; decide
theorem slicesHead (h : Fin 8) : S128x512.Slices ![0, 64 * h.val] S128x64 := by revert h; decide
theorem slicesGroup (g : Fin 2) : S128x256.Slices ![0, 128 * g.val] S128x128 := by revert g; decide
theorem inbState (h : Fin 8) : ∀ a, (![h.val, 0, 0] : Fin 3 → Nat) a + S1x64x128.size a ≤ S8x64x128.size a := by revert h; decide
theorem inbOne (h : Fin 8) : ∀ a, (![0, h.val] : Fin 2 → Nat) a + S1x1.size a ≤ S1x128.size a := by revert h; decide
theorem inbHead (h : Fin 8) : ∀ a, (![0, 64 * h.val] : Fin 2 → Nat) a + S128x64.size a ≤ S128x512.size a := by revert h; decide

/-- The group of head `h`. -/
def groupOf (h : Fin 8) : Fin 2 := ⟨h.val / 4, by omega⟩

/-- One column of a 128 × 128 vector, over the 64 lanes of a head. -/
def colOver (x : FVec Ideal S128x128 .f32) (h : Fin 8) : FVec Ideal S128x64 .f32 :=
  broadcastTo S128x64 (extractStridedSlice S128x1 ![0, h.val] x (slicesCol h)) broadcasts_S128x1_S128x64

/-- The decay from row to row in head `h`, from the running sums. -/
def decayV (cs : FVec Ideal S128x128 .f32) (h : Fin 8) : FVec Ideal S128x128 .f32 :=
  select k0_pay20 (exp (select k0_pay20
    (subf (broadcastTo S128x128 (extractStridedSlice S128x1 ![0, h.val] cs (slicesCol h)) broadcasts_S128x1_S128x128)
      (broadcastTo S128x128 (extractStridedSlice S1x128 ![h.val, 0] (transpose S128x128 [1, 0] cs transposes_S128x128_p1_0_S128x128) (slicesRow h))
        broadcasts_S1x128_S128x128))
    (broadcast S128x128 (Scalar.ofBits (F := Ideal) .f32 0x00000000#32)))) (broadcast S128x128 (Scalar.ofBits (F := Ideal) .f32 0x00000000#32))

/-- A head's part of the convolved rows … -/
def headV (xs : FVec Ideal S128x512 .f32) (h : Fin 8) : FVec Ideal S128x64 .f32 :=
  extractStridedSlice S128x64 ![0, 64 * h.val] xs (slicesHead h)
/-- … and the same times the step sizes. -/
def steppedV (xs : FVec Ideal S128x512 .f32) (dt : FVec Ideal S128x128 .f32) (h : Fin 8) : FVec Ideal S128x64 .f32 :=
  mulf (headV xs h) (colOver dt h)

/-- A group's part of the keys or queries. -/
def groupV (b : FVec Ideal S128x256 .f32) (g : Fin 2) : FVec Ideal S128x128 .bf16 :=
  truncf .bf16 (extractStridedSlice S128x128 ![0, 128 * g.val] b (slicesGroup g)) bitsLt_bf16_f32

/-- A head of the state. -/
def stateV (hp : Vec Ideal S1x64x128 .f32) : FVec Ideal S64x128 .f32 := shapeCast S64x128 hp shapeCasts_S1x64x128_S64x128

/-- One head's rows. -/
def headOut (xs : FVec Ideal S128x512 .f32) (b c : FVec Ideal S128x256 .f32) (dt cs : FVec Ideal S128x128 .f32)
    (hp : Vec Ideal S1x64x128 .f32) (dk : Vec Ideal S1x1 .f32) (h : Fin 8) : FVec Ideal S128x64 .f32 :=
  shapeCast S128x64 (addf (addf
    (matmul dot_S128x128_S128x64_S128x64_1_0_0_1_n_n none
      (truncf .bf16 (mulf (decayV cs h)
        (matmul dot_S128x128_S128x128_S128x128_1_1_0_0_n_n none (groupV c (groupOf h)) (groupV b (groupOf h)) (constant S128x128 .f32 0x00000000#32))) bitsLt_bf16_f32)
      (truncf .bf16 (steppedV xs dt h) bitsLt_bf16_f32) (constant S128x64 .f32 0x00000000#32))
    (mulf (matmul dot_S128x128_S64x128_S128x64_1_1_0_0_n_n none (groupV c (groupOf h)) (truncf .bf16 (stateV hp) bitsLt_bf16_f32)
      (constant S128x64 .f32 0x00000000#32)) (colOver (exp cs) h)))
    (mulf (broadcastTo S128x64 (shapeCast S1x1 dk shapeCasts_S1x1_S1x1) broadcasts_S1x1_S128x64) (headV xs h))) shapeCasts_S128x64_S128x64

/-- The last row of the running sums. -/
def lastV (cs : FVec Ideal S128x128 .f32) : FVec Ideal S1x128 .f32 := extractStridedSlice S1x128 ![127, 0] cs slices_S128x128_o127_0_S1x128

/-- One head's new state. -/
def headState (xs : FVec Ideal S128x512 .f32) (b : FVec Ideal S128x256 .f32) (dt cs : FVec Ideal S128x128 .f32)
    (hp : Vec Ideal S1x64x128 .f32) (h : Fin 8) : FVec Ideal S1x64x128 .f32 :=
  shapeCast S1x64x128 (addf
    (mulf (stateV hp) (broadcastTo S64x128 (extractStridedSlice S1x1 ![0, h.val] (exp (lastV cs)) (slicesOne h)) broadcasts_S1x1_S64x128))
    (matmul dot_S128x64_S128x128_S64x128_0_0_1_1_n_n none
      (truncf .bf16 (mulf (steppedV xs dt h)
        (colOver (exp (subf (broadcastTo S128x128 (lastV cs) broadcasts_S1x128_S128x128) cs)) h)) bitsLt_bf16_f32)
      (groupV b (groupOf h)) (constant S64x128 .f32 0x00000000#32))) shapeCasts_S64x128_S1x64x128

variable (m : (ℓ : Loc nD τ sig) → Buf (Elt Ideal) ℓ)

/-- What the first scratch holds when the convolution reads it: eight rows of the past, then the rows of the point. -/
def past (c : Dev nD) (t : Fin cfg0.N) : List (View.Piece (Elt Ideal) S136x1024 .f32) :=
  [⟨Rect.unit ![8, 0] ![128, 1024] inb_S136x1024_S128x1024_8_0, k0_pay8 (X0_0 m c t)⟩,
   ⟨Rect.unit ![0, 0] ![8, 1024] inb_S136x1024_S8x1024_0_0, k0_pay3 (iblk m c 3 t)⟩]

/-- The convolved rows. -/
def convV (c : Dev nD) (t : Fin cfg0.N) : FVec Ideal S128x1024 .f32 :=
  k0_pay11 (k0_pay9 (iblk m c 6 t))
    ((View.whole cc0_scratch0).readCov (past m c t) (Rect.unit (s := S136x1024) ![5, 0] S128x1024.size inb_S136x1024_S128x1024_5_0).toLoadRect)
    (View.ld (iblk m c 5 t) (Rect.unit ![0, 0] ![1, 1024] inb_S4x1024_S1x1024_0_0))
    ((View.whole cc0_scratch0).readCov (past m c t) (Rect.unit (s := S136x1024) ![6, 0] S128x1024.size inb_S136x1024_S128x1024_6_0).toLoadRect)
    (View.ld (iblk m c 5 t) (Rect.unit ![1, 0] ![1, 1024] inb_S4x1024_S1x1024_1_0))
    ((View.whole cc0_scratch0).readCov (past m c t) (Rect.unit (s := S136x1024) ![7, 0] S128x1024.size inb_S136x1024_S128x1024_7_0).toLoadRect)
    (View.ld (iblk m c 5 t) (Rect.unit ![2, 0] ![1, 1024] inb_S4x1024_S1x1024_2_0))
    ((View.whole cc0_scratch0).readCov (past m c t) (Rect.unit (s := S136x1024) ![8, 0] S128x1024.size inb_S136x1024_S128x1024_8_0).toLoadRect)
    (View.ld (iblk m c 5 t) (Rect.unit ![3, 0] ![1, 1024] inb_S4x1024_S1x1024_3_0))

/-- The three parts of the convolved rows. -/
def xsV (c : Dev nD) (t : Fin cfg0.N) : FVec Ideal S128x512 .f32 := extractStridedSlice S128x512 ![0, 0] (convV m c t) slices_S128x1024_o0_0_S128x512
def bmV (c : Dev nD) (t : Fin cfg0.N) : FVec Ideal S128x256 .f32 := extractStridedSlice S128x256 ![0, 512] (convV m c t) slices_S128x1024_o0_512_S128x256
def cmV (c : Dev nD) (t : Fin cfg0.N) : FVec Ideal S128x256 .f32 := extractStridedSlice S128x256 ![0, 768] (convV m c t) slices_S128x1024_o0_768_S128x256

/-- The step sizes. -/
def dtV (c : Dev nD) (t : Fin cfg0.N) : FVec Ideal S128x128 .f32 :=
  k0_pay19 k0_pay7 (k0_pay15 (k0_pay6 (iblk m c 2 t)) (iblk m c 7 t)) (FloatOps.ofBits FTy.f32 0#32)
    (k0_pay16 (k0_pay6 (iblk m c 2 t)) (iblk m c 7 t)) (k0_pay17 (k0_pay6 (iblk m c 2 t)) (iblk m c 7 t))
    (k0_pay18 (k0_pay6 (iblk m c 2 t)) (iblk m c 7 t))
/-- The running sums. -/
def csV (c : Dev nD) (t : Fin cfg0.N) : FVec Ideal S128x128 .f32 :=
  k0_pay21 k0_pay7 (k0_pay15 (k0_pay6 (iblk m c 2 t)) (iblk m c 7 t)) (FloatOps.ofBits FTy.f32 0#32)
    (k0_pay16 (k0_pay6 (iblk m c 2 t)) (iblk m c 7 t)) (k0_pay17 (k0_pay6 (iblk m c 2 t)) (iblk m c 7 t))
    (k0_pay18 (k0_pay6 (iblk m c 2 t)) (iblk m c 7 t)) (iblk m c 8 t)
/-- The state before the step, one head. -/
def oldV (c : Dev nD) (t : Fin cfg0.N) (h : Fin 8) : Vec Ideal S1x64x128 .f32 :=
  View.ld (k0_pay4 (iblk m c 4 t)) (Rect.unit (s := S8x64x128) ![h.val, 0, 0] S1x64x128.size (inbState h))

/-- Head `h` of a grid point … -/
def headAt (c : Dev nD) (t : Fin cfg0.N) (h : Fin 8) : FVec Ideal S128x64 .f32 :=
  headOut (xsV m c t) (bmV m c t) (cmV m c t) (dtV m c t) (csV m c t) (oldV m c t h)
    (View.ld (iblk m c 9 t) (Rect.unit ![0, h.val] ![1, 1] (inbOne h))) h
/-- … and its new state. -/
def stateAt (c : Dev nD) (t : Fin cfg0.N) (h : Fin 8) : FVec Ideal S1x64x128 .f32 :=
  headState (xsV m c t) (bmV m c t) (dtV m c t) (csV m c t) (oldV m c t h) h

/-- What the third scratch holds when the heads are done: head `h` in columns `64 h … 64 h + 63`. -/
def rowPieces (c : Dev nD) (t : Fin cfg0.N) : List (View.Piece (Elt Ideal) S128x512 .f32) :=
  [⟨Rect.unit ![0, 448] ![128, 64] inb_S128x512_S128x64_0_448, headAt m c t 7⟩,
   ⟨Rect.unit ![0, 384] ![128, 64] inb_S128x512_S128x64_0_384, headAt m c t 6⟩,
   ⟨Rect.unit ![0, 320] ![128, 64] inb_S128x512_S128x64_0_320, headAt m c t 5⟩,
   ⟨Rect.unit ![0, 256] ![128, 64] inb_S128x512_S128x64_0_256, headAt m c t 4⟩,
   ⟨Rect.unit ![0, 192] ![128, 64] inb_S128x512_S128x64_0_192, headAt m c t 3⟩,
   ⟨Rect.unit ![0, 128] ![128, 64] inb_S128x512_S128x64_0_128, headAt m c t 2⟩,
   ⟨Rect.unit ![0, 64] ![128, 64] inb_S128x512_S128x64_0_64, headAt m c t 1⟩,
   ⟨Rect.unit ![0, 0] ![128, 64] inb_S128x512_S128x64_0_0, headAt m c t 0⟩]

/-- What the second scratch holds when the heads are done. -/
def statePieces (c : Dev nD) (t : Fin cfg0.N) : List (View.Piece (Elt Ideal) S8x64x128 .f32) :=
  [⟨Rect.unit ![7, 0, 0] ![1, 64, 128] inb_S8x64x128_S1x64x128_7_0_0, stateAt m c t 7⟩,
   ⟨Rect.unit ![6, 0, 0] ![1, 64, 128] inb_S8x64x128_S1x64x128_6_0_0, stateAt m c t 6⟩,
   ⟨Rect.unit ![5, 0, 0] ![1, 64, 128] inb_S8x64x128_S1x64x128_5_0_0, stateAt m c t 5⟩,
   ⟨Rect.unit ![4, 0, 0] ![1, 64, 128] inb_S8x64x128_S1x64x128_4_0_0, stateAt m c t 4⟩,
   ⟨Rect.unit ![3, 0, 0] ![1, 64, 128] inb_S8x64x128_S1x64x128_3_0_0, stateAt m c t 3⟩,
   ⟨Rect.unit ![2, 0, 0] ![1, 64, 128] inb_S8x64x128_S1x64x128_2_0_0, stateAt m c t 2⟩,
   ⟨Rect.unit ![1, 0, 0] ![1, 64, 128] inb_S8x64x128_S1x64x128_1_0_0, stateAt m c t 1⟩,
   ⟨Rect.unit ![0, 0, 0] ![1, 64, 128] inb_S8x64x128_S1x64x128_0_0_0, stateAt m c t 0⟩,
   ⟨Rect.unit ![0, 0, 0] S8x64x128.size inb_S8x64x128_S8x64x128_0_0_0, k0_pay4 (iblk m c 4 t)⟩]

/-- Two lists of writes are equal when their payloads are. -/
theorem piece_cons {s : Shape} (r : Rect s) {a b : r.shape.Idx → Elt Ideal (.f32)} {L L' : List (View.Piece (Elt Ideal) s .f32)}
    (h : a = b) (hl : L = L') : (⟨r, a⟩ : View.Piece (Elt Ideal) s .f32) :: L = ⟨r, b⟩ :: L' := by rw [h, hl]

/-- The step sizes and the running sums, as the generated values name them. -/
theorem dt_eq (c : Dev nD) (t : Fin cfg0.N) :
    k0_pay19 k0_pay7 (k0_pay15 (k0_pay6 (iblk m c 2 t)) (iblk m c 7 t)) (FloatOps.ofBits FTy.f32 0#32)
      (k0_pay16 (k0_pay6 (iblk m c 2 t)) (iblk m c 7 t)) (k0_pay17 (k0_pay6 (iblk m c 2 t)) (iblk m c 7 t))
      (k0_pay18 (k0_pay6 (iblk m c 2 t)) (iblk m c 7 t)) = dtV m c t := rfl
theorem cs_eq (c : Dev nD) (t : Fin cfg0.N) :
    k0_pay21 k0_pay7 (k0_pay15 (k0_pay6 (iblk m c 2 t)) (iblk m c 7 t)) (FloatOps.ofBits FTy.f32 0#32)
      (k0_pay16 (k0_pay6 (iblk m c 2 t)) (iblk m c 7 t)) (k0_pay17 (k0_pay6 (iblk m c 2 t)) (iblk m c 7 t))
      (k0_pay18 (k0_pay6 (iblk m c 2 t)) (iblk m c 7 t)) (iblk m c 8 t) = csV m c t := rfl
theorem cst_eq (c : Dev nD) (t : Fin cfg0.N) :
    k0_pay22 k0_pay7 (k0_pay15 (k0_pay6 (iblk m c 2 t)) (iblk m c 7 t)) (FloatOps.ofBits FTy.f32 0#32)
      (k0_pay16 (k0_pay6 (iblk m c 2 t)) (iblk m c 7 t)) (k0_pay17 (k0_pay6 (iblk m c 2 t)) (iblk m c 7 t))
      (k0_pay18 (k0_pay6 (iblk m c 2 t)) (iblk m c 7 t)) (iblk m c 8 t) = transpose S128x128 [1, 0] (csV m c t) transposes_S128x128_p1_0_S128x128 := rfl
theorem ecs_eq (c : Dev nD) (t : Fin cfg0.N) :
    k0_pay24 k0_pay7 (k0_pay15 (k0_pay6 (iblk m c 2 t)) (iblk m c 7 t)) (FloatOps.ofBits FTy.f32 0#32)
      (k0_pay16 (k0_pay6 (iblk m c 2 t)) (iblk m c 7 t)) (k0_pay17 (k0_pay6 (iblk m c 2 t)) (iblk m c 7 t))
      (k0_pay18 (k0_pay6 (iblk m c 2 t)) (iblk m c 7 t)) (iblk m c 8 t) = exp (csV m c t) := rfl
theorem dte_eq (c : Dev nD) (t : Fin cfg0.N) :
    k0_pay25 k0_pay7 (k0_pay15 (k0_pay6 (iblk m c 2 t)) (iblk m c 7 t)) (FloatOps.ofBits FTy.f32 0#32)
      (k0_pay16 (k0_pay6 (iblk m c 2 t)) (iblk m c 7 t)) (k0_pay17 (k0_pay6 (iblk m c 2 t)) (iblk m c 7 t))
      (k0_pay18 (k0_pay6 (iblk m c 2 t)) (iblk m c 7 t)) (iblk m c 8 t) = exp (subf (broadcastTo S128x128 (lastV (csV m c t)) broadcasts_S1x128_S128x128) (csV m c t)) := rfl
theorem ecl_eq (c : Dev nD) (t : Fin cfg0.N) :
    k0_pay26 k0_pay7 (k0_pay15 (k0_pay6 (iblk m c 2 t)) (iblk m c 7 t)) (FloatOps.ofBits FTy.f32 0#32)
      (k0_pay16 (k0_pay6 (iblk m c 2 t)) (iblk m c 7 t)) (k0_pay17 (k0_pay6 (iblk m c 2 t)) (iblk m c 7 t))
      (k0_pay18 (k0_pay6 (iblk m c 2 t)) (iblk m c 7 t)) (iblk m c 8 t) = exp (lastV (csV m c t)) := rfl
theorem col_eq (c : Dev nD) (t : Fin cfg0.N) :
    k0_pay30 k0_pay7 (k0_pay15 (k0_pay6 (iblk m c 2 t)) (iblk m c 7 t)) (FloatOps.ofBits FTy.f32 0#32)
      (k0_pay16 (k0_pay6 (iblk m c 2 t)) (iblk m c 7 t)) (k0_pay17 (k0_pay6 (iblk m c 2 t)) (iblk m c 7 t))
      (k0_pay18 (k0_pay6 (iblk m c 2 t)) (iblk m c 7 t)) (iblk m c 8 t) = extractStridedSlice S128x1 ![0, 0] (csV m c t) slices_S128x128_o0_0_S128x1 := rfl
theorem row_eq (c : Dev nD) (t : Fin cfg0.N) :
    k0_pay31 k0_pay7 (k0_pay15 (k0_pay6 (iblk m c 2 t)) (iblk m c 7 t)) (FloatOps.ofBits FTy.f32 0#32)
      (k0_pay16 (k0_pay6 (iblk m c 2 t)) (iblk m c 7 t)) (k0_pay17 (k0_pay6 (iblk m c 2 t)) (iblk m c 7 t))
      (k0_pay18 (k0_pay6 (iblk m c 2 t)) (iblk m c 7 t)) (iblk m c 8 t) = extractStridedSlice S1x128 ![0, 0] (transpose S128x128 [1, 0] (csV m c t) transposes_S128x128_p1_0_S128x128) slices_S128x128_o0_0_S1x128 := rfl
/-- The convolved rows, likewise. -/
theorem xs_eq (c : Dev nD) (t : Fin cfg0.N) :
    k0_pay12 (k0_pay9 (iblk m c 6 t))
    ((View.whole cc0_scratch0).readCov (past m c t) (Rect.unit (s := S136x1024) ![5, 0] S128x1024.size inb_S136x1024_S128x1024_5_0).toLoadRect)
    (View.ld (iblk m c 5 t) (Rect.unit ![0, 0] ![1, 1024] inb_S4x1024_S1x1024_0_0))
    ((View.whole cc0_scratch0).readCov (past m c t) (Rect.unit (s := S136x1024) ![6, 0] S128x1024.size inb_S136x1024_S128x1024_6_0).toLoadRect)
    (View.ld (iblk m c 5 t) (Rect.unit ![1, 0] ![1, 1024] inb_S4x1024_S1x1024_1_0))
    ((View.whole cc0_scratch0).readCov (past m c t) (Rect.unit (s := S136x1024) ![7, 0] S128x1024.size inb_S136x1024_S128x1024_7_0).toLoadRect)
    (View.ld (iblk m c 5 t) (Rect.unit ![2, 0] ![1, 1024] inb_S4x1024_S1x1024_2_0))
    ((View.whole cc0_scratch0).readCov (past m c t) (Rect.unit (s := S136x1024) ![8, 0] S128x1024.size inb_S136x1024_S128x1024_8_0).toLoadRect)
    (View.ld (iblk m c 5 t) (Rect.unit ![3, 0] ![1, 1024] inb_S4x1024_S1x1024_3_0)) = xsV m c t := rfl
theorem bm_eq (c : Dev nD) (t : Fin cfg0.N) :
    k0_pay13 (k0_pay9 (iblk m c 6 t))
    ((View.whole cc0_scratch0).readCov (past m c t) (Rect.unit (s := S136x1024) ![5, 0] S128x1024.size inb_S136x1024_S128x1024_5_0).toLoadRect)
    (View.ld (iblk m c 5 t) (Rect.unit ![0, 0] ![1, 1024] inb_S4x1024_S1x1024_0_0))
    ((View.whole cc0_scratch0).readCov (past m c t) (Rect.unit (s := S136x1024) ![6, 0] S128x1024.size inb_S136x1024_S128x1024_6_0).toLoadRect)
    (View.ld (iblk m c 5 t) (Rect.unit ![1, 0] ![1, 1024] inb_S4x1024_S1x1024_1_0))
    ((View.whole cc0_scratch0).readCov (past m c t) (Rect.unit (s := S136x1024) ![7, 0] S128x1024.size inb_S136x1024_S128x1024_7_0).toLoadRect)
    (View.ld (iblk m c 5 t) (Rect.unit ![2, 0] ![1, 1024] inb_S4x1024_S1x1024_2_0))
    ((View.whole cc0_scratch0).readCov (past m c t) (Rect.unit (s := S136x1024) ![8, 0] S128x1024.size inb_S136x1024_S128x1024_8_0).toLoadRect)
    (View.ld (iblk m c 5 t) (Rect.unit ![3, 0] ![1, 1024] inb_S4x1024_S1x1024_3_0)) = bmV m c t := rfl
theorem cm_eq (c : Dev nD) (t : Fin cfg0.N) :
    k0_pay14 (k0_pay9 (iblk m c 6 t))
    ((View.whole cc0_scratch0).readCov (past m c t) (Rect.unit (s := S136x1024) ![5, 0] S128x1024.size inb_S136x1024_S128x1024_5_0).toLoadRect)
    (View.ld (iblk m c 5 t) (Rect.unit ![0, 0] ![1, 1024] inb_S4x1024_S1x1024_0_0))
    ((View.whole cc0_scratch0).readCov (past m c t) (Rect.unit (s := S136x1024) ![6, 0] S128x1024.size inb_S136x1024_S128x1024_6_0).toLoadRect)
    (View.ld (iblk m c 5 t) (Rect.unit ![1, 0] ![1, 1024] inb_S4x1024_S1x1024_1_0))
    ((View.whole cc0_scratch0).readCov (past m c t) (Rect.unit (s := S136x1024) ![7, 0] S128x1024.size inb_S136x1024_S128x1024_7_0).toLoadRect)
    (View.ld (iblk m c 5 t) (Rect.unit ![2, 0] ![1, 1024] inb_S4x1024_S1x1024_2_0))
    ((View.whole cc0_scratch0).readCov (past m c t) (Rect.unit (s := S136x1024) ![8, 0] S128x1024.size inb_S136x1024_S128x1024_8_0).toLoadRect)
    (View.ld (iblk m c 5 t) (Rect.unit ![3, 0] ![1, 1024] inb_S4x1024_S1x1024_3_0)) = cmV m c t := rfl

/-- The new state's output block. -/
theorem out12 (c : Dev nD) (t : Fin cfg0.N) : (outsAt0 m c t).2 =
    k0_pay2 (fun j => View.canon (statePieces m c t)
      ((Rect.unit (s := S8x64x128) ![0, 0, 0] S8x64x128.size inb_S8x64x128_S8x64x128_0_0_0).toLoadRect.idx j)) := by
  dsimp only [outsAt0]
  frame_open
  frame_out
  simp (disch := decide) only [↓View.readCov_skip, ↓View.readCov_fill]
  rw [View.readCov_eq_canon']
  refine congrArg k0_pay2 (funext fun j => congrArg (fun L => View.canon L _) ?_)
  unfold statePieces
  refine piece_cons _ ?_ (piece_cons _ ?_ (piece_cons _ ?_ (piece_cons _ ?_ (piece_cons _ ?_ (piece_cons _ ?_
    (piece_cons _ ?_ (piece_cons _ ?_ rfl)))))))
  all_goals unfold stateAt; erw [xs_eq, bm_eq, dt_eq, dte_eq, ecl_eq]
  all_goals generalize xsV m c t = xs; generalize bmV m c t = bm; generalize dtV m c t = dt; generalize csV m c t = cs
  all_goals rfl

/-- The scan's output block. -/
theorem out11 (c : Dev nD) (t : Fin cfg0.N) : (outsAt0 m c t).1 =
    k0_pay1
      (k0_pay85 (k0_pay5 (iblk m c 1 t)) (fun j => View.canon (rowPieces m c t)
        ((Rect.unit (s := S128x512) ![0, 0] S128x512.size inb_S128x512_S128x512_0_0).toLoadRect.idx j))
        (View.ld (iblk m c 10 t) (Rect.unit ![0, 0] ![1, 256] inb_S1x512_S1x256_0_0)))
      (k0_pay86 (k0_pay5 (iblk m c 1 t)) (fun j => View.canon (rowPieces m c t)
        ((Rect.unit (s := S128x512) ![0, 0] S128x512.size inb_S128x512_S128x512_0_0).toLoadRect.idx j)))
      (k0_pay87 (View.ld (iblk m c 10 t) (Rect.unit ![0, 256] ![1, 256] inb_S1x512_S1x256_0_256)))
      (k0_pay88 (k0_pay5 (iblk m c 1 t)) (fun j => View.canon (rowPieces m c t)
        ((Rect.unit (s := S128x512) ![0, 0] S128x512.size inb_S128x512_S128x512_0_0).toLoadRect.idx j))) := by
  dsimp only [outsAt0]
  frame_open
  frame_out
  simp (disch := decide) only [↓View.readCov_skip, ↓View.readCov_fill]
  have key : ∀ y y' : FVec Ideal S128x512 .f32, y = y' →
      k0_pay1 (k0_pay85 (k0_pay5 (iblk m c 1 t)) y (View.ld (iblk m c 10 t) (Rect.unit ![0, 0] ![1, 256] inb_S1x512_S1x256_0_0)))
        (k0_pay86 (k0_pay5 (iblk m c 1 t)) y)
        (k0_pay87 (View.ld (iblk m c 10 t) (Rect.unit ![0, 256] ![1, 256] inb_S1x512_S1x256_0_256)))
        (k0_pay88 (k0_pay5 (iblk m c 1 t)) y) =
      k0_pay1 (k0_pay85 (k0_pay5 (iblk m c 1 t)) y' (View.ld (iblk m c 10 t) (Rect.unit ![0, 0] ![1, 256] inb_S1x512_S1x256_0_0)))
        (k0_pay86 (k0_pay5 (iblk m c 1 t)) y')
        (k0_pay87 (View.ld (iblk m c 10 t) (Rect.unit ![0, 256] ![1, 256] inb_S1x512_S1x256_0_256)))
        (k0_pay88 (k0_pay5 (iblk m c 1 t)) y') := fun y y' e => by rw [e]
  refine key _ _ ?_
  rw [View.readCov_eq_canon']
  refine funext fun j => congrArg (fun L => View.canon L _) ?_
  unfold rowPieces
  refine piece_cons _ ?_ (piece_cons _ ?_ (piece_cons _ ?_ (piece_cons _ ?_ (piece_cons _ ?_ (piece_cons _ ?_
    (piece_cons _ ?_ (piece_cons _ ?_ rfl)))))))
  all_goals unfold headAt; erw [xs_eq, bm_eq, cm_eq, dt_eq, ecs_eq]
  all_goals (first | erw [cs_eq, cst_eq] | erw [col_eq, row_eq])
  all_goals generalize xsV m c t = xs; generalize bmV m c t = bm; generalize cmV m c t = cm; generalize dtV m c t = dt; generalize csV m c t = cs
  all_goals rfl

end Cert.ScanIdeal.Sampling

end
-- ==== Proof.Scan.Spec.lean ====
/-
  The decoding step's scan as a function of its arrays, over the extended reals: the short convolution and its gate, the
  step sizes, the running sums of decays, the rows' mixture, the new state, and the gated and normalised result. Both
  programs are shown to compute this.
-/
module

public import Idealize.ShloMosaic.Lib.Pointwise

@[expose] public section

noncomputable section

namespace Cert.Sampling

open Idealize.ShloMosaic

/-- The arrays of the call: for each of the 128 sequences the eight new rows, the three rows before them and the state;
    and the layer's weights. -/
structure Arrays where
  X : Fin 128 → Fin 8 → Fin 1024 → EReal
  Z : Fin 128 → Fin 8 → Fin 512 → EReal
  D : Fin 128 → Fin 8 → Fin 8 → EReal
  P : Fin 128 → Fin 3 → Fin 1024 → EReal
  S : Fin 128 → Fin 8 → Fin 64 → Fin 128 → EReal
  cw : Fin 4 → Fin 1024 → EReal
  cb : Fin 1024 → EReal
  db : Fin 8 → EReal
  al : Fin 8 → EReal
  sk : Fin 8 → EReal
  nw : Fin 512 → EReal

/-- The gate `x · σ(x)`. -/
def silu (x : EReal) : EReal := x * Ideal.logistic x

/-- `log (1 + eˣ)`, written so that it does not overflow. -/
def softplus (x : EReal) : EReal := max x 0 + Ideal.log1p (Ideal.exp (-(max x (-x))))

variable (A : Arrays) (b : Fin 128)

/-- Row `i` of the three old rows followed by the eight new ones. -/
def upTo (i : Fin 11) (j : Fin 1024) : EReal :=
  if h : i.val < 3 then A.P b ⟨i.val, h⟩ j else A.X b ⟨i.val - 3, by omega⟩ j

/-- The convolution over the last four rows, gated. -/
def conv (r : Fin 8) (j : Fin 1024) : EReal :=
  silu (A.cb j + upTo A b ⟨r.val, by omega⟩ j * A.cw 0 j + upTo A b ⟨1 + r.val, by omega⟩ j * A.cw 1 j
    + upTo A b ⟨2 + r.val, by omega⟩ j * A.cw 2 j + upTo A b ⟨3 + r.val, by omega⟩ j * A.cw 3 j)

/-- The three parts of a convolved row: a head's values, a group's keys and a group's queries. -/
def val (r h : Fin 8) (p : Fin 64) : EReal := conv A b r ⟨64 * h.val + p.val, by omega⟩
def key (r : Fin 8) (g : Fin 2) (n : Fin 128) : EReal := conv A b r ⟨512 + (128 * g.val + n.val), by omega⟩
def qry (r : Fin 8) (g : Fin 2) (n : Fin 128) : EReal := conv A b r ⟨768 + (128 * g.val + n.val), by omega⟩

/-- The step size of a row in a head, and the logarithm of its decay. -/
def dt (r h : Fin 8) : EReal := softplus (A.D b r h + A.db h)
def da (r h : Fin 8) : EReal := dt A b r h * -(Ideal.exp (A.al h))

/-- The running sum of the logarithms up to a row. -/
def cs (r h : Fin 8) : EReal := ∑ j : Fin 8, if j.val ≤ r.val then da A b j h else 0

/-- The decay from row `j` to row `r`. -/
def decay (r j h : Fin 8) : EReal := if j.val ≤ r.val then Ideal.exp (cs A b r h - cs A b j h) else 0

/-- A head's values times the step size. -/
def stepped (r h : Fin 8) (p : Fin 64) : EReal := val A b r h p * dt A b r h

/-- The group of head `h`. -/
def grp (h : Fin 8) : Fin 2 := ⟨h.val / 4, by omega⟩

/-- The rows' mixture: from the new rows, from the old state, and from the row itself. -/
def out (r h : Fin 8) (p : Fin 64) : EReal :=
  (∑ j : Fin 8, decay A b r j h * (∑ n : Fin 128, qry A b r (grp h) n * key A b j (grp h) n) * stepped A b j h p)
    + (∑ n : Fin 128, qry A b r (grp h) n * A.S b h p n) * Ideal.exp (cs A b r h)
    + A.sk h * val A b r h p

/-- The new state. -/
def state (h : Fin 8) (p : Fin 64) (n : Fin 128) : EReal :=
  A.S b h p n * Ideal.exp (cs A b 7 h)
    + ∑ j : Fin 8, stepped A b j h p * Ideal.exp (cs A b 7 h - cs A b j h) * key A b j (grp h) n

/-- The gated rows. -/
def gated (r : Fin 8) (n : Fin 512) : EReal :=
  out A b r ⟨n.val / 64, by omega⟩ ⟨n.val % 64, by omega⟩ * silu (A.Z b r n)

/-- A column of half `g`. -/
def inHalf (g : Fin 2) (e : Fin 256) : Fin 512 := ⟨256 * g.val + e.val, by omega⟩

/-- The result: each half of the gated rows normalised by its mean square and weighted. -/
def result (r : Fin 8) (g : Fin 2) (e : Fin 256) : EReal :=
  gated A b r (inHalf g e) * Ideal.rsqrt (Ideal.div (∑ e : Fin 256, gated A b r (inHalf g e) * gated A b r (inHalf g e))
    (Ideal.ofBits FTy.f32 0x43800000#32) + Ideal.ofBits FTy.f32 0x358637BD#32) * A.nw (inHalf g e)

/-! ## The logarithms of the decays are never `⊤` -/

theorem exp_nonneg (x : EReal) : 0 ≤ Ideal.exp x := by
  induction x with
  | bot => exact le_refl _
  | top => exact le_top
  | coe r => exact EReal.coe_nonneg.mpr (Real.exp_pos r).le

theorem log1p_nonneg (x : EReal) (h : 0 ≤ x) : 0 ≤ Ideal.log1p x := by
  induction x with
  | bot => exact absurd h (by simp)
  | top =>
    have e : (1 : EReal) + ⊤ = ⊤ := EReal.add_top_of_ne_bot (EReal.coe_ne_bot 1)
    unfold Ideal.log1p
    rw [e]
    exact le_top
  | coe r =>
    have hr : 0 ≤ r := EReal.coe_nonneg.mp h
    have e : (1 : EReal) + (r : EReal) = ((1 + r : ℝ) : EReal) := by norm_cast
    have hl : 0 ≤ Real.log (1 + r) := Real.log_nonneg (by linarith)
    unfold Ideal.log1p
    rw [e]
    show 0 ≤ (if 1 + r ≤ 0 then (⊥ : EReal) else (Real.log (1 + r) : EReal))
    rw [if_neg (by linarith)]
    exact EReal.coe_nonneg.mpr hl

theorem softplus_nonneg (x : EReal) : 0 ≤ softplus x :=
  add_nonneg (le_max_right _ _) (log1p_nonneg _ (exp_nonneg _))

theorem da_ne_top (r h : Fin 8) : da A b r h ≠ ⊤ := by
  have h1 : 0 ≤ dt A b r h * Ideal.exp (A.al h) := mul_nonneg (softplus_nonneg _) (exp_nonneg _)
  have h2 : da A b r h = -(dt A b r h * Ideal.exp (A.al h)) := by unfold da; exact mul_neg _ _
  rw [h2]
  intro e
  have h3 : dt A b r h * Ideal.exp (A.al h) = ⊥ := by rw [← neg_neg (dt A b r h * Ideal.exp (A.al h)), e]; rfl
  rw [h3] at h1
  exact absurd h1 (by simp)

/-- A number not `⊤`, in three parts whose last two are its differences with itself. -/
theorem three_parts (t f : EReal) (hf : f ≠ ⊤) (ht : t = 0 ∨ t = 1) :
    t * f + t * (f - f) + t * (f - f - (f - f)) = t * f := by
  induction f with
  | top => exact absurd rfl hf
  | bot => rcases ht with rfl | rfl <;> simp
  | coe x =>
    have e : (x : EReal) - (x : EReal) = 0 := by rw [← EReal.coe_sub, sub_self]; rfl
    rw [e]; simp

/-- A sum over 128 rows of which the last 120 give nothing. -/
theorem sum_padded (f : Fin 128 → EReal) (h : ∀ j : Fin 128, 8 ≤ j.val → f j = 0) :
    ∑ j, f j = ∑ j : Fin 8, f ⟨j.val, by omega⟩ := by
  refine (Fin.sum_univ_add (a := 8) (b := 120) f).trans ?_
  have hz : ∑ i : Fin 120, f (Fin.natAdd 8 i) = 0 := Finset.sum_eq_zero fun i _ => h _ (Nat.le_add_right 8 i.val)
  exact (congrArg (HAdd.hAdd _) hz).trans (add_zero _)

end Cert.Sampling

end
-- ==== Proof.Scan.Heads.lean ====
/-
  One head of the scan's body, read at an entry: the mixture and the new state of the specification. The rows that pad
  the eight new ones to 128 have step size zero, so they give nothing.
-/
module

public import proofs.«01_k».proof.Proof.Scan.Body
public import proofs.«01_k».proof.Proof.Scan.Spec

@[expose] public section

set_option maxRecDepth 16384

noncomputable section

namespace Cert.ScanIdeal.Sampling

open Cert.ScanIdeal Cert.ScanIdeal.Gen Idealize.ShloMosaic Idealize.ShloMosaic.TcCoe Idealize.SL.Sem
open Idealize.ShloMosaic.Tactic

/-- One of the first eight rows, and the lane of a head. -/
def row (r : Fin 8) : Fin 128 := ⟨r.val, by omega⟩

variable (xs : FVec Ideal S128x512 .f32) (b c : FVec Ideal S128x256 .f32) (dt cs : FVec Ideal S128x128 .f32)
  (hp : Vec Ideal S1x64x128 .f32) (dk : Vec Ideal S1x1 .f32) (h : Fin 8)

theorem headV_apply (i : Fin 128) (p : Fin 64) : headV xs h (ix2 i p) = xs (ix2 i ⟨64 * h.val + p.val, by omega⟩) := by
  pointwise [headV]

theorem colOver_apply (i : Fin 128) (p : Fin 64) : colOver dt h (ix2 i p) = dt (ix2 i (row h)) := by
  pointwise [colOver]
  rfl

theorem groupV_apply (g : Fin 2) (i n : Fin 128) : groupV b g (ix2 i n) = b (ix2 i ⟨128 * g.val + n.val, by omega⟩) := by
  pointwise [groupV]

theorem stateV_apply (p : Fin 64) (n : Fin 128) : stateV hp (ix2 p n) = hp (ix3 0 p n) := by
  pointwise [stateV]

theorem lower (i j : Fin 128) : k0_pay20 (ix2 i j) = if j.val ≤ i.val then 1#1 else 0#1 := by
  have hv : IntOp.cmpi .sge (BitVec.ofNat 32 i.val) (BitVec.ofNat 32 j.val) = if j.val ≤ i.val then 1#1 else 0#1 := by
    revert i j; decide +kernel
  pointwise [k0_pay20]
  exact hv

theorem decayV_apply (i j : Fin 128) :
    decayV cs h (ix2 i j) = if j.val ≤ i.val then Ideal.exp (cs (ix2 i (row h)) - cs (ix2 j (row h))) else 0 := by
  pointwise [decayV]
  simp only [lower]
  split <;> rfl

theorem headOut_apply (r : Fin 8) (p : Fin 64) (hz : ∀ j : Fin 128, 8 ≤ j.val → dt (ix2 j (row h)) = 0) :
    headOut xs b c dt cs hp dk h (ix2 (row r) p) =
      (∑ j : Fin 8, (if j.val ≤ r.val then Ideal.exp (cs (ix2 (row r) (row h)) - cs (ix2 (row j) (row h))) else 0) *
          (∑ n : Fin 128, c (ix2 (row r) ⟨128 * (groupOf h).val + n.val, by omega⟩) * b (ix2 (row j) ⟨128 * (groupOf h).val + n.val, by omega⟩)) *
          (xs (ix2 (row j) ⟨64 * h.val + p.val, by omega⟩) * dt (ix2 (row j) (row h))))
        + (∑ n : Fin 128, c (ix2 (row r) ⟨128 * (groupOf h).val + n.val, by omega⟩) * hp (ix3 0 p n)) * Ideal.exp (cs (ix2 (row r) (row h)))
        + dk (ix2 0 0) * xs (ix2 (row r) ⟨64 * h.val + p.val, by omega⟩) := by
  pointwise [headOut, steppedV]
  simp only [headV_apply, colOver_apply, groupV_apply, stateV_apply, decayV_apply]
  rw [Cert.Sampling.sum_padded _ fun j hj => by rw [hz j hj, mul_zero, mul_zero]]
  rfl

theorem headState_apply (p : Fin 64) (n : Fin 128) (hz : ∀ j : Fin 128, 8 ≤ j.val → dt (ix2 j (row h)) = 0) :
    headState xs b dt cs hp h (ix3 0 p n) =
      hp (ix3 0 p n) * Ideal.exp (cs (ix2 127 (row h)))
        + ∑ j : Fin 8, xs (ix2 (row j) ⟨64 * h.val + p.val, by omega⟩) * dt (ix2 (row j) (row h)) *
            Ideal.exp (cs (ix2 127 (row h)) - cs (ix2 (row j) (row h))) * b (ix2 (row j) ⟨128 * (groupOf h).val + n.val, by omega⟩) := by
  pointwise [headState, steppedV, lastV]
  simp only [headV_apply, colOver_apply, groupV_apply, stateV_apply]
  rw [Cert.Sampling.sum_padded _ fun j hj => by rw [hz j hj, mul_zero, zero_mul, zero_mul]]
  pointwise
  rfl

variable (m : (ℓ : Loc nD τ sig) → Buf (Elt Ideal) ℓ) (c : Dev nD) (t : Fin cfg0.N)

/-- A row's raw step size, its bias and the head's factor, as the blocks hold them. -/
def stepRaw (r h : Fin 8) : EReal := iblk m c 2 t (ix2 r (row h))
def stepBias (h : Fin 8) : EReal := iblk m c 7 t (ix2 0 (row h))
def factor (h : Fin 8) : EReal := iblk m c 8 t (ix2 0 (row h))

/-- The step sizes: the specification's in the first eight rows, zero in the padding. -/
theorem dtV_apply (r h : Fin 8) :
    dtV m c t (ix2 (row r) (row h)) = Cert.Sampling.softplus (stepRaw m c t r h + stepBias m c t h) := by
  have hv : IntOp.cmpi .slt (BitVec.ofNat 32 (row r).val) 8#32 = 1#1 := by revert r; decide
  have hr : (row r).val < 8 := r.isLt
  pointwise [dtV, k0_pay19, k0_pay18, k0_pay17, k0_pay16, k0_pay15, k0_pay6, k0_pay7]
  rw [hv, if_neg (fun e => e rfl), dif_pos hr, zero_sub]
  rfl

theorem dtV_pad (i : Fin 128) (hi : 8 ≤ i.val) (h : Fin 8) : dtV m c t (ix2 i (row h)) = 0 := by
  have hv : ∀ i : Fin 128, 8 ≤ i.val → IntOp.cmpi .slt (BitVec.ofNat 32 i.val) 8#32 = 0#1 := by decide +kernel
  pointwise [dtV, k0_pay19, k0_pay18, k0_pay17, k0_pay16, k0_pay15, k0_pay6, k0_pay7]
  rw [hv i hi]
  rfl

/-- The running sums. -/
theorem csV_apply (i : Fin 128) (h : Fin 8)
    (hn : ∀ j, (dtV m c t (ix2 j (row h)) : EReal) * factor m c t h ≠ ⊤) :
    csV m c t (ix2 i (row h)) =
      ∑ j : Fin 8, if j.val ≤ i.val then dtV m c t (ix2 (row j) (row h)) * factor m c t h else 0 := by
  have hd : ∀ j : Fin 128, 8 ≤ j.val → (dtV m c t (ix2 j (row h)) : EReal) * factor m c t h = 0 := fun j hj => by
    rw [dtV_pad m c t j hj, zero_mul]
  unfold csV k0_pay21
  erw [dt_eq]
  generalize dtV m c t = d at hd hn ⊢
  pointwise
  simp only [lower]
  unfold factor at hd hn ⊢
  generalize iblk m c 8 t (ix2 0 (row h)) = a at hd hn ⊢
  rw [← Finset.sum_add_distrib, ← Finset.sum_add_distrib]
  have key : ∀ j : Fin 128, Scalar.select (if j.val ≤ i.val then 1#1 else 0#1) ((d (ix2 j (row h)) : EReal) * a) 0 +
      Scalar.select (if j.val ≤ i.val then 1#1 else 0#1) ((d (ix2 j (row h)) : EReal) * a - d (ix2 j (row h)) * a) 0 +
      Scalar.select (if j.val ≤ i.val then 1#1 else 0#1) ((d (ix2 j (row h)) : EReal) * a - d (ix2 j (row h)) * a -
        (d (ix2 j (row h)) * a - d (ix2 j (row h)) * a)) 0 = if j.val ≤ i.val then (d (ix2 j (row h)) : EReal) * a else 0 := fun j => by
    have h3 := Cert.Sampling.three_parts 1 _ (hn j) (.inr rfl)
    rw [one_mul, one_mul, one_mul] at h3
    by_cases hj : j.val ≤ i.val
    · rw [if_pos hj, if_pos hj]; exact h3
    · rw [if_neg hj, if_neg hj]
      show (0 : EReal) + 0 + 0 = 0
      rw [add_zero, add_zero]
  rw [Finset.sum_congr rfl fun j _ => key j]
  exact Cert.Sampling.sum_padded _ fun j hj => by rw [hd j hj, ite_self]

end Cert.ScanIdeal.Sampling
-- ==== Proof.Scan.Blocks.lean ====
/-
  The scan's blocks at a grid point, read at an entry: the arrays of the specification.
-/
module

public import proofs.«01_k».proof.Proof.Scan.Heads
public import Idealize.ShloMosaic.Lib.StableHlo.ReadAt

@[expose] public section

set_option maxRecDepth 16384

noncomputable section

namespace Cert.ScanIdeal.Sampling

open Cert.ScanIdeal Cert.ScanIdeal.Gen Idealize.ShloMosaic Idealize.ShloMosaic.TcCoe Idealize.SL.Sem
open Idealize.ShloMosaic.Tactic

variable (m : (ℓ : Loc nD τ sig) → Buf (Elt Ideal) ℓ) (c : Dev nD)

theorem idx0 : ∀ t, win0_0.index t 0 = 4096 + t.val ∧ win0_0.index t 1 = 0 := by decide +kernel
theorem idx1 : ∀ t, win0_1.index t 0 = 4096 + t.val ∧ win0_1.index t 1 = 2 := by decide +kernel
theorem idx2 : ∀ t, win0_2.index t 0 = 4096 + t.val ∧ win0_2.index t 1 = 18 := by decide +kernel
theorem idx3 : ∀ t, win0_3.index t 0 = t.val ∧ win0_3.index t 1 = 0 ∧ win0_3.index t 2 = 0 := by decide +kernel
theorem idx4 : ∀ t, win0_4.index t 0 = t.val ∧ win0_4.index t 1 = 0 ∧ win0_4.index t 2 = 0 ∧ win0_4.index t 3 = 0 := by decide +kernel
theorem idx5 : ∀ t, win0_5.index t 0 = 0 ∧ win0_5.index t 1 = 0 := by decide +kernel
theorem idx6 : ∀ t, win0_6.index t 0 = 0 ∧ win0_6.index t 1 = 0 := by decide +kernel
theorem idx7 : ∀ t, win0_7.index t 0 = 0 ∧ win0_7.index t 1 = 0 := by decide +kernel
theorem idx8 : ∀ t, win0_8.index t 0 = 0 ∧ win0_8.index t 1 = 0 := by decide +kernel
theorem idx9 : ∀ t, win0_9.index t 0 = 0 ∧ win0_9.index t 1 = 0 := by decide +kernel
theorem idx10 : ∀ t, win0_10.index t 0 = 0 ∧ win0_10.index t 1 = 0 := by decide +kernel

theorem points (t : Fin cfg0.N) : t.val < 128 := t.isLt

/-- The grid point as a sequence's number. -/
def batch (t : Fin cfg0.N) : Fin 128 := ⟨t.val, points t⟩

/-- The arguments as the specification's arrays. -/
def arrays : Cert.Sampling.Arrays where
  X b r j := m (c, main_arg0) (ix2 ⟨32768 + (b.val * 8 + r.val), by omega⟩ ⟨j.val, by omega⟩)
  Z b r n := m (c, main_arg0) (ix2 ⟨32768 + (b.val * 8 + r.val), by omega⟩ ⟨1024 + n.val, by omega⟩)
  D b r h := m (c, main_arg0) (ix2 ⟨32768 + (b.val * 8 + r.val), by omega⟩ ⟨2304 + h.val, by omega⟩)
  P b k j := m (c, main_arg1) (ix3 b k j)
  S b h p n := m (c, main_arg2) (ix4 b h p n)
  cw k j := m (c, main_arg3) (ix2 k j)
  cb j := m (c, main_arg4) (ix1 j)
  db h := m (c, main_arg5) (ix1 h)
  al h := m (c, main_arg6) (ix1 h)
  sk h := m (c, main_arg7) (ix1 h)
  nw n := m (c, main_arg8) (ix1 n)

theorem hostX (i : Fin 34304) (j : Fin 2560) : V m c main_arg0 (ix2 i j) = m (c, main_arg0) (ix2 i j) := by
  unfold V
  simp only [hostOps0, hostOps0_1, hostOps0_2, hostOps0_3, hostOps0_4, hostOps0_5, hostOps0_6, hostOps0_7, List.flatten_cons,
    List.flatten_nil, List.cons_append, List.nil_append, List.append_nil]
  after_reads_at
theorem hostS (b : Fin 128) (h : Fin 8) (p : Fin 64) (n : Fin 128) : V m c main_arg2 (ix4 b h p n) = (arrays m c).S b h p n := by
  unfold V
  simp only [hostOps0, hostOps0_1, hostOps0_2, hostOps0_3, hostOps0_4, hostOps0_5, hostOps0_6, hostOps0_7, List.flatten_cons,
    List.flatten_nil, List.cons_append, List.nil_append, List.append_nil]
  after_reads_at
  rfl
theorem hostW (k : Fin 4) (j : Fin 1024) : V m c main_arg3 (ix2 k j) = (arrays m c).cw k j := by
  unfold V
  simp only [hostOps0, hostOps0_1, hostOps0_2, hostOps0_3, hostOps0_4, hostOps0_5, hostOps0_6, hostOps0_7, List.flatten_cons,
    List.flatten_nil, List.cons_append, List.nil_append, List.append_nil]
  after_reads_at
  rfl
theorem host0 (j : Fin 1024) : V m c main_v0 (ix2 0 j) = (arrays m c).cb j := by
  unfold V
  simp only [hostOps0, hostOps0_1, hostOps0_2, hostOps0_3, hostOps0_4, hostOps0_5, hostOps0_6, hostOps0_7, List.flatten_cons,
    List.flatten_nil, List.cons_append, List.nil_append, List.append_nil]
  after_reads_at
  rfl
theorem host2 (h : Fin 8) : V m c main_v2 (ix2 0 (row h)) = (arrays m c).db h := by
  unfold V
  simp only [hostOps0, hostOps0_1, hostOps0_2, hostOps0_3, hostOps0_4, hostOps0_5, hostOps0_6, hostOps0_7, List.flatten_cons,
    List.flatten_nil, List.cons_append, List.nil_append, List.append_nil]
  after_reads_at
  exact dif_pos h.isLt
theorem host6 (h : Fin 8) : V m c main_v6 (ix2 0 (row h)) = -(Ideal.exp ((arrays m c).al h)) := by
  unfold V
  simp only [hostOps0, hostOps0_1, hostOps0_2, hostOps0_3, hostOps0_4, hostOps0_5, hostOps0_6, hostOps0_7, List.flatten_cons,
    List.flatten_nil, List.cons_append, List.nil_append, List.append_nil]
  after_reads_at
  exact dif_pos h.isLt
theorem host8 (h : Fin 8) : V m c main_v8 (ix2 0 (row h)) = (arrays m c).sk h := by
  unfold V
  simp only [hostOps0, hostOps0_1, hostOps0_2, hostOps0_3, hostOps0_4, hostOps0_5, hostOps0_6, hostOps0_7, List.flatten_cons,
    List.flatten_nil, List.cons_append, List.nil_append, List.append_nil]
  after_reads_at
  exact dif_pos h.isLt
theorem host9 (n : Fin 512) : V m c main_v9 (ix2 0 n) = (arrays m c).nw n := by
  unfold V
  simp only [hostOps0, hostOps0_1, hostOps0_2, hostOps0_3, hostOps0_4, hostOps0_5, hostOps0_6, hostOps0_7, List.flatten_cons,
    List.flatten_nil, List.cons_append, List.nil_append, List.append_nil]
  after_reads_at
  rfl
theorem host10 (b : Fin 128) (k : Fin 3) (j : Fin 1024) : V m c main_v10 (ix3 b ⟨5 + k.val, by omega⟩ j) = (arrays m c).P b k j := by
  unfold V
  simp only [hostOps0, hostOps0_1, hostOps0_2, hostOps0_3, hostOps0_4, hostOps0_5, hostOps0_6, hostOps0_7, List.flatten_cons,
    List.flatten_nil, List.cons_append, List.nil_append, List.append_nil]
  after_reads_at
  rfl

theorem blk1 (t : Fin cfg0.N) (i : Fin 8) (j : Fin 512) : iblk m c 1 t (ix2 i j) = (arrays m c).Z (batch t) i j := by
  refine Eq.trans ?_ (hostX m c _ _)
  have h := idx1 t
  have hb : (batch t).val = t.val := rfl
  blk_ext [iblk]
theorem blk2 (t : Fin cfg0.N) (i e : Fin 8) : iblk m c 2 t (ix2 i (row e)) = (arrays m c).D (batch t) i e := by
  refine Eq.trans ?_ (hostX m c _ _)
  have h := idx2 t
  have hb : (batch t).val = t.val := rfl
  blk_ext [iblk]
  show win0_2.index t 1 * 128 + e.val = 2304 + e.val
  omega
theorem blk3 (t : Fin cfg0.N) (k : Fin 3) (j : Fin 1024) : iblk m c 3 t (ix3 0 ⟨5 + k.val, by omega⟩ j) = (arrays m c).P (batch t) k j := by
  refine Eq.trans ?_ (host10 m c _ _ _)
  have h := idx3 t
  have hb : (batch t).val = t.val := rfl
  blk_ext [iblk]
theorem blk4 (t : Fin cfg0.N) (h : Fin 8) (p : Fin 64) (n : Fin 128) : iblk m c 4 t (ix4 0 h p n) = (arrays m c).S (batch t) h p n := by
  refine Eq.trans ?_ (hostS m c _ _ _ _)
  have h := idx4 t
  have hb : (batch t).val = t.val := rfl
  blk_ext [iblk]
theorem blk5 (t : Fin cfg0.N) (k : Fin 4) (j : Fin 1024) : iblk m c 5 t (ix2 k j) = (arrays m c).cw k j := by
  refine Eq.trans ?_ (hostW m c _ _)
  have h := idx5 t
  have hb : (batch t).val = t.val := rfl
  blk_ext [iblk]
theorem blk6 (t : Fin cfg0.N) (j : Fin 1024) : iblk m c 6 t (ix2 0 j) = (arrays m c).cb j := by
  refine Eq.trans ?_ (host0 m c _)
  have h := idx6 t
  have hb : (batch t).val = t.val := rfl
  blk_ext [iblk]
theorem blk7 (t : Fin cfg0.N) (h : Fin 8) : iblk m c 7 t (ix2 0 (row h)) = (arrays m c).db h := by
  refine Eq.trans ?_ (host2 m c _)
  have h := idx7 t
  have hb : (batch t).val = t.val := rfl
  blk_ext [iblk]
theorem blk8 (t : Fin cfg0.N) (h : Fin 8) : iblk m c 8 t (ix2 0 (row h)) = -(Ideal.exp ((arrays m c).al h)) := by
  refine Eq.trans ?_ (host6 m c _)
  have h := idx8 t
  have hb : (batch t).val = t.val := rfl
  blk_ext [iblk]
theorem blk9 (t : Fin cfg0.N) (h : Fin 8) : iblk m c 9 t (ix2 0 (row h)) = (arrays m c).sk h := by
  refine Eq.trans ?_ (host8 m c _)
  have h := idx9 t
  have hb : (batch t).val = t.val := rfl
  blk_ext [iblk]
theorem blk10 (t : Fin cfg0.N) (n : Fin 512) : iblk m c 10 t (ix2 0 n) = (arrays m c).nw n := by
  refine Eq.trans ?_ (host9 m c _)
  have h := idx10 t
  have hb : (batch t).val = t.val := rfl
  blk_ext [iblk]

/-- The new rows, as fetched. -/
theorem fetched (t : Fin cfg0.N) (i : Fin 8) (j : Fin 1024) : X0_0 m c t (ix2 i j) = (arrays m c).X (batch t) i j := by
  unfold X0_0 Pipeline.Window.fill
  rw [dif_pos (moved0_0 t _)]
  refine Eq.trans ?_ (hostX m c _ _)
  have h := idx0 t
  have hb : (batch t).val = t.val := rfl
  blk_ext [iblk]

end Cert.ScanIdeal.Sampling
-- ==== Proof.Scan.Value.lean ====
/-
  The two output blocks of a grid point, read at an entry: the specification's result and new state of the point's
  sequence.
-/
module

public import proofs.«01_k».proof.Proof.Scan.Blocks

@[expose] public section

set_option maxRecDepth 16384

noncomputable section

namespace Cert.ScanIdeal.Sampling

open Cert.ScanIdeal Cert.ScanIdeal.Gen Idealize.ShloMosaic Idealize.ShloMosaic.TcCoe Idealize.SL.Sem
open Idealize.ShloMosaic.Tactic

variable (m : (ℓ : Loc nD τ sig) → Buf (Elt Ideal) ℓ) (c : Dev nD) (t : Fin cfg0.N)

/-! ## The convolution -/

/-- Eight rows above 128 others. -/
def above (A : FVec Ideal S128x1024 .f32) (B : FVec Ideal S8x1024 .f32) : S136x1024.Idx → Elt Ideal .f32 := fun y =>
  if h : (y 0).val < 8 then B (ix2 ⟨(y 0).val, h⟩ ⟨(y 1).val, (y 1).isLt⟩)
  else A (ix2 ⟨(y 0).val - 8, by have : (y 0).val < 136 := (y 0).isLt; omega⟩ ⟨(y 1).val, (y 1).isLt⟩)

theorem above_low (A : FVec Ideal S128x1024 .f32) (B : FVec Ideal S8x1024 .f32) (x : S8x1024.Idx) (y : S136x1024.Idx)
    (h0 : (y 0).val = 0 + (x 0).val) (h1 : (y 1).val = 0 + (x 1).val) : B x = above A B y := by
  have hx : (x 0).val < 8 := (x 0).isLt
  unfold above
  rw [dif_pos (by omega)]
  refine congrArg B (funext fun a => ?_)
  match a with
  | ⟨0, _⟩ => exact Fin.ext (by show (x 0).val = (y 0).val; omega)
  | ⟨1, _⟩ => exact Fin.ext (by show (x 1).val = (y 1).val; omega)

theorem above_high (A : FVec Ideal S128x1024 .f32) (B : FVec Ideal S8x1024 .f32) (x : S128x1024.Idx) (y : S136x1024.Idx)
    (h0 : (y 0).val = 8 + (x 0).val) (h1 : (y 1).val = 0 + (x 1).val) : A x = above A B y := by
  unfold above
  rw [dif_neg (by omega)]
  refine congrArg A (funext fun a => ?_)
  match a with
  | ⟨0, _⟩ => exact Fin.ext (by show (x 0).val = (y 0).val - 8; omega)
  | ⟨1, _⟩ => exact Fin.ext (by show (x 1).val = (y 1).val; omega)

theorem two_rows (A : FVec Ideal S128x1024 .f32) (B : FVec Ideal S8x1024 .f32) (y : S136x1024.Idx) :
    View.canon [(⟨Rect.unit ![8, 0] ![128, 1024] inb_S136x1024_S128x1024_8_0, A⟩ : View.Piece (Elt Ideal) S136x1024 .f32),
      ⟨Rect.unit ![0, 0] ![8, 1024] inb_S136x1024_S8x1024_0_0, B⟩] y = above A B y := by
  have h := View.canon_append_of_piecesOf (above A B) []
    [(⟨Rect.unit ![8, 0] ![128, 1024] inb_S136x1024_S128x1024_8_0, A⟩ : View.Piece (Elt Ideal) S136x1024 .f32),
      ⟨Rect.unit ![0, 0] ![8, 1024] inb_S136x1024_S8x1024_0_0, B⟩]
    ⟨fun x => above_high A B x _ (by rw [Rect.emb_apply]; exact congrArg (HAdd.hAdd _) (Nat.one_mul _))
        (by rw [Rect.emb_apply]; exact congrArg (HAdd.hAdd _) (Nat.one_mul _)),
      fun x => above_low A B x _ (by rw [Rect.emb_apply]; exact congrArg (HAdd.hAdd _) (Nat.one_mul _))
        (by rw [Rect.emb_apply]; exact congrArg (HAdd.hAdd _) (Nat.one_mul _)), trivial⟩ y (by
      have h0 : (y 0).val < 136 := (y 0).isLt
      have h1 : (y 1).val < 1024 := (y 1).isLt
      by_cases hy : (y 0).val < 8
      · refine ⟨(⟨Rect.unit ![0, 0] ![8, 1024] inb_S136x1024_S8x1024_0_0, B⟩ : View.Piece (Elt Ideal) S136x1024 .f32), .tail _ (.head _),
          (Rect.mem_set_unit (inb := inb_S136x1024_S8x1024_0_0)).mpr fun a => ?_⟩
        match a with
        | ⟨0, _⟩ => exact ⟨Nat.zero_le _, by show (y 0).val < 0 + 8; omega⟩
        | ⟨1, _⟩ => exact ⟨Nat.zero_le _, by show (y 1).val < 0 + 1024; omega⟩
      · refine ⟨(⟨Rect.unit ![8, 0] ![128, 1024] inb_S136x1024_S128x1024_8_0, A⟩ : View.Piece (Elt Ideal) S136x1024 .f32), .head _,
          (Rect.mem_set_unit (inb := inb_S136x1024_S128x1024_8_0)).mpr fun a => ?_⟩
        match a with
        | ⟨0, _⟩ => exact ⟨by show 8 ≤ (y 0).val; omega, by show (y 0).val < 8 + 128; omega⟩
        | ⟨1, _⟩ => exact ⟨Nat.zero_le _, by show (y 1).val < 0 + 1024; omega⟩)
  rwa [List.append_nil] at h

/-- The first scratch from its fifth row on: the three old rows, then the eight new ones. -/
theorem past_at (i : Fin 11) (j : Fin 1024) (y : S136x1024.Idx) (h0 : (y 0).val = 5 + i.val) (h1 : (y 1).val = j.val) :
    View.canon (past m c t) y = Cert.Sampling.upTo (arrays m c) (batch t) i j := by
  unfold past
  rw [two_rows]
  unfold above Cert.Sampling.upTo
  by_cases h : i.val < 3
  · have e0 : (⟨(y 0).val, by omega⟩ : Fin 8) = ⟨5 + (⟨i.val, h⟩ : Fin 3).val, by show 5 + i.val < 8; omega⟩ := Fin.ext h0
    have e1 : (⟨(y 1).val, (y 1).isLt⟩ : Fin 1024) = j := Fin.ext h1
    rw [dif_pos (by omega), dif_pos h, e0]
    refine Eq.trans (congrArg (fun q => k0_pay3 (iblk m c 3 t) (ix2 _ q)) e1) ?_
    refine Eq.trans ?_ (blk3 m c t ⟨i.val, h⟩ j)
    generalize iblk m c 3 t = z
    pointwise [k0_pay3]
  · have e0 : (⟨(y 0).val - 8, by omega⟩ : Fin 128) = row ⟨i.val - 3, by omega⟩ := Fin.ext (by show (y 0).val - 8 = i.val - 3; omega)
    have e1 : (⟨(y 1).val, (y 1).isLt⟩ : Fin 1024) = j := Fin.ext h1
    rw [dif_neg (by omega), dif_neg h, e0]
    refine Eq.trans (congrArg (fun q => k0_pay8 (X0_0 m c t) (ix2 _ q)) e1) ?_
    refine Eq.trans ?_ (fetched m c t ⟨i.val - 3, by omega⟩ j)
    generalize X0_0 m c t = z
    pointwise [k0_pay8]
    exact dif_pos (show i.val - 3 < 8 by omega)

theorem conv_of (cb : Vec Ideal S1x1024 .f32) (r0 r1 r2 r3 : Vec Ideal S128x1024 .f32) (w0 w1 w2 w3 : Vec Ideal S1x1024 .f32)
    (i : Fin 128) (j : Fin 1024) : k0_pay11 (k0_pay9 cb) r0 w0 r1 w1 r2 w2 r3 w3 (ix2 i j) =
      Cert.Sampling.silu (cb (ix2 0 j) + r0 (ix2 i j) * w0 (ix2 0 j) + r1 (ix2 i j) * w1 (ix2 0 j) + r2 (ix2 i j) * w2 (ix2 0 j)
        + r3 (ix2 i j) * w3 (ix2 0 j)) := by
  pointwise [k0_pay11, k0_pay9]
  rfl

/-- The convolved rows. -/
theorem convV_apply (r : Fin 8) (j : Fin 1024) : convV m c t (ix2 (row r) j) = Cert.Sampling.conv (arrays m c) (batch t) r j := by
  have r0 : (View.whole cc0_scratch0).readCov (past m c t) (Rect.unit (s := S136x1024) ![5, 0] S128x1024.size inb_S136x1024_S128x1024_5_0).toLoadRect (ix2 (row r) j) =
      Cert.Sampling.upTo (arrays m c) (batch t) ⟨r.val, by omega⟩ j := by
    rw [View.readCov_eq_canon']
    exact past_at m c t _ j _ (by show 5 + 1 * r.val = 5 + r.val; omega) (by show 0 + 1 * j.val = j.val; omega)
  have r1 : (View.whole cc0_scratch0).readCov (past m c t) (Rect.unit (s := S136x1024) ![6, 0] S128x1024.size inb_S136x1024_S128x1024_6_0).toLoadRect (ix2 (row r) j) =
      Cert.Sampling.upTo (arrays m c) (batch t) ⟨1 + r.val, by omega⟩ j := by
    rw [View.readCov_eq_canon']
    exact past_at m c t _ j _ (by show 6 + 1 * r.val = 5 + (1 + r.val); omega) (by show 0 + 1 * j.val = j.val; omega)
  have r2 : (View.whole cc0_scratch0).readCov (past m c t) (Rect.unit (s := S136x1024) ![7, 0] S128x1024.size inb_S136x1024_S128x1024_7_0).toLoadRect (ix2 (row r) j) =
      Cert.Sampling.upTo (arrays m c) (batch t) ⟨2 + r.val, by omega⟩ j := by
    rw [View.readCov_eq_canon']
    exact past_at m c t _ j _ (by show 7 + 1 * r.val = 5 + (2 + r.val); omega) (by show 0 + 1 * j.val = j.val; omega)
  have r3 : (View.whole cc0_scratch0).readCov (past m c t) (Rect.unit (s := S136x1024) ![8, 0] S128x1024.size inb_S136x1024_S128x1024_8_0).toLoadRect (ix2 (row r) j) =
      Cert.Sampling.upTo (arrays m c) (batch t) ⟨3 + r.val, by omega⟩ j := by
    rw [View.readCov_eq_canon']
    exact past_at m c t _ j _ (by show 8 + 1 * r.val = 5 + (3 + r.val); omega) (by show 0 + 1 * j.val = j.val; omega)
  have w0 : View.ld (iblk m c 5 t) (Rect.unit ![0, 0] ![1, 1024] inb_S4x1024_S1x1024_0_0) (ix2 0 j) = (arrays m c).cw 0 j := by
    rw [← blk5 m c t 0 j]; pointwise
  have w1 : View.ld (iblk m c 5 t) (Rect.unit ![1, 0] ![1, 1024] inb_S4x1024_S1x1024_1_0) (ix2 0 j) = (arrays m c).cw 1 j := by
    rw [← blk5 m c t 1 j]; pointwise
  have w2 : View.ld (iblk m c 5 t) (Rect.unit ![2, 0] ![1, 1024] inb_S4x1024_S1x1024_2_0) (ix2 0 j) = (arrays m c).cw 2 j := by
    rw [← blk5 m c t 2 j]; pointwise
  have w3 : View.ld (iblk m c 5 t) (Rect.unit ![3, 0] ![1, 1024] inb_S4x1024_S1x1024_3_0) (ix2 0 j) = (arrays m c).cw 3 j := by
    rw [← blk5 m c t 3 j]; pointwise
  unfold convV
  rw [conv_of, r0, r1, r2, r3, w0, w1, w2, w3, blk6]
  rfl

theorem xsV_apply (r h : Fin 8) (p : Fin 64) :
    xsV m c t (ix2 (row r) ⟨64 * h.val + p.val, by omega⟩) = Cert.Sampling.val (arrays m c) (batch t) r h p := by
  unfold xsV
  refine Eq.trans ?_ (convV_apply m c t r ⟨64 * h.val + p.val, by omega⟩)
  generalize convV m c t = z
  pointwise
theorem bmV_apply (r : Fin 8) (g : Fin 2) (n : Fin 128) :
    bmV m c t (ix2 (row r) ⟨128 * g.val + n.val, by omega⟩) = Cert.Sampling.key (arrays m c) (batch t) r g n := by
  unfold bmV
  refine Eq.trans ?_ (convV_apply m c t r ⟨512 + (128 * g.val + n.val), by omega⟩)
  generalize convV m c t = z
  pointwise
theorem cmV_apply (r : Fin 8) (g : Fin 2) (n : Fin 128) :
    cmV m c t (ix2 (row r) ⟨128 * g.val + n.val, by omega⟩) = Cert.Sampling.qry (arrays m c) (batch t) r g n := by
  unfold cmV
  refine Eq.trans ?_ (convV_apply m c t r ⟨768 + (128 * g.val + n.val), by omega⟩)
  generalize convV m c t = z
  pointwise

/-! ## The step sizes and the running sums -/

theorem step_apply (r h : Fin 8) : dtV m c t (ix2 (row r) (row h)) = Cert.Sampling.dt (arrays m c) (batch t) r h := by
  have e1 : stepRaw m c t r h = (arrays m c).D (batch t) r h := blk2 m c t r h
  have e2 : stepBias m c t h = (arrays m c).db h := blk7 m c t h
  rw [dtV_apply, e1, e2]
  rfl

theorem step_mul (r h : Fin 8) : dtV m c t (ix2 (row r) (row h)) * factor m c t h = Cert.Sampling.da (arrays m c) (batch t) r h := by
  have e : factor m c t h = -(Ideal.exp ((arrays m c).al h)) := blk8 m c t h
  rw [step_apply, e]
  rfl

theorem step_ne_top (h : Fin 8) (j : Fin 128) : (dtV m c t (ix2 j (row h)) : EReal) * factor m c t h ≠ ⊤ := by
  by_cases hj : j.val < 8
  · have e : j = row ⟨j.val, hj⟩ := rfl
    rw [e, step_mul]
    exact Cert.Sampling.da_ne_top _ _ _ _
  · rw [dtV_pad m c t j (by omega), zero_mul]
    exact EReal.zero_ne_top

theorem csV_row (r h : Fin 8) : csV m c t (ix2 (row r) (row h)) = Cert.Sampling.cs (arrays m c) (batch t) r h := by
  rw [csV_apply m c t (row r) h (step_ne_top m c t h)]
  simp only [step_mul]
  rfl

theorem csV_last (h : Fin 8) : csV m c t (ix2 127 (row h)) = Cert.Sampling.cs (arrays m c) (batch t) 7 h := by
  rw [csV_apply m c t 127 h (step_ne_top m c t h)]
  simp only [step_mul]
  refine Finset.sum_congr rfl fun j _ => ?_
  rw [if_pos (show j.val ≤ (127 : Fin 128).val from (by omega : j.val ≤ 127)), if_pos (show j.val ≤ (7 : Fin 8).val from (by omega : j.val ≤ 7))]

/-! ## The heads -/

theorem oldV_apply (h : Fin 8) (p : Fin 64) (n : Fin 128) : oldV m c t h (ix3 0 p n) = (arrays m c).S (batch t) h p n := by
  unfold oldV
  refine Eq.trans ?_ (blk4 m c t h p n)
  generalize iblk m c 4 t = z
  pointwise [k0_pay4]

theorem skip_apply (h : Fin 8) : View.ld (iblk m c 9 t) (Rect.unit ![0, h.val] ![1, 1] (inbOne h)) (ix2 0 0) = (arrays m c).sk h := by
  refine Eq.trans ?_ (blk9 m c t h)
  generalize iblk m c 9 t = z
  pointwise
  rfl

/-- One head of the point, … -/
theorem headAt_apply (h r : Fin 8) (p : Fin 64) :
    headAt m c t h (ix2 (row r) p) = Cert.Sampling.out (arrays m c) (batch t) r h p := by
  unfold headAt
  rw [headOut_apply _ _ _ _ _ _ _ _ _ _ fun j hj => dtV_pad m c t j hj h, skip_apply]
  simp only [xsV_apply, bmV_apply, cmV_apply, step_apply, csV_row, oldV_apply]
  rfl

/-- … and its new state. -/
theorem stateAt_apply (h : Fin 8) (p : Fin 64) (n : Fin 128) :
    stateAt m c t h (ix3 0 p n) = Cert.Sampling.state (arrays m c) (batch t) h p n := by
  unfold stateAt
  rw [headState_apply _ _ _ _ _ _ _ _ fun j hj => dtV_pad m c t j hj h]
  simp only [xsV_apply, bmV_apply, step_apply, csV_row, csV_last, oldV_apply]
  rfl

/-- Eight heads side by side … -/
def side (H : Fin 8 → FVec Ideal S128x64 .f32) : S128x512.Idx → Elt Ideal .f32 := fun y =>
  H ⟨(y 1).val / 64, by have : (y 1).val < 512 := (y 1).isLt; omega⟩ (ix2 ⟨(y 0).val, (y 0).isLt⟩ ⟨(y 1).val % 64, by omega⟩)
/-- … and eight states on top of each other. -/
def pile (H : Fin 8 → FVec Ideal S1x64x128 .f32) : S8x64x128.Idx → Elt Ideal .f32 := fun y =>
  H ⟨(y 0).val, (y 0).isLt⟩ (ix3 0 ⟨(y 1).val, (y 1).isLt⟩ ⟨(y 2).val, (y 2).isLt⟩)

theorem piece_side (H : Fin 8 → FVec Ideal S128x64 .f32) (h : Fin 8) (x : S128x64.Idx) (y : S128x512.Idx)
    (h0 : (y 0).val = (x 0).val) (h1 : (y 1).val = 64 * h.val + (x 1).val) : H h x = side H y := by
  have hx : (x 1).val < 64 := (x 1).isLt
  have e : (⟨(y 1).val / 64, by have : (y 1).val < 512 := (y 1).isLt; omega⟩ : Fin 8) = h := Fin.ext (by show (y 1).val / 64 = h.val; omega)
  unfold side
  rw [e]
  refine congrArg (H h) (funext fun a => ?_)
  match a with
  | ⟨0, _⟩ => exact Fin.ext h0.symm
  | ⟨1, _⟩ => exact Fin.ext (by show (x 1).val = (y 1).val % 64; omega)

theorem piece_pile (H : Fin 8 → FVec Ideal S1x64x128 .f32) (h : Fin 8) (x : S1x64x128.Idx) (y : S8x64x128.Idx)
    (h0 : (y 0).val = h.val + (x 0).val) (h1 : (y 1).val = (x 1).val) (h2 : (y 2).val = (x 2).val) : H h x = pile H y := by
  have hx : (x 0).val < 1 := (x 0).isLt
  have e : (⟨(y 0).val, (y 0).isLt⟩ : Fin 8) = h := Fin.ext (by show (y 0).val = h.val; omega)
  unfold pile
  refine Eq.trans ?_ (congrArg (fun q => H q _) e).symm
  refine congrArg (H h) (funext fun a => ?_)
  match a with
  | ⟨0, _⟩ => exact Fin.ext (by show (x 0).val = 0; omega)
  | ⟨1, _⟩ => exact Fin.ext h1.symm
  | ⟨2, _⟩ => exact Fin.ext h2.symm

/-- The third scratch, read back. -/
theorem rows_read (y : S128x512.Idx) : View.canon (rowPieces m c t) y = side (headAt m c t) y := by
  unfold rowPieces
  generalize headAt m c t = H
  have h := View.canon_append_of_piecesOf (side H) []
    [⟨Rect.unit ![0, 448] ![128, 64] inb_S128x512_S128x64_0_448, H 7⟩,
     ⟨Rect.unit ![0, 384] ![128, 64] inb_S128x512_S128x64_0_384, H 6⟩,
     ⟨Rect.unit ![0, 320] ![128, 64] inb_S128x512_S128x64_0_320, H 5⟩,
     ⟨Rect.unit ![0, 256] ![128, 64] inb_S128x512_S128x64_0_256, H 4⟩,
     ⟨Rect.unit ![0, 192] ![128, 64] inb_S128x512_S128x64_0_192, H 3⟩,
     ⟨Rect.unit ![0, 128] ![128, 64] inb_S128x512_S128x64_0_128, H 2⟩,
     ⟨Rect.unit ![0, 64] ![128, 64] inb_S128x512_S128x64_0_64, H 1⟩,
     ⟨Rect.unit ![0, 0] ![128, 64] inb_S128x512_S128x64_0_0, H 0⟩]
    (by
      refine ⟨fun x => ?_, fun x => ?_, fun x => ?_, fun x => ?_, fun x => ?_, fun x => ?_, fun x => ?_, fun x => ?_, trivial⟩ <;>
        exact piece_side H _ x _ (by rw [Rect.emb_apply]; exact (Nat.zero_add _).trans (Nat.one_mul _))
          (by rw [Rect.emb_apply]; exact congrArg (HAdd.hAdd _) (Nat.one_mul _)))
    y (View.cover_of_tiled_head _ _ _ rfl y)
  rwa [List.append_nil] at h

/-- The second scratch, read back: the old state is written over everywhere. -/
theorem states_read (y : S8x64x128.Idx) : View.canon (statePieces m c t) y = pile (stateAt m c t) y := by
  unfold statePieces
  generalize stateAt m c t = H
  generalize k0_pay4 (iblk m c 4 t) = O
  exact View.canon_append_of_piecesOf (pile H) [⟨Rect.unit ![0, 0, 0] S8x64x128.size inb_S8x64x128_S8x64x128_0_0_0, O⟩]
    [⟨Rect.unit ![7, 0, 0] ![1, 64, 128] inb_S8x64x128_S1x64x128_7_0_0, H 7⟩,
     ⟨Rect.unit ![6, 0, 0] ![1, 64, 128] inb_S8x64x128_S1x64x128_6_0_0, H 6⟩,
     ⟨Rect.unit ![5, 0, 0] ![1, 64, 128] inb_S8x64x128_S1x64x128_5_0_0, H 5⟩,
     ⟨Rect.unit ![4, 0, 0] ![1, 64, 128] inb_S8x64x128_S1x64x128_4_0_0, H 4⟩,
     ⟨Rect.unit ![3, 0, 0] ![1, 64, 128] inb_S8x64x128_S1x64x128_3_0_0, H 3⟩,
     ⟨Rect.unit ![2, 0, 0] ![1, 64, 128] inb_S8x64x128_S1x64x128_2_0_0, H 2⟩,
     ⟨Rect.unit ![1, 0, 0] ![1, 64, 128] inb_S8x64x128_S1x64x128_1_0_0, H 1⟩,
     ⟨Rect.unit ![0, 0, 0] ![1, 64, 128] inb_S8x64x128_S1x64x128_0_0_0, H 0⟩]
    (by
      refine ⟨fun x => ?_, fun x => ?_, fun x => ?_, fun x => ?_, fun x => ?_, fun x => ?_, fun x => ?_, fun x => ?_, trivial⟩ <;>
        exact piece_pile H _ x _ (by rw [Rect.emb_apply]; exact congrArg (HAdd.hAdd _) (Nat.one_mul _))
          (by rw [Rect.emb_apply]; exact (Nat.zero_add _).trans (Nat.one_mul _))
          (by rw [Rect.emb_apply]; exact (Nat.zero_add _).trans (Nat.one_mul _)))
    y (View.cover_of_tiled_head _ _ _ rfl y)

theorem whole_row (y : S128x512.Idx) :
    (Rect.unit (s := S128x512) ![0, 0] S128x512.size inb_S128x512_S128x512_0_0).toLoadRect.idx y = y := by
  funext a
  match a with
  | ⟨0, _⟩ => exact Fin.ext ((Nat.zero_add _).trans (Nat.one_mul _))
  | ⟨1, _⟩ => exact Fin.ext ((Nat.zero_add _).trans (Nat.one_mul _))

theorem whole_state (y : S8x64x128.Idx) :
    (Rect.unit (s := S8x64x128) ![0, 0, 0] S8x64x128.size inb_S8x64x128_S8x64x128_0_0_0).toLoadRect.idx y = y := by
  funext a
  match a with
  | ⟨0, _⟩ => exact Fin.ext ((Nat.zero_add _).trans (Nat.one_mul _))
  | ⟨1, _⟩ => exact Fin.ext ((Nat.zero_add _).trans (Nat.one_mul _))
  | ⟨2, _⟩ => exact Fin.ext ((Nat.zero_add _).trans (Nat.one_mul _))

/-- The new state's block at a point. -/
theorem block12 (h : Fin 8) (p : Fin 64) (n : Fin 128) :
    (outsAt0 m c t).2 (ix4 0 h p n) = Cert.Sampling.state (arrays m c) (batch t) h p n := by
  rw [out12]
  simp only [whole_state, states_read]
  refine Eq.trans ?_ (stateAt_apply m c t h p n)
  generalize stateAt m c t = H
  pointwise [k0_pay2, pile]

/-! ## The result -/

theorem gate_apply (x : Vec Ideal S8x512 .f32) (Y : Vec Ideal S128x512 .f32) (r : Fin 8) (n : Fin 512) :
    k0_pay84 (k0_pay5 x) Y (ix2 (row r) n) = Y (ix2 (row r) n) * Cert.Sampling.silu (x (ix2 r n)) := by
  have hr : (row r).val < 8 := r.isLt
  pointwise [k0_pay84, k0_pay5]
  rw [dif_pos hr]
  rfl

/-- The two halves, each normalised by its mean square and weighted. -/
theorem halves_apply (x : Vec Ideal S8x512 .f32) (Y : Vec Ideal S128x512 .f32) (w : Vec Ideal S1x512 .f32) (r : Fin 8) (g : Fin 2)
    (e : Fin 256) (G nw : Fin 512 → EReal) (hg : ∀ n, k0_pay84 (k0_pay5 x) Y (ix2 (row r) n) = G n) (hw : ∀ n, w (ix2 0 n) = nw n) :
    k0_pay1 (k0_pay85 (k0_pay5 x) Y (View.ld w (Rect.unit ![0, 0] ![1, 256] inb_S1x512_S1x256_0_0))) (k0_pay86 (k0_pay5 x) Y)
      (k0_pay87 (View.ld w (Rect.unit ![0, 256] ![1, 256] inb_S1x512_S1x256_0_256))) (k0_pay88 (k0_pay5 x) Y)
      (ix2 r (Cert.Sampling.inHalf g e)) =
    G (Cert.Sampling.inHalf g e) * Ideal.rsqrt (Ideal.div (∑ e : Fin 256, G (Cert.Sampling.inHalf g e) * G (Cert.Sampling.inHalf g e))
      (Ideal.ofBits FTy.f32 0x43800000#32) + Ideal.ofBits FTy.f32 0x358637BD#32) * nw (Cert.Sampling.inHalf g e) := by
  have hr : (⟨r.val, by omega⟩ : Fin 128) = row r := rfl
  unfold k0_pay85 k0_pay88 k0_pay86 k0_pay87
  generalize k0_pay84 (k0_pay5 x) Y = Z at hg ⊢
  pointwise [k0_pay1]
  simp only [hr, hg, hw]
  match g with
  | ⟨0, _⟩ =>
    have hx : ∀ x : Fin 256, (⟨x.val, by omega⟩ : Fin 512) = Cert.Sampling.inHalf 0 x := fun x =>
      Fin.ext (by show x.val = 256 * 0 + x.val; omega)
    refine (dif_pos (show 256 * 0 + e.val < 256 by omega)).trans ?_
    simp only [hx]
    rfl
  | ⟨1, _⟩ =>
    have hx : ∀ x : Fin 256, (⟨256 + x.val, by omega⟩ : Fin 512) = Cert.Sampling.inHalf 1 x := fun x => rfl
    have he : (⟨256 + ((Cert.Sampling.inHalf ⟨1, by omega⟩ e).val - 256), by have := (Cert.Sampling.inHalf ⟨1, by omega⟩ e).isLt; omega⟩ : Fin 512) =
      Cert.Sampling.inHalf 1 e := Fin.ext (by show 256 + (256 * 1 + e.val - 256) = 256 * 1 + e.val; omega)
    refine (dif_neg (show ¬ 256 * 1 + e.val < 256 by omega)).trans ?_
    simp only [hx, he]
    rfl

/-- The third scratch as the last lines load it. -/
def loaded (c : Dev nD) (t : Fin cfg0.N) : Vec Ideal S128x512 .f32 := fun j => View.canon (rowPieces m c t)
  ((Rect.unit (s := S128x512) ![0, 0] S128x512.size inb_S128x512_S128x512_0_0).toLoadRect.idx j)

theorem gated_apply (r : Fin 8) (n : Fin 512) :
    k0_pay84 (k0_pay5 (iblk m c 1 t)) (loaded m c t) (ix2 (row r) n) = Cert.Sampling.gated (arrays m c) (batch t) r n := by
  have e : loaded m c t (ix2 (row r) n) = side (headAt m c t) (ix2 (row r) n) := by
    unfold loaded
    rw [whole_row, rows_read]
  rw [gate_apply, blk1, e]
  unfold Cert.Sampling.gated
  refine congrArg (· * _) ?_
  exact headAt_apply m c t ⟨n.val / 64, by omega⟩ r ⟨n.val % 64, by omega⟩

/-- The scan's block at a point: the specification's result for the point's rows. -/
theorem block11 (r : Fin 8) (g : Fin 2) (e : Fin 256) :
    (outsAt0 m c t).1 (ix2 r (Cert.Sampling.inHalf g e)) = Cert.Sampling.result (arrays m c) (batch t) r g e :=
  (congrFun (out11 m c t) _).trans
    (halves_apply (iblk m c 1 t) (loaded m c t) (iblk m c 10 t) r g e _ _ (gated_apply m c t r) (blk10 m c t))

end Cert.ScanIdeal.Sampling
-- ==== Proof.Scan.Final.lean ====
/-
  The scan's two result arrays after the run.
-/
module

public import proofs.«01_k».proof.Proof.Scan.Value
public import proofs.«01_k».proof.Proof.Gen.ScanIdeal.Value

@[expose] public section

set_option maxRecDepth 16384

noncomputable section

namespace Cert.ScanIdeal.Sampling

open Cert.ScanIdeal Cert.ScanIdeal.Gen Idealize.ShloMosaic Idealize.ShloMosaic.TcCoe Idealize.SL.Sem
open Idealize.ShloMosaic.Tactic

variable (m : (ℓ : Loc nD τ sig) → Buf (Elt Ideal) ℓ) (c : Dev nD)

/-- The scan's result as an array: sequence `i / 8`, row `i % 8` of it. -/
def results : S1024x512.Idx → Elt Ideal .bf16 := fun i =>
  Cert.Sampling.result (arrays m c) ⟨(i 0).val / 8, by have : (i 0).val < 1024 := (i 0).isLt; omega⟩ ⟨(i 0).val % 8, by omega⟩
    ⟨(i 1).val / 256, by have : (i 1).val < 512 := (i 1).isLt; omega⟩ ⟨(i 1).val % 256, by omega⟩

/-- The new states as an array. -/
def states : S128x8x64x128.Idx → Elt Ideal .f32 := fun i =>
  Cert.Sampling.state (arrays m c) ⟨(i 0).val, (i 0).isLt⟩ ⟨(i 1).val, (i 1).isLt⟩ ⟨(i 2).val, (i 2).isLt⟩ ⟨(i 3).val, (i 3).isLt⟩

theorem idx11 : ∀ t, win0_11.index t 0 = t.val ∧ win0_11.index t 1 = 0 := by decide +kernel
theorem idx12 : ∀ t, win0_12.index t 0 = t.val ∧ win0_12.index t 1 = 0 ∧ win0_12.index t 2 = 0 ∧ win0_12.index t 3 = 0 := by
  decide +kernel

theorem results_at (b : Fin 128) (r : Fin 8) (g : Fin 2) (e : Fin 256) (i : S1024x512.Idx)
    (h0 : (i 0).val = 8 * b.val + r.val) (h1 : (i 1).val = 256 * g.val + e.val) :
    results m c i = Cert.Sampling.result (arrays m c) b r g e := by
  have e0 : (⟨(i 0).val / 8, by have : (i 0).val < 1024 := (i 0).isLt; omega⟩ : Fin 128) = b := Fin.ext (by show (i 0).val / 8 = b.val; omega)
  have e1 : (⟨(i 0).val % 8, by omega⟩ : Fin 8) = r := Fin.ext (by show (i 0).val % 8 = r.val; omega)
  have e2 : (⟨(i 1).val / 256, by have : (i 1).val < 512 := (i 1).isLt; omega⟩ : Fin 2) = g := Fin.ext (by show (i 1).val / 256 = g.val; omega)
  have e3 : (⟨(i 1).val % 256, by omega⟩ : Fin 256) = e := Fin.ext (by show (i 1).val % 256 = e.val; omega)
  unfold results
  rw [e0, e1, e2, e3]

theorem states_at (b : Fin 128) (h : Fin 8) (p : Fin 64) (n : Fin 128) (i : S128x8x64x128.Idx)
    (h0 : (i 0).val = b.val) (h1 : (i 1).val = h.val) (h2 : (i 2).val = p.val) (h3 : (i 3).val = n.val) :
    states m c i = Cert.Sampling.state (arrays m c) b h p n := by
  have e0 : (⟨(i 0).val, (i 0).isLt⟩ : Fin 128) = b := Fin.ext h0
  have e1 : (⟨(i 1).val, (i 1).isLt⟩ : Fin 8) = h := Fin.ext h1
  have e2 : (⟨(i 2).val, (i 2).isLt⟩ : Fin 64) = p := Fin.ext h2
  have e3 : (⟨(i 3).val, (i 3).isLt⟩ : Fin 128) = n := Fin.ext h3
  subst e0 e1 e2 e3
  rfl

/-- After the run the first result array is the specification's. -/
theorem final11 : (dats m 0 c).arrAt 11 cfg0.N = results m c := by
  refine (dats m 0 c).arrAt_eq_of_covers 11 _ (by decide +kernel) fun t h y => ?_
  obtain ⟨i0, i1⟩ := idx11 t
  have hb := block11 m c t
  have hy : (y 1).val < 512 := (y 1).isLt
  blk_simp
  rw [after0_11]
  generalize (outsAt0 m c t).1 = z at hb ⊢
  refine Eq.trans ?_ ((hb ⟨(y 0).val, (y 0).isLt⟩ ⟨(y 1).val / 256, by omega⟩ ⟨(y 1).val % 256, by omega⟩).trans
    (results_at m c _ _ _ _ _ ?_ ?_).symm)
  · refine congrArg z (funext fun a => ?_)
    match a with
    | ⟨0, _⟩ => rfl
    | ⟨1, _⟩ => exact Fin.ext (by show (y 1).val = 256 * ((y 1).val / 256) + (y 1).val % 256; omega)
  · show _ = 8 * t.val + (y 0).val
    blk_simp
    rw [i0]; omega
  · show _ = 256 * ((y 1).val / 256) + (y 1).val % 256
    blk_simp
    rw [i1]; omega

/-- After the run the second result array is the new states. -/
theorem final12 : (dats m 0 c).arrAt 12 cfg0.N = states m c := by
  refine (dats m 0 c).arrAt_eq_of_covers 12 _ (by decide +kernel) fun t h y => ?_
  obtain ⟨i0, i1, i2, i3⟩ := idx12 t
  have hb := block12 m c t
  have hy : (y 0).val < 1 := (y 0).isLt
  blk_simp
  rw [after0_12]
  generalize (outsAt0 m c t).2 = z at hb ⊢
  refine Eq.trans ?_ ((hb ⟨(y 1).val, (y 1).isLt⟩ ⟨(y 2).val, (y 2).isLt⟩ ⟨(y 3).val, (y 3).isLt⟩).trans
    (states_at m c _ _ _ _ _ ?_ ?_ ?_ ?_).symm)
  · refine congrArg z (funext fun a => ?_)
    match a with
    | ⟨0, _⟩ => exact Fin.ext (by show (y 0).val = 0; omega)
    | ⟨1, _⟩ => rfl
    | ⟨2, _⟩ => rfl
    | ⟨3, _⟩ => rfl
  · show _ = t.val
    blk_simp
    rw [i0]
  · show _ = (y 1).val
    blk_simp
    rw [i1]; omega
  · show _ = (y 2).val
    blk_simp
    rw [i2]; omega
  · show _ = (y 3).val
    blk_simp
    rw [i3]; omega

end Cert.ScanIdeal.Sampling

end
-- ==== Proof.Scan.Ref.lean ====
/-
  The reference's scan, read at an index stage by stage: its result is `Cert.Sampling.result` and its new state
  `Cert.Sampling.state`.
-/
module

public import proofs.«01_k».proof.Proof.Gen.ScanReferenceIdeal.Read
public import proofs.«01_k».proof.Proof.Scan.Spec
public import Idealize.ShloMosaic.Lib.Pointwise

@[expose] public section

set_option maxRecDepth 16384

noncomputable section

namespace Cert.ScanReferenceIdeal.Sampling

open Cert.ScanReferenceIdeal Cert.ScanReferenceIdeal.Gen Cert.ScanReferenceIdeal.Read Idealize.ShloMosaic Idealize.ShloMosaic.TcCoe
open Idealize.SL.Sem Idealize.ShloMosaic.Tactic

variable (x0 : (⟨S34304x2560, .f32⟩ : BufTy).Contents (Elt Ideal)) (x1 : (⟨S128x3x1024, .f32⟩ : BufTy).Contents (Elt Ideal))
  (x2 : (⟨S128x8x64x128, .f32⟩ : BufTy).Contents (Elt Ideal)) (x3 : (⟨S4x1024, .f32⟩ : BufTy).Contents (Elt Ideal))
  (x4 : (⟨S1024, .f32⟩ : BufTy).Contents (Elt Ideal)) (x5 x6 x7 : (⟨S8, .f32⟩ : BufTy).Contents (Elt Ideal))
  (x8 : (⟨S512, .f32⟩ : BufTy).Contents (Elt Ideal))

/-- The arguments as the specification's arrays. -/
def arrays : Cert.Sampling.Arrays where
  X b r j := x0 (ix2 ⟨32768 + (b.val * 8 + r.val), by omega⟩ ⟨j.val, by omega⟩)
  Z b r n := x0 (ix2 ⟨32768 + (b.val * 8 + r.val), by omega⟩ ⟨1024 + n.val, by omega⟩)
  D b r h := x0 (ix2 ⟨32768 + (b.val * 8 + r.val), by omega⟩ ⟨2304 + h.val, by omega⟩)
  P b k j := x1 (ix3 b k j)
  S b h p n := x2 (ix4 b h p n)
  cw k j := x3 (ix2 k j)
  cb j := x4 (ix1 j)
  db h := x5 (ix1 h)
  al h := x6 (ix1 h)
  sk h := x7 (ix1 h)
  nw n := x8 (ix1 n)

/-- The head of group `g` that is its `q`-th. -/
def hd (g : Fin 2) (q : Fin 4) : Fin 8 := ⟨g.val * 4 + q.val, by omega⟩

theorem grp_hd (g : Fin 2) (q : Fin 4) : Cert.Sampling.grp (hd g q) = g := Fin.ext (by show (g.val * 4 + q.val) / 4 = g.val; omega)

/-- The old rows followed by the new ones. -/
theorem upEq (b : Fin 128) (i : Fin 11) (j : Fin 1024) : val_main_v7 x0 x1 (ix3 b i j) = Cert.Sampling.upTo (arrays x0 x1 x2 x3 x4 x5 x6 x7 x8) b i j := by
  pointwise [val_main_v0, val_main_v1, val_main_v2, val_main_v3, val_main_v4, val_main_v5, val_main_v6, val_main_v7, val_main_cst, val_main_c, val_main_cst_0, val_main_cst_1, val_main_cst_2, val_main_cst_3, val_main_cst_4, val_main_cst_5, val_main_cst_6]
  unfold Cert.Sampling.upTo
  rfl

/-- The convolved rows. -/
theorem convEq (b : Fin 128) (r : Fin 8) (j : Fin 1024) : val_main_v40 x0 x1 x3 x4 (ix3 b r j) = Cert.Sampling.conv (arrays x0 x1 x2 x3 x4 x5 x6 x7 x8) b r j := by
  pointwise [val_main_v8, val_main_v9, val_main_v10, val_main_v11, val_main_v12, val_main_v13, val_main_cst, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_call0_v0, val_main_call0_v1, val_main_call0_cst, val_main_call0_v2, val_main_call0_v3, val_main_call0_cst_0, val_main_call0_v4, val_main_call0_v5, val_main_v40, val_main_c, val_main_cst_0, val_main_cst_1, val_main_cst_2, val_main_cst_3, val_main_cst_4, val_main_cst_5, val_main_cst_6]
  simp only [upEq x0 x1 x2 x3 x4 x5 x6 x7 x8, ← add_assoc]
  rfl

theorem valEq (b : Fin 128) (r : Fin 8) (g : Fin 2) (q : Fin 4) (p : Fin 64) :
    val_main_v42 x0 x1 x3 x4 (ix5 b r g q p) = Cert.Sampling.val (arrays x0 x1 x2 x3 x4 x5 x6 x7 x8) b r (hd g q) p := by
  pointwise [val_main_cst, val_main_v41, val_main_v42, val_main_c, val_main_cst_0, val_main_cst_1, val_main_cst_2, val_main_cst_3, val_main_cst_4, val_main_cst_5, val_main_cst_6]
  rw [convEq x0 x1 x2 x3 x4 x5 x6 x7 x8]
  exact congrArg (Cert.Sampling.conv (arrays x0 x1 x2 x3 x4 x5 x6 x7 x8) b r) (Fin.ext (by
    show g.val * 256 + q.val * 64 + p.val = 64 * (g.val * 4 + q.val) + p.val; omega))
theorem keyEq (b : Fin 128) (r : Fin 8) (g : Fin 2) (n : Fin 128) :
    val_main_v44 x0 x1 x3 x4 (ix4 b r g n) = Cert.Sampling.key (arrays x0 x1 x2 x3 x4 x5 x6 x7 x8) b r g n := by
  pointwise [val_main_cst, val_main_v43, val_main_v44, val_main_c, val_main_cst_0, val_main_cst_1, val_main_cst_2, val_main_cst_3, val_main_cst_4, val_main_cst_5, val_main_cst_6]
  rw [convEq x0 x1 x2 x3 x4 x5 x6 x7 x8]
  exact congrArg (Cert.Sampling.conv (arrays x0 x1 x2 x3 x4 x5 x6 x7 x8) b r) (Fin.ext (by
    show 512 + (g.val * 128 + n.val) = 512 + (128 * g.val + n.val); omega))
theorem qryEq (b : Fin 128) (r : Fin 8) (g : Fin 2) (n : Fin 128) :
    val_main_v46 x0 x1 x3 x4 (ix4 b r g n) = Cert.Sampling.qry (arrays x0 x1 x2 x3 x4 x5 x6 x7 x8) b r g n := by
  pointwise [val_main_cst, val_main_v45, val_main_v46, val_main_c, val_main_cst_0, val_main_cst_1, val_main_cst_2, val_main_cst_3, val_main_cst_4, val_main_cst_5, val_main_cst_6]
  rw [convEq x0 x1 x2 x3 x4 x5 x6 x7 x8]
  exact congrArg (Cert.Sampling.conv (arrays x0 x1 x2 x3 x4 x5 x6 x7 x8) b r) (Fin.ext (by
    show 768 + (g.val * 128 + n.val) = 768 + (128 * g.val + n.val); omega))

/-- The step sizes, … -/
theorem dtEq (b : Fin 128) (r h : Fin 8) : val_main_v50 x0 x5 (ix3 b r h) = Cert.Sampling.dt (arrays x0 x1 x2 x3 x4 x5 x6 x7 x8) b r h := by
  pointwise [val_main_cst, val_main_v47, val_main_v48, val_main_v49, val_main_call1_cst, val_main_call1_v0, val_main_call1_v1, val_main_call1_v2, val_main_call1_v3, val_main_call1_v4, val_main_call1_v5, val_main_call1_v6, val_main_call1_v7, val_main_call1_v8, val_main_call1_v9, val_main_call1_v10, val_main_call1_v11, val_main_v50, val_main_c, val_main_cst_0, val_main_cst_1, val_main_cst_2, val_main_cst_3, val_main_cst_4, val_main_cst_5, val_main_cst_6, val_main_v0, val_main_v5, val_main_v6]
  rw [if_neg (fun e => e rfl)]
  rfl

/-- … the logarithms of the decays … -/
theorem daEq (b : Fin 128) (r : Fin 8) (g : Fin 2) (q : Fin 4) : val_main_v56 x0 x5 x6 (ix4 b r g q) = Cert.Sampling.da (arrays x0 x1 x2 x3 x4 x5 x6 x7 x8) b r (hd g q) := by
  pointwise [val_main_cst, val_main_v51, val_main_v52, val_main_v53, val_main_v54, val_main_v55, val_main_v56, val_main_c, val_main_cst_0, val_main_cst_1, val_main_cst_2, val_main_cst_3, val_main_cst_4, val_main_cst_5, val_main_cst_6]
  rw [dtEq x0 x1 x2 x3 x4 x5 x6 x7 x8]
  rfl

/-- … and the rows before a row. -/
theorem lowEq (r j : Fin 8) : val_main_v58 (F := Ideal) (ix2 r j) = if j.val ≤ r.val then 1#1 else 0#1 := by
  pointwise [val_main_cst, val_main_c, val_main_v57, val_main_call2_v0, val_main_call2_c, val_main_call2_v1, val_main_call2_v2, val_main_call2_v3, val_main_call2_v4, val_main_call2_c_0, val_main_call2_v5, val_main_v58, val_main_cst_0, val_main_cst_1, val_main_cst_2, val_main_cst_3, val_main_cst_4, val_main_cst_5, val_main_cst_6]
  revert r j
  decide +kernel

/-- Their running sums. -/
theorem csEq (b : Fin 128) (r : Fin 8) (g : Fin 2) (q : Fin 4) : val_main_v62 x0 x5 x6 (ix4 b r g q) = Cert.Sampling.cs (arrays x0 x1 x2 x3 x4 x5 x6 x7 x8) b r (hd g q) := by
  pointwise [val_main_cst, val_main_c, val_main_v59, val_main_v60, val_main_cst_0, val_main_call3_v0, val_main_call3_v1, val_main_call3_v2, val_main_call3_v3, val_main_v61, val_main_cst_1, val_main_v62, val_main_cst_2, val_main_cst_3, val_main_cst_4, val_main_cst_5, val_main_cst_6]
  simp only [daEq x0 x1 x2 x3 x4 x5 x6 x7 x8, lowEq]
  have h0 : id (constant (F := Ideal) S_ FTy.f32 0#32) ix0 = (0 : EReal) := by
    show Ideal.ofBits FTy.f32 0#32 = 0
    simp [Ideal.ofBits, Ideal.ieee]
  refine Finset.sum_congr rfl fun j _ => ?_
  rw [h0]
  split <;> rfl

/-- The decays. -/
theorem decayEq (b : Fin 128) (r j : Fin 8) (g : Fin 2) (q : Fin 4) :
    val_main_v74 x0 x5 x6 (ix5 b r j g q) = Cert.Sampling.decay (arrays x0 x1 x2 x3 x4 x5 x6 x7 x8) b r j (hd g q) := by
  pointwise [val_main_cst, val_main_c, val_main_cst_0, val_main_cst_1, val_main_v67, val_main_v68, val_main_v69, val_main_v70, val_main_v71, val_main_cst_2, val_main_call4_v0, val_main_call4_v1, val_main_call4_v2, val_main_v72, val_main_v73, val_main_cst_3, val_main_call5_v0, val_main_call5_v1, val_main_call5_v2, val_main_v74, val_main_cst_4, val_main_cst_5, val_main_cst_6, val_main_v59]
  simp only [csEq x0 x1 x2 x3 x4 x5 x6 x7 x8, lowEq]
  have h0 : id (constant (F := Ideal) S_ FTy.f32 0#32) ix0 = (0 : EReal) := by
    show Ideal.ofBits FTy.f32 0#32 = 0
    simp [Ideal.ofBits, Ideal.ieee]
  rw [h0]
  unfold Cert.Sampling.decay
  split <;> rfl

theorem steppedEq (b : Fin 128) (r : Fin 8) (g : Fin 2) (q : Fin 4) (p : Fin 64) :
    val_main_v66 x0 x1 x3 x4 x5 (ix5 b r g q p) = Cert.Sampling.stepped (arrays x0 x1 x2 x3 x4 x5 x6 x7 x8) b r (hd g q) p := by
  pointwise [val_main_cst, val_main_c, val_main_cst_0, val_main_cst_1, val_main_v63, val_main_v64, val_main_v65, val_main_v66, val_main_cst_2, val_main_cst_3, val_main_cst_4, val_main_cst_5, val_main_cst_6]
  rw [valEq x0 x1 x2 x3 x4 x5 x6 x7 x8, dtEq x0 x1 x2 x3 x4 x5 x6 x7 x8]
  rfl

/-- The mixture. -/
theorem outEq (b : Fin 128) (r : Fin 8) (g : Fin 2) (q : Fin 4) (p : Fin 64) :
    val_main_v109 x0 x1 x2 x3 x4 x5 x6 x7 (ix5 b r g q p) = Cert.Sampling.out (arrays x0 x1 x2 x3 x4 x5 x6 x7 x8) b r (hd g q) p := by
  pointwise [val_main_cst, val_main_c, val_main_cst_0, val_main_cst_1, val_main_cst_2, val_main_cst_3, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_cst_4, val_main_cst_5, val_main_cst_6]
  simp only [decayEq x0 x1 x2 x3 x4 x5 x6 x7 x8, steppedEq x0 x1 x2 x3 x4 x5 x6 x7 x8, csEq x0 x1 x2 x3 x4 x5 x6 x7 x8, keyEq x0 x1 x2 x3 x4 x5 x6 x7 x8, qryEq x0 x1 x2 x3 x4 x5 x6 x7 x8, valEq x0 x1 x2 x3 x4 x5 x6 x7 x8]
  unfold Cert.Sampling.out
  rw [grp_hd]
  refine congrArg₂ (· + ·) (congrArg₂ (· + ·) (Finset.sum_congr rfl fun j _ => ?_) (congrArg (· * _) (Finset.sum_congr rfl fun n _ => ?_))) rfl
  · rw [mul_comm]
    refine congrArg (· * _) (congrArg (_ * ·) (Finset.sum_congr rfl fun n _ => ?_))
    exact mul_comm _ _
  · exact mul_comm _ _

/-- The new state. -/
theorem stateEq (b : Fin 128) (g : Fin 2) (q : Fin 4) (p : Fin 64) (n : Fin 128) :
    val_main_v96 x0 x1 x2 x3 x4 x5 x6 (ix5 b g q p n) = Cert.Sampling.state (arrays x0 x1 x2 x3 x4 x5 x6 x7 x8) b (hd g q) p n := by
  pointwise [val_main_cst, val_main_c, val_main_cst_0, val_main_cst_1, val_main_cst_2, val_main_cst_3, val_main_v82, val_main_v83, val_main_v84, val_main_v85, val_main_v86, val_main_v87, val_main_v88, val_main_v89, val_main_v90, val_main_v91, val_main_v92, val_main_v93, val_main_v94, val_main_v95, val_main_v96, val_main_cst_4, val_main_cst_5, val_main_cst_6]
  simp only [steppedEq x0 x1 x2 x3 x4 x5 x6 x7 x8, csEq x0 x1 x2 x3 x4 x5 x6 x7 x8, keyEq x0 x1 x2 x3 x4 x5 x6 x7 x8]
  unfold Cert.Sampling.state
  rw [grp_hd]
  rfl

/-- The gated rows. -/
theorem gatedEq (b : Fin 128) (r : Fin 8) (n : Fin 512) :
    val_main_v112 x0 x1 x2 x3 x4 x5 x6 x7 (ix3 b r n) = Cert.Sampling.gated (arrays x0 x1 x2 x3 x4 x5 x6 x7 x8) b r n := by
  pointwise [val_main_cst, val_main_c, val_main_cst_0, val_main_cst_1, val_main_cst_2, val_main_cst_3, val_main_v110, val_main_call6_v0, val_main_call6_v1, val_main_call6_cst, val_main_call6_v2, val_main_call6_v3, val_main_call6_cst_0, val_main_call6_v4, val_main_call6_v5, val_main_v111, val_main_v112, val_main_cst_4, val_main_cst_5, val_main_cst_6, val_main_v0, val_main_v3, val_main_v4]
  rw [outEq x0 x1 x2 x3 x4 x5 x6 x7 x8]
  unfold Cert.Sampling.gated
  refine congrArg₂ (· * ·) ?_ rfl
  have e : hd ⟨n.val / 256, by omega⟩ ⟨n.val / 64 % 4, by omega⟩ = ⟨n.val / 64, by omega⟩ := Fin.ext (by
    show n.val / 256 * 4 + n.val / 64 % 4 = n.val / 64; omega)
  exact congrArg (fun h => Cert.Sampling.out _ b r h _) e

/-- The result. -/
theorem resultEq (b : Fin 128) (r : Fin 8) (g : Fin 2) (e : Fin 256) :
    val_main_v127 x0 x1 x2 x3 x4 x5 x6 x7 x8 (ix4 b r g e) = Cert.Sampling.result (arrays x0 x1 x2 x3 x4 x5 x6 x7 x8) b r g e := by
  pointwise [val_main_cst, val_main_c, val_main_cst_0, val_main_cst_1, val_main_cst_2, val_main_cst_3, val_main_v113, val_main_v114, val_main_v115, val_main_cst_4, val_main_v116, val_main_v117, val_main_cst_5, val_main_v118, val_main_v119, val_main_cst_6, val_main_v120, val_main_v121, val_main_v122, val_main_v123, val_main_v124, val_main_v125, val_main_v126, val_main_v127]
  simp only [gatedEq x0 x1 x2 x3 x4 x5 x6 x7 x8]
  have e0 : ∀ x : Fin 256, (⟨g.val * 256 + x.val, by omega⟩ : Fin 512) = Cert.Sampling.inHalf g x := fun x => Fin.ext (by
    show g.val * 256 + x.val = 256 * g.val + x.val; omega)
  simp only [e0]
  rfl

/-- The rows of the result, as the program hands them out. -/
theorem v129_at (i : Fin 1024) (n : Fin 512) : val_main_v129 x0 x1 x2 x3 x4 x5 x6 x7 x8 (ix2 i n) =
    Cert.Sampling.result (arrays x0 x1 x2 x3 x4 x5 x6 x7 x8) ⟨i.val / 8, by omega⟩ ⟨i.val % 8, by omega⟩ ⟨n.val / 256, by omega⟩ ⟨n.val % 256, by omega⟩ := by
  pointwise [val_main_cst, val_main_c, val_main_cst_0, val_main_cst_1, val_main_cst_2, val_main_cst_3, val_main_cst_4, val_main_cst_5, val_main_cst_6, val_main_v128, val_main_v129]
  rw [resultEq x0 x1 x2 x3 x4 x5 x6 x7 x8]

/-- The new state, as the program hands it out. -/
theorem v130_at (b : Fin 128) (h : Fin 8) (p : Fin 64) (n : Fin 128) :
    val_main_v130 x0 x1 x2 x3 x4 x5 x6 (ix4 b h p n) = Cert.Sampling.state (arrays x0 x1 x2 x3 x4 x5 x6 x7 x8) b h p n := by
  pointwise [val_main_v130]
  rw [stateEq x0 x1 x2 x3 x4 x5 x6 x7 x8]
  exact congrArg (fun k => Cert.Sampling.state _ b k p n) (Fin.ext (by
    show h.val / 4 * 4 + h.val % 4 = h.val; omega))

end Cert.ScanReferenceIdeal.Sampling
-- ==== Proof.Scan.Join.lean ====
/-
  The claims of the sample scan: the reference's two results are the kernel's two arrays.
-/
module

public import proofs.«01_k».proof.Defs
public import proofs.«01_k».proof.Proof.Scan.Final
public import proofs.«01_k».proof.Proof.Scan.Ref
public import proofs.«01_k».proof.Proof.Gen.ScanReferenceIdeal.Run
public import Idealize.ShloMosaic.Adequacy

@[expose] public section

set_option maxRecDepth 16384

noncomputable section

namespace Cert.Sampling

open Idealize.ShloMosaic Idealize.ShloMosaic.TcCoe Idealize.SL.Sem Cert.ScanReferenceIdeal Cert.ScanReferenceIdeal.Read

variable (x0 : (⟨S34304x2560, .f32⟩ : BufTy).Contents (Elt Ideal))
  (x1 : (⟨S128x3x1024, .f32⟩ : BufTy).Contents (Elt Ideal))
  (x2 : (⟨S128x8x64x128, .f32⟩ : BufTy).Contents (Elt Ideal))
  (x3 : (⟨S4x1024, .f32⟩ : BufTy).Contents (Elt Ideal))
  (x4 : (⟨S1024, .f32⟩ : BufTy).Contents (Elt Ideal))
  (x5 : (⟨S8, .f32⟩ : BufTy).Contents (Elt Ideal))
  (x6 : (⟨S8, .f32⟩ : BufTy).Contents (Elt Ideal))
  (x7 : (⟨S8, .f32⟩ : BufTy).Contents (Elt Ideal))
  (x8 : (⟨S512, .f32⟩ : BufTy).Contents (Elt Ideal))
  (m : (ℓ : Loc Cert.ScanIdeal.nD Cert.ScanIdeal.τ Cert.ScanIdeal.sig) → Buf (Elt Ideal) ℓ) (c : Dev Cert.ScanIdeal.nD)

/-- The two programs' arguments are the same arrays of the specification. -/
theorem arrays_eq (h0 : x0 = m ((c.tc : Thread Cert.ScanIdeal.nD Cert.ScanIdeal.τ).loc Cert.ScanIdeal.main_arg0))
    (h1 : x1 = m ((c.tc : Thread Cert.ScanIdeal.nD Cert.ScanIdeal.τ).loc Cert.ScanIdeal.main_arg1))
    (h2 : x2 = m ((c.tc : Thread Cert.ScanIdeal.nD Cert.ScanIdeal.τ).loc Cert.ScanIdeal.main_arg2))
    (h3 : x3 = m ((c.tc : Thread Cert.ScanIdeal.nD Cert.ScanIdeal.τ).loc Cert.ScanIdeal.main_arg3))
    (h4 : x4 = m ((c.tc : Thread Cert.ScanIdeal.nD Cert.ScanIdeal.τ).loc Cert.ScanIdeal.main_arg4))
    (h5 : x5 = m ((c.tc : Thread Cert.ScanIdeal.nD Cert.ScanIdeal.τ).loc Cert.ScanIdeal.main_arg5))
    (h6 : x6 = m ((c.tc : Thread Cert.ScanIdeal.nD Cert.ScanIdeal.τ).loc Cert.ScanIdeal.main_arg6))
    (h7 : x7 = m ((c.tc : Thread Cert.ScanIdeal.nD Cert.ScanIdeal.τ).loc Cert.ScanIdeal.main_arg7))
    (h8 : x8 = m ((c.tc : Thread Cert.ScanIdeal.nD Cert.ScanIdeal.τ).loc Cert.ScanIdeal.main_arg8)) :
    Cert.ScanReferenceIdeal.Sampling.arrays x0 x1 x2 x3 x4 x5 x6 x7 x8 = Cert.ScanIdeal.Sampling.arrays m c := by
  subst h0 h1 h2 h3 h4 h5 h6 h7 h8
  rfl

/-- The reference's result is the specification's array. -/
theorem result_eq (h0 : x0 = m ((c.tc : Thread Cert.ScanIdeal.nD Cert.ScanIdeal.τ).loc Cert.ScanIdeal.main_arg0))
    (h1 : x1 = m ((c.tc : Thread Cert.ScanIdeal.nD Cert.ScanIdeal.τ).loc Cert.ScanIdeal.main_arg1))
    (h2 : x2 = m ((c.tc : Thread Cert.ScanIdeal.nD Cert.ScanIdeal.τ).loc Cert.ScanIdeal.main_arg2))
    (h3 : x3 = m ((c.tc : Thread Cert.ScanIdeal.nD Cert.ScanIdeal.τ).loc Cert.ScanIdeal.main_arg3))
    (h4 : x4 = m ((c.tc : Thread Cert.ScanIdeal.nD Cert.ScanIdeal.τ).loc Cert.ScanIdeal.main_arg4))
    (h5 : x5 = m ((c.tc : Thread Cert.ScanIdeal.nD Cert.ScanIdeal.τ).loc Cert.ScanIdeal.main_arg5))
    (h6 : x6 = m ((c.tc : Thread Cert.ScanIdeal.nD Cert.ScanIdeal.τ).loc Cert.ScanIdeal.main_arg6))
    (h7 : x7 = m ((c.tc : Thread Cert.ScanIdeal.nD Cert.ScanIdeal.τ).loc Cert.ScanIdeal.main_arg7))
    (h8 : x8 = m ((c.tc : Thread Cert.ScanIdeal.nD Cert.ScanIdeal.τ).loc Cert.ScanIdeal.main_arg8)) :
    val_main_v129 x0 x1 x2 x3 x4 x5 x6 x7 x8 = Cert.ScanIdeal.Sampling.results m c := by
  have ha := arrays_eq x0 x1 x2 x3 x4 x5 x6 x7 x8 m c h0 h1 h2 h3 h4 h5 h6 h7 h8
  funext i
  refine Eq.trans (congrArg (val_main_v129 _ _ _ _ _ _ _ _ _) (funext fun a => ?_))
    ((Cert.ScanReferenceIdeal.Sampling.v129_at x0 x1 x2 x3 x4 x5 x6 x7 x8 ⟨(i 0).val, (i 0).isLt⟩ ⟨(i 1).val, (i 1).isLt⟩).trans ?_)
  · match a with
    | ⟨0, _⟩ => rfl
    | ⟨1, _⟩ => rfl
  · rw [ha]
    rfl

/-- The reference's new state is the specification's array. -/
theorem state_eq (h0 : x0 = m ((c.tc : Thread Cert.ScanIdeal.nD Cert.ScanIdeal.τ).loc Cert.ScanIdeal.main_arg0))
    (h1 : x1 = m ((c.tc : Thread Cert.ScanIdeal.nD Cert.ScanIdeal.τ).loc Cert.ScanIdeal.main_arg1))
    (h2 : x2 = m ((c.tc : Thread Cert.ScanIdeal.nD Cert.ScanIdeal.τ).loc Cert.ScanIdeal.main_arg2))
    (h3 : x3 = m ((c.tc : Thread Cert.ScanIdeal.nD Cert.ScanIdeal.τ).loc Cert.ScanIdeal.main_arg3))
    (h4 : x4 = m ((c.tc : Thread Cert.ScanIdeal.nD Cert.ScanIdeal.τ).loc Cert.ScanIdeal.main_arg4))
    (h5 : x5 = m ((c.tc : Thread Cert.ScanIdeal.nD Cert.ScanIdeal.τ).loc Cert.ScanIdeal.main_arg5))
    (h6 : x6 = m ((c.tc : Thread Cert.ScanIdeal.nD Cert.ScanIdeal.τ).loc Cert.ScanIdeal.main_arg6))
    (h7 : x7 = m ((c.tc : Thread Cert.ScanIdeal.nD Cert.ScanIdeal.τ).loc Cert.ScanIdeal.main_arg7))
    (h8 : x8 = m ((c.tc : Thread Cert.ScanIdeal.nD Cert.ScanIdeal.τ).loc Cert.ScanIdeal.main_arg8)) :
    val_main_v130 x0 x1 x2 x3 x4 x5 x6 = Cert.ScanIdeal.Sampling.states m c := by
  have ha := arrays_eq x0 x1 x2 x3 x4 x5 x6 x7 x8 m c h0 h1 h2 h3 h4 h5 h6 h7 h8
  funext i
  refine Eq.trans (congrArg (val_main_v130 _ _ _ _ _ _ _) (funext fun a => ?_))
    ((Cert.ScanReferenceIdeal.Sampling.v130_at x0 x1 x2 x3 x4 x5 x6 x7 x8 ⟨(i 0).val, (i 0).isLt⟩ ⟨(i 1).val, (i 1).isLt⟩
      ⟨(i 2).val, (i 2).isLt⟩ ⟨(i 3).val, (i 3).isLt⟩).trans ?_)
  · match a with
    | ⟨0, _⟩ => rfl
    | ⟨1, _⟩ => rfl
    | ⟨2, _⟩ => rfl
    | ⟨3, _⟩ => rfl
  · rw [ha]
    rfl

/-- The reference's run: its arguments end unchanged, and it has no semaphore. -/
theorem reference_frame : Cert.quiescent_ScanReferenceIdeal := fun m ρ _ =>
  (θ_run Cert.ScanReferenceIdeal.defs _ _).mono
    (fun r h => ⟨fun c => (h c).2.2, Idealize.ShloMosaic.sem_eq_zero_of_no_sems (by decide) r.2⟩)
    (Cert.ScanReferenceIdeal.Value.run m ρ)

/-- The kernel's call and the reference's agree. -/
theorem algebraic : Cert.algebraic_ScanIdeal_ScanReferenceIdeal := fun m g m' g' _ hm =>
  ⟨fun c => (Cert.ScanIdeal.Gen.dats m 0 c).arrAt 11 Cert.ScanIdeal.cfg0.N,
   fun c => (Cert.ScanIdeal.Gen.dats m 0 c).arrAt 12 Cert.ScanIdeal.cfg0.N,
   Cert.ScanIdeal.Value.run_blocks m g,
   (θ_run Cert.ScanReferenceIdeal.defs _ _).mono (fun r h c => by
      obtain ⟨h1, h2, h3⟩ := h c
      obtain ⟨e0, e1, e2, e3, e4, e5, e6, e7, e8⟩ := hm c
      exact ⟨h1.trans ((val_main_v129_eq _).trans ((result_eq _ _ _ _ _ _ _ _ _ m c e0 e1 e2 e3 e4 e5 e6 e7 e8).trans (Cert.ScanIdeal.Sampling.final11 m c).symm)),
        h2.trans ((val_main_v130_eq _).trans ((state_eq _ _ _ _ _ _ _ _ _ m c e0 e1 e2 e3 e4 e5 e6 e7 e8).trans (Cert.ScanIdeal.Sampling.final12 m c).symm)), h3⟩)
    (Cert.ScanReferenceIdeal.Value.run m' g')⟩

end Cert.Sampling

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_qk
public import proofs.«01_k».proof.Proof.Gen.KernelIdeal.Value
public import proofs.«01_k».proof.Proof.Gen.ReferenceIdeal.Run
public import proofs.«01_k».proof.Proof.Gen.ReferenceIdeal.Read
public import proofs.«01_k».proof.Proof.Attn.Final
public import proofs.«01_k».proof.Proof.Attn.Join
public import proofs.«01_k».proof.Proof.Proj.Join
public import proofs.«01_k».proof.Proof.Ffn.Join
public import proofs.«01_k».proof.Proof.Moe.Join
public import proofs.«01_k».proof.Proof.Router.Join
public import proofs.«01_k».proof.Proof.Scan.Join
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Moe
public import proofs.«01_k».proof.Proof.Gen.Moe.Frame
public import proofs.«01_k».proof.Proof.Gen.MoeIdeal
public import proofs.«01_k».proof.Proof.Gen.MoeIdeal.Frame
public import proofs.«01_k».proof.Proof.Gen.MoeReferenceIdeal
public import proofs.«01_k».proof.Proof.Gen.MoeReferenceIdeal.Run
public import proofs.«01_k».proof.Proof.Gen.MoeReferenceIdeal.Read
public import proofs.«01_k».proof.Proof.Gen.Router
public import proofs.«01_k».proof.Proof.Gen.Router.Frame
public import proofs.«01_k».proof.Proof.Gen.RouterIdeal
public import proofs.«01_k».proof.Proof.Gen.RouterIdeal.Frame
public import proofs.«01_k».proof.Proof.Gen.RouterIdeal.Value
public import proofs.«01_k».proof.Proof.Gen.RouterReferenceIdeal
public import proofs.«01_k».proof.Proof.Gen.RouterReferenceIdeal.Run
public import proofs.«01_k».proof.Proof.Gen.RouterReferenceIdeal.Read
public import proofs.«01_k».proof.Proof.Gen.Scan
public import proofs.«01_k».proof.Proof.Gen.Scan.Frame
public import proofs.«01_k».proof.Proof.Gen.ScanIdeal
public import proofs.«01_k».proof.Proof.Gen.ScanIdeal.Frame
public import proofs.«01_k».proof.Proof.Gen.ScanIdeal.Value
public import proofs.«01_k».proof.Proof.Gen.ScanReferenceIdeal
public import proofs.«01_k».proof.Proof.Gen.ScanReferenceIdeal.Run
public import proofs.«01_k».proof.Proof.Gen.ScanReferenceIdeal.Read
public import proofs.«01_k».proof.Proof.Gen.Pre_finite_weights
public import proofs.«01_k».proof.Proof.Gen.Pre_experts_in_range
public import Idealize.ShloMosaic.PureOps.IdealRules
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Proj.Gen.facts, Cert.ProjIdeal.Gen.facts, Cert.ProjReferenceIdeal.Gen.facts,
  Cert.Ffn.Gen.facts, Cert.FfnIdeal.Gen.facts, Cert.FfnReferenceIdeal.Gen.facts, Cert.Moe.Gen.facts, Cert.MoeIdeal.Gen.facts, Cert.MoeReferenceIdeal.Gen.facts,
  Cert.Router.Gen.facts, Cert.RouterIdeal.Gen.facts, Cert.RouterReferenceIdeal.Gen.facts,
  Cert.Scan.Gen.facts, Cert.ScanIdeal.Gen.facts, Cert.ScanReferenceIdeal.Gen.facts,
  Cert.Pre_finite_qk.Gen.facts, Cert.Pre_experts_in_range.Gen.facts, Cert.Pre_finite_weights.Gen.facts,
  fun m ρ _ => Cert.Kernel.Gen.frame m ρ, fun m ρ _ => Cert.KernelIdeal.Gen.frame m ρ, fun m ρ _ => Cert.KernelIdeal.Gen.frame m ρ,
  Cert.Attn.reference_frame, fun m ρ _ => Cert.Attn.reference_frame m ρ trivial,
  fun m ρ _ => Cert.Proj.Gen.frame m ρ, fun m ρ _ => Cert.ProjIdeal.Gen.frame m ρ, Cert.Proj.reference_frame,
  fun m ρ _ => Cert.Ffn.Gen.frame m ρ, fun m ρ _ => Cert.FfnIdeal.Gen.frame m ρ, Cert.Ffn.reference_frame,
  fun m ρ h => Cert.Moe.Gen.frame m ρ (Cert.Moe.Experts.ok_of_pre m h), fun m ρ h => Cert.MoeIdeal.Gen.frame m ρ (Cert.MoeIdeal.Experts.ok_of_pre m h),
  Cert.Experts.reference_frame,
  fun m ρ _ => Cert.Router.Gen.frame m ρ, fun m ρ _ => Cert.RouterIdeal.Gen.frame m ρ, fun m ρ _ => Cert.RouterIdeal.Gen.frame m ρ,
  Cert.Routing.reference_frame, fun m ρ _ => Cert.Routing.reference_frame m ρ trivial,
  fun m ρ _ => Cert.Scan.Gen.frame m ρ, fun m ρ _ => Cert.ScanIdeal.Gen.frame m ρ, Cert.Sampling.reference_frame,
  IdealRules.named_const.statement Cert.KernelIdeal.κ "mask" .f32 0xF149F2CA#32 ⊥ rfl, Cert.Attn.algebraic,
  trivial, Cert.Proj.algebraic, trivial, Cert.Ffn.algebraic, trivial, Cert.Experts.algebraic, trivial, Cert.Routing.algebraic,
  trivial, Cert.Sampling.algebraic⟩

end Cert.Proof

end
